-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x256x128 : S_.BroadcastsInDim S1x1024x256x128 (![] : Fin 0 → Fin S1x1024x256x128.rank)

variable [Facts]

def fn {F : FTy → Type} [FloatOps F] (main_arg0 : FVec F S1x1024x1024 .f32) (main_arg1 : FVec F S1024x1024 .f32) (main_arg2 : FVec F S1x1024x256x128 .f32) (main_arg3 : FVec F S1x1024x256x128 .f32) (main_arg4 : FVec F S1024x1024 .f32) : IVec S1x1024x1024 1 × IVec S1024x1024 1 × IVec S1x1024x256x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x256x128 .f32 := Host.absf main_arg2
  let main_cst_1 : FVec F S_ .f32 := constant S_ .f32 0x7F800000#32
  let main_v7 : FVec F S1x1024x256x128 .f32 := broadcastInDim S1x1024x256x128 ![] bcast_S_S1x1024x256x128 main_cst_1
  let main_v8 : IVec S1x1024x256x128 1 := cmpf .olt main_v6 main_v7
  (main_v2, main_v5, main_v8)
-- ==== Pre_finite_scores_ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S_ : Shape := ⟨0, ![]⟩

class Facts : Prop where
  bcast_S_S1x1024x1024 : S_.BroadcastsInDim S1x1024x1024 (![] : Fin 0 → Fin S1x1024x1024.rank)
  bcast_S_S1024x32768 : S_.BroadcastsInDim S1024x32768 (![] : Fin 0 → Fin S1024x32768.rank)
  bcast_S_S1x1024x256x128 : S_.BroadcastsInDim S1x1024x256x128 (![] : Fin 0 → Fin S1x1024x256x128.rank)

variable [Facts]

def fn {F : FTy → Type} [FloatOps F] (main_arg0 : FVec F S1x1024x1024 .f32) (main_arg1 : FVec F S1024x32768 .f32) (main_arg2 : FVec F S1x1024x256x128 .f32) (main_arg3 : FVec F S1x1024x256x128 .f32) (main_arg4 : FVec F S32768x1024 .f32) : IVec S1x1024x1024 1 × IVec S1024x32768 1 × IVec S1x1024x256x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x32768 .f32 := Host.absf main_arg1
  let main_cst_0 : FVec F S_ .f32 := constant S_ .f32 0x7F800000#32
  let main_v4 : FVec F S1024x32768 .f32 := broadcastInDim S1024x32768 ![] bcast_S_S1024x32768 main_cst_0
  let main_v5 : IVec S1024x32768 1 := cmpf .olt main_v3 main_v4
  let main_v6 : FVec F S1x1024x256x128 .f32 := Host.absf main_arg2
  let main_cst_1 : FVec F S_ .f32 := constant S_ .f32 0x7F800000#32
  let main_v7 : FVec F S1x1024x256x128 .f32 := broadcastInDim S1x1024x256x128 ![] bcast_S_S1x1024x256x128 main_cst_1
  let main_v8 : IVec S1x1024x256x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S8x1024x128 : Shape := ⟨3, ![8, 1024, 128]⟩
abbrev S256x1024 : Shape := ⟨2, ![256, 1024]⟩
abbrev S2x8 : Shape := ⟨2, ![2, 8]⟩
abbrev S32x32x1024 : Shape := ⟨3, ![32, 32, 1024]⟩
abbrev S32 : Shape := ⟨1, ![32]⟩
abbrev S_ : Shape := ⟨0, ![]⟩
abbrev S1x1 : Shape := ⟨2, ![1, 1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x256x1024 : Shape := ⟨3, ![1, 256, 1024]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x256x128, .f32⟩
  | .hbm, ⟨3, _⟩ => ⟨S1x1024x256x128, .f32⟩
  | .hbm, ⟨4, _⟩ => ⟨S1024x1024, .f32⟩
  | .hbm, ⟨5, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024x128, .f32⟩
  | .local _ .vmem, ⟨5, _⟩ => ⟨S8x1024x128, .f32⟩
  | .local _ .vmem, ⟨6, _⟩ => ⟨S256x1024, .f32⟩
  | .local _ .vmem, ⟨7, _⟩ => ⟨S1024x1024, .f32⟩
  | .local _ .vmem, ⟨8, _⟩ => ⟨S1024x1024, .f32⟩
  | .local _ .vmem, ⟨9, _⟩ => ⟨S32x32x1024, .f32⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 148 → Bool
  | ⟨i, _⟩ => dmaSemScopedAt i

abbrev sig : RefSig :=
  (ofTc nBuf bufTy 1 148 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c32_i32_6 : BitVec 32 := 32#32
  let v22 : BitVec 32 := Scalar.remsi v21 c32_i32_6
  let c1_i32_8 : BitVec 32 := 1#32
  let v23 : BitVec 32 := Scalar.muli v22 c1_i32_8
  let v24 : BitVec 32 := Scalar.addi c0_i32_9 v23
  v24.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v25 : BitVec 32 := Scalar.addi v2 c2_i32
  let c32_i32_10 : BitVec 32 := 32#32
  let v26 : BitVec 32 := Scalar.remsi v25 c32_i32_10
  let c1_i32_12 : BitVec 32 := 1#32
  let v27 : BitVec 32 := Scalar.muli v26 c1_i32_12
  let v28 : BitVec 32 := Scalar.addi c0_i32_13 v27
  v28.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v29 : BitVec 32 := Scalar.addi v2 c3_i32
  let c32_i32_14 : BitVec 32 := 32#32
  let v30 : BitVec 32 := Scalar.remsi v29 c32_i32_14
  let c1_i32_16 : BitVec 32 := 1#32
  let v31 : BitVec 32 := Scalar.muli v30 c1_i32_16
  let v32 : BitVec 32 := Scalar.addi c0_i32_17 v31
  v32.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v33 : BitVec 32 := Scalar.addi v2 c4_i32
  let c32_i32_18 : BitVec 32 := 32#32
  let v34 : BitVec 32 := Scalar.remsi v33 c32_i32_18
  let c1_i32_20 : BitVec 32 := 1#32
  let v35 : BitVec 32 := Scalar.muli v34 c1_i32_20
  let v36 : BitVec 32 := Scalar.addi c0_i32_21 v35
  v36.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v37 : BitVec 32 := Scalar.addi v2 c5_i32
  let c32_i32_22 : BitVec 32 := 32#32
  let v38 : BitVec 32 := Scalar.remsi v37 c32_i32_22
  let c1_i32_24 : BitVec 32 := 1#32
  let v39 : BitVec 32 := Scalar.muli v38 c1_i32_24
  let v40 : BitVec 32 := Scalar.addi c0_i32_25 v39
  v40.toNat
def k0_dev6 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v41 : BitVec 32 := Scalar.addi v2 c6_i32
  let c32_i32_26 : BitVec 32 := 32#32
  let v42 : BitVec 32 := Scalar.remsi v41 c32_i32_26
  let c1_i32_28 : BitVec 32 := 1#32
  let v43 : BitVec 32 := Scalar.muli v42 c1_i32_28
  let v44 : BitVec 32 := Scalar.addi c0_i32_29 v43
  v44.toNat
def k0_dev7 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v45 : BitVec 32 := Scalar.addi v2 c7_i32
  let c32_i32_30 : BitVec 32 := 32#32
  let v46 : BitVec 32 := Scalar.remsi v45 c32_i32_30
  let c1_i32_32 : BitVec 32 := 1#32
  let v47 : BitVec 32 := Scalar.muli v46 c1_i32_32
  let v48 : BitVec 32 := Scalar.addi c0_i32_33 v47
  v48.toNat
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_34 : BitVec 32 := 8#32
  let v49 : BitVec 32 := Scalar.addi v2 c8_i32_34
  let c32_i32_35 : BitVec 32 := 32#32
  let v50 : BitVec 32 := Scalar.remsi v49 c32_i32_35
  let c1_i32_37 : BitVec 32 := 1#32
  let v51 : BitVec 32 := Scalar.muli v50 c1_i32_37
  let v52 : BitVec 32 := Scalar.addi c0_i32_38 v51
  v52.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v53 : BitVec 32 := Scalar.addi v2 c9_i32
  let c32_i32_39 : BitVec 32 := 32#32
  let v54 : BitVec 32 := Scalar.remsi v53 c32_i32_39
  let c1_i32_41 : BitVec 32 := 1#32
  let v55 : BitVec 32 := Scalar.muli v54 c1_i32_41
  let v56 : BitVec 32 := Scalar.addi c0_i32_42 v55
  v56.toNat
def k0_dev10 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v57 : BitVec 32 := Scalar.addi v2 c10_i32
  let c32_i32_43 : BitVec 32 := 32#32
  let v58 : BitVec 32 := Scalar.remsi v57 c32_i32_43
  let c1_i32_45 : BitVec 32 := 1#32
  let v59 : BitVec 32 := Scalar.muli v58 c1_i32_45
  let v60 : BitVec 32 := Scalar.addi c0_i32_46 v59
  v60.toNat
def k0_dev11 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v61 : BitVec 32 := Scalar.addi v2 c11_i32
  let c32_i32_47 : BitVec 32 := 32#32
  let v62 : BitVec 32 := Scalar.remsi v61 c32_i32_47
  let c1_i32_49 : BitVec 32 := 1#32
  let v63 : BitVec 32 := Scalar.muli v62 c1_i32_49
  let v64 : BitVec 32 := Scalar.addi c0_i32_50 v63
  v64.toNat
def k0_dev12 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v65 : BitVec 32 := Scalar.addi v2 c12_i32
  let c32_i32_51 : BitVec 32 := 32#32
  let v66 : BitVec 32 := Scalar.remsi v65 c32_i32_51
  let c1_i32_53 : BitVec 32 := 1#32
  let v67 : BitVec 32 := Scalar.muli v66 c1_i32_53
  let v68 : BitVec 32 := Scalar.addi c0_i32_54 v67
  v68.toNat
def k0_dev13 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v69 : BitVec 32 := Scalar.addi v2 c13_i32
  let c32_i32_55 : BitVec 32 := 32#32
  let v70 : BitVec 32 := Scalar.remsi v69 c32_i32_55
  let c1_i32_57 : BitVec 32 := 1#32
  let v71 : BitVec 32 := Scalar.muli v70 c1_i32_57
  let v72 : BitVec 32 := Scalar.addi c0_i32_58 v71
  v72.toNat
def k0_dev14 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v73 : BitVec 32 := Scalar.addi v2 c14_i32
  let c32_i32_59 : BitVec 32 := 32#32
  let v74 : BitVec 32 := Scalar.remsi v73 c32_i32_59
  let c1_i32_61 : BitVec 32 := 1#32
  let v75 : BitVec 32 := Scalar.muli v74 c1_i32_61
  let v76 : BitVec 32 := Scalar.addi c0_i32_62 v75
  v76.toNat
def k0_dev15 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v77 : BitVec 32 := Scalar.addi v2 c15_i32
  let c32_i32_63 : BitVec 32 := 32#32
  let v78 : BitVec 32 := Scalar.remsi v77 c32_i32_63
  let c1_i32_65 : BitVec 32 := 1#32
  let v79 : BitVec 32 := Scalar.muli v78 c1_i32_65
  let v80 : BitVec 32 := Scalar.addi c0_i32_66 v79
  v80.toNat
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v81 : BitVec 32 := Scalar.addi v2 c16_i32
  let c32_i32_67 : BitVec 32 := 32#32
  let v82 : BitVec 32 := Scalar.remsi v81 c32_i32_67
  let c1_i32_69 : BitVec 32 := 1#32
  let v83 : BitVec 32 := Scalar.muli v82 c1_i32_69
  let v84 : BitVec 32 := Scalar.addi c0_i32_70 v83
  v84.toNat
def k0_dev17 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v85 : BitVec 32 := Scalar.addi v2 c17_i32
  let c32_i32_71 : BitVec 32 := 32#32
  let v86 : BitVec 32 := Scalar.remsi v85 c32_i32_71
  let c1_i32_73 : BitVec 32 := 1#32
  let v87 : BitVec 32 := Scalar.muli v86 c1_i32_73
  let v88 : BitVec 32 := Scalar.addi c0_i32_74 v87
  v88.toNat
def k0_dev18 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v89 : BitVec 32 := Scalar.addi v2 c18_i32
  let c32_i32_75 : BitVec 32 := 32#32
  let v90 : BitVec 32 := Scalar.remsi v89 c32_i32_75
  let c1_i32_77 : BitVec 32 := 1#32
  let v91 : BitVec 32 := Scalar.muli v90 c1_i32_77
  let v92 : BitVec 32 := Scalar.addi c0_i32_78 v91
  v92.toNat
def k0_dev19 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v93 : BitVec 32 := Scalar.addi v2 c19_i32
  let c32_i32_79 : BitVec 32 := 32#32
  let v94 : BitVec 32 := Scalar.remsi v93 c32_i32_79
  let c1_i32_81 : BitVec 32 := 1#32
  let v95 : BitVec 32 := Scalar.muli v94 c1_i32_81
  let v96 : BitVec 32 := Scalar.addi c0_i32_82 v95
  v96.toNat
def k0_dev20 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v97 : BitVec 32 := Scalar.addi v2 c20_i32
  let c32_i32_83 : BitVec 32 := 32#32
  let v98 : BitVec 32 := Scalar.remsi v97 c32_i32_83
  let c1_i32_85 : BitVec 32 := 1#32
  let v99 : BitVec 32 := Scalar.muli v98 c1_i32_85
  let v100 : BitVec 32 := Scalar.addi c0_i32_86 v99
  v100.toNat
def k0_dev21 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v101 : BitVec 32 := Scalar.addi v2 c21_i32
  let c32_i32_87 : BitVec 32 := 32#32
  let v102 : BitVec 32 := Scalar.remsi v101 c32_i32_87
  let c1_i32_89 : BitVec 32 := 1#32
  let v103 : BitVec 32 := Scalar.muli v102 c1_i32_89
  let v104 : BitVec 32 := Scalar.addi c0_i32_90 v103
  v104.toNat
def k0_dev22 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v105 : BitVec 32 := Scalar.addi v2 c22_i32
  let c32_i32_91 : BitVec 32 := 32#32
  let v106 : BitVec 32 := Scalar.remsi v105 c32_i32_91
  let c1_i32_93 : BitVec 32 := 1#32
  let v107 : BitVec 32 := Scalar.muli v106 c1_i32_93
  let v108 : BitVec 32 := Scalar.addi c0_i32_94 v107
  v108.toNat
def k0_dev23 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v109 : BitVec 32 := Scalar.addi v2 c23_i32
  let c32_i32_95 : BitVec 32 := 32#32
  let v110 : BitVec 32 := Scalar.remsi v109 c32_i32_95
  let c1_i32_97 : BitVec 32 := 1#32
  let v111 : BitVec 32 := Scalar.muli v110 c1_i32_97
  let v112 : BitVec 32 := Scalar.addi c0_i32_98 v111
  v112.toNat
def k0_dev24 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v113 : BitVec 32 := Scalar.addi v2 c24_i32
  let c32_i32_99 : BitVec 32 := 32#32
  let v114 : BitVec 32 := Scalar.remsi v113 c32_i32_99
  let c1_i32_101 : BitVec 32 := 1#32
  let v115 : BitVec 32 := Scalar.muli v114 c1_i32_101
  let v116 : BitVec 32 := Scalar.addi c0_i32_102 v115
  v116.toNat
def k0_dev25 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v117 : BitVec 32 := Scalar.addi v2 c25_i32
  let c32_i32_103 : BitVec 32 := 32#32
  let v118 : BitVec 32 := Scalar.remsi v117 c32_i32_103
  let c1_i32_105 : BitVec 32 := 1#32
  let v119 : BitVec 32 := Scalar.muli v118 c1_i32_105
  let v120 : BitVec 32 := Scalar.addi c0_i32_106 v119
  v120.toNat
def k0_dev26 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v121 : BitVec 32 := Scalar.addi v2 c26_i32
  let c32_i32_107 : BitVec 32 := 32#32
  let v122 : BitVec 32 := Scalar.remsi v121 c32_i32_107
  let c1_i32_109 : BitVec 32 := 1#32
  let v123 : BitVec 32 := Scalar.muli v122 c1_i32_109
  let v124 : BitVec 32 := Scalar.addi c0_i32_110 v123
  v124.toNat
def k0_dev27 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v125 : BitVec 32 := Scalar.addi v2 c27_i32
  let c32_i32_111 : BitVec 32 := 32#32
  let v126 : BitVec 32 := Scalar.remsi v125 c32_i32_111
  let c1_i32_113 : BitVec 32 := 1#32
  let v127 : BitVec 32 := Scalar.muli v126 c1_i32_113
  let v128 : BitVec 32 := Scalar.addi c0_i32_114 v127
  v128.toNat
def k0_dev28 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v129 : BitVec 32 := Scalar.addi v2 c28_i32
  let c32_i32_115 : BitVec 32 := 32#32
  let v130 : BitVec 32 := Scalar.remsi v129 c32_i32_115
  let c1_i32_117 : BitVec 32 := 1#32
  let v131 : BitVec 32 := Scalar.muli v130 c1_i32_117
  let v132 : BitVec 32 := Scalar.addi c0_i32_118 v131
  v132.toNat
def k0_dev29 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v133 : BitVec 32 := Scalar.addi v2 c29_i32
  let c32_i32_119 : BitVec 32 := 32#32
  let v134 : BitVec 32 := Scalar.remsi v133 c32_i32_119
  let c1_i32_121 : BitVec 32 := 1#32
  let v135 : BitVec 32 := Scalar.muli v134 c1_i32_121
  let v136 : BitVec 32 := Scalar.addi c0_i32_122 v135
  v136.toNat
def k0_dev30 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v137 : BitVec 32 := Scalar.addi v2 c30_i32
  let c32_i32_123 : BitVec 32 := 32#32
  let v138 : BitVec 32 := Scalar.remsi v137 c32_i32_123
  let c1_i32_125 : BitVec 32 := 1#32
  let v139 : BitVec 32 := Scalar.muli v138 c1_i32_125
  let v140 : BitVec 32 := Scalar.addi c0_i32_126 v139
  v140.toNat
def k0_dev31 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v141 : BitVec 32 := Scalar.addi v2 c31_i32
  let c32_i32_127 : BitVec 32 := 32#32
  let v142 : BitVec 32 := Scalar.remsi v141 c32_i32_127
  let c1_i32_129 : BitVec 32 := 1#32
  let v143 : BitVec 32 := Scalar.muli v142 c1_i32_129
  let v144 : BitVec 32 := Scalar.addi c0_i32_130 v143
  v144.toNat
def k0_off1 (d0 : Dev nD) (c0_i32_133 : BitVec 32) : Fin 4 → Nat :=
  let c0_i32_134 : BitVec 32 := 0#32
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_132 : BitVec 32 := 8#32
  let v145 : BitVec 32 := Scalar.muli v2 c8_i32_132
  let v146 : BitVec 32 := Scalar.addi v145 c0_i32_133
  let c0_i32_141 : BitVec 32 := 0#32
  ![0, 0, v146.toNat, 0]
def k0_off2 (d0 : Dev nD) (c0_i32_409 : BitVec 32) : Fin 3 → Nat :=
  let c0_411 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let v372 : BitVec 32 := Scalar.addi v371 c0_i32_409
  let c4_i32_410 : BitVec 32 := 4#32
  let v373 : BitVec 32 := Scalar.remsi v372 c4_i32_410
  let c256_i32 : BitVec 32 := 256#32
  let v374 : BitVec 32 := Scalar.muli v373 c256_i32
  let v375 : Index := Scalar.indexCast v374
  let c0_412 : Index := 0#32
  ![0, v375.toNat, 0]
def k0_off3 (d0 : Dev nD) (c0_i32_409 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let v372 : BitVec 32 := Scalar.addi v371 c0_i32_409
  let c4_i32_410 : BitVec 32 := 4#32
  let v373 : BitVec 32 := Scalar.remsi v372 c4_i32_410
  let c256_i32 : BitVec 32 := 256#32
  let v374 : BitVec 32 := Scalar.muli v373 c256_i32
  let v387 : Index := Scalar.indexCast v374
  let c0_421 : Index := 0#32
  ![v387.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_512 : BitVec 32 := 8#32
  let v549 : BitVec 32 := Scalar.muli v373 c8_i32_512
  let c0_i32_513 : BitVec 32 := 0#32
  let v550 : BitVec 32 := Scalar.addi v549 c0_i32_513
  let v552 : BitVec 1 := Scalar.cmpi .ne v550 v2
  let v553 : BitVec 32 := Scalar.extui v552
  let c0_i32_515 : BitVec 32 := 0#32
  let v554 : BitVec 1 := Scalar.cmpi .ne v553 c0_i32_515
  v554

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_512 : BitVec 32 := 8#32
  let v549 : BitVec 32 := Scalar.muli v373 c8_i32_512
  let c0_i32_513 : BitVec 32 := 0#32
  let v550 : BitVec 32 := Scalar.addi v549 c0_i32_513
  ![v550.toNat]
def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_512 : BitVec 32 := 8#32
  let v549 : BitVec 32 := Scalar.muli v373 c8_i32_512
  let c0_i32_513 : BitVec 32 := 0#32
  let v550 : BitVec 32 := Scalar.addi v549 c0_i32_513
  let c32_i32_514 : BitVec 32 := 32#32
  let v551 : BitVec 32 := Scalar.muli v550 c32_i32_514
  let c0_i32_2122 : BitVec 32 := 0#32
  ![v551.toNat, 0]
def k0_dev32 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_512 : BitVec 32 := 8#32
  let v549 : BitVec 32 := Scalar.muli v373 c8_i32_512
  let c0_i32_513 : BitVec 32 := 0#32
  let v550 : BitVec 32 := Scalar.addi v549 c0_i32_513
  let c1_i32_2118 : BitVec 32 := 1#32
  let v2679 : BitVec 32 := Scalar.muli v550 c1_i32_2118
  let v2680 : BitVec 32 := Scalar.addi c0_i32_2119 v2679
  v2680.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_516 : BitVec 32 := 8#32
  let v555 : BitVec 32 := Scalar.muli v373 c8_i32_516
  let c1_i32_517 : BitVec 32 := 1#32
  let v556 : BitVec 32 := Scalar.addi v555 c1_i32_517
  let v558 : BitVec 1 := Scalar.cmpi .ne v556 v2
  let v559 : BitVec 32 := Scalar.extui v558
  let c0_i32_519 : BitVec 32 := 0#32
  let v560 : BitVec 1 := Scalar.cmpi .ne v559 c0_i32_519
  v560

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_516 : BitVec 32 := 8#32
  let v555 : BitVec 32 := Scalar.muli v373 c8_i32_516
  let c1_i32_517 : BitVec 32 := 1#32
  let v556 : BitVec 32 := Scalar.addi v555 c1_i32_517
  ![v556.toNat]
def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_516 : BitVec 32 := 8#32
  let v555 : BitVec 32 := Scalar.muli v373 c8_i32_516
  let c1_i32_517 : BitVec 32 := 1#32
  let v556 : BitVec 32 := Scalar.addi v555 c1_i32_517
  let c32_i32_518 : BitVec 32 := 32#32
  let v557 : BitVec 32 := Scalar.muli v556 c32_i32_518
  let c0_i32_2122 : BitVec 32 := 0#32
  ![v557.toNat, 0]
def k0_dev33 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_516 : BitVec 32 := 8#32
  let v555 : BitVec 32 := Scalar.muli v373 c8_i32_516
  let c1_i32_517 : BitVec 32 := 1#32
  let v556 : BitVec 32 := Scalar.addi v555 c1_i32_517
  let c1_i32_2118 : BitVec 32 := 1#32
  let v2679 : BitVec 32 := Scalar.muli v556 c1_i32_2118
  let v2680 : BitVec 32 := Scalar.addi c0_i32_2119 v2679
  v2680.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_520 : BitVec 32 := 8#32
  let v561 : BitVec 32 := Scalar.muli v373 c8_i32_520
  let c2_i32_521 : BitVec 32 := 2#32
  let v562 : BitVec 32 := Scalar.addi v561 c2_i32_521
  let v564 : BitVec 1 := Scalar.cmpi .ne v562 v2
  let v565 : BitVec 32 := Scalar.extui v564
  let c0_i32_523 : BitVec 32 := 0#32
  let v566 : BitVec 1 := Scalar.cmpi .ne v565 c0_i32_523
  v566

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_520 : BitVec 32 := 8#32
  let v561 : BitVec 32 := Scalar.muli v373 c8_i32_520
  let c2_i32_521 : BitVec 32 := 2#32
  let v562 : BitVec 32 := Scalar.addi v561 c2_i32_521
  ![v562.toNat]
def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_520 : BitVec 32 := 8#32
  let v561 : BitVec 32 := Scalar.muli v373 c8_i32_520
  let c2_i32_521 : BitVec 32 := 2#32
  let v562 : BitVec 32 := Scalar.addi v561 c2_i32_521
  let c32_i32_522 : BitVec 32 := 32#32
  let v563 : BitVec 32 := Scalar.muli v562 c32_i32_522
  let c0_i32_2122 : BitVec 32 := 0#32
  ![v563.toNat, 0]
def k0_dev34 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_520 : BitVec 32 := 8#32
  let v561 : BitVec 32 := Scalar.muli v373 c8_i32_520
  let c2_i32_521 : BitVec 32 := 2#32
  let v562 : BitVec 32 := Scalar.addi v561 c2_i32_521
  let c1_i32_2118 : BitVec 32 := 1#32
  let v2679 : BitVec 32 := Scalar.muli v562 c1_i32_2118
  let v2680 : BitVec 32 := Scalar.addi c0_i32_2119 v2679
  v2680.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_524 : BitVec 32 := 8#32
  let v567 : BitVec 32 := Scalar.muli v373 c8_i32_524
  let c3_i32_525 : BitVec 32 := 3#32
  let v568 : BitVec 32 := Scalar.addi v567 c3_i32_525
  let v570 : BitVec 1 := Scalar.cmpi .ne v568 v2
  let v571 : BitVec 32 := Scalar.extui v570
  let c0_i32_527 : BitVec 32 := 0#32
  let v572 : BitVec 1 := Scalar.cmpi .ne v571 c0_i32_527
  v572

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_524 : BitVec 32 := 8#32
  let v567 : BitVec 32 := Scalar.muli v373 c8_i32_524
  let c3_i32_525 : BitVec 32 := 3#32
  let v568 : BitVec 32 := Scalar.addi v567 c3_i32_525
  ![v568.toNat]
def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_524 : BitVec 32 := 8#32
  let v567 : BitVec 32 := Scalar.muli v373 c8_i32_524
  let c3_i32_525 : BitVec 32 := 3#32
  let v568 : BitVec 32 := Scalar.addi v567 c3_i32_525
  let c32_i32_526 : BitVec 32 := 32#32
  let v569 : BitVec 32 := Scalar.muli v568 c32_i32_526
  let c0_i32_2122 : BitVec 32 := 0#32
  ![v569.toNat, 0]
def k0_dev35 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_524 : BitVec 32 := 8#32
  let v567 : BitVec 32 := Scalar.muli v373 c8_i32_524
  let c3_i32_525 : BitVec 32 := 3#32
  let v568 : BitVec 32 := Scalar.addi v567 c3_i32_525
  let c1_i32_2118 : BitVec 32 := 1#32
  let v2679 : BitVec 32 := Scalar.muli v568 c1_i32_2118
  let v2680 : BitVec 32 := Scalar.addi c0_i32_2119 v2679
  v2680.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_528 : BitVec 32 := 8#32
  let v573 : BitVec 32 := Scalar.muli v373 c8_i32_528
  let c4_i32_529 : BitVec 32 := 4#32
  let v574 : BitVec 32 := Scalar.addi v573 c4_i32_529
  let v576 : BitVec 1 := Scalar.cmpi .ne v574 v2
  let v577 : BitVec 32 := Scalar.extui v576
  let c0_i32_531 : BitVec 32 := 0#32
  let v578 : BitVec 1 := Scalar.cmpi .ne v577 c0_i32_531
  v578

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_528 : BitVec 32 := 8#32
  let v573 : BitVec 32 := Scalar.muli v373 c8_i32_528
  let c4_i32_529 : BitVec 32 := 4#32
  let v574 : BitVec 32 := Scalar.addi v573 c4_i32_529
  ![v574.toNat]
def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_528 : BitVec 32 := 8#32
  let v573 : BitVec 32 := Scalar.muli v373 c8_i32_528
  let c4_i32_529 : BitVec 32 := 4#32
  let v574 : BitVec 32 := Scalar.addi v573 c4_i32_529
  let c32_i32_530 : BitVec 32 := 32#32
  let v575 : BitVec 32 := Scalar.muli v574 c32_i32_530
  let c0_i32_2122 : BitVec 32 := 0#32
  ![v575.toNat, 0]
def k0_dev36 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_528 : BitVec 32 := 8#32
  let v573 : BitVec 32 := Scalar.muli v373 c8_i32_528
  let c4_i32_529 : BitVec 32 := 4#32
  let v574 : BitVec 32 := Scalar.addi v573 c4_i32_529
  let c1_i32_2118 : BitVec 32 := 1#32
  let v2679 : BitVec 32 := Scalar.muli v574 c1_i32_2118
  let v2680 : BitVec 32 := Scalar.addi c0_i32_2119 v2679
  v2680.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_532 : BitVec 32 := 8#32
  let v579 : BitVec 32 := Scalar.muli v373 c8_i32_532
  let c5_i32_533 : BitVec 32 := 5#32
  let v580 : BitVec 32 := Scalar.addi v579 c5_i32_533
  let v582 : BitVec 1 := Scalar.cmpi .ne v580 v2
  let v583 : BitVec 32 := Scalar.extui v582
  let c0_i32_535 : BitVec 32 := 0#32
  let v584 : BitVec 1 := Scalar.cmpi .ne v583 c0_i32_535
  v584

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_532 : BitVec 32 := 8#32
  let v579 : BitVec 32 := Scalar.muli v373 c8_i32_532
  let c5_i32_533 : BitVec 32 := 5#32
  let v580 : BitVec 32 := Scalar.addi v579 c5_i32_533
  ![v580.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_532 : BitVec 32 := 8#32
  let v579 : BitVec 32 := Scalar.muli v373 c8_i32_532
  let c5_i32_533 : BitVec 32 := 5#32
  let v580 : BitVec 32 := Scalar.addi v579 c5_i32_533
  let c32_i32_534 : BitVec 32 := 32#32
  let v581 : BitVec 32 := Scalar.muli v580 c32_i32_534
  let c0_i32_2122 : BitVec 32 := 0#32
  ![v581.toNat, 0]
def k0_dev37 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_532 : BitVec 32 := 8#32
  let v579 : BitVec 32 := Scalar.muli v373 c8_i32_532
  let c5_i32_533 : BitVec 32 := 5#32
  let v580 : BitVec 32 := Scalar.addi v579 c5_i32_533
  let c1_i32_2118 : BitVec 32 := 1#32
  let v2679 : BitVec 32 := Scalar.muli v580 c1_i32_2118
  let v2680 : BitVec 32 := Scalar.addi c0_i32_2119 v2679
  v2680.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_536 : BitVec 32 := 8#32
  let v585 : BitVec 32 := Scalar.muli v373 c8_i32_536
  let c6_i32_537 : BitVec 32 := 6#32
  let v586 : BitVec 32 := Scalar.addi v585 c6_i32_537
  let v588 : BitVec 1 := Scalar.cmpi .ne v586 v2
  let v589 : BitVec 32 := Scalar.extui v588
  let c0_i32_539 : BitVec 32 := 0#32
  let v590 : BitVec 1 := Scalar.cmpi .ne v589 c0_i32_539
  v590

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_536 : BitVec 32 := 8#32
  let v585 : BitVec 32 := Scalar.muli v373 c8_i32_536
  let c6_i32_537 : BitVec 32 := 6#32
  let v586 : BitVec 32 := Scalar.addi v585 c6_i32_537
  ![v586.toNat]
def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_536 : BitVec 32 := 8#32
  let v585 : BitVec 32 := Scalar.muli v373 c8_i32_536
  let c6_i32_537 : BitVec 32 := 6#32
  let v586 : BitVec 32 := Scalar.addi v585 c6_i32_537
  let c32_i32_538 : BitVec 32 := 32#32
  let v587 : BitVec 32 := Scalar.muli v586 c32_i32_538
  let c0_i32_2122 : BitVec 32 := 0#32
  ![v587.toNat, 0]
def k0_dev38 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_536 : BitVec 32 := 8#32
  let v585 : BitVec 32 := Scalar.muli v373 c8_i32_536
  let c6_i32_537 : BitVec 32 := 6#32
  let v586 : BitVec 32 := Scalar.addi v585 c6_i32_537
  let c1_i32_2118 : BitVec 32 := 1#32
  let v2679 : BitVec 32 := Scalar.muli v586 c1_i32_2118
  let v2680 : BitVec 32 := Scalar.addi c0_i32_2119 v2679
  v2680.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_540 : BitVec 32 := 8#32
  let v591 : BitVec 32 := Scalar.muli v373 c8_i32_540
  let c7_i32_541 : BitVec 32 := 7#32
  let v592 : BitVec 32 := Scalar.addi v591 c7_i32_541
  let v594 : BitVec 1 := Scalar.cmpi .ne v592 v2
  let v595 : BitVec 32 := Scalar.extui v594
  let c0_i32_543 : BitVec 32 := 0#32
  let v596 : BitVec 1 := Scalar.cmpi .ne v595 c0_i32_543
  v596

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_540 : BitVec 32 := 8#32
  let v591 : BitVec 32 := Scalar.muli v373 c8_i32_540
  let c7_i32_541 : BitVec 32 := 7#32
  let v592 : BitVec 32 := Scalar.addi v591 c7_i32_541
  ![v592.toNat]
def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_540 : BitVec 32 := 8#32
  let v591 : BitVec 32 := Scalar.muli v373 c8_i32_540
  let c7_i32_541 : BitVec 32 := 7#32
  let v592 : BitVec 32 := Scalar.addi v591 c7_i32_541
  let c32_i32_542 : BitVec 32 := 32#32
  let v593 : BitVec 32 := Scalar.muli v592 c32_i32_542
  let c0_i32_2122 : BitVec 32 := 0#32
  ![v593.toNat, 0]
def k0_dev39 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_540 : BitVec 32 := 8#32
  let v591 : BitVec 32 := Scalar.muli v373 c8_i32_540
  let c7_i32_541 : BitVec 32 := 7#32
  let v592 : BitVec 32 := Scalar.addi v591 c7_i32_541
  let c1_i32_2118 : BitVec 32 := 1#32
  let v2679 : BitVec 32 := Scalar.muli v592 c1_i32_2118
  let v2680 : BitVec 32 := Scalar.addi c0_i32_2119 v2679
  v2680.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_663 : BitVec 32 := 8#32
  let v775 : BitVec 32 := Scalar.muli v599 c8_i32_663
  let c0_i32_664 : BitVec 32 := 0#32
  let v776 : BitVec 32 := Scalar.addi v775 c0_i32_664
  let v778 : BitVec 1 := Scalar.cmpi .ne v776 v2
  let v779 : BitVec 32 := Scalar.extui v778
  let c0_i32_666 : BitVec 32 := 0#32
  let v780 : BitVec 1 := Scalar.cmpi .ne v779 c0_i32_666
  v780

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_663 : BitVec 32 := 8#32
  let v775 : BitVec 32 := Scalar.muli v599 c8_i32_663
  let c0_i32_664 : BitVec 32 := 0#32
  let v776 : BitVec 32 := Scalar.addi v775 c0_i32_664
  ![v776.toNat]
def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_663 : BitVec 32 := 8#32
  let v775 : BitVec 32 := Scalar.muli v599 c8_i32_663
  let c0_i32_664 : BitVec 32 := 0#32
  let v776 : BitVec 32 := Scalar.addi v775 c0_i32_664
  let c32_i32_665 : BitVec 32 := 32#32
  let v777 : BitVec 32 := Scalar.muli v776 c32_i32_665
  let c0_i32_2122 : BitVec 32 := 0#32
  ![v777.toNat, 0]
def k0_dev40 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_663 : BitVec 32 := 8#32
  let v775 : BitVec 32 := Scalar.muli v599 c8_i32_663
  let c0_i32_664 : BitVec 32 := 0#32
  let v776 : BitVec 32 := Scalar.addi v775 c0_i32_664
  let c1_i32_2118 : BitVec 32 := 1#32
  let v2679 : BitVec 32 := Scalar.muli v776 c1_i32_2118
  let v2680 : BitVec 32 := Scalar.addi c0_i32_2119 v2679
  v2680.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_667 : BitVec 32 := 8#32
  let v781 : BitVec 32 := Scalar.muli v599 c8_i32_667
  let c1_i32_668 : BitVec 32 := 1#32
  let v782 : BitVec 32 := Scalar.addi v781 c1_i32_668
  let v784 : BitVec 1 := Scalar.cmpi .ne v782 v2
  let v785 : BitVec 32 := Scalar.extui v784
  let c0_i32_670 : BitVec 32 := 0#32
  let v786 : BitVec 1 := Scalar.cmpi .ne v785 c0_i32_670
  v786

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_667 : BitVec 32 := 8#32
  let v781 : BitVec 32 := Scalar.muli v599 c8_i32_667
  let c1_i32_668 : BitVec 32 := 1#32
  let v782 : BitVec 32 := Scalar.addi v781 c1_i32_668
  ![v782.toNat]
def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_667 : BitVec 32 := 8#32
  let v781 : BitVec 32 := Scalar.muli v599 c8_i32_667
  let c1_i32_668 : BitVec 32 := 1#32
  let v782 : BitVec 32 := Scalar.addi v781 c1_i32_668
  let c32_i32_669 : BitVec 32 := 32#32
  let v783 : BitVec 32 := Scalar.muli v782 c32_i32_669
  let c0_i32_2122 : BitVec 32 := 0#32
  ![v783.toNat, 0]
def k0_dev41 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_667 : BitVec 32 := 8#32
  let v781 : BitVec 32 := Scalar.muli v599 c8_i32_667
  let c1_i32_668 : BitVec 32 := 1#32
  let v782 : BitVec 32 := Scalar.addi v781 c1_i32_668
  let c1_i32_2118 : BitVec 32 := 1#32
  let v2679 : BitVec 32 := Scalar.muli v782 c1_i32_2118
  let v2680 : BitVec 32 := Scalar.addi c0_i32_2119 v2679
  v2680.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_671 : BitVec 32 := 8#32
  let v787 : BitVec 32 := Scalar.muli v599 c8_i32_671
  let c2_i32_672 : BitVec 32 := 2#32
  let v788 : BitVec 32 := Scalar.addi v787 c2_i32_672
  let v790 : BitVec 1 := Scalar.cmpi .ne v788 v2
  let v791 : BitVec 32 := Scalar.extui v790
  let c0_i32_674 : BitVec 32 := 0#32
  let v792 : BitVec 1 := Scalar.cmpi .ne v791 c0_i32_674
  v792

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_671 : BitVec 32 := 8#32
  let v787 : BitVec 32 := Scalar.muli v599 c8_i32_671
  let c2_i32_672 : BitVec 32 := 2#32
  let v788 : BitVec 32 := Scalar.addi v787 c2_i32_672
  ![v788.toNat]
def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_671 : BitVec 32 := 8#32
  let v787 : BitVec 32 := Scalar.muli v599 c8_i32_671
  let c2_i32_672 : BitVec 32 := 2#32
  let v788 : BitVec 32 := Scalar.addi v787 c2_i32_672
  let c32_i32_673 : BitVec 32 := 32#32
  let v789 : BitVec 32 := Scalar.muli v788 c32_i32_673
  let c0_i32_2122 : BitVec 32 := 0#32
  ![v789.toNat, 0]
def k0_dev42 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_671 : BitVec 32 := 8#32
  let v787 : BitVec 32 := Scalar.muli v599 c8_i32_671
  let c2_i32_672 : BitVec 32 := 2#32
  let v788 : BitVec 32 := Scalar.addi v787 c2_i32_672
  let c1_i32_2118 : BitVec 32 := 1#32
  let v2679 : BitVec 32 := Scalar.muli v788 c1_i32_2118
  let v2680 : BitVec 32 := Scalar.addi c0_i32_2119 v2679
  v2680.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_675 : BitVec 32 := 8#32
  let v793 : BitVec 32 := Scalar.muli v599 c8_i32_675
  let c3_i32_676 : BitVec 32 := 3#32
  let v794 : BitVec 32 := Scalar.addi v793 c3_i32_676
  let v796 : BitVec 1 := Scalar.cmpi .ne v794 v2
  let v797 : BitVec 32 := Scalar.extui v796
  let c0_i32_678 : BitVec 32 := 0#32
  let v798 : BitVec 1 := Scalar.cmpi .ne v797 c0_i32_678
  v798

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_675 : BitVec 32 := 8#32
  let v793 : BitVec 32 := Scalar.muli v599 c8_i32_675
  let c3_i32_676 : BitVec 32 := 3#32
  let v794 : BitVec 32 := Scalar.addi v793 c3_i32_676
  ![v794.toNat]
def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_675 : BitVec 32 := 8#32
  let v793 : BitVec 32 := Scalar.muli v599 c8_i32_675
  let c3_i32_676 : BitVec 32 := 3#32
  let v794 : BitVec 32 := Scalar.addi v793 c3_i32_676
  let c32_i32_677 : BitVec 32 := 32#32
  let v795 : BitVec 32 := Scalar.muli v794 c32_i32_677
  let c0_i32_2122 : BitVec 32 := 0#32
  ![v795.toNat, 0]
def k0_dev43 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_675 : BitVec 32 := 8#32
  let v793 : BitVec 32 := Scalar.muli v599 c8_i32_675
  let c3_i32_676 : BitVec 32 := 3#32
  let v794 : BitVec 32 := Scalar.addi v793 c3_i32_676
  let c1_i32_2118 : BitVec 32 := 1#32
  let v2679 : BitVec 32 := Scalar.muli v794 c1_i32_2118
  let v2680 : BitVec 32 := Scalar.addi c0_i32_2119 v2679
  v2680.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_679 : BitVec 32 := 8#32
  let v799 : BitVec 32 := Scalar.muli v599 c8_i32_679
  let c4_i32_680 : BitVec 32 := 4#32
  let v800 : BitVec 32 := Scalar.addi v799 c4_i32_680
  let v802 : BitVec 1 := Scalar.cmpi .ne v800 v2
  let v803 : BitVec 32 := Scalar.extui v802
  let c0_i32_682 : BitVec 32 := 0#32
  let v804 : BitVec 1 := Scalar.cmpi .ne v803 c0_i32_682
  v804

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_679 : BitVec 32 := 8#32
  let v799 : BitVec 32 := Scalar.muli v599 c8_i32_679
  let c4_i32_680 : BitVec 32 := 4#32
  let v800 : BitVec 32 := Scalar.addi v799 c4_i32_680
  ![v800.toNat]
def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_679 : BitVec 32 := 8#32
  let v799 : BitVec 32 := Scalar.muli v599 c8_i32_679
  let c4_i32_680 : BitVec 32 := 4#32
  let v800 : BitVec 32 := Scalar.addi v799 c4_i32_680
  let c32_i32_681 : BitVec 32 := 32#32
  let v801 : BitVec 32 := Scalar.muli v800 c32_i32_681
  let c0_i32_2122 : BitVec 32 := 0#32
  ![v801.toNat, 0]
def k0_dev44 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_679 : BitVec 32 := 8#32
  let v799 : BitVec 32 := Scalar.muli v599 c8_i32_679
  let c4_i32_680 : BitVec 32 := 4#32
  let v800 : BitVec 32 := Scalar.addi v799 c4_i32_680
  let c1_i32_2118 : BitVec 32 := 1#32
  let v2679 : BitVec 32 := Scalar.muli v800 c1_i32_2118
  let v2680 : BitVec 32 := Scalar.addi c0_i32_2119 v2679
  v2680.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_683 : BitVec 32 := 8#32
  let v805 : BitVec 32 := Scalar.muli v599 c8_i32_683
  let c5_i32_684 : BitVec 32 := 5#32
  let v806 : BitVec 32 := Scalar.addi v805 c5_i32_684
  let v808 : BitVec 1 := Scalar.cmpi .ne v806 v2
  let v809 : BitVec 32 := Scalar.extui v808
  let c0_i32_686 : BitVec 32 := 0#32
  let v810 : BitVec 1 := Scalar.cmpi .ne v809 c0_i32_686
  v810

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_683 : BitVec 32 := 8#32
  let v805 : BitVec 32 := Scalar.muli v599 c8_i32_683
  let c5_i32_684 : BitVec 32 := 5#32
  let v806 : BitVec 32 := Scalar.addi v805 c5_i32_684
  ![v806.toNat]
def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_683 : BitVec 32 := 8#32
  let v805 : BitVec 32 := Scalar.muli v599 c8_i32_683
  let c5_i32_684 : BitVec 32 := 5#32
  let v806 : BitVec 32 := Scalar.addi v805 c5_i32_684
  let c32_i32_685 : BitVec 32 := 32#32
  let v807 : BitVec 32 := Scalar.muli v806 c32_i32_685
  let c0_i32_2122 : BitVec 32 := 0#32
  ![v807.toNat, 0]
def k0_dev45 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_683 : BitVec 32 := 8#32
  let v805 : BitVec 32 := Scalar.muli v599 c8_i32_683
  let c5_i32_684 : BitVec 32 := 5#32
  let v806 : BitVec 32 := Scalar.addi v805 c5_i32_684
  let c1_i32_2118 : BitVec 32 := 1#32
  let v2679 : BitVec 32 := Scalar.muli v806 c1_i32_2118
  let v2680 : BitVec 32 := Scalar.addi c0_i32_2119 v2679
  v2680.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_687 : BitVec 32 := 8#32
  let v811 : BitVec 32 := Scalar.muli v599 c8_i32_687
  let c6_i32_688 : BitVec 32 := 6#32
  let v812 : BitVec 32 := Scalar.addi v811 c6_i32_688
  let v814 : BitVec 1 := Scalar.cmpi .ne v812 v2
  let v815 : BitVec 32 := Scalar.extui v814
  let c0_i32_690 : BitVec 32 := 0#32
  let v816 : BitVec 1 := Scalar.cmpi .ne v815 c0_i32_690
  v816

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_687 : BitVec 32 := 8#32
  let v811 : BitVec 32 := Scalar.muli v599 c8_i32_687
  let c6_i32_688 : BitVec 32 := 6#32
  let v812 : BitVec 32 := Scalar.addi v811 c6_i32_688
  ![v812.toNat]
def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_687 : BitVec 32 := 8#32
  let v811 : BitVec 32 := Scalar.muli v599 c8_i32_687
  let c6_i32_688 : BitVec 32 := 6#32
  let v812 : BitVec 32 := Scalar.addi v811 c6_i32_688
  let c32_i32_689 : BitVec 32 := 32#32
  let v813 : BitVec 32 := Scalar.muli v812 c32_i32_689
  let c0_i32_2122 : BitVec 32 := 0#32
  ![v813.toNat, 0]
def k0_dev46 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_687 : BitVec 32 := 8#32
  let v811 : BitVec 32 := Scalar.muli v599 c8_i32_687
  let c6_i32_688 : BitVec 32 := 6#32
  let v812 : BitVec 32 := Scalar.addi v811 c6_i32_688
  let c1_i32_2118 : BitVec 32 := 1#32
  let v2679 : BitVec 32 := Scalar.muli v812 c1_i32_2118
  let v2680 : BitVec 32 := Scalar.addi c0_i32_2119 v2679
  v2680.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_691 : BitVec 32 := 8#32
  let v817 : BitVec 32 := Scalar.muli v599 c8_i32_691
  let c7_i32_692 : BitVec 32 := 7#32
  let v818 : BitVec 32 := Scalar.addi v817 c7_i32_692
  let v820 : BitVec 1 := Scalar.cmpi .ne v818 v2
  let v821 : BitVec 32 := Scalar.extui v820
  let c0_i32_694 : BitVec 32 := 0#32
  let v822 : BitVec 1 := Scalar.cmpi .ne v821 c0_i32_694
  v822

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_691 : BitVec 32 := 8#32
  let v817 : BitVec 32 := Scalar.muli v599 c8_i32_691
  let c7_i32_692 : BitVec 32 := 7#32
  let v818 : BitVec 32 := Scalar.addi v817 c7_i32_692
  ![v818.toNat]
def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_691 : BitVec 32 := 8#32
  let v817 : BitVec 32 := Scalar.muli v599 c8_i32_691
  let c7_i32_692 : BitVec 32 := 7#32
  let v818 : BitVec 32 := Scalar.addi v817 c7_i32_692
  let c32_i32_693 : BitVec 32 := 32#32
  let v819 : BitVec 32 := Scalar.muli v818 c32_i32_693
  let c0_i32_2122 : BitVec 32 := 0#32
  ![v819.toNat, 0]
def k0_dev47 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_691 : BitVec 32 := 8#32
  let v817 : BitVec 32 := Scalar.muli v599 c8_i32_691
  let c7_i32_692 : BitVec 32 := 7#32
  let v818 : BitVec 32 := Scalar.addi v817 c7_i32_692
  let c1_i32_2118 : BitVec 32 := 1#32
  let v2679 : BitVec 32 := Scalar.muli v818 c1_i32_2118
  let v2680 : BitVec 32 := Scalar.addi c0_i32_2119 v2679
  v2680.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_814 : BitVec 32 := 8#32
  let v1001 : BitVec 32 := Scalar.muli v825 c8_i32_814
  let c0_i32_815 : BitVec 32 := 0#32
  let v1002 : BitVec 32 := Scalar.addi v1001 c0_i32_815
  let v1004 : BitVec 1 := Scalar.cmpi .ne v1002 v2
  let v1005 : BitVec 32 := Scalar.extui v1004
  let c0_i32_817 : BitVec 32 := 0#32
  let v1006 : BitVec 1 := Scalar.cmpi .ne v1005 c0_i32_817
  v1006

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_814 : BitVec 32 := 8#32
  let v1001 : BitVec 32 := Scalar.muli v825 c8_i32_814
  let c0_i32_815 : BitVec 32 := 0#32
  let v1002 : BitVec 32 := Scalar.addi v1001 c0_i32_815
  ![v1002.toNat]
def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_814 : BitVec 32 := 8#32
  let v1001 : BitVec 32 := Scalar.muli v825 c8_i32_814
  let c0_i32_815 : BitVec 32 := 0#32
  let v1002 : BitVec 32 := Scalar.addi v1001 c0_i32_815
  let c32_i32_816 : BitVec 32 := 32#32
  let v1003 : BitVec 32 := Scalar.muli v1002 c32_i32_816
  let c0_i32_2122 : BitVec 32 := 0#32
  ![v1003.toNat, 0]
def k0_dev48 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_814 : BitVec 32 := 8#32
  let v1001 : BitVec 32 := Scalar.muli v825 c8_i32_814
  let c0_i32_815 : BitVec 32 := 0#32
  let v1002 : BitVec 32 := Scalar.addi v1001 c0_i32_815
  let c1_i32_2118 : BitVec 32 := 1#32
  let v2679 : BitVec 32 := Scalar.muli v1002 c1_i32_2118
  let v2680 : BitVec 32 := Scalar.addi c0_i32_2119 v2679
  v2680.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_818 : BitVec 32 := 8#32
  let v1007 : BitVec 32 := Scalar.muli v825 c8_i32_818
  let c1_i32_819 : BitVec 32 := 1#32
  let v1008 : BitVec 32 := Scalar.addi v1007 c1_i32_819
  let v1010 : BitVec 1 := Scalar.cmpi .ne v1008 v2
  let v1011 : BitVec 32 := Scalar.extui v1010
  let c0_i32_821 : BitVec 32 := 0#32
  let v1012 : BitVec 1 := Scalar.cmpi .ne v1011 c0_i32_821
  v1012

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_818 : BitVec 32 := 8#32
  let v1007 : BitVec 32 := Scalar.muli v825 c8_i32_818
  let c1_i32_819 : BitVec 32 := 1#32
  let v1008 : BitVec 32 := Scalar.addi v1007 c1_i32_819
  ![v1008.toNat]
def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_818 : BitVec 32 := 8#32
  let v1007 : BitVec 32 := Scalar.muli v825 c8_i32_818
  let c1_i32_819 : BitVec 32 := 1#32
  let v1008 : BitVec 32 := Scalar.addi v1007 c1_i32_819
  let c32_i32_820 : BitVec 32 := 32#32
  let v1009 : BitVec 32 := Scalar.muli v1008 c32_i32_820
  let c0_i32_2122 : BitVec 32 := 0#32
  ![v1009.toNat, 0]
def k0_dev49 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_818 : BitVec 32 := 8#32
  let v1007 : BitVec 32 := Scalar.muli v825 c8_i32_818
  let c1_i32_819 : BitVec 32 := 1#32
  let v1008 : BitVec 32 := Scalar.addi v1007 c1_i32_819
  let c1_i32_2118 : BitVec 32 := 1#32
  let v2679 : BitVec 32 := Scalar.muli v1008 c1_i32_2118
  let v2680 : BitVec 32 := Scalar.addi c0_i32_2119 v2679
  v2680.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_822 : BitVec 32 := 8#32
  let v1013 : BitVec 32 := Scalar.muli v825 c8_i32_822
  let c2_i32_823 : BitVec 32 := 2#32
  let v1014 : BitVec 32 := Scalar.addi v1013 c2_i32_823
  let v1016 : BitVec 1 := Scalar.cmpi .ne v1014 v2
  let v1017 : BitVec 32 := Scalar.extui v1016
  let c0_i32_825 : BitVec 32 := 0#32
  let v1018 : BitVec 1 := Scalar.cmpi .ne v1017 c0_i32_825
  v1018

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_822 : BitVec 32 := 8#32
  let v1013 : BitVec 32 := Scalar.muli v825 c8_i32_822
  let c2_i32_823 : BitVec 32 := 2#32
  let v1014 : BitVec 32 := Scalar.addi v1013 c2_i32_823
  ![v1014.toNat]
def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_822 : BitVec 32 := 8#32
  let v1013 : BitVec 32 := Scalar.muli v825 c8_i32_822
  let c2_i32_823 : BitVec 32 := 2#32
  let v1014 : BitVec 32 := Scalar.addi v1013 c2_i32_823
  let c32_i32_824 : BitVec 32 := 32#32
  let v1015 : BitVec 32 := Scalar.muli v1014 c32_i32_824
  let c0_i32_2122 : BitVec 32 := 0#32
  ![v1015.toNat, 0]
def k0_dev50 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_822 : BitVec 32 := 8#32
  let v1013 : BitVec 32 := Scalar.muli v825 c8_i32_822
  let c2_i32_823 : BitVec 32 := 2#32
  let v1014 : BitVec 32 := Scalar.addi v1013 c2_i32_823
  let c1_i32_2118 : BitVec 32 := 1#32
  let v2679 : BitVec 32 := Scalar.muli v1014 c1_i32_2118
  let v2680 : BitVec 32 := Scalar.addi c0_i32_2119 v2679
  v2680.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_826 : BitVec 32 := 8#32
  let v1019 : BitVec 32 := Scalar.muli v825 c8_i32_826
  let c3_i32_827 : BitVec 32 := 3#32
  let v1020 : BitVec 32 := Scalar.addi v1019 c3_i32_827
  let v1022 : BitVec 1 := Scalar.cmpi .ne v1020 v2
  let v1023 : BitVec 32 := Scalar.extui v1022
  let c0_i32_829 : BitVec 32 := 0#32
  let v1024 : BitVec 1 := Scalar.cmpi .ne v1023 c0_i32_829
  v1024

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_826 : BitVec 32 := 8#32
  let v1019 : BitVec 32 := Scalar.muli v825 c8_i32_826
  let c3_i32_827 : BitVec 32 := 3#32
  let v1020 : BitVec 32 := Scalar.addi v1019 c3_i32_827
  ![v1020.toNat]
def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_826 : BitVec 32 := 8#32
  let v1019 : BitVec 32 := Scalar.muli v825 c8_i32_826
  let c3_i32_827 : BitVec 32 := 3#32
  let v1020 : BitVec 32 := Scalar.addi v1019 c3_i32_827
  let c32_i32_828 : BitVec 32 := 32#32
  let v1021 : BitVec 32 := Scalar.muli v1020 c32_i32_828
  let c0_i32_2122 : BitVec 32 := 0#32
  ![v1021.toNat, 0]
def k0_dev51 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_826 : BitVec 32 := 8#32
  let v1019 : BitVec 32 := Scalar.muli v825 c8_i32_826
  let c3_i32_827 : BitVec 32 := 3#32
  let v1020 : BitVec 32 := Scalar.addi v1019 c3_i32_827
  let c1_i32_2118 : BitVec 32 := 1#32
  let v2679 : BitVec 32 := Scalar.muli v1020 c1_i32_2118
  let v2680 : BitVec 32 := Scalar.addi c0_i32_2119 v2679
  v2680.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_830 : BitVec 32 := 8#32
  let v1025 : BitVec 32 := Scalar.muli v825 c8_i32_830
  let c4_i32_831 : BitVec 32 := 4#32
  let v1026 : BitVec 32 := Scalar.addi v1025 c4_i32_831
  let v1028 : BitVec 1 := Scalar.cmpi .ne v1026 v2
  let v1029 : BitVec 32 := Scalar.extui v1028
  let c0_i32_833 : BitVec 32 := 0#32
  let v1030 : BitVec 1 := Scalar.cmpi .ne v1029 c0_i32_833
  v1030

def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_830 : BitVec 32 := 8#32
  let v1025 : BitVec 32 := Scalar.muli v825 c8_i32_830
  let c4_i32_831 : BitVec 32 := 4#32
  let v1026 : BitVec 32 := Scalar.addi v1025 c4_i32_831
  ![v1026.toNat]
def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_830 : BitVec 32 := 8#32
  let v1025 : BitVec 32 := Scalar.muli v825 c8_i32_830
  let c4_i32_831 : BitVec 32 := 4#32
  let v1026 : BitVec 32 := Scalar.addi v1025 c4_i32_831
  let c32_i32_832 : BitVec 32 := 32#32
  let v1027 : BitVec 32 := Scalar.muli v1026 c32_i32_832
  let c0_i32_2122 : BitVec 32 := 0#32
  ![v1027.toNat, 0]
def k0_dev52 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_830 : BitVec 32 := 8#32
  let v1025 : BitVec 32 := Scalar.muli v825 c8_i32_830
  let c4_i32_831 : BitVec 32 := 4#32
  let v1026 : BitVec 32 := Scalar.addi v1025 c4_i32_831
  let c1_i32_2118 : BitVec 32 := 1#32
  let v2679 : BitVec 32 := Scalar.muli v1026 c1_i32_2118
  let v2680 : BitVec 32 := Scalar.addi c0_i32_2119 v2679
  v2680.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_834 : BitVec 32 := 8#32
  let v1031 : BitVec 32 := Scalar.muli v825 c8_i32_834
  let c5_i32_835 : BitVec 32 := 5#32
  let v1032 : BitVec 32 := Scalar.addi v1031 c5_i32_835
  let v1034 : BitVec 1 := Scalar.cmpi .ne v1032 v2
  let v1035 : BitVec 32 := Scalar.extui v1034
  let c0_i32_837 : BitVec 32 := 0#32
  let v1036 : BitVec 1 := Scalar.cmpi .ne v1035 c0_i32_837
  v1036

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_834 : BitVec 32 := 8#32
  let v1031 : BitVec 32 := Scalar.muli v825 c8_i32_834
  let c5_i32_835 : BitVec 32 := 5#32
  let v1032 : BitVec 32 := Scalar.addi v1031 c5_i32_835
  ![v1032.toNat]
def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_834 : BitVec 32 := 8#32
  let v1031 : BitVec 32 := Scalar.muli v825 c8_i32_834
  let c5_i32_835 : BitVec 32 := 5#32
  let v1032 : BitVec 32 := Scalar.addi v1031 c5_i32_835
  let c32_i32_836 : BitVec 32 := 32#32
  let v1033 : BitVec 32 := Scalar.muli v1032 c32_i32_836
  let c0_i32_2122 : BitVec 32 := 0#32
  ![v1033.toNat, 0]
def k0_dev53 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_834 : BitVec 32 := 8#32
  let v1031 : BitVec 32 := Scalar.muli v825 c8_i32_834
  let c5_i32_835 : BitVec 32 := 5#32
  let v1032 : BitVec 32 := Scalar.addi v1031 c5_i32_835
  let c1_i32_2118 : BitVec 32 := 1#32
  let v2679 : BitVec 32 := Scalar.muli v1032 c1_i32_2118
  let v2680 : BitVec 32 := Scalar.addi c0_i32_2119 v2679
  v2680.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_838 : BitVec 32 := 8#32
  let v1037 : BitVec 32 := Scalar.muli v825 c8_i32_838
  let c6_i32_839 : BitVec 32 := 6#32
  let v1038 : BitVec 32 := Scalar.addi v1037 c6_i32_839
  let v1040 : BitVec 1 := Scalar.cmpi .ne v1038 v2
  let v1041 : BitVec 32 := Scalar.extui v1040
  let c0_i32_841 : BitVec 32 := 0#32
  let v1042 : BitVec 1 := Scalar.cmpi .ne v1041 c0_i32_841
  v1042

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_838 : BitVec 32 := 8#32
  let v1037 : BitVec 32 := Scalar.muli v825 c8_i32_838
  let c6_i32_839 : BitVec 32 := 6#32
  let v1038 : BitVec 32 := Scalar.addi v1037 c6_i32_839
  ![v1038.toNat]
def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_838 : BitVec 32 := 8#32
  let v1037 : BitVec 32 := Scalar.muli v825 c8_i32_838
  let c6_i32_839 : BitVec 32 := 6#32
  let v1038 : BitVec 32 := Scalar.addi v1037 c6_i32_839
  let c32_i32_840 : BitVec 32 := 32#32
  let v1039 : BitVec 32 := Scalar.muli v1038 c32_i32_840
  let c0_i32_2122 : BitVec 32 := 0#32
  ![v1039.toNat, 0]
def k0_dev54 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_838 : BitVec 32 := 8#32
  let v1037 : BitVec 32 := Scalar.muli v825 c8_i32_838
  let c6_i32_839 : BitVec 32 := 6#32
  let v1038 : BitVec 32 := Scalar.addi v1037 c6_i32_839
  let c1_i32_2118 : BitVec 32 := 1#32
  let v2679 : BitVec 32 := Scalar.muli v1038 c1_i32_2118
  let v2680 : BitVec 32 := Scalar.addi c0_i32_2119 v2679
  v2680.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_842 : BitVec 32 := 8#32
  let v1043 : BitVec 32 := Scalar.muli v825 c8_i32_842
  let c7_i32_843 : BitVec 32 := 7#32
  let v1044 : BitVec 32 := Scalar.addi v1043 c7_i32_843
  let v1046 : BitVec 1 := Scalar.cmpi .ne v1044 v2
  let v1047 : BitVec 32 := Scalar.extui v1046
  let c0_i32_845 : BitVec 32 := 0#32
  let v1048 : BitVec 1 := Scalar.cmpi .ne v1047 c0_i32_845
  v1048

def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_842 : BitVec 32 := 8#32
  let v1043 : BitVec 32 := Scalar.muli v825 c8_i32_842
  let c7_i32_843 : BitVec 32 := 7#32
  let v1044 : BitVec 32 := Scalar.addi v1043 c7_i32_843
  ![v1044.toNat]
def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_842 : BitVec 32 := 8#32
  let v1043 : BitVec 32 := Scalar.muli v825 c8_i32_842
  let c7_i32_843 : BitVec 32 := 7#32
  let v1044 : BitVec 32 := Scalar.addi v1043 c7_i32_843
  let c32_i32_844 : BitVec 32 := 32#32
  let v1045 : BitVec 32 := Scalar.muli v1044 c32_i32_844
  let c0_i32_2122 : BitVec 32 := 0#32
  ![v1045.toNat, 0]
def k0_dev55 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_842 : BitVec 32 := 8#32
  let v1043 : BitVec 32 := Scalar.muli v825 c8_i32_842
  let c7_i32_843 : BitVec 32 := 7#32
  let v1044 : BitVec 32 := Scalar.addi v1043 c7_i32_843
  let c1_i32_2118 : BitVec 32 := 1#32
  let v2679 : BitVec 32 := Scalar.muli v1044 c1_i32_2118
  let v2680 : BitVec 32 := Scalar.addi c0_i32_2119 v2679
  v2680.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_965 : BitVec 32 := 8#32
  let v1227 : BitVec 32 := Scalar.muli v1051 c8_i32_965
  let c0_i32_966 : BitVec 32 := 0#32
  let v1228 : BitVec 32 := Scalar.addi v1227 c0_i32_966
  let v1230 : BitVec 1 := Scalar.cmpi .ne v1228 v2
  let v1231 : BitVec 32 := Scalar.extui v1230
  let c0_i32_968 : BitVec 32 := 0#32
  let v1232 : BitVec 1 := Scalar.cmpi .ne v1231 c0_i32_968
  v1232

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_965 : BitVec 32 := 8#32
  let v1227 : BitVec 32 := Scalar.muli v1051 c8_i32_965
  let c0_i32_966 : BitVec 32 := 0#32
  let v1228 : BitVec 32 := Scalar.addi v1227 c0_i32_966
  ![v1228.toNat]
def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_965 : BitVec 32 := 8#32
  let v1227 : BitVec 32 := Scalar.muli v1051 c8_i32_965
  let c0_i32_966 : BitVec 32 := 0#32
  let v1228 : BitVec 32 := Scalar.addi v1227 c0_i32_966
  let c32_i32_967 : BitVec 32 := 32#32
  let v1229 : BitVec 32 := Scalar.muli v1228 c32_i32_967
  let c0_i32_2122 : BitVec 32 := 0#32
  ![v1229.toNat, 0]
def k0_dev56 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_965 : BitVec 32 := 8#32
  let v1227 : BitVec 32 := Scalar.muli v1051 c8_i32_965
  let c0_i32_966 : BitVec 32 := 0#32
  let v1228 : BitVec 32 := Scalar.addi v1227 c0_i32_966
  let c1_i32_2118 : BitVec 32 := 1#32
  let v2679 : BitVec 32 := Scalar.muli v1228 c1_i32_2118
  let v2680 : BitVec 32 := Scalar.addi c0_i32_2119 v2679
  v2680.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_969 : BitVec 32 := 8#32
  let v1233 : BitVec 32 := Scalar.muli v1051 c8_i32_969
  let c1_i32_970 : BitVec 32 := 1#32
  let v1234 : BitVec 32 := Scalar.addi v1233 c1_i32_970
  let v1236 : BitVec 1 := Scalar.cmpi .ne v1234 v2
  let v1237 : BitVec 32 := Scalar.extui v1236
  let c0_i32_972 : BitVec 32 := 0#32
  let v1238 : BitVec 1 := Scalar.cmpi .ne v1237 c0_i32_972
  v1238

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_969 : BitVec 32 := 8#32
  let v1233 : BitVec 32 := Scalar.muli v1051 c8_i32_969
  let c1_i32_970 : BitVec 32 := 1#32
  let v1234 : BitVec 32 := Scalar.addi v1233 c1_i32_970
  ![v1234.toNat]
def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_969 : BitVec 32 := 8#32
  let v1233 : BitVec 32 := Scalar.muli v1051 c8_i32_969
  let c1_i32_970 : BitVec 32 := 1#32
  let v1234 : BitVec 32 := Scalar.addi v1233 c1_i32_970
  let c32_i32_971 : BitVec 32 := 32#32
  let v1235 : BitVec 32 := Scalar.muli v1234 c32_i32_971
  let c0_i32_2122 : BitVec 32 := 0#32
  ![v1235.toNat, 0]
def k0_dev57 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_969 : BitVec 32 := 8#32
  let v1233 : BitVec 32 := Scalar.muli v1051 c8_i32_969
  let c1_i32_970 : BitVec 32 := 1#32
  let v1234 : BitVec 32 := Scalar.addi v1233 c1_i32_970
  let c1_i32_2118 : BitVec 32 := 1#32
  let v2679 : BitVec 32 := Scalar.muli v1234 c1_i32_2118
  let v2680 : BitVec 32 := Scalar.addi c0_i32_2119 v2679
  v2680.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_973 : BitVec 32 := 8#32
  let v1239 : BitVec 32 := Scalar.muli v1051 c8_i32_973
  let c2_i32_974 : BitVec 32 := 2#32
  let v1240 : BitVec 32 := Scalar.addi v1239 c2_i32_974
  let v1242 : BitVec 1 := Scalar.cmpi .ne v1240 v2
  let v1243 : BitVec 32 := Scalar.extui v1242
  let c0_i32_976 : BitVec 32 := 0#32
  let v1244 : BitVec 1 := Scalar.cmpi .ne v1243 c0_i32_976
  v1244

def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_973 : BitVec 32 := 8#32
  let v1239 : BitVec 32 := Scalar.muli v1051 c8_i32_973
  let c2_i32_974 : BitVec 32 := 2#32
  let v1240 : BitVec 32 := Scalar.addi v1239 c2_i32_974
  ![v1240.toNat]
def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_973 : BitVec 32 := 8#32
  let v1239 : BitVec 32 := Scalar.muli v1051 c8_i32_973
  let c2_i32_974 : BitVec 32 := 2#32
  let v1240 : BitVec 32 := Scalar.addi v1239 c2_i32_974
  let c32_i32_975 : BitVec 32 := 32#32
  let v1241 : BitVec 32 := Scalar.muli v1240 c32_i32_975
  let c0_i32_2122 : BitVec 32 := 0#32
  ![v1241.toNat, 0]
def k0_dev58 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_973 : BitVec 32 := 8#32
  let v1239 : BitVec 32 := Scalar.muli v1051 c8_i32_973
  let c2_i32_974 : BitVec 32 := 2#32
  let v1240 : BitVec 32 := Scalar.addi v1239 c2_i32_974
  let c1_i32_2118 : BitVec 32 := 1#32
  let v2679 : BitVec 32 := Scalar.muli v1240 c1_i32_2118
  let v2680 : BitVec 32 := Scalar.addi c0_i32_2119 v2679
  v2680.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_977 : BitVec 32 := 8#32
  let v1245 : BitVec 32 := Scalar.muli v1051 c8_i32_977
  let c3_i32_978 : BitVec 32 := 3#32
  let v1246 : BitVec 32 := Scalar.addi v1245 c3_i32_978
  let v1248 : BitVec 1 := Scalar.cmpi .ne v1246 v2
  let v1249 : BitVec 32 := Scalar.extui v1248
  let c0_i32_980 : BitVec 32 := 0#32
  let v1250 : BitVec 1 := Scalar.cmpi .ne v1249 c0_i32_980
  v1250

def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_977 : BitVec 32 := 8#32
  let v1245 : BitVec 32 := Scalar.muli v1051 c8_i32_977
  let c3_i32_978 : BitVec 32 := 3#32
  let v1246 : BitVec 32 := Scalar.addi v1245 c3_i32_978
  ![v1246.toNat]
def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_977 : BitVec 32 := 8#32
  let v1245 : BitVec 32 := Scalar.muli v1051 c8_i32_977
  let c3_i32_978 : BitVec 32 := 3#32
  let v1246 : BitVec 32 := Scalar.addi v1245 c3_i32_978
  let c32_i32_979 : BitVec 32 := 32#32
  let v1247 : BitVec 32 := Scalar.muli v1246 c32_i32_979
  let c0_i32_2122 : BitVec 32 := 0#32
  ![v1247.toNat, 0]
def k0_dev59 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_977 : BitVec 32 := 8#32
  let v1245 : BitVec 32 := Scalar.muli v1051 c8_i32_977
  let c3_i32_978 : BitVec 32 := 3#32
  let v1246 : BitVec 32 := Scalar.addi v1245 c3_i32_978
  let c1_i32_2118 : BitVec 32 := 1#32
  let v2679 : BitVec 32 := Scalar.muli v1246 c1_i32_2118
  let v2680 : BitVec 32 := Scalar.addi c0_i32_2119 v2679
  v2680.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_981 : BitVec 32 := 8#32
  let v1251 : BitVec 32 := Scalar.muli v1051 c8_i32_981
  let c4_i32_982 : BitVec 32 := 4#32
  let v1252 : BitVec 32 := Scalar.addi v1251 c4_i32_982
  let v1254 : BitVec 1 := Scalar.cmpi .ne v1252 v2
  let v1255 : BitVec 32 := Scalar.extui v1254
  let c0_i32_984 : BitVec 32 := 0#32
  let v1256 : BitVec 1 := Scalar.cmpi .ne v1255 c0_i32_984
  v1256

def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_981 : BitVec 32 := 8#32
  let v1251 : BitVec 32 := Scalar.muli v1051 c8_i32_981
  let c4_i32_982 : BitVec 32 := 4#32
  let v1252 : BitVec 32 := Scalar.addi v1251 c4_i32_982
  ![v1252.toNat]
def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_981 : BitVec 32 := 8#32
  let v1251 : BitVec 32 := Scalar.muli v1051 c8_i32_981
  let c4_i32_982 : BitVec 32 := 4#32
  let v1252 : BitVec 32 := Scalar.addi v1251 c4_i32_982
  let c32_i32_983 : BitVec 32 := 32#32
  let v1253 : BitVec 32 := Scalar.muli v1252 c32_i32_983
  let c0_i32_2122 : BitVec 32 := 0#32
  ![v1253.toNat, 0]
def k0_dev60 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_981 : BitVec 32 := 8#32
  let v1251 : BitVec 32 := Scalar.muli v1051 c8_i32_981
  let c4_i32_982 : BitVec 32 := 4#32
  let v1252 : BitVec 32 := Scalar.addi v1251 c4_i32_982
  let c1_i32_2118 : BitVec 32 := 1#32
  let v2679 : BitVec 32 := Scalar.muli v1252 c1_i32_2118
  let v2680 : BitVec 32 := Scalar.addi c0_i32_2119 v2679
  v2680.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_985 : BitVec 32 := 8#32
  let v1257 : BitVec 32 := Scalar.muli v1051 c8_i32_985
  let c5_i32_986 : BitVec 32 := 5#32
  let v1258 : BitVec 32 := Scalar.addi v1257 c5_i32_986
  let v1260 : BitVec 1 := Scalar.cmpi .ne v1258 v2
  let v1261 : BitVec 32 := Scalar.extui v1260
  let c0_i32_988 : BitVec 32 := 0#32
  let v1262 : BitVec 1 := Scalar.cmpi .ne v1261 c0_i32_988
  v1262

def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_985 : BitVec 32 := 8#32
  let v1257 : BitVec 32 := Scalar.muli v1051 c8_i32_985
  let c5_i32_986 : BitVec 32 := 5#32
  let v1258 : BitVec 32 := Scalar.addi v1257 c5_i32_986
  ![v1258.toNat]
def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_985 : BitVec 32 := 8#32
  let v1257 : BitVec 32 := Scalar.muli v1051 c8_i32_985
  let c5_i32_986 : BitVec 32 := 5#32
  let v1258 : BitVec 32 := Scalar.addi v1257 c5_i32_986
  let c32_i32_987 : BitVec 32 := 32#32
  let v1259 : BitVec 32 := Scalar.muli v1258 c32_i32_987
  let c0_i32_2122 : BitVec 32 := 0#32
  ![v1259.toNat, 0]
def k0_dev61 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_985 : BitVec 32 := 8#32
  let v1257 : BitVec 32 := Scalar.muli v1051 c8_i32_985
  let c5_i32_986 : BitVec 32 := 5#32
  let v1258 : BitVec 32 := Scalar.addi v1257 c5_i32_986
  let c1_i32_2118 : BitVec 32 := 1#32
  let v2679 : BitVec 32 := Scalar.muli v1258 c1_i32_2118
  let v2680 : BitVec 32 := Scalar.addi c0_i32_2119 v2679
  v2680.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_989 : BitVec 32 := 8#32
  let v1263 : BitVec 32 := Scalar.muli v1051 c8_i32_989
  let c6_i32_990 : BitVec 32 := 6#32
  let v1264 : BitVec 32 := Scalar.addi v1263 c6_i32_990
  let v1266 : BitVec 1 := Scalar.cmpi .ne v1264 v2
  let v1267 : BitVec 32 := Scalar.extui v1266
  let c0_i32_992 : BitVec 32 := 0#32
  let v1268 : BitVec 1 := Scalar.cmpi .ne v1267 c0_i32_992
  v1268

def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_989 : BitVec 32 := 8#32
  let v1263 : BitVec 32 := Scalar.muli v1051 c8_i32_989
  let c6_i32_990 : BitVec 32 := 6#32
  let v1264 : BitVec 32 := Scalar.addi v1263 c6_i32_990
  ![v1264.toNat]
def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_989 : BitVec 32 := 8#32
  let v1263 : BitVec 32 := Scalar.muli v1051 c8_i32_989
  let c6_i32_990 : BitVec 32 := 6#32
  let v1264 : BitVec 32 := Scalar.addi v1263 c6_i32_990
  let c32_i32_991 : BitVec 32 := 32#32
  let v1265 : BitVec 32 := Scalar.muli v1264 c32_i32_991
  let c0_i32_2122 : BitVec 32 := 0#32
  ![v1265.toNat, 0]
def k0_dev62 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_989 : BitVec 32 := 8#32
  let v1263 : BitVec 32 := Scalar.muli v1051 c8_i32_989
  let c6_i32_990 : BitVec 32 := 6#32
  let v1264 : BitVec 32 := Scalar.addi v1263 c6_i32_990
  let c1_i32_2118 : BitVec 32 := 1#32
  let v2679 : BitVec 32 := Scalar.muli v1264 c1_i32_2118
  let v2680 : BitVec 32 := Scalar.addi c0_i32_2119 v2679
  v2680.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_993 : BitVec 32 := 8#32
  let v1269 : BitVec 32 := Scalar.muli v1051 c8_i32_993
  let c7_i32_994 : BitVec 32 := 7#32
  let v1270 : BitVec 32 := Scalar.addi v1269 c7_i32_994
  let v1272 : BitVec 1 := Scalar.cmpi .ne v1270 v2
  let v1273 : BitVec 32 := Scalar.extui v1272
  let c0_i32_996 : BitVec 32 := 0#32
  let v1274 : BitVec 1 := Scalar.cmpi .ne v1273 c0_i32_996
  v1274

def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_993 : BitVec 32 := 8#32
  let v1269 : BitVec 32 := Scalar.muli v1051 c8_i32_993
  let c7_i32_994 : BitVec 32 := 7#32
  let v1270 : BitVec 32 := Scalar.addi v1269 c7_i32_994
  ![v1270.toNat]
def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_993 : BitVec 32 := 8#32
  let v1269 : BitVec 32 := Scalar.muli v1051 c8_i32_993
  let c7_i32_994 : BitVec 32 := 7#32
  let v1270 : BitVec 32 := Scalar.addi v1269 c7_i32_994
  let c32_i32_995 : BitVec 32 := 32#32
  let v1271 : BitVec 32 := Scalar.muli v1270 c32_i32_995
  let c0_i32_2122 : BitVec 32 := 0#32
  ![v1271.toNat, 0]
def k0_dev63 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_993 : BitVec 32 := 8#32
  let v1269 : BitVec 32 := Scalar.muli v1051 c8_i32_993
  let c7_i32_994 : BitVec 32 := 7#32
  let v1270 : BitVec 32 := Scalar.addi v1269 c7_i32_994
  let c1_i32_2118 : BitVec 32 := 1#32
  let v2679 : BitVec 32 := Scalar.muli v1270 c1_i32_2118
  let v2680 : BitVec 32 := Scalar.addi c0_i32_2119 v2679
  v2680.toNat
def k0_off132 (d0 : Dev nD) (c1_i32_997 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1275 : BitVec 32 := Scalar.addi v2 c1_i32_997
  let c32_i32_998 : BitVec 32 := 32#32
  let v1276 : BitVec 32 := Scalar.remsi v1275 c32_i32_998
  ![v1276.toNat]
def k0_off133 (d0 : Dev nD) (c1_i32_997 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1275 : BitVec 32 := Scalar.addi v2 c1_i32_997
  let c32_i32_998 : BitVec 32 := 32#32
  let v1276 : BitVec 32 := Scalar.remsi v1275 c32_i32_998
  let c0_i32_1002 : BitVec 32 := 0#32
  let c0_i32_1003 : BitVec 32 := 0#32
  ![v1276.toNat, 0, 0]
def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1276 : BitVec 32 := 32#32
  let v1585 : BitVec 32 := Scalar.muli v2 c32_i32_1276
  let v1586 : Index := Scalar.indexCast v1585
  let c0_1277 : Index := 0#32
  ![v1586.toNat, 0]
def k0_off135 (d0 : Dev nD) (c1_i32_1278 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1588 : BitVec 32 := Scalar.addi v2 c1_i32_1278
  let c32_i32_1279 : BitVec 32 := 32#32
  let v1589 : BitVec 32 := Scalar.remsi v1588 c32_i32_1279
  let v1590 : Index := Scalar.indexCast v1589
  let c0_1280 : Index := 0#32
  let c0_1281 : Index := 0#32
  ![v1590.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_512 : BitVec 32 := 8#32
  let v549 : BitVec 32 := Scalar.muli v373 c8_i32_512
  let c0_i32_513 : BitVec 32 := 0#32
  let v550 : BitVec 32 := Scalar.addi v549 c0_i32_513
  let v1777 : BitVec 1 := Scalar.cmpi .ne v550 v2
  let v1778 : BitVec 32 := Scalar.extui v1777
  let c0_i32_1404 : BitVec 32 := 0#32
  let v1779 : BitVec 1 := Scalar.cmpi .ne v1778 c0_i32_1404
  v1779

def k0_off136 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_512 : BitVec 32 := 8#32
  let v549 : BitVec 32 := Scalar.muli v373 c8_i32_512
  let c0_i32_513 : BitVec 32 := 0#32
  let v550 : BitVec 32 := Scalar.addi v549 c0_i32_513
  ![v550.toNat]
def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_512 : BitVec 32 := 8#32
  let v549 : BitVec 32 := Scalar.muli v373 c8_i32_512
  let c0_i32_513 : BitVec 32 := 0#32
  let v550 : BitVec 32 := Scalar.addi v549 c0_i32_513
  let c32_i32_514 : BitVec 32 := 32#32
  let v551 : BitVec 32 := Scalar.muli v550 c32_i32_514
  let c0_i32_2119 : BitVec 32 := 0#32
  ![v551.toNat, 0]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_516 : BitVec 32 := 8#32
  let v555 : BitVec 32 := Scalar.muli v373 c8_i32_516
  let c1_i32_517 : BitVec 32 := 1#32
  let v556 : BitVec 32 := Scalar.addi v555 c1_i32_517
  let v1780 : BitVec 1 := Scalar.cmpi .ne v556 v2
  let v1781 : BitVec 32 := Scalar.extui v1780
  let c0_i32_1405 : BitVec 32 := 0#32
  let v1782 : BitVec 1 := Scalar.cmpi .ne v1781 c0_i32_1405
  v1782

def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_516 : BitVec 32 := 8#32
  let v555 : BitVec 32 := Scalar.muli v373 c8_i32_516
  let c1_i32_517 : BitVec 32 := 1#32
  let v556 : BitVec 32 := Scalar.addi v555 c1_i32_517
  ![v556.toNat]
def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_516 : BitVec 32 := 8#32
  let v555 : BitVec 32 := Scalar.muli v373 c8_i32_516
  let c1_i32_517 : BitVec 32 := 1#32
  let v556 : BitVec 32 := Scalar.addi v555 c1_i32_517
  let c32_i32_518 : BitVec 32 := 32#32
  let v557 : BitVec 32 := Scalar.muli v556 c32_i32_518
  let c0_i32_2119 : BitVec 32 := 0#32
  ![v557.toNat, 0]
def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_520 : BitVec 32 := 8#32
  let v561 : BitVec 32 := Scalar.muli v373 c8_i32_520
  let c2_i32_521 : BitVec 32 := 2#32
  let v562 : BitVec 32 := Scalar.addi v561 c2_i32_521
  let v1783 : BitVec 1 := Scalar.cmpi .ne v562 v2
  let v1784 : BitVec 32 := Scalar.extui v1783
  let c0_i32_1406 : BitVec 32 := 0#32
  let v1785 : BitVec 1 := Scalar.cmpi .ne v1784 c0_i32_1406
  v1785

def k0_off142 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_520 : BitVec 32 := 8#32
  let v561 : BitVec 32 := Scalar.muli v373 c8_i32_520
  let c2_i32_521 : BitVec 32 := 2#32
  let v562 : BitVec 32 := Scalar.addi v561 c2_i32_521
  ![v562.toNat]
def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_520 : BitVec 32 := 8#32
  let v561 : BitVec 32 := Scalar.muli v373 c8_i32_520
  let c2_i32_521 : BitVec 32 := 2#32
  let v562 : BitVec 32 := Scalar.addi v561 c2_i32_521
  let c32_i32_522 : BitVec 32 := 32#32
  let v563 : BitVec 32 := Scalar.muli v562 c32_i32_522
  let c0_i32_2119 : BitVec 32 := 0#32
  ![v563.toNat, 0]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_524 : BitVec 32 := 8#32
  let v567 : BitVec 32 := Scalar.muli v373 c8_i32_524
  let c3_i32_525 : BitVec 32 := 3#32
  let v568 : BitVec 32 := Scalar.addi v567 c3_i32_525
  let v1786 : BitVec 1 := Scalar.cmpi .ne v568 v2
  let v1787 : BitVec 32 := Scalar.extui v1786
  let c0_i32_1407 : BitVec 32 := 0#32
  let v1788 : BitVec 1 := Scalar.cmpi .ne v1787 c0_i32_1407
  v1788

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_524 : BitVec 32 := 8#32
  let v567 : BitVec 32 := Scalar.muli v373 c8_i32_524
  let c3_i32_525 : BitVec 32 := 3#32
  let v568 : BitVec 32 := Scalar.addi v567 c3_i32_525
  ![v568.toNat]
def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_524 : BitVec 32 := 8#32
  let v567 : BitVec 32 := Scalar.muli v373 c8_i32_524
  let c3_i32_525 : BitVec 32 := 3#32
  let v568 : BitVec 32 := Scalar.addi v567 c3_i32_525
  let c32_i32_526 : BitVec 32 := 32#32
  let v569 : BitVec 32 := Scalar.muli v568 c32_i32_526
  let c0_i32_2119 : BitVec 32 := 0#32
  ![v569.toNat, 0]
def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_528 : BitVec 32 := 8#32
  let v573 : BitVec 32 := Scalar.muli v373 c8_i32_528
  let c4_i32_529 : BitVec 32 := 4#32
  let v574 : BitVec 32 := Scalar.addi v573 c4_i32_529
  let v1789 : BitVec 1 := Scalar.cmpi .ne v574 v2
  let v1790 : BitVec 32 := Scalar.extui v1789
  let c0_i32_1408 : BitVec 32 := 0#32
  let v1791 : BitVec 1 := Scalar.cmpi .ne v1790 c0_i32_1408
  v1791

def k0_off148 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_528 : BitVec 32 := 8#32
  let v573 : BitVec 32 := Scalar.muli v373 c8_i32_528
  let c4_i32_529 : BitVec 32 := 4#32
  let v574 : BitVec 32 := Scalar.addi v573 c4_i32_529
  ![v574.toNat]
def k0_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_528 : BitVec 32 := 8#32
  let v573 : BitVec 32 := Scalar.muli v373 c8_i32_528
  let c4_i32_529 : BitVec 32 := 4#32
  let v574 : BitVec 32 := Scalar.addi v573 c4_i32_529
  let c32_i32_530 : BitVec 32 := 32#32
  let v575 : BitVec 32 := Scalar.muli v574 c32_i32_530
  let c0_i32_2119 : BitVec 32 := 0#32
  ![v575.toNat, 0]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_532 : BitVec 32 := 8#32
  let v579 : BitVec 32 := Scalar.muli v373 c8_i32_532
  let c5_i32_533 : BitVec 32 := 5#32
  let v580 : BitVec 32 := Scalar.addi v579 c5_i32_533
  let v1792 : BitVec 1 := Scalar.cmpi .ne v580 v2
  let v1793 : BitVec 32 := Scalar.extui v1792
  let c0_i32_1409 : BitVec 32 := 0#32
  let v1794 : BitVec 1 := Scalar.cmpi .ne v1793 c0_i32_1409
  v1794

def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_532 : BitVec 32 := 8#32
  let v579 : BitVec 32 := Scalar.muli v373 c8_i32_532
  let c5_i32_533 : BitVec 32 := 5#32
  let v580 : BitVec 32 := Scalar.addi v579 c5_i32_533
  ![v580.toNat]
def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_532 : BitVec 32 := 8#32
  let v579 : BitVec 32 := Scalar.muli v373 c8_i32_532
  let c5_i32_533 : BitVec 32 := 5#32
  let v580 : BitVec 32 := Scalar.addi v579 c5_i32_533
  let c32_i32_534 : BitVec 32 := 32#32
  let v581 : BitVec 32 := Scalar.muli v580 c32_i32_534
  let c0_i32_2119 : BitVec 32 := 0#32
  ![v581.toNat, 0]
def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_536 : BitVec 32 := 8#32
  let v585 : BitVec 32 := Scalar.muli v373 c8_i32_536
  let c6_i32_537 : BitVec 32 := 6#32
  let v586 : BitVec 32 := Scalar.addi v585 c6_i32_537
  let v1795 : BitVec 1 := Scalar.cmpi .ne v586 v2
  let v1796 : BitVec 32 := Scalar.extui v1795
  let c0_i32_1410 : BitVec 32 := 0#32
  let v1797 : BitVec 1 := Scalar.cmpi .ne v1796 c0_i32_1410
  v1797

def k0_off154 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_536 : BitVec 32 := 8#32
  let v585 : BitVec 32 := Scalar.muli v373 c8_i32_536
  let c6_i32_537 : BitVec 32 := 6#32
  let v586 : BitVec 32 := Scalar.addi v585 c6_i32_537
  ![v586.toNat]
def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_536 : BitVec 32 := 8#32
  let v585 : BitVec 32 := Scalar.muli v373 c8_i32_536
  let c6_i32_537 : BitVec 32 := 6#32
  let v586 : BitVec 32 := Scalar.addi v585 c6_i32_537
  let c32_i32_538 : BitVec 32 := 32#32
  let v587 : BitVec 32 := Scalar.muli v586 c32_i32_538
  let c0_i32_2119 : BitVec 32 := 0#32
  ![v587.toNat, 0]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_540 : BitVec 32 := 8#32
  let v591 : BitVec 32 := Scalar.muli v373 c8_i32_540
  let c7_i32_541 : BitVec 32 := 7#32
  let v592 : BitVec 32 := Scalar.addi v591 c7_i32_541
  let v1798 : BitVec 1 := Scalar.cmpi .ne v592 v2
  let v1799 : BitVec 32 := Scalar.extui v1798
  let c0_i32_1411 : BitVec 32 := 0#32
  let v1800 : BitVec 1 := Scalar.cmpi .ne v1799 c0_i32_1411
  v1800

def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_540 : BitVec 32 := 8#32
  let v591 : BitVec 32 := Scalar.muli v373 c8_i32_540
  let c7_i32_541 : BitVec 32 := 7#32
  let v592 : BitVec 32 := Scalar.addi v591 c7_i32_541
  ![v592.toNat]
def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_408 : BitVec 32 := 1#32
  let v371 : BitVec 32 := Scalar.addi v19 c1_i32_408
  let c0_i32_409 : BitVec 32 := 0#32
  let v372 : BitVec 32 := Scalar.addi v371 c0_i32_409
  let c4_i32_410 : BitVec 32 := 4#32
  let v373 : BitVec 32 := Scalar.remsi v372 c4_i32_410
  let c8_i32_540 : BitVec 32 := 8#32
  let v591 : BitVec 32 := Scalar.muli v373 c8_i32_540
  let c7_i32_541 : BitVec 32 := 7#32
  let v592 : BitVec 32 := Scalar.addi v591 c7_i32_541
  let c32_i32_542 : BitVec 32 := 32#32
  let v593 : BitVec 32 := Scalar.muli v592 c32_i32_542
  let c0_i32_2119 : BitVec 32 := 0#32
  ![v593.toNat, 0]
def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_663 : BitVec 32 := 8#32
  let v775 : BitVec 32 := Scalar.muli v599 c8_i32_663
  let c0_i32_664 : BitVec 32 := 0#32
  let v776 : BitVec 32 := Scalar.addi v775 c0_i32_664
  let v1801 : BitVec 1 := Scalar.cmpi .ne v776 v2
  let v1802 : BitVec 32 := Scalar.extui v1801
  let c0_i32_1412 : BitVec 32 := 0#32
  let v1803 : BitVec 1 := Scalar.cmpi .ne v1802 c0_i32_1412
  v1803

def k0_off160 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_663 : BitVec 32 := 8#32
  let v775 : BitVec 32 := Scalar.muli v599 c8_i32_663
  let c0_i32_664 : BitVec 32 := 0#32
  let v776 : BitVec 32 := Scalar.addi v775 c0_i32_664
  ![v776.toNat]
def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_663 : BitVec 32 := 8#32
  let v775 : BitVec 32 := Scalar.muli v599 c8_i32_663
  let c0_i32_664 : BitVec 32 := 0#32
  let v776 : BitVec 32 := Scalar.addi v775 c0_i32_664
  let c32_i32_665 : BitVec 32 := 32#32
  let v777 : BitVec 32 := Scalar.muli v776 c32_i32_665
  let c0_i32_2119 : BitVec 32 := 0#32
  ![v777.toNat, 0]
def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_667 : BitVec 32 := 8#32
  let v781 : BitVec 32 := Scalar.muli v599 c8_i32_667
  let c1_i32_668 : BitVec 32 := 1#32
  let v782 : BitVec 32 := Scalar.addi v781 c1_i32_668
  let v1804 : BitVec 1 := Scalar.cmpi .ne v782 v2
  let v1805 : BitVec 32 := Scalar.extui v1804
  let c0_i32_1413 : BitVec 32 := 0#32
  let v1806 : BitVec 1 := Scalar.cmpi .ne v1805 c0_i32_1413
  v1806

def k0_off163 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_667 : BitVec 32 := 8#32
  let v781 : BitVec 32 := Scalar.muli v599 c8_i32_667
  let c1_i32_668 : BitVec 32 := 1#32
  let v782 : BitVec 32 := Scalar.addi v781 c1_i32_668
  ![v782.toNat]
def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_667 : BitVec 32 := 8#32
  let v781 : BitVec 32 := Scalar.muli v599 c8_i32_667
  let c1_i32_668 : BitVec 32 := 1#32
  let v782 : BitVec 32 := Scalar.addi v781 c1_i32_668
  let c32_i32_669 : BitVec 32 := 32#32
  let v783 : BitVec 32 := Scalar.muli v782 c32_i32_669
  let c0_i32_2119 : BitVec 32 := 0#32
  ![v783.toNat, 0]
def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_671 : BitVec 32 := 8#32
  let v787 : BitVec 32 := Scalar.muli v599 c8_i32_671
  let c2_i32_672 : BitVec 32 := 2#32
  let v788 : BitVec 32 := Scalar.addi v787 c2_i32_672
  let v1807 : BitVec 1 := Scalar.cmpi .ne v788 v2
  let v1808 : BitVec 32 := Scalar.extui v1807
  let c0_i32_1414 : BitVec 32 := 0#32
  let v1809 : BitVec 1 := Scalar.cmpi .ne v1808 c0_i32_1414
  v1809

def k0_off166 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_671 : BitVec 32 := 8#32
  let v787 : BitVec 32 := Scalar.muli v599 c8_i32_671
  let c2_i32_672 : BitVec 32 := 2#32
  let v788 : BitVec 32 := Scalar.addi v787 c2_i32_672
  ![v788.toNat]
def k0_off167 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_671 : BitVec 32 := 8#32
  let v787 : BitVec 32 := Scalar.muli v599 c8_i32_671
  let c2_i32_672 : BitVec 32 := 2#32
  let v788 : BitVec 32 := Scalar.addi v787 c2_i32_672
  let c32_i32_673 : BitVec 32 := 32#32
  let v789 : BitVec 32 := Scalar.muli v788 c32_i32_673
  let c0_i32_2119 : BitVec 32 := 0#32
  ![v789.toNat, 0]
def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_675 : BitVec 32 := 8#32
  let v793 : BitVec 32 := Scalar.muli v599 c8_i32_675
  let c3_i32_676 : BitVec 32 := 3#32
  let v794 : BitVec 32 := Scalar.addi v793 c3_i32_676
  let v1810 : BitVec 1 := Scalar.cmpi .ne v794 v2
  let v1811 : BitVec 32 := Scalar.extui v1810
  let c0_i32_1415 : BitVec 32 := 0#32
  let v1812 : BitVec 1 := Scalar.cmpi .ne v1811 c0_i32_1415
  v1812

def k0_off169 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_675 : BitVec 32 := 8#32
  let v793 : BitVec 32 := Scalar.muli v599 c8_i32_675
  let c3_i32_676 : BitVec 32 := 3#32
  let v794 : BitVec 32 := Scalar.addi v793 c3_i32_676
  ![v794.toNat]
def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_675 : BitVec 32 := 8#32
  let v793 : BitVec 32 := Scalar.muli v599 c8_i32_675
  let c3_i32_676 : BitVec 32 := 3#32
  let v794 : BitVec 32 := Scalar.addi v793 c3_i32_676
  let c32_i32_677 : BitVec 32 := 32#32
  let v795 : BitVec 32 := Scalar.muli v794 c32_i32_677
  let c0_i32_2119 : BitVec 32 := 0#32
  ![v795.toNat, 0]
def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_679 : BitVec 32 := 8#32
  let v799 : BitVec 32 := Scalar.muli v599 c8_i32_679
  let c4_i32_680 : BitVec 32 := 4#32
  let v800 : BitVec 32 := Scalar.addi v799 c4_i32_680
  let v1813 : BitVec 1 := Scalar.cmpi .ne v800 v2
  let v1814 : BitVec 32 := Scalar.extui v1813
  let c0_i32_1416 : BitVec 32 := 0#32
  let v1815 : BitVec 1 := Scalar.cmpi .ne v1814 c0_i32_1416
  v1815

def k0_off172 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_679 : BitVec 32 := 8#32
  let v799 : BitVec 32 := Scalar.muli v599 c8_i32_679
  let c4_i32_680 : BitVec 32 := 4#32
  let v800 : BitVec 32 := Scalar.addi v799 c4_i32_680
  ![v800.toNat]
def k0_off173 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_679 : BitVec 32 := 8#32
  let v799 : BitVec 32 := Scalar.muli v599 c8_i32_679
  let c4_i32_680 : BitVec 32 := 4#32
  let v800 : BitVec 32 := Scalar.addi v799 c4_i32_680
  let c32_i32_681 : BitVec 32 := 32#32
  let v801 : BitVec 32 := Scalar.muli v800 c32_i32_681
  let c0_i32_2119 : BitVec 32 := 0#32
  ![v801.toNat, 0]
def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_683 : BitVec 32 := 8#32
  let v805 : BitVec 32 := Scalar.muli v599 c8_i32_683
  let c5_i32_684 : BitVec 32 := 5#32
  let v806 : BitVec 32 := Scalar.addi v805 c5_i32_684
  let v1816 : BitVec 1 := Scalar.cmpi .ne v806 v2
  let v1817 : BitVec 32 := Scalar.extui v1816
  let c0_i32_1417 : BitVec 32 := 0#32
  let v1818 : BitVec 1 := Scalar.cmpi .ne v1817 c0_i32_1417
  v1818

def k0_off175 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_683 : BitVec 32 := 8#32
  let v805 : BitVec 32 := Scalar.muli v599 c8_i32_683
  let c5_i32_684 : BitVec 32 := 5#32
  let v806 : BitVec 32 := Scalar.addi v805 c5_i32_684
  ![v806.toNat]
def k0_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_683 : BitVec 32 := 8#32
  let v805 : BitVec 32 := Scalar.muli v599 c8_i32_683
  let c5_i32_684 : BitVec 32 := 5#32
  let v806 : BitVec 32 := Scalar.addi v805 c5_i32_684
  let c32_i32_685 : BitVec 32 := 32#32
  let v807 : BitVec 32 := Scalar.muli v806 c32_i32_685
  let c0_i32_2119 : BitVec 32 := 0#32
  ![v807.toNat, 0]
def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_687 : BitVec 32 := 8#32
  let v811 : BitVec 32 := Scalar.muli v599 c8_i32_687
  let c6_i32_688 : BitVec 32 := 6#32
  let v812 : BitVec 32 := Scalar.addi v811 c6_i32_688
  let v1819 : BitVec 1 := Scalar.cmpi .ne v812 v2
  let v1820 : BitVec 32 := Scalar.extui v1819
  let c0_i32_1418 : BitVec 32 := 0#32
  let v1821 : BitVec 1 := Scalar.cmpi .ne v1820 c0_i32_1418
  v1821

def k0_off178 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_687 : BitVec 32 := 8#32
  let v811 : BitVec 32 := Scalar.muli v599 c8_i32_687
  let c6_i32_688 : BitVec 32 := 6#32
  let v812 : BitVec 32 := Scalar.addi v811 c6_i32_688
  ![v812.toNat]
def k0_off179 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_687 : BitVec 32 := 8#32
  let v811 : BitVec 32 := Scalar.muli v599 c8_i32_687
  let c6_i32_688 : BitVec 32 := 6#32
  let v812 : BitVec 32 := Scalar.addi v811 c6_i32_688
  let c32_i32_689 : BitVec 32 := 32#32
  let v813 : BitVec 32 := Scalar.muli v812 c32_i32_689
  let c0_i32_2119 : BitVec 32 := 0#32
  ![v813.toNat, 0]
def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_691 : BitVec 32 := 8#32
  let v817 : BitVec 32 := Scalar.muli v599 c8_i32_691
  let c7_i32_692 : BitVec 32 := 7#32
  let v818 : BitVec 32 := Scalar.addi v817 c7_i32_692
  let v1822 : BitVec 1 := Scalar.cmpi .ne v818 v2
  let v1823 : BitVec 32 := Scalar.extui v1822
  let c0_i32_1419 : BitVec 32 := 0#32
  let v1824 : BitVec 1 := Scalar.cmpi .ne v1823 c0_i32_1419
  v1824

def k0_off181 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_691 : BitVec 32 := 8#32
  let v817 : BitVec 32 := Scalar.muli v599 c8_i32_691
  let c7_i32_692 : BitVec 32 := 7#32
  let v818 : BitVec 32 := Scalar.addi v817 c7_i32_692
  ![v818.toNat]
def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_544 : BitVec 32 := 1#32
  let v597 : BitVec 32 := Scalar.addi v19 c1_i32_544
  let c1_i32_545 : BitVec 32 := 1#32
  let v598 : BitVec 32 := Scalar.addi v597 c1_i32_545
  let c4_i32_546 : BitVec 32 := 4#32
  let v599 : BitVec 32 := Scalar.remsi v598 c4_i32_546
  let c8_i32_691 : BitVec 32 := 8#32
  let v817 : BitVec 32 := Scalar.muli v599 c8_i32_691
  let c7_i32_692 : BitVec 32 := 7#32
  let v818 : BitVec 32 := Scalar.addi v817 c7_i32_692
  let c32_i32_693 : BitVec 32 := 32#32
  let v819 : BitVec 32 := Scalar.muli v818 c32_i32_693
  let c0_i32_2119 : BitVec 32 := 0#32
  ![v819.toNat, 0]
def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_814 : BitVec 32 := 8#32
  let v1001 : BitVec 32 := Scalar.muli v825 c8_i32_814
  let c0_i32_815 : BitVec 32 := 0#32
  let v1002 : BitVec 32 := Scalar.addi v1001 c0_i32_815
  let v1825 : BitVec 1 := Scalar.cmpi .ne v1002 v2
  let v1826 : BitVec 32 := Scalar.extui v1825
  let c0_i32_1420 : BitVec 32 := 0#32
  let v1827 : BitVec 1 := Scalar.cmpi .ne v1826 c0_i32_1420
  v1827

def k0_off184 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_814 : BitVec 32 := 8#32
  let v1001 : BitVec 32 := Scalar.muli v825 c8_i32_814
  let c0_i32_815 : BitVec 32 := 0#32
  let v1002 : BitVec 32 := Scalar.addi v1001 c0_i32_815
  ![v1002.toNat]
def k0_off185 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_814 : BitVec 32 := 8#32
  let v1001 : BitVec 32 := Scalar.muli v825 c8_i32_814
  let c0_i32_815 : BitVec 32 := 0#32
  let v1002 : BitVec 32 := Scalar.addi v1001 c0_i32_815
  let c32_i32_816 : BitVec 32 := 32#32
  let v1003 : BitVec 32 := Scalar.muli v1002 c32_i32_816
  let c0_i32_2119 : BitVec 32 := 0#32
  ![v1003.toNat, 0]
def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_818 : BitVec 32 := 8#32
  let v1007 : BitVec 32 := Scalar.muli v825 c8_i32_818
  let c1_i32_819 : BitVec 32 := 1#32
  let v1008 : BitVec 32 := Scalar.addi v1007 c1_i32_819
  let v1828 : BitVec 1 := Scalar.cmpi .ne v1008 v2
  let v1829 : BitVec 32 := Scalar.extui v1828
  let c0_i32_1421 : BitVec 32 := 0#32
  let v1830 : BitVec 1 := Scalar.cmpi .ne v1829 c0_i32_1421
  v1830

def k0_off187 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_818 : BitVec 32 := 8#32
  let v1007 : BitVec 32 := Scalar.muli v825 c8_i32_818
  let c1_i32_819 : BitVec 32 := 1#32
  let v1008 : BitVec 32 := Scalar.addi v1007 c1_i32_819
  ![v1008.toNat]
def k0_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_818 : BitVec 32 := 8#32
  let v1007 : BitVec 32 := Scalar.muli v825 c8_i32_818
  let c1_i32_819 : BitVec 32 := 1#32
  let v1008 : BitVec 32 := Scalar.addi v1007 c1_i32_819
  let c32_i32_820 : BitVec 32 := 32#32
  let v1009 : BitVec 32 := Scalar.muli v1008 c32_i32_820
  let c0_i32_2119 : BitVec 32 := 0#32
  ![v1009.toNat, 0]
def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_822 : BitVec 32 := 8#32
  let v1013 : BitVec 32 := Scalar.muli v825 c8_i32_822
  let c2_i32_823 : BitVec 32 := 2#32
  let v1014 : BitVec 32 := Scalar.addi v1013 c2_i32_823
  let v1831 : BitVec 1 := Scalar.cmpi .ne v1014 v2
  let v1832 : BitVec 32 := Scalar.extui v1831
  let c0_i32_1422 : BitVec 32 := 0#32
  let v1833 : BitVec 1 := Scalar.cmpi .ne v1832 c0_i32_1422
  v1833

def k0_off190 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_822 : BitVec 32 := 8#32
  let v1013 : BitVec 32 := Scalar.muli v825 c8_i32_822
  let c2_i32_823 : BitVec 32 := 2#32
  let v1014 : BitVec 32 := Scalar.addi v1013 c2_i32_823
  ![v1014.toNat]
def k0_off191 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_822 : BitVec 32 := 8#32
  let v1013 : BitVec 32 := Scalar.muli v825 c8_i32_822
  let c2_i32_823 : BitVec 32 := 2#32
  let v1014 : BitVec 32 := Scalar.addi v1013 c2_i32_823
  let c32_i32_824 : BitVec 32 := 32#32
  let v1015 : BitVec 32 := Scalar.muli v1014 c32_i32_824
  let c0_i32_2119 : BitVec 32 := 0#32
  ![v1015.toNat, 0]
def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_826 : BitVec 32 := 8#32
  let v1019 : BitVec 32 := Scalar.muli v825 c8_i32_826
  let c3_i32_827 : BitVec 32 := 3#32
  let v1020 : BitVec 32 := Scalar.addi v1019 c3_i32_827
  let v1834 : BitVec 1 := Scalar.cmpi .ne v1020 v2
  let v1835 : BitVec 32 := Scalar.extui v1834
  let c0_i32_1423 : BitVec 32 := 0#32
  let v1836 : BitVec 1 := Scalar.cmpi .ne v1835 c0_i32_1423
  v1836

def k0_off193 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_826 : BitVec 32 := 8#32
  let v1019 : BitVec 32 := Scalar.muli v825 c8_i32_826
  let c3_i32_827 : BitVec 32 := 3#32
  let v1020 : BitVec 32 := Scalar.addi v1019 c3_i32_827
  ![v1020.toNat]
def k0_off194 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_826 : BitVec 32 := 8#32
  let v1019 : BitVec 32 := Scalar.muli v825 c8_i32_826
  let c3_i32_827 : BitVec 32 := 3#32
  let v1020 : BitVec 32 := Scalar.addi v1019 c3_i32_827
  let c32_i32_828 : BitVec 32 := 32#32
  let v1021 : BitVec 32 := Scalar.muli v1020 c32_i32_828
  let c0_i32_2119 : BitVec 32 := 0#32
  ![v1021.toNat, 0]
def k0_off195 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_830 : BitVec 32 := 8#32
  let v1025 : BitVec 32 := Scalar.muli v825 c8_i32_830
  let c4_i32_831 : BitVec 32 := 4#32
  let v1026 : BitVec 32 := Scalar.addi v1025 c4_i32_831
  let v1837 : BitVec 1 := Scalar.cmpi .ne v1026 v2
  let v1838 : BitVec 32 := Scalar.extui v1837
  let c0_i32_1424 : BitVec 32 := 0#32
  let v1839 : BitVec 1 := Scalar.cmpi .ne v1838 c0_i32_1424
  v1839

def k0_off196 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_830 : BitVec 32 := 8#32
  let v1025 : BitVec 32 := Scalar.muli v825 c8_i32_830
  let c4_i32_831 : BitVec 32 := 4#32
  let v1026 : BitVec 32 := Scalar.addi v1025 c4_i32_831
  ![v1026.toNat]
def k0_off197 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_830 : BitVec 32 := 8#32
  let v1025 : BitVec 32 := Scalar.muli v825 c8_i32_830
  let c4_i32_831 : BitVec 32 := 4#32
  let v1026 : BitVec 32 := Scalar.addi v1025 c4_i32_831
  let c32_i32_832 : BitVec 32 := 32#32
  let v1027 : BitVec 32 := Scalar.muli v1026 c32_i32_832
  let c0_i32_2119 : BitVec 32 := 0#32
  ![v1027.toNat, 0]
def k0_off198 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_834 : BitVec 32 := 8#32
  let v1031 : BitVec 32 := Scalar.muli v825 c8_i32_834
  let c5_i32_835 : BitVec 32 := 5#32
  let v1032 : BitVec 32 := Scalar.addi v1031 c5_i32_835
  let v1840 : BitVec 1 := Scalar.cmpi .ne v1032 v2
  let v1841 : BitVec 32 := Scalar.extui v1840
  let c0_i32_1425 : BitVec 32 := 0#32
  let v1842 : BitVec 1 := Scalar.cmpi .ne v1841 c0_i32_1425
  v1842

def k0_off199 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_834 : BitVec 32 := 8#32
  let v1031 : BitVec 32 := Scalar.muli v825 c8_i32_834
  let c5_i32_835 : BitVec 32 := 5#32
  let v1032 : BitVec 32 := Scalar.addi v1031 c5_i32_835
  ![v1032.toNat]
def k0_off200 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_834 : BitVec 32 := 8#32
  let v1031 : BitVec 32 := Scalar.muli v825 c8_i32_834
  let c5_i32_835 : BitVec 32 := 5#32
  let v1032 : BitVec 32 := Scalar.addi v1031 c5_i32_835
  let c32_i32_836 : BitVec 32 := 32#32
  let v1033 : BitVec 32 := Scalar.muli v1032 c32_i32_836
  let c0_i32_2119 : BitVec 32 := 0#32
  ![v1033.toNat, 0]
def k0_off201 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_838 : BitVec 32 := 8#32
  let v1037 : BitVec 32 := Scalar.muli v825 c8_i32_838
  let c6_i32_839 : BitVec 32 := 6#32
  let v1038 : BitVec 32 := Scalar.addi v1037 c6_i32_839
  let v1843 : BitVec 1 := Scalar.cmpi .ne v1038 v2
  let v1844 : BitVec 32 := Scalar.extui v1843
  let c0_i32_1426 : BitVec 32 := 0#32
  let v1845 : BitVec 1 := Scalar.cmpi .ne v1844 c0_i32_1426
  v1845

def k0_off202 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_838 : BitVec 32 := 8#32
  let v1037 : BitVec 32 := Scalar.muli v825 c8_i32_838
  let c6_i32_839 : BitVec 32 := 6#32
  let v1038 : BitVec 32 := Scalar.addi v1037 c6_i32_839
  ![v1038.toNat]
def k0_off203 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_838 : BitVec 32 := 8#32
  let v1037 : BitVec 32 := Scalar.muli v825 c8_i32_838
  let c6_i32_839 : BitVec 32 := 6#32
  let v1038 : BitVec 32 := Scalar.addi v1037 c6_i32_839
  let c32_i32_840 : BitVec 32 := 32#32
  let v1039 : BitVec 32 := Scalar.muli v1038 c32_i32_840
  let c0_i32_2119 : BitVec 32 := 0#32
  ![v1039.toNat, 0]
def k0_off204 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_842 : BitVec 32 := 8#32
  let v1043 : BitVec 32 := Scalar.muli v825 c8_i32_842
  let c7_i32_843 : BitVec 32 := 7#32
  let v1044 : BitVec 32 := Scalar.addi v1043 c7_i32_843
  let v1846 : BitVec 1 := Scalar.cmpi .ne v1044 v2
  let v1847 : BitVec 32 := Scalar.extui v1846
  let c0_i32_1427 : BitVec 32 := 0#32
  let v1848 : BitVec 1 := Scalar.cmpi .ne v1847 c0_i32_1427
  v1848

def k0_off205 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_842 : BitVec 32 := 8#32
  let v1043 : BitVec 32 := Scalar.muli v825 c8_i32_842
  let c7_i32_843 : BitVec 32 := 7#32
  let v1044 : BitVec 32 := Scalar.addi v1043 c7_i32_843
  ![v1044.toNat]
def k0_off206 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_695 : BitVec 32 := 1#32
  let v823 : BitVec 32 := Scalar.addi v19 c1_i32_695
  let c2_i32_696 : BitVec 32 := 2#32
  let v824 : BitVec 32 := Scalar.addi v823 c2_i32_696
  let c4_i32_697 : BitVec 32 := 4#32
  let v825 : BitVec 32 := Scalar.remsi v824 c4_i32_697
  let c8_i32_842 : BitVec 32 := 8#32
  let v1043 : BitVec 32 := Scalar.muli v825 c8_i32_842
  let c7_i32_843 : BitVec 32 := 7#32
  let v1044 : BitVec 32 := Scalar.addi v1043 c7_i32_843
  let c32_i32_844 : BitVec 32 := 32#32
  let v1045 : BitVec 32 := Scalar.muli v1044 c32_i32_844
  let c0_i32_2119 : BitVec 32 := 0#32
  ![v1045.toNat, 0]
def k0_off207 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_965 : BitVec 32 := 8#32
  let v1227 : BitVec 32 := Scalar.muli v1051 c8_i32_965
  let c0_i32_966 : BitVec 32 := 0#32
  let v1228 : BitVec 32 := Scalar.addi v1227 c0_i32_966
  let v1849 : BitVec 1 := Scalar.cmpi .ne v1228 v2
  let v1850 : BitVec 32 := Scalar.extui v1849
  let c0_i32_1428 : BitVec 32 := 0#32
  let v1851 : BitVec 1 := Scalar.cmpi .ne v1850 c0_i32_1428
  v1851

def k0_off208 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_965 : BitVec 32 := 8#32
  let v1227 : BitVec 32 := Scalar.muli v1051 c8_i32_965
  let c0_i32_966 : BitVec 32 := 0#32
  let v1228 : BitVec 32 := Scalar.addi v1227 c0_i32_966
  ![v1228.toNat]
def k0_off209 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_965 : BitVec 32 := 8#32
  let v1227 : BitVec 32 := Scalar.muli v1051 c8_i32_965
  let c0_i32_966 : BitVec 32 := 0#32
  let v1228 : BitVec 32 := Scalar.addi v1227 c0_i32_966
  let c32_i32_967 : BitVec 32 := 32#32
  let v1229 : BitVec 32 := Scalar.muli v1228 c32_i32_967
  let c0_i32_2119 : BitVec 32 := 0#32
  ![v1229.toNat, 0]
def k0_off210 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_969 : BitVec 32 := 8#32
  let v1233 : BitVec 32 := Scalar.muli v1051 c8_i32_969
  let c1_i32_970 : BitVec 32 := 1#32
  let v1234 : BitVec 32 := Scalar.addi v1233 c1_i32_970
  let v1852 : BitVec 1 := Scalar.cmpi .ne v1234 v2
  let v1853 : BitVec 32 := Scalar.extui v1852
  let c0_i32_1429 : BitVec 32 := 0#32
  let v1854 : BitVec 1 := Scalar.cmpi .ne v1853 c0_i32_1429
  v1854

def k0_off211 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_969 : BitVec 32 := 8#32
  let v1233 : BitVec 32 := Scalar.muli v1051 c8_i32_969
  let c1_i32_970 : BitVec 32 := 1#32
  let v1234 : BitVec 32 := Scalar.addi v1233 c1_i32_970
  ![v1234.toNat]
def k0_off212 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_969 : BitVec 32 := 8#32
  let v1233 : BitVec 32 := Scalar.muli v1051 c8_i32_969
  let c1_i32_970 : BitVec 32 := 1#32
  let v1234 : BitVec 32 := Scalar.addi v1233 c1_i32_970
  let c32_i32_971 : BitVec 32 := 32#32
  let v1235 : BitVec 32 := Scalar.muli v1234 c32_i32_971
  let c0_i32_2119 : BitVec 32 := 0#32
  ![v1235.toNat, 0]
def k0_off213 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_973 : BitVec 32 := 8#32
  let v1239 : BitVec 32 := Scalar.muli v1051 c8_i32_973
  let c2_i32_974 : BitVec 32 := 2#32
  let v1240 : BitVec 32 := Scalar.addi v1239 c2_i32_974
  let v1855 : BitVec 1 := Scalar.cmpi .ne v1240 v2
  let v1856 : BitVec 32 := Scalar.extui v1855
  let c0_i32_1430 : BitVec 32 := 0#32
  let v1857 : BitVec 1 := Scalar.cmpi .ne v1856 c0_i32_1430
  v1857

def k0_off214 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_973 : BitVec 32 := 8#32
  let v1239 : BitVec 32 := Scalar.muli v1051 c8_i32_973
  let c2_i32_974 : BitVec 32 := 2#32
  let v1240 : BitVec 32 := Scalar.addi v1239 c2_i32_974
  ![v1240.toNat]
def k0_off215 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_973 : BitVec 32 := 8#32
  let v1239 : BitVec 32 := Scalar.muli v1051 c8_i32_973
  let c2_i32_974 : BitVec 32 := 2#32
  let v1240 : BitVec 32 := Scalar.addi v1239 c2_i32_974
  let c32_i32_975 : BitVec 32 := 32#32
  let v1241 : BitVec 32 := Scalar.muli v1240 c32_i32_975
  let c0_i32_2119 : BitVec 32 := 0#32
  ![v1241.toNat, 0]
def k0_off216 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_977 : BitVec 32 := 8#32
  let v1245 : BitVec 32 := Scalar.muli v1051 c8_i32_977
  let c3_i32_978 : BitVec 32 := 3#32
  let v1246 : BitVec 32 := Scalar.addi v1245 c3_i32_978
  let v1858 : BitVec 1 := Scalar.cmpi .ne v1246 v2
  let v1859 : BitVec 32 := Scalar.extui v1858
  let c0_i32_1431 : BitVec 32 := 0#32
  let v1860 : BitVec 1 := Scalar.cmpi .ne v1859 c0_i32_1431
  v1860

def k0_off217 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_977 : BitVec 32 := 8#32
  let v1245 : BitVec 32 := Scalar.muli v1051 c8_i32_977
  let c3_i32_978 : BitVec 32 := 3#32
  let v1246 : BitVec 32 := Scalar.addi v1245 c3_i32_978
  ![v1246.toNat]
def k0_off218 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_977 : BitVec 32 := 8#32
  let v1245 : BitVec 32 := Scalar.muli v1051 c8_i32_977
  let c3_i32_978 : BitVec 32 := 3#32
  let v1246 : BitVec 32 := Scalar.addi v1245 c3_i32_978
  let c32_i32_979 : BitVec 32 := 32#32
  let v1247 : BitVec 32 := Scalar.muli v1246 c32_i32_979
  let c0_i32_2119 : BitVec 32 := 0#32
  ![v1247.toNat, 0]
def k0_off219 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_981 : BitVec 32 := 8#32
  let v1251 : BitVec 32 := Scalar.muli v1051 c8_i32_981
  let c4_i32_982 : BitVec 32 := 4#32
  let v1252 : BitVec 32 := Scalar.addi v1251 c4_i32_982
  let v1861 : BitVec 1 := Scalar.cmpi .ne v1252 v2
  let v1862 : BitVec 32 := Scalar.extui v1861
  let c0_i32_1432 : BitVec 32 := 0#32
  let v1863 : BitVec 1 := Scalar.cmpi .ne v1862 c0_i32_1432
  v1863

def k0_off220 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_981 : BitVec 32 := 8#32
  let v1251 : BitVec 32 := Scalar.muli v1051 c8_i32_981
  let c4_i32_982 : BitVec 32 := 4#32
  let v1252 : BitVec 32 := Scalar.addi v1251 c4_i32_982
  ![v1252.toNat]
def k0_off221 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_981 : BitVec 32 := 8#32
  let v1251 : BitVec 32 := Scalar.muli v1051 c8_i32_981
  let c4_i32_982 : BitVec 32 := 4#32
  let v1252 : BitVec 32 := Scalar.addi v1251 c4_i32_982
  let c32_i32_983 : BitVec 32 := 32#32
  let v1253 : BitVec 32 := Scalar.muli v1252 c32_i32_983
  let c0_i32_2119 : BitVec 32 := 0#32
  ![v1253.toNat, 0]
def k0_off222 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_985 : BitVec 32 := 8#32
  let v1257 : BitVec 32 := Scalar.muli v1051 c8_i32_985
  let c5_i32_986 : BitVec 32 := 5#32
  let v1258 : BitVec 32 := Scalar.addi v1257 c5_i32_986
  let v1864 : BitVec 1 := Scalar.cmpi .ne v1258 v2
  let v1865 : BitVec 32 := Scalar.extui v1864
  let c0_i32_1433 : BitVec 32 := 0#32
  let v1866 : BitVec 1 := Scalar.cmpi .ne v1865 c0_i32_1433
  v1866

def k0_off223 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_985 : BitVec 32 := 8#32
  let v1257 : BitVec 32 := Scalar.muli v1051 c8_i32_985
  let c5_i32_986 : BitVec 32 := 5#32
  let v1258 : BitVec 32 := Scalar.addi v1257 c5_i32_986
  ![v1258.toNat]
def k0_off224 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_985 : BitVec 32 := 8#32
  let v1257 : BitVec 32 := Scalar.muli v1051 c8_i32_985
  let c5_i32_986 : BitVec 32 := 5#32
  let v1258 : BitVec 32 := Scalar.addi v1257 c5_i32_986
  let c32_i32_987 : BitVec 32 := 32#32
  let v1259 : BitVec 32 := Scalar.muli v1258 c32_i32_987
  let c0_i32_2119 : BitVec 32 := 0#32
  ![v1259.toNat, 0]
def k0_off225 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_989 : BitVec 32 := 8#32
  let v1263 : BitVec 32 := Scalar.muli v1051 c8_i32_989
  let c6_i32_990 : BitVec 32 := 6#32
  let v1264 : BitVec 32 := Scalar.addi v1263 c6_i32_990
  let v1867 : BitVec 1 := Scalar.cmpi .ne v1264 v2
  let v1868 : BitVec 32 := Scalar.extui v1867
  let c0_i32_1434 : BitVec 32 := 0#32
  let v1869 : BitVec 1 := Scalar.cmpi .ne v1868 c0_i32_1434
  v1869

def k0_off226 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_989 : BitVec 32 := 8#32
  let v1263 : BitVec 32 := Scalar.muli v1051 c8_i32_989
  let c6_i32_990 : BitVec 32 := 6#32
  let v1264 : BitVec 32 := Scalar.addi v1263 c6_i32_990
  ![v1264.toNat]
def k0_off227 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_989 : BitVec 32 := 8#32
  let v1263 : BitVec 32 := Scalar.muli v1051 c8_i32_989
  let c6_i32_990 : BitVec 32 := 6#32
  let v1264 : BitVec 32 := Scalar.addi v1263 c6_i32_990
  let c32_i32_991 : BitVec 32 := 32#32
  let v1265 : BitVec 32 := Scalar.muli v1264 c32_i32_991
  let c0_i32_2119 : BitVec 32 := 0#32
  ![v1265.toNat, 0]
def k0_off228 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_993 : BitVec 32 := 8#32
  let v1269 : BitVec 32 := Scalar.muli v1051 c8_i32_993
  let c7_i32_994 : BitVec 32 := 7#32
  let v1270 : BitVec 32 := Scalar.addi v1269 c7_i32_994
  let v1870 : BitVec 1 := Scalar.cmpi .ne v1270 v2
  let v1871 : BitVec 32 := Scalar.extui v1870
  let c0_i32_1435 : BitVec 32 := 0#32
  let v1872 : BitVec 1 := Scalar.cmpi .ne v1871 c0_i32_1435
  v1872

def k0_off229 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_993 : BitVec 32 := 8#32
  let v1269 : BitVec 32 := Scalar.muli v1051 c8_i32_993
  let c7_i32_994 : BitVec 32 := 7#32
  let v1270 : BitVec 32 := Scalar.addi v1269 c7_i32_994
  ![v1270.toNat]
def k0_off230 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_846 : BitVec 32 := 1#32
  let v1049 : BitVec 32 := Scalar.addi v19 c1_i32_846
  let c3_i32_847 : BitVec 32 := 3#32
  let v1050 : BitVec 32 := Scalar.addi v1049 c3_i32_847
  let c4_i32_848 : BitVec 32 := 4#32
  let v1051 : BitVec 32 := Scalar.remsi v1050 c4_i32_848
  let c8_i32_993 : BitVec 32 := 8#32
  let v1269 : BitVec 32 := Scalar.muli v1051 c8_i32_993
  let c7_i32_994 : BitVec 32 := 7#32
  let v1270 : BitVec 32 := Scalar.addi v1269 c7_i32_994
  let c32_i32_995 : BitVec 32 := 32#32
  let v1271 : BitVec 32 := Scalar.muli v1270 c32_i32_995
  let c0_i32_2119 : BitVec 32 := 0#32
  ![v1271.toNat, 0]
def k0_off231 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2120 : BitVec 32 := 0#32
  let c0_i32_2121 : BitVec 32 := 0#32
  ![v2.toNat, 0, 0]
def k0_off232 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off233 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1439 : BitVec 32 := 32#32
  let v1876 : BitVec 32 := Scalar.muli v2 c32_i32_1439
  let c0_i32_1443 : BitVec 32 := 0#32
  ![v1876.toNat, 0]
def k0_dev64 (d0 : Dev nD) : Nat :=
  let c0_i32_1442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1436 : BitVec 32 := 1#32
  let v1873 : BitVec 32 := Scalar.addi v2 c1_i32_1436
  let c32_i32_1437 : BitVec 32 := 32#32
  let v1874 : BitVec 32 := Scalar.remsi v1873 c32_i32_1437
  let c1_i32_1441 : BitVec 32 := 1#32
  let v1877 : BitVec 32 := Scalar.muli v1874 c1_i32_1441
  let v1878 : BitVec 32 := Scalar.addi c0_i32_1442 v1877
  v1878.toNat
def k0_dev65 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1445 : BitVec 32 := 2#32
  let v1885 : BitVec 32 := Scalar.addi v2 c2_i32_1445
  let c32_i32_1446 : BitVec 32 := 32#32
  let v1886 : BitVec 32 := Scalar.remsi v1885 c32_i32_1446
  let c1_i32_1450 : BitVec 32 := 1#32
  let v1889 : BitVec 32 := Scalar.muli v1886 c1_i32_1450
  let v1890 : BitVec 32 := Scalar.addi c0_i32_1451 v1889
  v1890.toNat
def k0_dev66 (d0 : Dev nD) : Nat :=
  let c0_i32_1460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1454 : BitVec 32 := 3#32
  let v1897 : BitVec 32 := Scalar.addi v2 c3_i32_1454
  let c32_i32_1455 : BitVec 32 := 32#32
  let v1898 : BitVec 32 := Scalar.remsi v1897 c32_i32_1455
  let c1_i32_1459 : BitVec 32 := 1#32
  let v1901 : BitVec 32 := Scalar.muli v1898 c1_i32_1459
  let v1902 : BitVec 32 := Scalar.addi c0_i32_1460 v1901
  v1902.toNat
def k0_dev67 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1463 : BitVec 32 := 4#32
  let v1909 : BitVec 32 := Scalar.addi v2 c4_i32_1463
  let c32_i32_1464 : BitVec 32 := 32#32
  let v1910 : BitVec 32 := Scalar.remsi v1909 c32_i32_1464
  let c1_i32_1468 : BitVec 32 := 1#32
  let v1913 : BitVec 32 := Scalar.muli v1910 c1_i32_1468
  let v1914 : BitVec 32 := Scalar.addi c0_i32_1469 v1913
  v1914.toNat
def k0_dev68 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1472 : BitVec 32 := 5#32
  let v1921 : BitVec 32 := Scalar.addi v2 c5_i32_1472
  let c32_i32_1473 : BitVec 32 := 32#32
  let v1922 : BitVec 32 := Scalar.remsi v1921 c32_i32_1473
  let c1_i32_1477 : BitVec 32 := 1#32
  let v1925 : BitVec 32 := Scalar.muli v1922 c1_i32_1477
  let v1926 : BitVec 32 := Scalar.addi c0_i32_1478 v1925
  v1926.toNat
def k0_dev69 (d0 : Dev nD) : Nat :=
  let c0_i32_1487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1481 : BitVec 32 := 6#32
  let v1933 : BitVec 32 := Scalar.addi v2 c6_i32_1481
  let c32_i32_1482 : BitVec 32 := 32#32
  let v1934 : BitVec 32 := Scalar.remsi v1933 c32_i32_1482
  let c1_i32_1486 : BitVec 32 := 1#32
  let v1937 : BitVec 32 := Scalar.muli v1934 c1_i32_1486
  let v1938 : BitVec 32 := Scalar.addi c0_i32_1487 v1937
  v1938.toNat
def k0_dev70 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1490 : BitVec 32 := 7#32
  let v1945 : BitVec 32 := Scalar.addi v2 c7_i32_1490
  let c32_i32_1491 : BitVec 32 := 32#32
  let v1946 : BitVec 32 := Scalar.remsi v1945 c32_i32_1491
  let c1_i32_1495 : BitVec 32 := 1#32
  let v1949 : BitVec 32 := Scalar.muli v1946 c1_i32_1495
  let v1950 : BitVec 32 := Scalar.addi c0_i32_1496 v1949
  v1950.toNat
def k0_dev71 (d0 : Dev nD) : Nat :=
  let c0_i32_1505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1499 : BitVec 32 := 8#32
  let v1957 : BitVec 32 := Scalar.addi v2 c8_i32_1499
  let c32_i32_1500 : BitVec 32 := 32#32
  let v1958 : BitVec 32 := Scalar.remsi v1957 c32_i32_1500
  let c1_i32_1504 : BitVec 32 := 1#32
  let v1961 : BitVec 32 := Scalar.muli v1958 c1_i32_1504
  let v1962 : BitVec 32 := Scalar.addi c0_i32_1505 v1961
  v1962.toNat
def k0_dev72 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1508 : BitVec 32 := 9#32
  let v1969 : BitVec 32 := Scalar.addi v2 c9_i32_1508
  let c32_i32_1509 : BitVec 32 := 32#32
  let v1970 : BitVec 32 := Scalar.remsi v1969 c32_i32_1509
  let c1_i32_1513 : BitVec 32 := 1#32
  let v1973 : BitVec 32 := Scalar.muli v1970 c1_i32_1513
  let v1974 : BitVec 32 := Scalar.addi c0_i32_1514 v1973
  v1974.toNat
def k0_dev73 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1517 : BitVec 32 := 10#32
  let v1981 : BitVec 32 := Scalar.addi v2 c10_i32_1517
  let c32_i32_1518 : BitVec 32 := 32#32
  let v1982 : BitVec 32 := Scalar.remsi v1981 c32_i32_1518
  let c1_i32_1522 : BitVec 32 := 1#32
  let v1985 : BitVec 32 := Scalar.muli v1982 c1_i32_1522
  let v1986 : BitVec 32 := Scalar.addi c0_i32_1523 v1985
  v1986.toNat
def k0_dev74 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1526 : BitVec 32 := 11#32
  let v1993 : BitVec 32 := Scalar.addi v2 c11_i32_1526
  let c32_i32_1527 : BitVec 32 := 32#32
  let v1994 : BitVec 32 := Scalar.remsi v1993 c32_i32_1527
  let c1_i32_1531 : BitVec 32 := 1#32
  let v1997 : BitVec 32 := Scalar.muli v1994 c1_i32_1531
  let v1998 : BitVec 32 := Scalar.addi c0_i32_1532 v1997
  v1998.toNat
def k0_dev75 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1535 : BitVec 32 := 12#32
  let v2005 : BitVec 32 := Scalar.addi v2 c12_i32_1535
  let c32_i32_1536 : BitVec 32 := 32#32
  let v2006 : BitVec 32 := Scalar.remsi v2005 c32_i32_1536
  let c1_i32_1540 : BitVec 32 := 1#32
  let v2009 : BitVec 32 := Scalar.muli v2006 c1_i32_1540
  let v2010 : BitVec 32 := Scalar.addi c0_i32_1541 v2009
  v2010.toNat
def k0_dev76 (d0 : Dev nD) : Nat :=
  let c0_i32_1550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1544 : BitVec 32 := 13#32
  let v2017 : BitVec 32 := Scalar.addi v2 c13_i32_1544
  let c32_i32_1545 : BitVec 32 := 32#32
  let v2018 : BitVec 32 := Scalar.remsi v2017 c32_i32_1545
  let c1_i32_1549 : BitVec 32 := 1#32
  let v2021 : BitVec 32 := Scalar.muli v2018 c1_i32_1549
  let v2022 : BitVec 32 := Scalar.addi c0_i32_1550 v2021
  v2022.toNat
def k0_dev77 (d0 : Dev nD) : Nat :=
  let c0_i32_1559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1553 : BitVec 32 := 14#32
  let v2029 : BitVec 32 := Scalar.addi v2 c14_i32_1553
  let c32_i32_1554 : BitVec 32 := 32#32
  let v2030 : BitVec 32 := Scalar.remsi v2029 c32_i32_1554
  let c1_i32_1558 : BitVec 32 := 1#32
  let v2033 : BitVec 32 := Scalar.muli v2030 c1_i32_1558
  let v2034 : BitVec 32 := Scalar.addi c0_i32_1559 v2033
  v2034.toNat
def k0_dev78 (d0 : Dev nD) : Nat :=
  let c0_i32_1568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1562 : BitVec 32 := 15#32
  let v2041 : BitVec 32 := Scalar.addi v2 c15_i32_1562
  let c32_i32_1563 : BitVec 32 := 32#32
  let v2042 : BitVec 32 := Scalar.remsi v2041 c32_i32_1563
  let c1_i32_1567 : BitVec 32 := 1#32
  let v2045 : BitVec 32 := Scalar.muli v2042 c1_i32_1567
  let v2046 : BitVec 32 := Scalar.addi c0_i32_1568 v2045
  v2046.toNat
def k0_dev79 (d0 : Dev nD) : Nat :=
  let c0_i32_1577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1571 : BitVec 32 := 16#32
  let v2053 : BitVec 32 := Scalar.addi v2 c16_i32_1571
  let c32_i32_1572 : BitVec 32 := 32#32
  let v2054 : BitVec 32 := Scalar.remsi v2053 c32_i32_1572
  let c1_i32_1576 : BitVec 32 := 1#32
  let v2057 : BitVec 32 := Scalar.muli v2054 c1_i32_1576
  let v2058 : BitVec 32 := Scalar.addi c0_i32_1577 v2057
  v2058.toNat
def k0_dev80 (d0 : Dev nD) : Nat :=
  let c0_i32_1586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1580 : BitVec 32 := 17#32
  let v2065 : BitVec 32 := Scalar.addi v2 c17_i32_1580
  let c32_i32_1581 : BitVec 32 := 32#32
  let v2066 : BitVec 32 := Scalar.remsi v2065 c32_i32_1581
  let c1_i32_1585 : BitVec 32 := 1#32
  let v2069 : BitVec 32 := Scalar.muli v2066 c1_i32_1585
  let v2070 : BitVec 32 := Scalar.addi c0_i32_1586 v2069
  v2070.toNat
def k0_dev81 (d0 : Dev nD) : Nat :=
  let c0_i32_1595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1589 : BitVec 32 := 18#32
  let v2077 : BitVec 32 := Scalar.addi v2 c18_i32_1589
  let c32_i32_1590 : BitVec 32 := 32#32
  let v2078 : BitVec 32 := Scalar.remsi v2077 c32_i32_1590
  let c1_i32_1594 : BitVec 32 := 1#32
  let v2081 : BitVec 32 := Scalar.muli v2078 c1_i32_1594
  let v2082 : BitVec 32 := Scalar.addi c0_i32_1595 v2081
  v2082.toNat
def k0_dev82 (d0 : Dev nD) : Nat :=
  let c0_i32_1604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1598 : BitVec 32 := 19#32
  let v2089 : BitVec 32 := Scalar.addi v2 c19_i32_1598
  let c32_i32_1599 : BitVec 32 := 32#32
  let v2090 : BitVec 32 := Scalar.remsi v2089 c32_i32_1599
  let c1_i32_1603 : BitVec 32 := 1#32
  let v2093 : BitVec 32 := Scalar.muli v2090 c1_i32_1603
  let v2094 : BitVec 32 := Scalar.addi c0_i32_1604 v2093
  v2094.toNat
def k0_dev83 (d0 : Dev nD) : Nat :=
  let c0_i32_1613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1607 : BitVec 32 := 20#32
  let v2101 : BitVec 32 := Scalar.addi v2 c20_i32_1607
  let c32_i32_1608 : BitVec 32 := 32#32
  let v2102 : BitVec 32 := Scalar.remsi v2101 c32_i32_1608
  let c1_i32_1612 : BitVec 32 := 1#32
  let v2105 : BitVec 32 := Scalar.muli v2102 c1_i32_1612
  let v2106 : BitVec 32 := Scalar.addi c0_i32_1613 v2105
  v2106.toNat
def k0_dev84 (d0 : Dev nD) : Nat :=
  let c0_i32_1622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1616 : BitVec 32 := 21#32
  let v2113 : BitVec 32 := Scalar.addi v2 c21_i32_1616
  let c32_i32_1617 : BitVec 32 := 32#32
  let v2114 : BitVec 32 := Scalar.remsi v2113 c32_i32_1617
  let c1_i32_1621 : BitVec 32 := 1#32
  let v2117 : BitVec 32 := Scalar.muli v2114 c1_i32_1621
  let v2118 : BitVec 32 := Scalar.addi c0_i32_1622 v2117
  v2118.toNat
def k0_dev85 (d0 : Dev nD) : Nat :=
  let c0_i32_1631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1625 : BitVec 32 := 22#32
  let v2125 : BitVec 32 := Scalar.addi v2 c22_i32_1625
  let c32_i32_1626 : BitVec 32 := 32#32
  let v2126 : BitVec 32 := Scalar.remsi v2125 c32_i32_1626
  let c1_i32_1630 : BitVec 32 := 1#32
  let v2129 : BitVec 32 := Scalar.muli v2126 c1_i32_1630
  let v2130 : BitVec 32 := Scalar.addi c0_i32_1631 v2129
  v2130.toNat
def k0_dev86 (d0 : Dev nD) : Nat :=
  let c0_i32_1640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1634 : BitVec 32 := 23#32
  let v2137 : BitVec 32 := Scalar.addi v2 c23_i32_1634
  let c32_i32_1635 : BitVec 32 := 32#32
  let v2138 : BitVec 32 := Scalar.remsi v2137 c32_i32_1635
  let c1_i32_1639 : BitVec 32 := 1#32
  let v2141 : BitVec 32 := Scalar.muli v2138 c1_i32_1639
  let v2142 : BitVec 32 := Scalar.addi c0_i32_1640 v2141
  v2142.toNat
def k0_dev87 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1643 : BitVec 32 := 24#32
  let v2149 : BitVec 32 := Scalar.addi v2 c24_i32_1643
  let c32_i32_1644 : BitVec 32 := 32#32
  let v2150 : BitVec 32 := Scalar.remsi v2149 c32_i32_1644
  let c1_i32_1648 : BitVec 32 := 1#32
  let v2153 : BitVec 32 := Scalar.muli v2150 c1_i32_1648
  let v2154 : BitVec 32 := Scalar.addi c0_i32_1649 v2153
  v2154.toNat
def k0_dev88 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1652 : BitVec 32 := 25#32
  let v2161 : BitVec 32 := Scalar.addi v2 c25_i32_1652
  let c32_i32_1653 : BitVec 32 := 32#32
  let v2162 : BitVec 32 := Scalar.remsi v2161 c32_i32_1653
  let c1_i32_1657 : BitVec 32 := 1#32
  let v2165 : BitVec 32 := Scalar.muli v2162 c1_i32_1657
  let v2166 : BitVec 32 := Scalar.addi c0_i32_1658 v2165
  v2166.toNat
def k0_dev89 (d0 : Dev nD) : Nat :=
  let c0_i32_1667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1661 : BitVec 32 := 26#32
  let v2173 : BitVec 32 := Scalar.addi v2 c26_i32_1661
  let c32_i32_1662 : BitVec 32 := 32#32
  let v2174 : BitVec 32 := Scalar.remsi v2173 c32_i32_1662
  let c1_i32_1666 : BitVec 32 := 1#32
  let v2177 : BitVec 32 := Scalar.muli v2174 c1_i32_1666
  let v2178 : BitVec 32 := Scalar.addi c0_i32_1667 v2177
  v2178.toNat
def k0_dev90 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1670 : BitVec 32 := 27#32
  let v2185 : BitVec 32 := Scalar.addi v2 c27_i32_1670
  let c32_i32_1671 : BitVec 32 := 32#32
  let v2186 : BitVec 32 := Scalar.remsi v2185 c32_i32_1671
  let c1_i32_1675 : BitVec 32 := 1#32
  let v2189 : BitVec 32 := Scalar.muli v2186 c1_i32_1675
  let v2190 : BitVec 32 := Scalar.addi c0_i32_1676 v2189
  v2190.toNat
def k0_dev91 (d0 : Dev nD) : Nat :=
  let c0_i32_1685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1679 : BitVec 32 := 28#32
  let v2197 : BitVec 32 := Scalar.addi v2 c28_i32_1679
  let c32_i32_1680 : BitVec 32 := 32#32
  let v2198 : BitVec 32 := Scalar.remsi v2197 c32_i32_1680
  let c1_i32_1684 : BitVec 32 := 1#32
  let v2201 : BitVec 32 := Scalar.muli v2198 c1_i32_1684
  let v2202 : BitVec 32 := Scalar.addi c0_i32_1685 v2201
  v2202.toNat
def k0_dev92 (d0 : Dev nD) : Nat :=
  let c0_i32_1694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1688 : BitVec 32 := 29#32
  let v2209 : BitVec 32 := Scalar.addi v2 c29_i32_1688
  let c32_i32_1689 : BitVec 32 := 32#32
  let v2210 : BitVec 32 := Scalar.remsi v2209 c32_i32_1689
  let c1_i32_1693 : BitVec 32 := 1#32
  let v2213 : BitVec 32 := Scalar.muli v2210 c1_i32_1693
  let v2214 : BitVec 32 := Scalar.addi c0_i32_1694 v2213
  v2214.toNat
def k0_dev93 (d0 : Dev nD) : Nat :=
  let c0_i32_1703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1697 : BitVec 32 := 30#32
  let v2221 : BitVec 32 := Scalar.addi v2 c30_i32_1697
  let c32_i32_1698 : BitVec 32 := 32#32
  let v2222 : BitVec 32 := Scalar.remsi v2221 c32_i32_1698
  let c1_i32_1702 : BitVec 32 := 1#32
  let v2225 : BitVec 32 := Scalar.muli v2222 c1_i32_1702
  let v2226 : BitVec 32 := Scalar.addi c0_i32_1703 v2225
  v2226.toNat
def k0_dev94 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1706 : BitVec 32 := 31#32
  let v2233 : BitVec 32 := Scalar.addi v2 c31_i32_1706
  let c32_i32_1707 : BitVec 32 := 32#32
  let v2234 : BitVec 32 := Scalar.remsi v2233 c32_i32_1707
  let c1_i32_1711 : BitVec 32 := 1#32
  let v2237 : BitVec 32 := Scalar.muli v2234 c1_i32_1711
  let v2238 : BitVec 32 := Scalar.addi c0_i32_1712 v2237
  v2238.toNat
def k0_off234 (d0 : Dev nD) (c1_i32_1715 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2245 : BitVec 32 := Scalar.addi v2 c1_i32_1715
  let c32_i32_1716 : BitVec 32 := 32#32
  let v2246 : BitVec 32 := Scalar.remsi v2245 c32_i32_1716
  let c32_i32_1718 : BitVec 32 := 32#32
  let v2248 : BitVec 32 := Scalar.muli v2246 c32_i32_1718
  let c0_i32_1722 : BitVec 32 := 0#32
  ![v2248.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1x256x1024x1024, .f32⟩
  | .hbm, ⟨29, _⟩ => ⟨S_, .f32⟩
  | .hbm, ⟨30, _⟩ => ⟨S_, .f32⟩
  | .hbm, ⟨31, _⟩ => ⟨S1x256x1024x1024, .f32⟩
  | .hbm, ⟨32, _⟩ => ⟨S1x256x1024x1024, .f32⟩
  | .hbm, ⟨33, _⟩ => ⟨S1x1x1024x1024, .i1⟩
  | .hbm, ⟨34, _⟩ => ⟨S_, .f32⟩
  | .hbm, ⟨35, _⟩ => ⟨S_, .f32⟩
  | .hbm, ⟨36, _⟩ => ⟨S1x256x1024x1024, .i1⟩
  | .hbm, ⟨37, _⟩ => ⟨S1x256x1024x1024, .f32⟩
  | .hbm, ⟨38, _⟩ => ⟨S1x256x1024x1024, .f32⟩
  | .hbm, ⟨39, _⟩ => ⟨S_, .f32⟩
  | .hbm, ⟨40, _⟩ => ⟨S1x256x1024, .f32⟩
  | .hbm, ⟨41, _⟩ => ⟨S1x256x1024x1, .f32⟩
  | .hbm, ⟨42, _⟩ => ⟨S1x256x1024x1024, .f32⟩
  | .hbm, ⟨43, _⟩ => ⟨S1x256x1024x1024, .f32⟩
  | .hbm, ⟨44, _⟩ => ⟨S1x256x1024x1024, .f32⟩
  | .hbm, ⟨45, _⟩ => ⟨S_, .i1⟩
  | .hbm, ⟨46, _⟩ => ⟨S1024, .i1⟩
  | .hbm, ⟨47, _⟩ => ⟨S1x1x1024x1, .i1⟩
  | .hbm, ⟨48, _⟩ => ⟨S_, .f32⟩
  | .hbm, ⟨49, _⟩ => ⟨S1x256x1024, .f32⟩
  | .hbm, ⟨50, _⟩ => ⟨S1x256x1024x1, .f32⟩
  | .hbm, ⟨51, _⟩ => ⟨S_, .f32⟩
  | .hbm, ⟨52, _⟩ => ⟨S_, .f32⟩
  | .hbm, ⟨53, _⟩ => ⟨S1x256x1024x1, .i1⟩
  | .hbm, ⟨54, _⟩ => ⟨S1x256x1024x1, .f32⟩
  | .hbm, ⟨55, _⟩ => ⟨S1x256x1024x1, .f32⟩
  | .hbm, ⟨56, _⟩ => ⟨S1x256x1024x1024, .f32⟩
  | .hbm, ⟨57, _⟩ => ⟨S1x256x1024x1024, .f32⟩
  | .hbm, ⟨58, _⟩ => ⟨S1x1x1024x1, .i1⟩
  | .hbm, ⟨59, _⟩ => ⟨S_, .f32⟩
  | .hbm, ⟨60, _⟩ => ⟨S_, .f32⟩
  | .hbm, ⟨61, _⟩ => ⟨S1x256x1024x1024, .i1⟩
  | .hbm, ⟨62, _⟩ => ⟨S1x256x1024x1024, .f32⟩
  | .hbm, ⟨63, _⟩ => ⟨S1x256x1024x1024, .f32⟩
  | .hbm, ⟨64, _⟩ => ⟨S1x256x128x1024, .f32⟩
  | .hbm, ⟨65, _⟩ => ⟨S1x1024x256x128, .f32⟩
  | .hbm, ⟨66, _⟩ => ⟨S1x1024x32768, .f32⟩
  | .hbm, ⟨67, _⟩ => ⟨S1x1024x1024, .f32⟩
  | .hbm, ⟨68, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.Values.lean ====
/-
# The kernel's contents: what each buffer of the kernel holds, as a function of the memory at launch

The names of this module say what the device-local computation leaves in each buffer, in the program's own payload
terms (`k0_pay…` of the skeleton), for any float values. Nothing here runs the program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.AttnProof

open Cert.KernelIdeal Cert.KernelIdeal.Gen
open Idealize.ShloMosaic
open Idealize.ShloMosaic.TcCoe
open Idealize.ShloMosaic.ValueIdx (ix2 ix3)

variable {F : FTy → Type} [FloatOps F] [Named F]

/-! ## Ring distances and the order of the sends -/

set_option backward.proofsInPublic true in
/-- The device `j` places after `c`. -/
def nx (c : Dev nD) (j : ℕ) : Dev nD := ⟨(c.val + j) % 32, Nat.mod_lt _ (by decide)⟩

/-- How many places after `c` device `d` comes. -/
def dist (c d : Dev nD) : ℕ := (d.val + 32 - c.val) % 32

set_option backward.proofsInPublic true in
/-- The distance as an index of the 32 send semaphores of the last exchange. -/
def ai (c d : Dev nD) : Fin 32 := ⟨dist c d, Nat.mod_lt _ (by decide)⟩

/-- Where in device `c`'s order of partial-sum sends target `t` comes: groups of eight rows of chunks, the group after
    `c`'s own first and `c`'s own last. -/
def pos (c t : Dev nD) : ℕ := 8 * ((t.val / 8 + 3 - c.val / 8) % 4) + t.val % 8

set_option backward.proofsInPublic true in
/-- The `n`-th target of device `c`. -/
def ord (c : Dev nD) (n : ℕ) : Dev nD :=
  ⟨((c.val / 8 + 1 + n / 8) % 4) * 8 + n % 8, by simp only [nD]; omega⟩

set_option backward.proofsInPublic true in
/-- The block of 256 rows that device `c` computes `k`-th. -/
def blk (c : Dev nD) (k : ℕ) : Fin 4 := ⟨(c.val / 8 + 1 + k) % 4, Nat.mod_lt _ (by decide)⟩

theorem dist_lt (c d : Dev nD) : dist c d < 32 := Nat.mod_lt _ (by decide)
theorem pos_lt (c t : Dev nD) : pos c t < 32 := by unfold pos; omega
theorem dist_nx (c : Dev nD) {j : ℕ} (hj : j < 32) : dist c (nx c j) = j := by
  have := c.isLt; unfold dist nx; simp only [nD] at this; dsimp only; omega
theorem nx_dist (c d : Dev nD) : nx c (dist c d) = d := by
  have := c.isLt; have := d.isLt; unfold dist nx; apply Fin.ext; simp only [nD] at *; omega
theorem dist_inj (c : Dev nD) {d e : Dev nD} (h : dist c d = dist c e) : d = e := by
  rw [← nx_dist c d, ← nx_dist c e, h]
theorem pos_ord (c : Dev nD) {n : ℕ} (hn : n < 32) : pos c (ord c n) = n := by
  have := c.isLt; unfold pos ord; simp only [nD] at this; dsimp only; omega
theorem ord_pos (c t : Dev nD) : ord c (pos c t) = t := by
  have := c.isLt; have := t.isLt; unfold pos ord; apply Fin.ext; simp only [nD] at *; omega
theorem pos_inj (c : Dev nD) {d e : Dev nD} (h : pos c d = pos c e) : d = e := by
  rw [← ord_pos c d, ← ord_pos c e, h]
theorem nx_ne (c : Dev nD) {j : ℕ} (h0 : 0 < j) (hj : j < 32) : nx c j ≠ c := by
  intro h; have h1 : (c.val + j) % 32 = c.val := congrArg Fin.val h
  have := c.isLt; simp only [nD] at this; omega
theorem dist_self (c : Dev nD) : dist c c = 0 := by
  have := c.isLt; unfold dist; simp only [nD] at this; omega
theorem dist_pos {c d : Dev nD} (h : d ≠ c) : 0 < dist c d := by
  rcases Nat.eq_zero_or_pos (dist c d) with h0 | h0
  · exact absurd (dist_inj c (h0.trans (dist_self c).symm)) h
  · exact h0

/-- Indices by ring distance: the devices in order after `c`. -/
def around (c : Dev nD) : Dev nD ≃ Fin 32 where
  toFun d := ai c d
  invFun j := nx c j.val
  left_inv d := nx_dist c d
  right_inv j := Fin.ext (dist_nx c j.isLt)

/-! ## The memrefs the kernel addresses -/

theorem rs_inb (s : Dev nD) : ∀ a, (![s.val, 0, 0] : Fin 3 → ℕ) a + S1x32x1024.size a ≤ S32x32x1024.size a := by
  revert s; decide
theorem row_inb (s : Dev nD) : ∀ a, (![32 * s.val, 0] : Fin 2 → ℕ) a + S32x1024.size a ≤ S1024x1024.size a := by
  revert s; decide
theorem head_inb (h : Fin 8) : ∀ a, (![h.val, 0, 0] : Fin 3 → ℕ) a + S1x1024x128.size a ≤ S8x1024x128.size a := by
  revert h; decide
theorem ext_inb (c : Dev nD) (h : Fin 8) :
    ∀ a, (![0, 0, 8 * c.val + h.val, 0] : Fin 4 → ℕ) a + S1x1024x1x128.size a ≤ S1x1024x256x128.size a := by
  intro a; have := c.isLt; have := h.isLt; simp only [nD] at *
  fin_cases a
  · exact Nat.le_refl 1
  · exact Nat.le_refl 1024
  · show 8 * c.val + h.val + 1 ≤ 256; omega
  · exact Nat.le_refl 128
theorem xblk_inb (b : Fin 4) : ∀ a, (![0, 256 * b.val, 0] : Fin 3 → ℕ) a + S1x256x1024.size a ≤ S1x1024x1024.size a := by
  revert b; decide
theorem blk_inb (b : Fin 4) : ∀ a, (![256 * b.val, 0] : Fin 2 → ℕ) a + S256x1024.size a ≤ S1024x1024.size a := by
  revert b; decide
theorem col_inb (h : Fin 8) : ∀ a, (![0, 128 * h.val] : Fin 2 → ℕ) a + S256x128.size a ≤ S256x1024.size a := by
  revert h; decide

abbrev xM : Memref sig .tc .vmem S1x1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outW : Memref sig .tc .vmem S1024x1024 .f32 := Memref.whole cc0_stg3_0
abbrev kW : Memref sig .tc .vmem S8x1024x128 .f32 := Memref.whole cc0_scratch0
abbrev vW : Memref sig .tc .vmem S8x1024x128 .f32 := Memref.whole cc0_scratch1
abbrev ctxM : Memref sig .tc .vmem S256x1024 .f32 := Memref.whole cc0_scratch2
abbrev biasM : Memref sig .tc .vmem S1024x1024 .f32 := Memref.whole cc0_scratch3
abbrev partW : Memref sig .tc .vmem S1024x1024 .f32 := Memref.whole cc0_scratch4
abbrev rsW : Memref sig .tc .vmem S32x32x1024 .f32 := Memref.whole cc0_scratch6
abbrev kExtW : Memref sig .tc .hbm S1x1024x256x128 .f32 := Memref.whole main_arg2
abbrev vExtW : Memref sig .tc .hbm S1x1024x256x128 .f32 := Memref.whole main_arg3

/-- Slot `s` of the buffer that receives partial sums. -/
abbrev rsM (s : Dev nD) : Memref sig .tc .vmem S32x1024 .f32 :=
  (rsW.slice (Rect.unit (s := S32x32x1024) ![s.val, 0, 0] S1x32x1024.size (rs_inb s)) (fun _ => rfl)).squeeze S32x1024 squeezes_S1x32x1024_S32x1024
/-- Rows `32 t … 32 t + 31` of the device's partial sums. -/
abbrev partM (t : Dev nD) : Memref sig .tc .vmem S32x1024 .f32 :=
  partW.slice (Rect.unit (s := S1024x1024) ![32 * t.val, 0] S32x1024.size (row_inb t)) (fun _ => rfl)
/-- Rows `32 t … 32 t + 31` of the result. -/
abbrev outM (t : Dev nD) : Memref sig .tc .vmem S32x1024 .f32 :=
  outW.slice (Rect.unit (s := S1024x1024) ![32 * t.val, 0] S32x1024.size (row_inb t)) (fun _ => rfl)
/-- Head `h` of the key buffer. -/
abbrev kM (h : Fin 8) : Memref sig .tc .vmem S1024x128 .f32 :=
  (kW.slice (Rect.unit (s := S8x1024x128) ![h.val, 0, 0] S1x1024x128.size (head_inb h)) (fun _ => rfl)).squeeze S1024x128 squeezes_S1x1024x128_S1024x128
/-- Head `h` of the value buffer. -/
abbrev vM (h : Fin 8) : Memref sig .tc .vmem S1024x128 .f32 :=
  (vW.slice (Rect.unit (s := S8x1024x128) ![h.val, 0, 0] S1x1024x128.size (head_inb h)) (fun _ => rfl)).squeeze S1024x128 squeezes_S1x1024x128_S1024x128
/-- Head `8 c + h` of the keys in main memory. -/
abbrev kExtM (c : Dev nD) (h : Fin 8) : Memref sig .tc .hbm S1024x128 .f32 :=
  (kExtW.slice (Rect.unit (s := S1x1024x256x128) ![0, 0, 8 * c.val + h.val, 0] S1x1024x1x128.size (ext_inb c h)) (fun _ => rfl)).squeeze S1024x128 squeezes_S1x1024x1x128_S1024x128
/-- Head `8 c + h` of the values in main memory. -/
abbrev vExtM (c : Dev nD) (h : Fin 8) : Memref sig .tc .hbm S1024x128 .f32 :=
  (vExtW.slice (Rect.unit (s := S1x1024x256x128) ![0, 0, 8 * c.val + h.val, 0] S1x1024x1x128.size (ext_inb c h)) (fun _ => rfl)).squeeze S1024x128 squeezes_S1x1024x1x128_S1024x128

/-! ## Contents -/

variable (m : (ℓ : Loc nD τ sig) → Buf (Elt F) ℓ)

/-- The three staged operands of device `c`. -/
def xv (c : Dev nD) : (cc0_stg0_0 : Ref sig .tc).ty.Contents (Elt F) :=
  (win0_0.blk (0 : Fin 1)).view.read (Elt F) (m ((c : Thread nD τ).loc main_arg0))
def wqv (c : Dev nD) : (cc0_stg1_0 : Ref sig .tc).ty.Contents (Elt F) :=
  (win0_1.blk (0 : Fin 1)).view.read (Elt F) (m ((c : Thread nD τ).loc main_arg1))
def wov (c : Dev nD) : (cc0_stg2_0 : Ref sig .tc).ty.Contents (Elt F) :=
  (win0_2.blk (0 : Fin 1)).view.read (Elt F) (m ((c : Thread nD τ).loc main_arg4))
/-- The keys and the values in main memory. -/
def kx (c : Dev nD) : Buf (Elt F) ((c : Thread nD τ).loc main_arg2) := m ((c : Thread nD τ).loc main_arg2)
def vx (c : Dev nD) : Buf (Elt F) ((c : Thread nD τ).loc main_arg3) := m ((c : Thread nD τ).loc main_arg3)

/-- The key buffer once its eight heads have landed; -/
def KB (c : Dev nD) : (cc0_scratch0 : Ref sig .tc).ty.Contents (Elt F) :=
  fun i : S8x1024x128.Idx => (kExtM c (i 0)).view.read (Elt F) (kx m c) (ix2 (i 1) (i 2))
/-- the value buffer likewise. -/
def VB (c : Dev nD) : (cc0_scratch1 : Ref sig .tc).ty.Contents (Elt F) :=
  fun i : S8x1024x128.Idx => (vExtM c (i 0)).view.read (Elt F) (vx m c) (ix2 (i 1) (i 2))

/-- The rows of `x` of block `b`, as loaded. -/
def xblk (c : Dev nD) (b : Fin 4) : Vec F S1x256x1024 .f32 :=
  xM.view.readAt (Elt F) (Rect.unit (s := S1x1024x1024) ![0, 256 * b.val, 0] S1x256x1024.size (xblk_inb b)).toLoadRect (xv m c)
/-- A whole 1024 × 1024 operand, as loaded: `Wq`, `Wo`. -/
def wqL (c : Dev nD) : Vec F S1024x1024 .f32 :=
  wqM.view.readAt (Elt F) (Rect.unit (s := S1024x1024) ![0, 0] S1024x1024.size inb_S1024x1024_S1024x1024_0_0).toLoadRect (wqv m c)
def woL (c : Dev nD) : Vec F S1024x1024 .f32 :=
  woM.view.readAt (Elt F) (Rect.unit (s := S1024x1024) ![0, 0] S1024x1024.size inb_S1024x1024_S1024x1024_0_0).toLoadRect (wov m c)
/-- Head `h` of the keys and of the values, as loaded. -/
def kL (c : Dev nD) (h : Fin 8) : Vec F S1x1024x128 .f32 :=
  kW.view.readAt (Elt F) (Rect.unit (s := S8x1024x128) ![h.val, 0, 0] S1x1024x128.size (head_inb h)).toLoadRect (KB m c)
def vL (c : Dev nD) (h : Fin 8) : Vec F S1x1024x128 .f32 :=
  vW.view.readAt (Elt F) (Rect.unit (s := S8x1024x128) ![h.val, 0, 0] S1x1024x128.size (head_inb h)).toLoadRect (VB m c)
/-- The rows of the mask's bias of block `b`, as loaded. -/
def biasL (b : Fin 4) : Vec F S256x1024 .f32 :=
  biasM.view.readAt (Elt F) (Rect.unit (s := S1024x1024) ![256 * b.val, 0] S256x1024.size (blk_inb b)).toLoadRect (k0_pay1 (F := F))

theorem head_slices (h : Fin 8) : S256x1024.Slices ![0, 128 * h.val] S256x128 := by revert h; decide

/-- The query block of `b`: its rows of `x` times `Wq`. -/
def qV (c : Dev nD) (b : Fin 4) : FVec F S256x1024 .f32 := k0_pay18 (xblk m c b) (wqL m c)
/-- Head `h` of the attention of block `b`: softmax of scaled scores plus bias, times the values. -/
def headOut (c : Dev nD) (b : Fin 4) (h : Fin 8) : FVec F S256x128 .f32 :=
  k0_pay16 (extractStridedSlice S256x128 ![0, 128 * h.val] (qV m c b) (head_slices h)) (kL m c h) (biasL b) (vL m c h)
/-- The eight heads side by side. -/
def ctxAt (c : Dev nD) (b : Fin 4) : (cc0_scratch2 : Ref sig .tc).ty.Contents (Elt F) :=
  fun i : S256x1024.Idx => headOut m c b ⟨(i 1).val / 128, by have h : (i 1).val < 1024 := (i 1).isLt; omega⟩
    (ix2 (i 0) ⟨(i 1).val % 128, Nat.mod_lt _ (by decide)⟩)
/-- The partial sums of block `b`: the heads times `Wo`. -/
def blockOut (c : Dev nD) (b : Fin 4) : FVec F S256x1024 .f32 := k0_pay17 (ctxAt m c b) (woL m c)
/-- All partial sums of device `c`. -/
def PART (c : Dev nD) : (cc0_scratch4 : Ref sig .tc).ty.Contents (Elt F) :=
  fun i : S1024x1024.Idx => blockOut m c ⟨(i 0).val / 256, by have h : (i 0).val < 1024 := (i 0).isLt; omega⟩
    (ix2 ⟨(i 0).val % 256, Nat.mod_lt _ (by decide)⟩ (i 1))
/-- What device `t` receives: in slot `s`, device `s`'s partial sums of `t`'s rows. -/
def RSALL (t : Dev nD) : (cc0_scratch6 : Ref sig .tc).ty.Contents (Elt F) :=
  fun i : S32x32x1024.Idx => (partM t).view.read (Elt F) (PART m (i 0)) (ix2 (i 1) (i 2))
/-- A device's own rows of its partial sums and slot `s` of those received, as loaded. -/
def ownL (t : Dev nD) : Vec F S32x1024 .f32 :=
  partW.view.readAt (Elt F) (Rect.unit (s := S1024x1024) ![32 * t.val, 0] S32x1024.size (row_inb t)).toLoadRect (PART m t)
def slotL (t s : Dev nD) : Vec F S1x32x1024 .f32 :=
  rsW.view.readAt (Elt F) (Rect.unit (s := S32x32x1024) ![s.val, 0, 0] S1x32x1024.size (rs_inb s)).toLoadRect (RSALL m t)
def slotV (t : Dev nD) (j : ℕ) : FVec F S32x1024 .f32 := k0_pay66 (slotL m t (nx t j))
/-- Device `t`'s rows of the result: its own partial sums and the 31 received, added in a tree. -/
def OUTCH (t : Dev nD) : FVec F S32x1024 .f32 :=
  k0_pay96 (ownL m t) (slotV m t 1) (slotV m t 2) (slotV m t 3) (slotV m t 4) (slotV m t 5) (slotV m t 6) (slotV m t 7) (slotV m t 8)
    (slotV m t 9) (slotV m t 10) (slotV m t 11) (slotV m t 12) (slotV m t 13) (slotV m t 14) (slotV m t 15) (slotV m t 16)
    (slotV m t 17) (slotV m t 18) (slotV m t 19) (slotV m t 20) (slotV m t 21) (slotV m t 22) (slotV m t 23) (slotV m t 24)
    (slotV m t 25) (slotV m t 26) (slotV m t 27) (slotV m t 28) (slotV m t 29) (slotV m t 30) (slotL m t (nx t 31))
/-- The whole result: every device's rows. -/
def OUTALL : (cc0_stg3_0 : Ref sig .tc).ty.Contents (Elt F) :=
  fun i : S1024x1024.Idx => OUTCH m ⟨(i 0).val / 32, by have h : (i 0).val < 1024 := (i 0).isLt; simp only [nD]; omega⟩
    (ix2 ⟨(i 0).val % 32, Nat.mod_lt _ (by decide)⟩ (i 1))

end Cert.AttnProof

end
-- ==== Proof.Protocol.lean ====
/-
# The kernel's protocol: its semaphore cells, what each is paid, and with what contents

Every cell has one round. For device `c`:

* the barrier cell: every other device `d` pays one unit, and hands over its receive slot `c` and its result rows `32 c …`;
* the key and value cells of head `h`: `c` itself pays with the copy of the head; the head landed and the source come back;
* send cell `t` of the first exchange: `c`'s own copy to `t`; its rows of partial sums for `t` come back;
* receive cell `s` of the first exchange: `s`'s copy; slot `s` comes, holding `s`'s partial sums of `c`'s rows;
* send cell `j` of the last exchange: `c`'s own copy to the device `j` places on; the share of `c`'s result rows comes back;
* receive cell `s` of the last exchange: `s`'s copy; the result rows of `s` come, finished.
-/
module

public import proofs.«01_k».proof.Proof.Values

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F] [Named F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's own semaphores: eight for the keys, eight for the values, 32 each for the two exchanges' sends and receives. -/
abbrev OK : Type := Fin 8 ⊕ Fin 8 ⊕ Dev nD ⊕ Dev nD ⊕ Fin 32 ⊕ Dev nD
/-- All semaphores of the protocol: the barrier and those. -/
abbrev CK : Type := Unit ⊕ OK

abbrev oK (h : Fin 8) : OK := .inl h
abbrev oV (h : Fin 8) : OK := .inr (.inl h)
abbrev oS (t : Dev nD) : OK := .inr (.inr (.inl t))
abbrev oR (s : Dev nD) : OK := .inr (.inr (.inr (.inl s)))
abbrev oA (j : Fin 32) : OK := .inr (.inr (.inr (.inr (.inl j))))
abbrev oG (s : Dev nD) : OK := .inr (.inr (.inr (.inr (.inr s))))

abbrev kB : CK := .inl ()
abbrev kK (h : Fin 8) : CK := .inr (oK h)
abbrev kV (h : Fin 8) : CK := .inr (oV h)
abbrev kS (t : Dev nD) : CK := .inr (oS t)
abbrev kR (s : Dev nD) : CK := .inr (oR s)
abbrev kA (j : Fin 32) : CK := .inr (oA j)
abbrev kG (s : Dev nD) : CK := .inr (oG s)

/-- The number of an own semaphore among the device's. -/
def onum : OK → ℕ
  | .inl h => 4 + h.val
  | .inr (.inl h) => 12 + h.val
  | .inr (.inr (.inl t)) => 20 + t.val
  | .inr (.inr (.inr (.inl s))) => 52 + s.val
  | .inr (.inr (.inr (.inr (.inl j)))) => 84 + j.val
  | .inr (.inr (.inr (.inr (.inr s)))) => 116 + s.val

theorem onum_lt (k : OK) : onum k < 148 := by
  rcases k with h | h | h | h | h | h <;> have := h.isLt <;> simp only [onum, nD] at * <;> omega
theorem onum_ge (k : OK) : 4 ≤ onum k := by
  rcases k with h | h | t | s | j | s <;> simp only [onum] <;> omega
theorem onum_inj {k k' : OK} (h : onum k = onum k') : k = k' := by
  rcases k with a | a | a | a | a | a <;> rcases k' with b | b | b | b | b | b <;>
    (have h1 := a.isLt; have h2 := b.isLt; simp only [onum, nD] at *) <;>
    first
      | (exfalso; omega)
      | (have : a = b := Fin.ext (by omega); subst this; rfl)

/-- The barrier semaphore, shared with every other kernel of the same id. -/
abbrev barS : Sem sig := (SemArray.scalar (sig.barrier 0 rfl) : Sems sig S_).sem

set_option backward.proofsInPublic true in
abbrev osem (k : OK) : SemLoc sig := .dma (⟨onum k, onum_lt k⟩ : Fin 148)
abbrev csem : CK → SemLoc sig
  | .inl _ => .reg barS
  | .inr k => osem k
abbrev cell (c : Dev nD) (k : CK) : GSem nD τ sig := ((c : Thread nD τ), csem k)

theorem osem_inj : Function.Injective osem := fun k k' h => by
  apply onum_inj
  have h1 : (⟨onum k, onum_lt k⟩ : Fin 148) = ⟨onum k', onum_lt k'⟩ := SemLoc.dma.inj h
  exact congrArg Fin.val h1
theorem csem_inj : Function.Injective csem := fun k k' h => by
  rcases k with u | k <;> rcases k' with u' | k'
  · rfl
  · cases h
  · cases h
  · rw [osem_inj h]

theorem cell_eq {c c' : Dev nD} {k k' : CK} : cell c k = cell c' k' ↔ c = c' ∧ k = k' := by
  constructor
  · intro h
    exact ⟨congrArg (fun g : GSem nD τ sig => g.1.1) h, csem_inj (congrArg Prod.snd h)⟩
  · rintro ⟨rfl, rfl⟩; rfl

/-- Which semaphore of the protocol a location is. -/
def decode (sm : SemLoc sig) : Option CK := Function.partialInv csem sm
theorem decode_csem (k : CK) : decode (csem k) = some k := Function.partialInv_left csem_inj k
theorem decode_stage (q : Fin 148) (hq : q.val < 4) : decode (.dma q) = none := by
  unfold decode Function.partialInv
  rw [dif_neg]
  rintro ⟨k, hk⟩
  rcases k with u | k
  · cases hk
  · have h1 : (⟨onum k, onum_lt k⟩ : Fin 148) = q := SemLoc.dma.inj hk
    have := onum_ge k
    have := congrArg Fin.val h1
    simp only at this
    omega

/-! ## Pieces of the buffers -/

abbrev fullS : PosShare TreeShare := fullShare

/-- Receive slot `s` of device `d`, holding `f`. -/
def rsPts (d s : Dev nD) (f : Buf (Elt F) ((rsM s).view.loc (d : Thread nD τ))) : sProp 𝕄 :=
  (rsM s).view.loc (d : Thread nD τ) ↦[(rsM s).view.set]{fullShare} f
/-- Result rows `32 s …` of device `d`, the share `q` of them, holding `f`. -/
def outPts (d s : Dev nD) (q : PosShare TreeShare) (f : Buf (Elt F) ((outM s).view.loc (d : Thread nD τ))) : sProp 𝕄 :=
  (outM s).view.loc (d : Thread nD τ) ↦[(outM s).view.set]{q} f
/-- Rows `32 t …` of device `d`'s partial sums, holding `f`. -/
def partPts (d t : Dev nD) (f : Buf (Elt F) ((partM t).view.loc (d : Thread nD τ))) : sProp 𝕄 :=
  (partM t).view.loc (d : Thread nD τ) ↦[(partM t).view.set]{fullShare} f
/-- Head `h` of device `d`'s key buffer; of its value buffer; head `8 d + h` of its keys, its values in main memory. -/
def kPts (d : Dev nD) (h : Fin 8) (f : Buf (Elt F) ((kM h).view.loc (d : Thread nD τ))) : sProp 𝕄 :=
  (kM h).view.loc (d : Thread nD τ) ↦[(kM h).view.set]{fullShare} f
def vPts (d : Dev nD) (h : Fin 8) (f : Buf (Elt F) ((vM h).view.loc (d : Thread nD τ))) : sProp 𝕄 :=
  (vM h).view.loc (d : Thread nD τ) ↦[(vM h).view.set]{fullShare} f
def kExtPts (d : Dev nD) (h : Fin 8) (f : Buf (Elt F) ((kExtM d h).view.loc (d : Thread nD τ))) : sProp 𝕄 :=
  (kExtM d h).view.loc (d : Thread nD τ) ↦[(kExtM d h).view.set]{fullShare} f
def vExtPts (d : Dev nD) (h : Fin 8) (f : Buf (Elt F) ((vExtM d h).view.loc (d : Thread nD τ))) : sProp 𝕄 :=
  (vExtM d h).view.loc (d : Thread nD τ) ↦[(vExtM d h).view.set]{fullShare} f

/-- The share of its own result rows that device `c` lends the copy to device `d`. -/
def lend (c d : Dev nD) : PosShare TreeShare := Transfers.dealOf fullShare (Finset.univ.erase c) d

/-! ## The schedule -/

/-- Bytes that a copy of 32 rows of 1024, and of a head of 1024 × 128, credits. -/
abbrev NR : ℕ := (rsM 0).view.dmaCredit
abbrev NK : ℕ := (kM 0).view.dmaCredit
theorem NR_pos : 0 < NR := View.dmaCredit_pos _ (by decide)
theorem NK_pos : 0 < NK := View.dmaCredit_pos _ (by decide)

/-- Who pays a cell of device `c`. -/
def payers (c : Dev nD) : CK → Finset (Dev nD)
  | .inl _ => Finset.univ.erase c
  | .inr (.inl _) => {c}
  | .inr (.inr (.inl _)) => {c}
  | .inr (.inr (.inr (.inl t))) => if t = c then ∅ else {c}
  | .inr (.inr (.inr (.inr (.inl s)))) => if s = c then ∅ else {s}
  | .inr (.inr (.inr (.inr (.inr (.inl j))))) => if j.val = 0 then ∅ else {c}
  | .inr (.inr (.inr (.inr (.inr (.inr s))))) => if s = c then ∅ else {s}

/-- How much each pays. -/
def price : CK → ℕ
  | .inl _ => 1
  | .inr (.inl _) => NK
  | .inr (.inr (.inl _)) => NK
  | .inr (.inr (.inr _)) => NR

/-- What payer `d` hands over on a cell of device `c`. -/
def pay (c : Dev nD) (k : CK) (d : Dev nD) : sProp 𝕄 :=
  match k with
  | .inl _ => iprop((∃ f, rsPts d c f) ∗ (∃ f, outPts d c fullShare f))
  | .inr (.inl h) => iprop(kPts c h (KB m c) ∗ kExtPts c h (kx m c))
  | .inr (.inr (.inl h)) => iprop(vPts c h (VB m c) ∗ vExtPts c h (vx m c))
  | .inr (.inr (.inr (.inl t))) => partPts c t (PART m c)
  | .inr (.inr (.inr (.inr (.inl s)))) => rsPts c s (RSALL m c)
  | .inr (.inr (.inr (.inr (.inr (.inl j))))) => outPts c c (lend c (nx c j.val)) (OUTALL m)
  | .inr (.inr (.inr (.inr (.inr (.inr s))))) => outPts c s fullShare (OUTALL m)

instance rsPts_storable (d s f) : BI.Storable (upEmb : UEmb _ 𝕄) (rsPts (F := F) d s f) := by unfold rsPts; infer_instance
instance outPts_storable (d s q f) : BI.Storable (upEmb : UEmb _ 𝕄) (outPts (F := F) d s q f) := by unfold outPts; infer_instance
instance partPts_storable (d t f) : BI.Storable (upEmb : UEmb _ 𝕄) (partPts (F := F) d t f) := by unfold partPts; infer_instance
instance kPts_storable (d h f) : BI.Storable (upEmb : UEmb _ 𝕄) (kPts (F := F) d h f) := by unfold kPts; infer_instance
instance vPts_storable (d h f) : BI.Storable (upEmb : UEmb _ 𝕄) (vPts (F := F) d h f) := by unfold vPts; infer_instance
instance kExtPts_storable (d h f) : BI.Storable (upEmb : UEmb _ 𝕄) (kExtPts (F := F) d h f) := by unfold kExtPts; infer_instance
instance vExtPts_storable (d h f) : BI.Storable (upEmb : UEmb _ 𝕄) (vExtPts (F := F) d h f) := by unfold vExtPts; infer_instance

instance pay_storable (c : Dev nD) (k : CK) (d : Dev nD) : BI.Storable (upEmb : UEmb _ 𝕄) (pay m c k d) := by
  rcases k with u | h | h | t | s | j | s
  · show BI.Storable upEmb iprop((∃ f, rsPts d c f) ∗ (∃ f, outPts d c fullShare f)); infer_instance
  · show BI.Storable upEmb iprop(kPts c h (KB m c) ∗ kExtPts c h (kx m c)); infer_instance
  · show BI.Storable upEmb iprop(vPts c h (VB m c) ∗ vExtPts c h (vx m c)); infer_instance
  · show BI.Storable upEmb (partPts c t (PART m c)); infer_instance
  · show BI.Storable upEmb (rsPts c s (RSALL m c)); infer_instance
  · show BI.Storable upEmb (outPts c c (lend c (nx c j.val)) (OUTALL m)); infer_instance
  · show BI.Storable upEmb (outPts c s fullShare (OUTALL m)); infer_instance

theorem price_pos (k : CK) : 0 < price k := by
  rcases k with u | h | h | t <;> unfold price
  · exact Nat.one_pos
  · exact NK_pos
  · exact NK_pos
  · exact NR_pos

/-- The schedule: one round. -/
def Rd : Rounds.Schedule (GSem nD τ sig) (Dev nD) 𝕄 where
  duties g r := if r = 0 ∧ g.1.2 = .tc then (match decode g.2 with | some k => payers g.1.1 k | none => ∅) else ∅
  unitless _ := False
  amount g _ _ := match decode g.2 with | some k => price k | none => 1
  payload g _ d := match decode g.2 with | some k => pay m g.1.1 k d | none => iprop(emp)
  amount_pos g _ _ _ := by
    cases decode g.2 with
    | none => exact Nat.one_pos
    | some k => exact price_pos k

instance Rd_storable (g : GSem nD τ sig) (r : ℕ) (d : Dev nD) :
    BI.Storable (upEmb : UEmb _ 𝕄) ((Rd (F := F) m).payload g r d) := by
  show BI.Storable upEmb (match decode g.2 with | some k => pay m g.1.1 k d | none => iprop(emp))
  cases decode g.2 <;> infer_instance

theorem duties_cell (c : Dev nD) (k : CK) : (Rd (F := F) m).duties (cell c k) 0 = payers c k := by
  show (if (0 : ℕ) = 0 ∧ (cell c k).1.2 = .tc then (match decode (csem k) with | some k => payers c k | none => ∅) else ∅) = _
  rw [if_pos ⟨rfl, rfl⟩, decode_csem]
theorem duties_later (g : GSem nD τ sig) : ∀ r, 1 ≤ r → (Rd (F := F) m).duties g r = ∅ := fun r hr => by
  dsimp only [Rd]; rw [if_neg fun h => by omega]
theorem amount_cell (c : Dev nD) (k : CK) (d : Dev nD) : (Rd (F := F) m).amount (cell c k) 0 d = price k := by
  show (match decode (csem k) with | some k => price k | none => 1) = _
  rw [decode_csem]
theorem payload_cell (c : Dev nD) (k : CK) (d : Dev nD) : (Rd (F := F) m).payload (cell c k) 0 d = pay m c k d := by
  show (match decode (csem k) with | some k => pay m c k d | none => iprop(emp)) = _
  rw [decode_csem]
theorem expect_cell (c : Dev nD) (k : CK) : (Rd (F := F) m).expect (cell c k) 0 = (payers c k).card * price k := by
  unfold Schedule.expect Schedule.amountOf
  rw [duties_cell, Finset.sum_congr rfl fun d _ => amount_cell m c k d, Finset.sum_const, smul_eq_mul]
theorem rest_cell (c : Dev nD) (k : CK) :
    bigSep ((Rd (F := F) m).duties (cell c k) 0 \ ∅) (fun d => (Rd (F := F) m).payload (cell c k) 0 d)
      = bigSep (payers c k) (fun d => pay m c k d) := by
  rw [Finset.sdiff_empty, duties_cell]
  exact bigSep_congr fun d _ => payload_cell m c k d

theorem payers_S {c t : Dev nD} (h : t ≠ c) : payers c (kS t) = {c} := if_neg h
theorem payers_R {c s : Dev nD} (h : s ≠ c) : payers c (kR s) = {s} := if_neg h
theorem payers_A (c : Dev nD) {j : Fin 32} (h : 0 < j.val) : payers c (kA j) = {c} := if_neg (by omega)
theorem payers_G {c s : Dev nD} (h : s ≠ c) : payers c (kG s) = {s} := if_neg h

/-! ## What a device owes -/

/-- Device `c` still owes: the barrier units of `B`, the partial sums of `R`, the result rows of `A`. -/
def Ow (c : Dev nD) (B R A : Finset (Dev nD)) : CellTallies nD τ sig Unit :=
  (∑ d ∈ B, tallyAt (cell d kB) () 1) + (∑ d ∈ R, tallyAt (cell d (kR c)) () NR) + ∑ d ∈ A, tallyAt (cell d (kG c)) () NR

theorem Ow_nil (c : Dev nD) : Ow c ∅ ∅ ∅ = 0 := by
  unfold Ow; rw [Finset.sum_empty, Finset.sum_empty, Finset.sum_empty, add_zero, add_zero]
theorem Ow_B (c : Dev nD) {B R A : Finset (Dev nD)} {d : Dev nD} (h : d ∉ B) :
    Ow c (insert d B) R A = Ow c B R A + tallyAt (cell d kB) () 1 := by
  unfold Ow; rw [Finset.sum_insert h]; abel
theorem Ow_R (c : Dev nD) {B R A : Finset (Dev nD)} {d : Dev nD} (h : d ∉ R) :
    Ow c B (insert d R) A = Ow c B R A + tallyAt (cell d (kR c)) () NR := by
  unfold Ow; rw [Finset.sum_insert h]; abel
theorem Ow_A (c : Dev nD) {B R A : Finset (Dev nD)} {d : Dev nD} (h : d ∉ A) :
    Ow c B R (insert d A) = Ow c B R A + tallyAt (cell d (kG c)) () NR := by
  unfold Ow; rw [Finset.sum_insert h]; abel

theorem sum_tally_apply (S : Finset (Dev nD)) (f : Dev nD → GSem nD τ sig) (n : ℕ) (g : GSem nD τ sig) (u : Unit) :
    (∑ d ∈ S, (tallyAt (f d) () n : CellTallies nD τ sig Unit)) g u = ∑ d ∈ S, (tallyAt (f d) () n : CellTallies nD τ sig Unit) g u := by
  rw [Finset.sum_apply, Finsupp.finsetSum_apply]

theorem sum_tally_pos {S : Finset (Dev nD)} {f : Dev nD → GSem nD τ sig} {n : ℕ} {g : GSem nD τ sig} {u : Unit}
    (h : 0 < (∑ d ∈ S, (tallyAt (f d) () n : CellTallies nD τ sig Unit)) g u) : ∃ d ∈ S, g = f d := by
  rw [sum_tally_apply] at h
  obtain ⟨d, hd, hp⟩ := Finset.exists_ne_zero_of_sum_ne_zero (Nat.pos_iff_ne_zero.mp h)
  refine ⟨d, hd, ?_⟩
  by_contra hn
  rw [tallyAt_apply, if_neg fun h' => hn h'.1] at hp
  exact hp rfl

theorem Ow_pos {c : Dev nD} {B R A : Finset (Dev nD)} {g : GSem nD τ sig} {u : Unit} (h : 0 < Ow c B R A g u) :
    (∃ d ∈ B, g = cell d kB) ∨ (∃ d ∈ R, g = cell d (kR c)) ∨ (∃ d ∈ A, g = cell d (kG c)) := by
  unfold Ow at h
  rw [Pi.add_apply, Finsupp.add_apply, Pi.add_apply, Finsupp.add_apply] at h
  rcases Nat.eq_zero_or_pos ((∑ d ∈ B, (tallyAt (cell d kB) () 1 : CellTallies nD τ sig Unit)) g u) with h1 | h1
  · rcases Nat.eq_zero_or_pos ((∑ d ∈ R, (tallyAt (cell d (kR c)) () NR : CellTallies nD τ sig Unit)) g u) with h2 | h2
    · rw [h1, h2, Nat.zero_add] at h
      exact Or.inr (Or.inr (sum_tally_pos h))
    · exact Or.inr (Or.inl (sum_tally_pos h2))
  · exact Or.inl (sum_tally_pos h1)

/-! ## The levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The height of a semaphore of the protocol: the barrier 1, the receives of the first exchange 2, of the last 3. -/
def height : CK → ℕ
  | .inl _ => 1
  | .inr (.inr (.inr (.inr (.inl _)))) => 2
  | .inr (.inr (.inr (.inr (.inr (.inr _))))) => 3
  | _ => 0
def hgt (sm : SemLoc sig) : ℕ := match decode sm with | some k => height k | none => 0
def lv (g : GSem nD τ sig) (_ : Unit) : ℕ := hgt g.2

theorem lv_cell (c : Dev nD) (k : CK) (u : Unit) : lv (cell c k) u = height k := by
  show (match decode (csem k) with | some k => height k | none => 0) = _
  rw [decode_csem]

/-- A wait is allowed while nothing at or below its semaphore's height is owed. -/
theorem mayWait (c : Dev nD) (sm : SemLoc sig) (B R A : Finset (Dev nD))
    (hB : B = ∅ ∨ hgt sm < 1) (hR : R = ∅ ∨ hgt sm < 2) (hA : A = ∅ ∨ hgt sm < 3) :
    (levAts L lv : sProp 𝕄) ⊢ MayWait (c : Thread nD τ) sm () (Ow c B R A) := by
  refine MayOwe.of_cut (L := L) (lev := lv) (hgt sm)
    (fun p hp => by rw [Finset.mem_singleton.mp hp, L_tc]; exact Finset.mem_singleton_self _)
    (fun g u hg => by rcases Ow_pos hg with ⟨d, _, rfl⟩ | ⟨d, _, rfl⟩ | ⟨d, _, rfl⟩ <;> exact Finset.mem_singleton_self _)
    (fun p hp => by rw [Finset.mem_singleton.mp hp]; exact le_refl _)
    (fun g u hg => by
      rcases Ow_pos hg with ⟨d, hd, rfl⟩ | ⟨d, hd, rfl⟩ | ⟨d, hd, rfl⟩
      · rw [lv_cell]; rcases hB with rfl | hB
        · cases hd
        · exact hB
      · rw [lv_cell]; rcases hR with rfl | hR
        · cases hd
        · exact hR
      · rw [lv_cell]; rcases hA with rfl | hA
        · cases hd
        · exact hA)

theorem hgt_csem (k : CK) : hgt (csem k) = height k := by unfold hgt; rw [decode_csem]
theorem hgt_stage (q : Fin 148) (hq : q.val < 4) : hgt (.dma q) = 0 := by unfold hgt; rw [decode_stage q hq]

end Cert.AttnProof

end
-- ==== Proof.Geometry.lean ====
/-
# Where the pieces lie, what lands in them, and how a buffer divides into them
-/
module

public import proofs.«01_k».proof.Proof.Protocol

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable (m : (ℓ : Loc nD τ sig) → Buf (Elt F) ℓ)

/-! ## Where an index of a piece lies in its buffer -/

theorem rs_emb (s : Dev nD) (x : S32x1024.Idx) : (rsM s).view.emb x = (ix3 s (x 0) (x 1) : S32x32x1024.Idx) := by
  show (Rect.unit (s := S32x32x1024) ![s.val, 0, 0] S1x32x1024.size (rs_inb s)).emb (Shape.reshapeEquiv _ x) = _
  rw [Shape.reshapeEquiv_cons_one (n := 2) (d := ![32, 1024])]
  funext a; apply Fin.ext
  match a with
  | ⟨0, _⟩ => show s.val + 1 * 0 = s.val; omega
  | ⟨1, _⟩ => show 0 + 1 * (x 0).val = (x 0).val; omega
  | ⟨2, _⟩ => show 0 + 1 * (x 1).val = (x 1).val; omega

theorem k_emb (h : Fin 8) (x : S1024x128.Idx) : (kM h).view.emb x = (ix3 h (x 0) (x 1) : S8x1024x128.Idx) := by
  show (Rect.unit (s := S8x1024x128) ![h.val, 0, 0] S1x1024x128.size (head_inb h)).emb (Shape.reshapeEquiv _ x) = _
  rw [Shape.reshapeEquiv_cons_one (n := 2) (d := ![1024, 128])]
  funext a; apply Fin.ext
  match a with
  | ⟨0, _⟩ => show h.val + 1 * 0 = h.val; omega
  | ⟨1, _⟩ => show 0 + 1 * (x 0).val = (x 0).val; omega
  | ⟨2, _⟩ => show 0 + 1 * (x 1).val = (x 1).val; omega

theorem v_emb (h : Fin 8) (x : S1024x128.Idx) : (vM h).view.emb x = (ix3 h (x 0) (x 1) : S8x1024x128.Idx) := k_emb h x

theorem row_val (t : Dev nD) (x : S32x1024.Idx) : 32 * t.val + (x 0).val < 1024 := by
  have h1 := t.isLt; have h2 : (x 0).val < 32 := (x 0).isLt; simp only [nD] at h1; omega

theorem part_emb (t : Dev nD) (x : S32x1024.Idx) :
    (partM t).view.emb x = (ix2 ⟨32 * t.val + (x 0).val, row_val t x⟩ (x 1) : S1024x1024.Idx) := by
  show (Rect.unit (s := S1024x1024) ![32 * t.val, 0] S32x1024.size (row_inb t)).emb x = _
  funext a; apply Fin.ext
  match a with
  | ⟨0, _⟩ => show 32 * t.val + 1 * (x 0).val = 32 * t.val + (x 0).val; omega
  | ⟨1, _⟩ => show 0 + 1 * (x 1).val = (x 1).val; omega

theorem out_emb (t : Dev nD) (x : S32x1024.Idx) :
    (outM t).view.emb x = (ix2 ⟨32 * t.val + (x 0).val, row_val t x⟩ (x 1) : S1024x1024.Idx) := part_emb t x

/-! ## Which indices a piece has -/

theorem mem_rs {s : Dev nD} {i : S32x32x1024.Idx} : i ∈ (rsM s).view.set ↔ (i 0).val = s.val := by
  have e : (rsM s).view.set = (Rect.unit (s := S32x32x1024) ![s.val, 0, 0] S1x32x1024.size (rs_inb s)).set :=
    (View.set_reshape _ _).trans (View.set_slice_whole _ _)
  rw [e, Rect.mem_set_unit]
  constructor
  · intro h; have h0 : s.val ≤ (i 0).val ∧ (i 0).val < s.val + 1 := h 0; omega
  · intro h a
    match a with
    | ⟨0, _⟩ => show s.val ≤ (i 0).val ∧ (i 0).val < s.val + 1; omega
    | ⟨1, _⟩ => have : (i 1).val < 32 := (i 1).isLt; show 0 ≤ (i 1).val ∧ (i 1).val < 0 + 32; omega
    | ⟨2, _⟩ => have : (i 2).val < 1024 := (i 2).isLt; show 0 ≤ (i 2).val ∧ (i 2).val < 0 + 1024; omega

theorem mem_k {h : Fin 8} {i : S8x1024x128.Idx} : i ∈ (kM h).view.set ↔ (i 0).val = h.val := by
  have e : (kM h).view.set = (Rect.unit (s := S8x1024x128) ![h.val, 0, 0] S1x1024x128.size (head_inb h)).set :=
    (View.set_reshape _ _).trans (View.set_slice_whole _ _)
  rw [e, Rect.mem_set_unit]
  constructor
  · intro h'; have h0 : h.val ≤ (i 0).val ∧ (i 0).val < h.val + 1 := h' 0; omega
  · intro h' a
    match a with
    | ⟨0, _⟩ => show h.val ≤ (i 0).val ∧ (i 0).val < h.val + 1; omega
    | ⟨1, _⟩ => have : (i 1).val < 1024 := (i 1).isLt; show 0 ≤ (i 1).val ∧ (i 1).val < 0 + 1024; omega
    | ⟨2, _⟩ => have : (i 2).val < 128 := (i 2).isLt; show 0 ≤ (i 2).val ∧ (i 2).val < 0 + 128; omega

theorem mem_v {h : Fin 8} {i : S8x1024x128.Idx} : i ∈ (vM h).view.set ↔ (i 0).val = h.val := by
  have e : (vM h).view.set = (Rect.unit (s := S8x1024x128) ![h.val, 0, 0] S1x1024x128.size (head_inb h)).set :=
    (View.set_reshape _ _).trans (View.set_slice_whole _ _)
  have e' : (kM h).view.set = (Rect.unit (s := S8x1024x128) ![h.val, 0, 0] S1x1024x128.size (head_inb h)).set :=
    (View.set_reshape _ _).trans (View.set_slice_whole _ _)
  rw [e, ← e']; exact mem_k

theorem mem_rows {t : Dev nD} {i : S1024x1024.Idx} :
    i ∈ (Rect.unit (s := S1024x1024) ![32 * t.val, 0] S32x1024.size (row_inb t)).set ↔ (i 0).val / 32 = t.val := by
  rw [Rect.mem_set_unit]
  constructor
  · intro h; have h0 : 32 * t.val ≤ (i 0).val ∧ (i 0).val < 32 * t.val + 32 := h 0; omega
  · intro h a
    match a with
    | ⟨0, _⟩ => show 32 * t.val ≤ (i 0).val ∧ (i 0).val < 32 * t.val + 32; omega
    | ⟨1, _⟩ => have : (i 1).val < 1024 := (i 1).isLt; show 0 ≤ (i 1).val ∧ (i 1).val < 0 + 1024; omega

theorem mem_part {t : Dev nD} {i : S1024x1024.Idx} : i ∈ (partM t).view.set ↔ (i 0).val / 32 = t.val := by
  have e : (partM t).view.set = (Rect.unit (s := S1024x1024) ![32 * t.val, 0] S32x1024.size (row_inb t)).set := View.set_slice_whole _ _
  rw [e]; exact mem_rows
theorem mem_out {t : Dev nD} {i : S1024x1024.Idx} : i ∈ (outM t).view.set ↔ (i 0).val / 32 = t.val := by
  have e : (outM t).view.set = (Rect.unit (s := S1024x1024) ![32 * t.val, 0] S32x1024.size (row_inb t)).set := View.set_slice_whole _ _
  rw [e]; exact mem_rows

theorem ext_mem {c : Dev nD} {h : Fin 8} {i : S1x1024x256x128.Idx} :
    i ∈ (Rect.unit (s := S1x1024x256x128) ![0, 0, 8 * c.val + h.val, 0] S1x1024x1x128.size (ext_inb c h)).set ↔ (i 2).val = 8 * c.val + h.val := by
  rw [Rect.mem_set_unit]
  constructor
  · intro h'; have h0 : 8 * c.val + h.val ≤ (i 2).val ∧ (i 2).val < 8 * c.val + h.val + 1 := h' 2; omega
  · intro h' a
    match a with
    | ⟨0, _⟩ => have : (i 0).val < 1 := (i 0).isLt; show 0 ≤ (i 0).val ∧ (i 0).val < 0 + 1; omega
    | ⟨1, _⟩ => have : (i 1).val < 1024 := (i 1).isLt; show 0 ≤ (i 1).val ∧ (i 1).val < 0 + 1024; omega
    | ⟨2, _⟩ => show 8 * c.val + h.val ≤ (i 2).val ∧ (i 2).val < 8 * c.val + h.val + 1; omega
    | ⟨3, _⟩ => have : (i 3).val < 128 := (i 3).isLt; show 0 ≤ (i 3).val ∧ (i 3).val < 0 + 128; omega
theorem mem_kExt {c : Dev nD} {h : Fin 8} {i : S1x1024x256x128.Idx} : i ∈ (kExtM c h).view.set ↔ (i 2).val = 8 * c.val + h.val := by
  have e : (kExtM c h).view.set = (Rect.unit (s := S1x1024x256x128) ![0, 0, 8 * c.val + h.val, 0] S1x1024x1x128.size (ext_inb c h)).set :=
    (View.set_reshape _ _).trans (View.set_slice_whole _ _)
  rw [e]; exact ext_mem
theorem mem_vExt {c : Dev nD} {h : Fin 8} {i : S1x1024x256x128.Idx} : i ∈ (vExtM c h).view.set ↔ (i 2).val = 8 * c.val + h.val := by
  have e : (vExtM c h).view.set = (Rect.unit (s := S1x1024x256x128) ![0, 0, 8 * c.val + h.val, 0] S1x1024x1x128.size (ext_inb c h)).set :=
    (View.set_reshape _ _).trans (View.set_slice_whole _ _)
  rw [e]; exact ext_mem

/-! ## What lands -/

/-- A write through a view of what `G` has at the view's places leaves `G` there. -/
theorem write_eq_of {κ : Kind} {sp : Space} {s : Shape} {e : EltTy} (v : View sig κ sp s e) (f G : v.ty.Contents (Elt F))
    (w : s.Idx → Elt F e) (h : ∀ x, G (v.emb x) = _root_.cast (congrArg (Elt F) v.elt_eq.symm) (w x)) :
    ∀ i ∈ v.set, v.write (Elt F) f w Finset.univ i = G i := by
  intro i hi
  obtain ⟨x, -, rfl⟩ := Finset.mem_map.mp hi
  rw [View.write_emb_of_mem _ _ (Finset.mem_univ x)]
  exact (h x).symm

theorem land_rs (c t : Dev nD) (fd : (cc0_scratch6 : Ref sig .tc).ty.Contents (Elt F)) :
    ∀ i ∈ (rsM c).view.set, (rsM c).view.write (Elt F) fd ((partM t).view.read (Elt F) (PART m c)) Finset.univ i = RSALL m t i := by
  refine write_eq_of (rsM c).view fd (RSALL m t) _ fun x => ?_
  show RSALL m t ((rsM c).view.emb x) = (partM t).view.read (Elt F) (PART m c) x
  rw [rs_emb]
  exact congrArg ((partM t).view.read (Elt F) (PART m c)) (ValueIdx.eq_ix2 x).symm

theorem land_k (c : Dev nD) (h : Fin 8) (fd : (cc0_scratch0 : Ref sig .tc).ty.Contents (Elt F)) :
    ∀ i ∈ (kM h).view.set, (kM h).view.write (Elt F) fd ((kExtM c h).view.read (Elt F) (kx m c)) Finset.univ i = KB m c i := by
  refine write_eq_of (kM h).view fd (KB m c) _ fun x => ?_
  show KB m c ((kM h).view.emb x) = (kExtM c h).view.read (Elt F) (kx m c) x
  rw [k_emb]
  exact congrArg ((kExtM c h).view.read (Elt F) (kx m c)) (ValueIdx.eq_ix2 x).symm
theorem land_v (c : Dev nD) (h : Fin 8) (fd : (cc0_scratch1 : Ref sig .tc).ty.Contents (Elt F)) :
    ∀ i ∈ (vM h).view.set, (vM h).view.write (Elt F) fd ((vExtM c h).view.read (Elt F) (vx m c)) Finset.univ i = VB m c i := by
  refine write_eq_of (vM h).view fd (VB m c) _ fun x => ?_
  show VB m c ((vM h).view.emb x) = (vExtM c h).view.read (Elt F) (vx m c) x
  rw [v_emb]
  exact congrArg ((vExtM c h).view.read (Elt F) (vx m c)) (ValueIdx.eq_ix2 x).symm

theorem land_out (s : Dev nD) (fd G : (cc0_stg3_0 : Ref sig .tc).ty.Contents (Elt F)) :
    ∀ i ∈ (outM s).view.set, (outM s).view.write (Elt F) fd ((outM s).view.read (Elt F) G) Finset.univ i = G i :=
  write_eq_of (outM s).view fd G _ fun x => rfl

/-! ## A buffer and its pieces -/

theorem rs_univ : (Finset.univ : Finset (Dev nD)).biUnion (fun s => (rsM s).view.set) = (Finset.univ : Finset S32x32x1024.Idx) := by
  apply Finset.eq_univ_of_forall
  intro i
  exact Finset.mem_biUnion.mpr ⟨(i 0 : Fin 32), Finset.mem_univ _, mem_rs.mpr rfl⟩
theorem row_lt (i : S1024x1024.Idx) : (i 0).val / 32 < nD := by
  have : (i 0).val < 1024 := (i 0).isLt; simp only [nD]; omega
theorem part_univ : (Finset.univ : Finset (Dev nD)).biUnion (fun t => (partM t).view.set) = (Finset.univ : Finset S1024x1024.Idx) := by
  apply Finset.eq_univ_of_forall
  intro i
  exact Finset.mem_biUnion.mpr ⟨⟨(i 0).val / 32, row_lt i⟩, Finset.mem_univ _, mem_part.mpr rfl⟩
theorem out_univ : (Finset.univ : Finset (Dev nD)).biUnion (fun t => (outM t).view.set) = (Finset.univ : Finset S1024x1024.Idx) := by
  apply Finset.eq_univ_of_forall
  intro i
  exact Finset.mem_biUnion.mpr ⟨⟨(i 0).val / 32, row_lt i⟩, Finset.mem_univ _, mem_out.mpr rfl⟩
theorem k_univ : (Finset.univ : Finset (Fin 8)).biUnion (fun h => (kM h).view.set) = (Finset.univ : Finset S8x1024x128.Idx) := by
  apply Finset.eq_univ_of_forall
  intro i
  exact Finset.mem_biUnion.mpr ⟨(i 0 : Fin 8), Finset.mem_univ _, mem_k.mpr rfl⟩
theorem v_univ : (Finset.univ : Finset (Fin 8)).biUnion (fun h => (vM h).view.set) = (Finset.univ : Finset S8x1024x128.Idx) := by
  apply Finset.eq_univ_of_forall
  intro i
  exact Finset.mem_biUnion.mpr ⟨(i 0 : Fin 8), Finset.mem_univ _, mem_v.mpr rfl⟩

theorem rs_disj : ∀ s ∈ (Finset.univ : Finset (Dev nD)), ∀ s' ∈ (Finset.univ : Finset (Dev nD)), s ≠ s' →
    Disjoint (rsM s).view.set (rsM s').view.set := fun s _ s' _ h =>
  Finset.disjoint_left.mpr fun i h1 h2 => h (Fin.ext ((mem_rs.mp h1).symm.trans (mem_rs.mp h2)))
theorem part_disj : ∀ s ∈ (Finset.univ : Finset (Dev nD)), ∀ s' ∈ (Finset.univ : Finset (Dev nD)), s ≠ s' →
    Disjoint (partM s).view.set (partM s').view.set := fun s _ s' _ h =>
  Finset.disjoint_left.mpr fun i h1 h2 => h (Fin.ext ((mem_part.mp h1).symm.trans (mem_part.mp h2)))
theorem out_disj : ∀ s ∈ (Finset.univ : Finset (Dev nD)), ∀ s' ∈ (Finset.univ : Finset (Dev nD)), s ≠ s' →
    Disjoint (outM s).view.set (outM s').view.set := fun s _ s' _ h =>
  Finset.disjoint_left.mpr fun i h1 h2 => h (Fin.ext ((mem_out.mp h1).symm.trans (mem_out.mp h2)))
theorem k_disj : ∀ s ∈ (Finset.univ : Finset (Fin 8)), ∀ s' ∈ (Finset.univ : Finset (Fin 8)), s ≠ s' →
    Disjoint (kM s).view.set (kM s').view.set := fun s _ s' _ h =>
  Finset.disjoint_left.mpr fun i h1 h2 => h (Fin.ext ((mem_k.mp h1).symm.trans (mem_k.mp h2)))
theorem v_disj : ∀ s ∈ (Finset.univ : Finset (Fin 8)), ∀ s' ∈ (Finset.univ : Finset (Fin 8)), s ≠ s' →
    Disjoint (vM s).view.set (vM s').view.set := fun s _ s' _ h =>
  Finset.disjoint_left.mpr fun i h1 h2 => h (Fin.ext ((mem_v.mp h1).symm.trans (mem_v.mp h2)))
theorem kExt_disj (c : Dev nD) : ∀ s ∈ (Finset.univ : Finset (Fin 8)), ∀ s' ∈ (Finset.univ : Finset (Fin 8)), s ≠ s' →
    Disjoint (kExtM c s).view.set (kExtM c s').view.set := fun s _ s' _ h =>
  Finset.disjoint_left.mpr fun i h1 h2 => h (Fin.ext (by have := mem_kExt.mp h1; have := mem_kExt.mp h2; omega))
theorem vExt_disj (c : Dev nD) : ∀ s ∈ (Finset.univ : Finset (Fin 8)), ∀ s' ∈ (Finset.univ : Finset (Fin 8)), s ≠ s' →
    Disjoint (vExtM c s).view.set (vExtM c s').view.set := fun s _ s' _ h =>
  Finset.disjoint_left.mpr fun i h1 h2 => h (Fin.ext (by have := mem_vExt.mp h1; have := mem_vExt.mp h2; omega))

theorem rs_split (c : Dev nD) (f : Buf (Elt F) ((c : Thread nD τ).loc cc0_scratch6)) :
    (((c : Thread nD τ).loc cc0_scratch6) ↦{fullShare} f : sProp 𝕄) = bigSep Finset.univ fun s => rsPts c s f := by
  unfold rsPts; rw [← rs_univ]; exact pointsTo_biUnion _ _ rs_disj
theorem part_split (c : Dev nD) (f : Buf (Elt F) ((c : Thread nD τ).loc cc0_scratch4)) :
    (((c : Thread nD τ).loc cc0_scratch4) ↦{fullShare} f : sProp 𝕄) = bigSep Finset.univ fun s => partPts c s f := by
  unfold partPts; rw [← part_univ]; exact pointsTo_biUnion _ _ part_disj
theorem out_split (c : Dev nD) (f : Buf (Elt F) ((c : Thread nD τ).loc cc0_stg3_0)) :
    (((c : Thread nD τ).loc cc0_stg3_0) ↦{fullShare} f : sProp 𝕄) = bigSep Finset.univ fun s => outPts c s fullShare f := by
  unfold outPts; rw [← out_univ]; exact pointsTo_biUnion _ _ out_disj
theorem k_split (c : Dev nD) (f : Buf (Elt F) ((c : Thread nD τ).loc cc0_scratch0)) :
    (((c : Thread nD τ).loc cc0_scratch0) ↦{fullShare} f : sProp 𝕄) = bigSep Finset.univ fun h => kPts c h f := by
  unfold kPts; rw [← k_univ]; exact pointsTo_biUnion _ _ k_disj
theorem v_split (c : Dev nD) (f : Buf (Elt F) ((c : Thread nD τ).loc cc0_scratch1)) :
    (((c : Thread nD τ).loc cc0_scratch1) ↦{fullShare} f : sProp 𝕄) = bigSep Finset.univ fun h => vPts c h f := by
  unfold vPts; rw [← v_univ]; exact pointsTo_biUnion _ _ v_disj

/-- A buffer divides into disjoint pieces and what is in none of them. -/
theorem split_pieces {T : Type} [Fintype T] [DecidableEq T] (ℓ : Loc nD τ sig) (K : T → Finset ℓ.ty.Idx)
    (h : ∀ t ∈ (Finset.univ : Finset T), ∀ t' ∈ (Finset.univ : Finset T), t ≠ t' → Disjoint (K t) (K t')) (f : Buf (Elt F) ℓ) :
    (ℓ ↦{fullShare} f : sProp 𝕄) ⊣⊢ iprop((bigSep Finset.univ fun t => ℓ ↦[K t]{fullShare} f) ∗ ℓ ↦[Finset.univ \ Finset.univ.biUnion K]{fullShare} f) := by
  rw [← pointsTo_biUnion _ _ h]
  exact pointsTo_split_subset (Finset.subset_univ _)

/-- The elements of `main_arg2` that are no head of device `c`; of `main_arg3` likewise. -/
def kExtRest (c : Dev nD) (f : Buf (Elt F) ((c : Thread nD τ).loc main_arg2)) : sProp 𝕄 :=
  ((c : Thread nD τ).loc main_arg2) ↦[Finset.univ \ (Finset.univ : Finset (Fin 8)).biUnion (fun h => (kExtM c h).view.set)]{fullShare} f
def vExtRest (c : Dev nD) (f : Buf (Elt F) ((c : Thread nD τ).loc main_arg3)) : sProp 𝕄 :=
  ((c : Thread nD τ).loc main_arg3) ↦[Finset.univ \ (Finset.univ : Finset (Fin 8)).biUnion (fun h => (vExtM c h).view.set)]{fullShare} f
theorem kExt_split (c : Dev nD) (f : Buf (Elt F) ((c : Thread nD τ).loc main_arg2)) :
    (((c : Thread nD τ).loc main_arg2) ↦{fullShare} f : sProp 𝕄) ⊣⊢ iprop((bigSep Finset.univ fun h => kExtPts c h f) ∗ kExtRest c f) :=
  split_pieces ((c : Thread nD τ).loc main_arg2) (fun h : Fin 8 => (kExtM c h).view.set) (kExt_disj c) f
theorem vExt_split (c : Dev nD) (f : Buf (Elt F) ((c : Thread nD τ).loc main_arg3)) :
    (((c : Thread nD τ).loc main_arg3) ↦{fullShare} f : sProp 𝕄) ⊣⊢ iprop((bigSep Finset.univ fun h => vExtPts c h f) ∗ vExtRest c f) :=
  split_pieces ((c : Thread nD τ).loc main_arg3) (fun h : Fin 8 => (vExtM c h).view.set) (vExt_disj c) f

/-- A device's own result rows, lent in shares to the 31 copies. -/
theorem out_deal (c : Dev nD) (f : Buf (Elt F) ((outM c).view.loc (c : Thread nD τ))) :
    (outPts c c fullShare f : sProp 𝕄) = bigSep (Finset.univ.erase c) fun d => outPts c c (lend c d) f := by
  unfold outPts lend
  exact Transfers.pointsTo_deal (Finset.univ.erase c) ⟨nx c 1, Finset.mem_erase.mpr ⟨nx_ne c (by decide) (by decide), Finset.mem_univ _⟩⟩ fullShare

/-! ## Progress through a set by rank -/

/-- The members of `S` of rank `n` or more. -/
def rest (rk : Dev nD → ℕ) (S : Finset (Dev nD)) (n : ℕ) : Finset (Dev nD) := S.filter fun d => n ≤ rk d

theorem rest_of_lt {rk : Dev nD → ℕ} {S : Finset (Dev nD)} {n : ℕ} (h : ∀ d ∈ S, n ≤ rk d) : rest rk S n = S :=
  Finset.filter_true_of_mem h
theorem rest_empty {rk : Dev nD → ℕ} {S : Finset (Dev nD)} {n : ℕ} (h : ∀ d, rk d < n) : rest rk S n = ∅ :=
  Finset.filter_false_of_mem fun d _ => by have := h d; omega
theorem rest_step {rk : Dev nD → ℕ} (inj : ∀ d e, rk d = rk e → d = e) {S : Finset (Dev nD)} {t : Dev nD} (ht : t ∈ S) :
    rest rk S (rk t) = insert t (rest rk S (rk t + 1)) := by
  ext d
  unfold rest
  rw [Finset.mem_insert, Finset.mem_filter, Finset.mem_filter]
  constructor
  · rintro ⟨h1, h2⟩
    by_cases h : rk d = rk t
    · exact Or.inl (inj d t h)
    · exact Or.inr ⟨h1, by omega⟩
  · rintro (rfl | ⟨h1, h2⟩)
    · exact ⟨ht, le_refl _⟩
    · exact ⟨h1, by omega⟩
theorem rest_notMem {rk : Dev nD → ℕ} {S : Finset (Dev nD)} (t : Dev nD) : t ∉ rest rk S (rk t + 1) := fun h => by
  have := (Finset.mem_filter.mp h).2; omega
theorem rest_skip {rk : Dev nD → ℕ} (inj : ∀ d e, rk d = rk e → d = e) {S : Finset (Dev nD)} {t : Dev nD} (ht : t ∉ S) :
    rest rk S (rk t) = rest rk S (rk t + 1) := by
  ext d
  unfold rest
  rw [Finset.mem_filter, Finset.mem_filter]
  constructor
  · rintro ⟨h1, h2⟩
    refine ⟨h1, ?_⟩
    by_contra h
    have h3 : rk d = rk t := by omega
    rw [inj d t h3] at h1
    exact ht h1
  · rintro ⟨h1, h2⟩; exact ⟨h1, by omega⟩

/-- The other devices. -/
abbrev others (c : Dev nD) : Finset (Dev nD) := Finset.univ.erase c
theorem mem_others {c d : Dev nD} : d ∈ others c ↔ d ≠ c := by
  rw [Finset.mem_erase]; exact ⟨fun h => h.1, fun h => ⟨h, Finset.mem_univ _⟩⟩

/-- The others at ring distance `n` or more; -/
abbrev far (c : Dev nD) (n : ℕ) : Finset (Dev nD) := rest (dist c) (others c) n
/-- the others at place `n` or later in the order of the first exchange. -/
abbrev later (c : Dev nD) (n : ℕ) : Finset (Dev nD) := rest (pos c) (others c) n

theorem far_one (c : Dev nD) : far c 1 = others c := rest_of_lt fun d hd => dist_pos (mem_others.mp hd)
theorem far_end (c : Dev nD) : far c 32 = ∅ := rest_empty fun d => dist_lt c d
theorem far_step (c : Dev nD) {j : ℕ} (h0 : 0 < j) (hj : j < 32) : far c j = insert (nx c j) (far c (j + 1)) := by
  have h := rest_step (rk := dist c) (fun _ _ => dist_inj c) (S := others c) (mem_others.mpr (nx_ne c h0 hj))
  rw [dist_nx c hj] at h; exact h
theorem far_notMem (c : Dev nD) {j : ℕ} (hj : j < 32) : nx c j ∉ far c (j + 1) := by
  have h := rest_notMem (rk := dist c) (S := others c) (nx c j)
  rw [dist_nx c hj] at h; exact h
theorem later_zero (c : Dev nD) : later c 0 = others c := rest_of_lt fun d _ => Nat.zero_le _
theorem later_end (c : Dev nD) : later c 32 = ∅ := rest_empty fun d => pos_lt c d
theorem later_step (c : Dev nD) {n : ℕ} (hn : n < 32) (h : ord c n ≠ c) : later c n = insert (ord c n) (later c (n + 1)) := by
  have h := rest_step (rk := pos c) (fun _ _ => pos_inj c) (S := others c) (mem_others.mpr h)
  rw [pos_ord c hn] at h; exact h
theorem later_notMem (c : Dev nD) {n : ℕ} (hn : n < 32) : ord c n ∉ later c (n + 1) := by
  have h := rest_notMem (rk := pos c) (S := others c) (ord c n)
  rw [pos_ord c hn] at h; exact h
theorem later_skip (c : Dev nD) {n : ℕ} (hn : n < 32) (h : ord c n = c) : later c n = later c (n + 1) := by
  have h := rest_skip (rk := pos c) (fun _ _ => pos_inj c) (S := others c) (t := ord c n) (fun h' => mem_others.mp h' h)
  rw [pos_ord c hn] at h; exact h

end Cert.AttnProof

end
-- ==== Proof.Steps.lean ====
/-
# One rule per kind of effect of the kernel

Each rule says: from a state, the program that begins with the effect is safe, if from the state after it its
continuation is. The states are written with a frame `R`, everything the effect leaves alone.
-/
module

public import proofs.«01_k».proof.Proof.Geometry

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

/-- The assertions of the proof. -/
abbrev SP (F : FTy → Type) [FloatOps F] : Type _ := sProp (MT nD τ sig Unit (Elt F) ℕ UU ℕ)

variable (m : (ℓ : Loc nD τ sig) → Buf (Elt F) ℓ)

/-! ## Families in progress -/

/-- A family over `S` whose members of rank below `n` are at `A` already and the others still at `B`. -/
def fam {T : Type} (S : Finset T) (rk : T → ℕ) (A B : T → sProp 𝕄) (n : ℕ) : sProp 𝕄 :=
  bigSep S fun d => if rk d < n then A d else B d

theorem fam_start {T : Type} (S : Finset T) (rk : T → ℕ) (A B : T → sProp 𝕄) (n : ℕ) (h : ∀ d ∈ S, n ≤ rk d) : fam S rk A B n = bigSep S B :=
  bigSep_congr fun d hd => if_neg (by have := h d hd; omega)
theorem fam_end {T : Type} (S : Finset T) (rk : T → ℕ) (A B : T → sProp 𝕄) (n : ℕ) (h : ∀ d ∈ S, rk d < n) : fam S rk A B n = bigSep S A :=
  bigSep_congr fun d hd => if_pos (h d hd)

/-- One member of a family apart. -/
theorem bigSep_out {T : Type} [DecidableEq T] {S : Finset T} {t : T} (h : t ∈ S) {Φ : T → sProp 𝕄} :
    bigSep S Φ = iprop(Φ t ∗ bigSep (S.erase t) Φ) := bigSep_erase h

/-- One member of a family alone. -/
theorem bigSep_get {T : Type} [DecidableEq T] {S : Finset T} (t : T) (h : t ∈ S) (Φ : T → sProp 𝕄) : (bigSep S Φ : sProp 𝕄) ⊢ Φ t := bigSep_elim h

/-- The member of rank `n` comes out at `B`; put back at `A`, the family is at `n + 1`. -/
theorem fam_step {T : Type} [DecidableEq T] (S : Finset T) (rk : T → ℕ) (A B : T → sProp 𝕄) {n : ℕ} {t : T} (ht : t ∈ S) (hn : rk t = n)
    (inj : ∀ d ∈ S, rk d = rk t → d = t) : fam S rk A B n ⊢ iprop(B t ∗ (A t -∗ fam S rk A B (n + 1))) := by
  subst hn
  unfold fam
  rw [bigSep_out ht, if_neg (Nat.lt_irrefl _), bigSep_out ht (Φ := fun d => if rk d < rk t + 1 then A d else B d), if_pos (Nat.lt_succ_self _),
    bigSep_congr (s := S.erase t) (Ψ := fun d => if rk d < rk t + 1 then A d else B d) fun d hd => by
      have h1 := Finset.mem_erase.mp hd
      have h2 : rk d ≠ rk t := fun h => h1.1 (inj d h1.2 h)
      by_cases h3 : rk d < rk t
      · rw [if_pos h3, if_pos (by omega)]
      · rw [if_neg h3, if_neg (by omega)]]
  iintro ⟨HB, HR⟩
  isplitl [HB]; · iexact HB
  iintro HA
  isplitl [HA] <;> iassumption

/-- At a rank that no member has the family stands still. -/
theorem fam_skip {T : Type} (S : Finset T) (rk : T → ℕ) (A B : T → sProp 𝕄) {n : ℕ} (h : ∀ d ∈ S, rk d ≠ n) :
    fam S rk A B n = fam S rk A B (n + 1) :=
  bigSep_congr fun d hd => by
    have := h d hd
    by_cases h3 : rk d < n
    · rw [if_pos h3, if_pos (by omega)]
    · rw [if_neg h3, if_neg (by omega)]

/-! ## The statements -/

instance : DecidableEq CK := @instDecidableEqSum Unit OK _ (inferInstance : DecidableEq OK)

/-- The invariants of all cells, under the names `K` the launch allocated them at, and that all cells are at round 0. -/
def records (K : Dev nD × CK → ℕ) : sProp 𝕄 :=
  iprop((bigSep Finset.univ fun p : Dev nD × CK => cellInv ER (Rd m) (K p) (cell p.1 p.2))
    ∗ bigSep Finset.univ fun p : Dev nD × CK => reached ER (cell p.1 p.2) 0)
instance records_persistent (K : Dev nD × CK → ℕ) : BI.Persistent (records m K) := by unfold records; infer_instance

/-- The levels of all cells. -/
@[irreducible] def Levs : sProp 𝕄 := levAts L lv
instance Levs_persistent : BI.Persistent (Levs (F := F)) := by unfold Levs; infer_instance

/-- What every device knows throughout. -/
def Ctx (K : Dev nD × CK → ℕ) : sProp 𝕄 := iprop(records m K ∗ Levs)
instance Ctx_persistent (K : Dev nD × CK → ℕ) : BI.Persistent (Ctx m K) := by unfold Ctx; infer_instance

theorem Ctx_inv (K : Dev nD × CK → ℕ) (c : Dev nD) (k : CK) : Ctx m K ⊢ cellInv ER (Rd m) (K (c, k)) (cell c k) := by
  unfold Ctx records
  iintro ⟨⟨H, -⟩, -⟩
  iapply (bigSep_get (c, k) (Finset.mem_univ _) (fun p : Dev nD × CK => (cellInv ER (Rd m) (K p) (cell p.1 p.2) : sProp 𝕄))); iexact H
theorem Ctx_reached (K : Dev nD × CK → ℕ) (c : Dev nD) (k : CK) : Ctx m K ⊢ reached ER (cell c k) 0 := by
  unfold Ctx records
  iintro ⟨⟨-, H⟩, -⟩
  iapply (bigSep_get (c, k) (Finset.mem_univ _) (fun p : Dev nD × CK => (reached ER (cell p.1 p.2) 0 : sProp 𝕄))); iexact H
theorem Ctx_lev (K : Dev nD × CK → ℕ) : Ctx m K ⊢ Levs := by
  unfold Ctx; iintro ⟨-, H⟩; iexact H

abbrev 𝒱₀ : Variants := Variants.none

variable (K : Dev nD × CK → ℕ)

/-- From `P` the program `p` on device `c` is safe and ends in `Q`. -/
def Tri (c : Dev nD) {α : Type} (P : sProp 𝕄) (p : Prog (TpuEff nD τ sig (Elt F) Λ₀ .tc) α) (Q : α → sProp 𝕄) : Prop :=
  iprop(Ctx m K ∗ P) ⊢ wp frame (wpE (defs₀ (F := F)) 𝒱₀ (c : Thread nD τ) none) Set.univ p Q

section
variable {m K}
variable {c : Dev nD} {α : Type} {P P' A R : SP F} {Q : α → SP F}
variable {p : Prog (TpuEff nD τ sig (Elt F) Λ₀ .tc) α}

theorem Tri.pre (h : P ⊢ P') (H : Tri m K c P' p Q) : Tri m K c P p Q := (sep_mono_right h).trans H
theorem Tri.swap (H : Tri m K c iprop(A ∗ P ∗ R) p Q) : Tri m K c iprop(P ∗ A ∗ R) p Q := H.pre (by
  iintro ⟨HP, HA, HR⟩
  isplitl [HA]; · iexact HA
  isplitl [HP] <;> iassumption)
/-- An update before the program. -/
theorem Tri.upd (h : iprop(Ctx m K ∗ P) ⊢ iprop(|={Set.univ}=> P')) (H : Tri m K c P' p Q) : Tri m K c P p Q := by
  unfold Tri at H ⊢
  iintro ⟨#HC, HP⟩
  imod h $$ [HP] with HP
  · isplitr; · iexact HC
    iexact HP
  iapply H
  isplitr; · iexact HC
  iexact HP
end

/-! ## Debts -/

/-- Device `c` owes `O`, whatever it waited on so far. -/
def owesAny (c : Dev nD) (O : CellTallies nD τ sig Unit) : sProp 𝕄 := iprop(∃ W, owes (c : Thread nD τ) O W)

/-- A wait on a cell of the protocol is allowed while nothing at or below its height is owed. -/
theorem mayWait_cell (c : Dev nD) (k : CK) (B R A : Finset (Dev nD))
    (hB : B = ∅ ∨ height k < 1) (hR : R = ∅ ∨ height k < 2) (hA : A = ∅ ∨ height k < 3) :
    Levs (F := F) ⊢ MayWait (c : Thread nD τ) (csem k) () (Ow c B R A) := by
  unfold Levs
  rw [← hgt_csem] at hB hR hA
  exact mayWait c (csem k) B R A hB hR hA

theorem Ctx_mayWait (c : Dev nD) (k : CK) (B R A : Finset (Dev nD))
    (hB : B = ∅ ∨ height k < 1) (hR : R = ∅ ∨ height k < 2) (hA : A = ∅ ∨ height k < 3) :
    Ctx m K ⊢ MayWait (c : Thread nD τ) (csem k) () (Ow c B R A) := (Ctx_lev m K).trans (mayWait_cell c k B R A hB hR hA)

/-! ## The steps -/

section Steps
variable {m K}
variable {c : Dev nD} {α : Type} {R : SP F} {Q : α → SP F}

/-- What device `c` hands over with its signal to device `d`: the slot and the result rows that `d` is to fill. -/
def handed (c d : Dev nD) : sProp 𝕄 := iprop((∃ f, rsPts c d f) ∗ (∃ f, outPts c d fullShare f))

/-- The barrier signals, those to devices at distance below `n` sent. -/
def SigSt (c : Dev nD) (n : ℕ) : sProp 𝕄 :=
  iprop(owesAny c (Ow c (far c n) (others c) (others c))
    ∗ fam (others c) (dist c) (fun _ => iprop(emp)) (fun d => iprop(dutyTok ER (cell d kB) 0 c ∗ handed (F := F) c d)) n)

theorem pay_bar (d : Dev nD) : handed c d ⊢ pay m d kB c := by
  unfold handed
  exact BI.Entails.refl _

theorem sig_step (n : ℕ) (h0 : 0 < n) (hn : n < 32) {d : Dev nD} (hd : d = nx c n)
    {k : PUnit → Prog (TpuEff nD τ sig (Elt F) Λ₀ .tc) α}
    (h : Tri m K c iprop(SigSt c (n + 1) ∗ R) (k ⟨⟩) Q) :
    Tri m K c iprop(SigSt c n ∗ R) (.op (.semSignal (d, .tc) barS (1#32).toInt) k) Q := by
  subst hd
  unfold Tri SigSt owesAny at *
  iintro ⟨#HC, ⟨⟨%W, HO⟩, HF⟩, HR⟩
  ihave HF := (fam_step (others c) (dist c) _ _ (mem_others.mpr (nx_ne c h0 hn)) (dist_nx c hn) (fun d _ h => dist_inj c h)) $$ HF
  icases HF with ⟨⟨Htok, Hh⟩, Hclose⟩
  rw [far_step c h0 hn]
  ihave #HI := (Ctx_inv m K (nx c n) kB) $$ HC
  ihave #Hr := (Ctx_reached m K (nx c n) kB) $$ HC
  iapply (Rounds.wp_signal 𝒱₀ ER (Rd m) (c : Thread nD τ) none (dst := (nx c n : Thread nD τ)) (κ := K (nx c n, kB)) (r := 0)
      (d := c) ((duties_cell m (nx c n) kB).symm ▸ mem_others.mpr (nx_ne c h0 hn).symm) ((amount_cell m (nx c n) kB c).trans (by decide)) ()
      (Ow c (far c (n + 1)) (others c) (others c)) (Ow_B c (far_notMem c hn))) $$ [HO Htok Hh]
  · isplitr; · iexact HI
    isplitl [HO]; · iexact HO
    isplitl [Htok]; · iexact Htok
    isplitl [Hh]
    · iapply (Entails.of_eq (payload_cell m (nx c n) kB c).symm)
      iapply (pay_bar (nx c n)); iexact Hh
    iexact Hr
  iintro HO
  iapply h
  isplitr; · iexact HC
  isplitl [HO Hclose]
  · isplitl [HO]; · iexists W; iexact HO
    iapply Hclose; iempintro
  iexact HR

/-- A wait for the whole of a cell's round: the cell's counter comes back at zero, with all its payers' payloads. -/
theorem wait_step (k : CK) {B Rs A : Finset (Dev nD)} (hB : B = ∅ ∨ height k < 1) (hR : Rs = ∅ ∨ height k < 2) (hA : A = ∅ ∨ height k < 3)
    {w : TpuEff nD τ sig (Elt F) Λ₀ .tc PUnit} {k' : ℕ}
    (hw : ∀ K' : PUnit → sProp 𝕄, wpE (defs₀ (F := F)) 𝒱₀ (c : Thread nD τ) none Set.univ w K' = waitSpec (c : Thread nD τ) Set.univ (csem k) k' K')
    (hk : (payers c k).card * price k = k')
    {cont : PUnit → Prog (TpuEff nD τ sig (Elt F) Λ₀ .tc) α}
    (h : Tri m K c iprop((owesAny c (Ow c B Rs A) ∗ semVal (cell c k) 0 ∗ bigSep (payers c k) fun d => pay m c k d) ∗ R) (cont ⟨⟩) Q) :
    Tri m K c iprop((owesAny c (Ow c B Rs A) ∗ cred (tallyAt (cell c k) () k') ∗ atPos ER (cell c k) 0 ∅ 0) ∗ R) (.op w cont) Q := by
  have he : 0 + k' = (Rd (F := F) m).expect (cell c k) 0 := (Nat.zero_add k').trans (hk.symm.trans (expect_cell m c k).symm)
  unfold Tri owesAny at *
  iintro ⟨#HC, ⟨⟨%W, HO⟩, Hcr, Hat⟩, HR⟩
  ihave #HI := (Ctx_inv m K c k) $$ HC
  iapply (Rounds.wp_wait_rest_token 𝒱₀ ER (Rd m) (c : Thread nD τ) none (sm := csem k) (k' := k') (κ := K (c, k)) hw (Set.mem_univ _) () (O := Ow c B Rs A) (W := W) (R := 0) (m := 0) (T := ∅)
      he) $$ [Hcr HO Hat]
  · isplitr; · iexact HI
    isplitl [Hcr]; · iexact Hcr
    isplitl [HO]; · iexact HO
    isplitr
    · iapply (Ctx_mayWait m K c k B Rs A hB hR hA); iexact HC
    iexact Hat
  iintro ⟨HO, Hat, -, Hpay⟩
  ihave Hpay := (Entails.of_eq (rest_cell m c k)) $$ Hpay
  imod (Rounds.cell_close ER (Rd m) (Set.mem_univ (K (c, k))) (fun h => h) (R := 0 + 1) (duties_later m (cell c k))) $$ [Hat] with Hz
  · isplitr; · iexact HI
    iexact Hat
  iapply h
  isplitr; · iexact HC
  isplitl [HO Hz Hpay]
  · isplitl [HO]; · iexists _; iexact HO
    isplitl [Hz] <;> iassumption
  iexact HR

/-- A copy within the device: the credit for its payment against what the payment takes. -/
theorem copy_step (k : OK) {src : Memref sig .tc .hbm S1024x128 .f32} {dst : Memref sig .tc .vmem S1024x128 .f32} {sem : DmaSem sig}
    {h1 : src.view.WordExact} {h2 : dst.view.WordExact} {h3 : DmaTarget.Typed (nD := nD) (τ := τ) (p := .tc) .hbm (SemLoc.dma sem) (.here dst)}
    (hsem : SemLoc.dma sem = osem k) (hd : payers c (.inr k) = {c}) (hN : dst.view.amount (osem k) = price (.inr k))
    {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ pay m c (.inr k) c)
    {cont : PUnit → Prog (TpuEff nD τ sig (Elt F) Λ₀ .tc) α}
    (h : Tri m K c iprop(cred (tallyAt (cell c (.inr k)) () (price (.inr k))) ∗ R) (cont ⟨⟩) Q) :
    Tri m K c iprop(((src.view.loc (c : Thread nD τ) ↦[src.view.set]{fullShare} fs) ∗ (dst.view.loc (c : Thread nD τ) ↦[dst.view.set]{fullShare} fd)
        ∗ dutyTok ER (cell c (.inr k)) 0 c) ∗ R)
      (.op (.enqueueDma src (.here dst) (.dma sem) h1 h2 h3) cont) Q := by
  obtain rfl : sem = _ := SemLoc.dma.inj hsem
  unfold Tri at *
  iintro ⟨#HC, ⟨Hs, Hd, Ht⟩, HR⟩
  ihave #HI := (Ctx_inv m K c (.inr k)) $$ HC
  ihave #Hr := (Ctx_reached m K c (.inr k)) $$ HC
  iapply (Rounds.wp_copy_pointsTo 𝒱₀ ER (Rd m) (c : Thread nD τ) none (κ := K (c, .inr k)) (r := 0) (d := c)
      ((duties_cell m c (.inr k)).symm ▸ hd.symm ▸ Finset.mem_singleton_self c) () (price (.inr k)) hN (amount_cell m c (.inr k) c)
      (hpay.trans (Entails.of_eq (payload_cell m c (.inr k) c).symm))) $$ [Hs Hd Ht]
  · isplitr; · iexact HI
    isplitl [Hs]; · iexact Hs
    isplitl [Hd]; · iexact Hd
    isplitl [Ht]; · iexact Ht
    iexact Hr
  iintro Hc
  iapply h
  isplitr; · iexact HC
  isplitl [Hc] <;> iassumption

/-- A copy to another device: a credit for each of the two payments against what they take. -/
theorem send_step (d : Dev nD) (kS' kR' : OK) {src dst : Memref sig .tc .vmem S32x1024 .f32} {sS sR : DmaSem sig} {hsc : dst.view.ref.isScScratch = false}
    {h1 : src.view.WordExact} {h2 : dst.view.WordExact} {h3 : DmaTarget.Typed (p := .tc) .vmem (SemLoc.dma sR) (.remote (Dev.tc d : Thread nD τ) dst (.dma sS) hsc)}
    (hsS : SemLoc.dma sS = osem kS') (hsR : SemLoc.dma sR = osem kR') (hd1 : payers c (.inr kS') = {c}) (hd2 : payers d (.inr kR') = {c})
    (hN : dst.view.amount (osem kR') = NR) (hp1 : price (.inr kS') = NR) (hp2 : price (.inr kR') = NR)
    {q : PosShare TreeShare} {fs : Buf (Elt F) (src.view.loc (c : Thread nD τ))} {fd : Buf (Elt F) (dst.view.loc (d : Thread nD τ))}
    (hpay1 : (src.view.loc (c : Thread nD τ) ↦[src.view.set]{q} fs) ⊢ pay m c (.inr kS') c)
    (hpay2 : (dst.view.loc (d : Thread nD τ) ↦[dst.view.set]{fullShare} (dst.view.write (Elt F) fd (src.view.read (Elt F) fs) Finset.univ))
      ⊢ pay m d (.inr kR') c)
    {O₀ : CellTallies nD τ sig Unit} (O : CellTallies nD τ sig Unit) (hO : O₀ = O + tallyAt (cell d (.inr kR')) () NR)
    {cont : PUnit → Prog (TpuEff nD τ sig (Elt F) Λ₀ .tc) α}
    (h : Tri m K c iprop((owesAny c O ∗ cred (tallyAt (cell c (.inr kS')) () NR)) ∗ R) (cont ⟨⟩) Q) :
    Tri m K c iprop((owesAny c O₀ ∗ (src.view.loc (c : Thread nD τ) ↦[src.view.set]{q} fs) ∗ (dst.view.loc (d : Thread nD τ) ↦[dst.view.set]{fullShare} fd)
        ∗ dutyTok ER (cell c (.inr kS')) 0 c ∗ dutyTok ER (cell d (.inr kR')) 0 c) ∗ R)
      (.op (.enqueueDma src (.remote (Dev.tc d : Thread nD τ) dst (.dma sS) hsc) (.dma sR) h1 h2 h3) cont) Q := by
  obtain rfl : sS = _ := SemLoc.dma.inj hsS
  obtain rfl : sR = _ := SemLoc.dma.inj hsR
  unfold Tri owesAny at *
  iintro ⟨#HC, ⟨⟨%W, HO⟩, Hs, Hd, Ht1, Ht2⟩, HR⟩
  ihave #HI1 := (Ctx_inv m K c (.inr kS')) $$ HC
  ihave #Hr1 := (Ctx_reached m K c (.inr kS')) $$ HC
  ihave #HI2 := (Ctx_inv m K d (.inr kR')) $$ HC
  ihave #Hr2 := (Ctx_reached m K d (.inr kR')) $$ HC
  iapply (Rounds.wp_send_pointsTo 𝒱₀ ER (Rd m) (c : Thread nD τ) none (κ₁ := K (c, .inr kS')) (κ₂ := K (d, .inr kR'))
      (r₁ := 0) (r₂ := 0) (d₁ := c) (d₂ := c)
      ((duties_cell m c (.inr kS')).symm ▸ hd1.symm ▸ Finset.mem_singleton_self c)
      ((duties_cell m d (.inr kR')).symm ▸ hd2.symm ▸ Finset.mem_singleton_self c)
      () () NR hN ((amount_cell m c (.inr kS') c).trans hp1) ((amount_cell m d (.inr kR') c).trans hp2) O hO (W := W)
      (hpay1.trans (Entails.of_eq (payload_cell m c (.inr kS') c).symm))
      (hpay2.trans (Entails.of_eq (payload_cell m d (.inr kR') c).symm))) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply h
  isplitr; · iexact HC
  isplitl [HO Hc]
  · isplitl [HO]; · iexists W; iexact HO
    iexact Hc
  iexact HR

/-- What a cell's owner holds before the wait on it; -/
def before (c : Dev nD) (k : CK) : SP F := iprop(cred (tallyAt (cell c k) () (price k)) ∗ atPos ER (cell c k) 0 ∅ 0)
/-- and after. -/
def after (m : (ℓ : Loc nD τ sig) → Buf (Elt F) ℓ) (c : Dev nD) (k : CK) : SP F :=
  iprop(semVal (cell c k) 0 ∗ bigSep (payers c k) fun d => pay m c k d)

/-- A wait on the member of rank `n` of a family of own semaphores that one device pays each. -/
theorem wait_fam {T : Type} [DecidableEq T] {S : Finset T} {rk : T → ℕ} (key : T → OK) {n : ℕ} (t : T) (ht : t ∈ S) (hn : rk t = n)
    (inj : ∀ d ∈ S, rk d = rk t → d = t) {B Rs A : Finset (Dev nD)}
    (hB : B = ∅ ∨ height (.inr (key t)) < 1) (hR : Rs = ∅ ∨ height (.inr (key t)) < 2) (hA : A = ∅ ∨ height (.inr (key t)) < 3)
    {sp sp' : Space} {s s' : Shape} {e e' : EltTy} {src : Memref sig .tc sp' s' e'} {dst : Memref sig .tc sp s e} {sem : DmaSem sig}
    {h1 : src.view.WordExact} {h2 : dst.view.WordExact}
    (hsem : SemLoc.dma sem = osem (key t)) (hcard : (payers c (.inr (key t))).card = 1) (hcr : dst.view.dmaCredit = price (.inr (key t)))
    {cont : PUnit → Prog (TpuEff nD τ sig (Elt F) Λ₀ .tc) α}
    (h : Tri m K c iprop(owesAny c (Ow c B Rs A) ∗ fam S rk (fun t => after m c (.inr (key t))) (fun t => before c (.inr (key t))) (n + 1) ∗ R) (cont ⟨⟩) Q) :
    Tri m K c iprop(owesAny c (Ow c B Rs A) ∗ fam S rk (fun t => after m c (.inr (key t))) (fun t => before c (.inr (key t))) n ∗ R)
      (.op (.waitDma2 sem src dst h1 h2) cont) Q := by
  obtain rfl : sem = _ := SemLoc.dma.inj hsem
  refine Tri.pre (P' := iprop((owesAny c (Ow c B Rs A) ∗ cred (tallyAt (cell c (.inr (key t))) () dst.view.dmaCredit) ∗ atPos ER (cell c (.inr (key t))) 0 ∅ 0)
      ∗ (after m c (.inr (key t)) -∗ fam S rk (fun t => after m c (.inr (key t))) (fun t => before c (.inr (key t))) (n + 1)) ∗ R)) ?_
    (wait_step (.inr (key t)) hB hR hA (fun K' => wpE_waitDma2_eq 𝒱₀ (c : Thread nD τ) none Set.univ K') (by rw [hcard, hcr, Nat.one_mul]) (h.pre ?_))
  · iintro ⟨HO, HF, HR⟩
    ihave HF := (fam_step S rk _ _ ht hn inj) $$ HF
    icases HF with ⟨HB, HF⟩
    unfold before
    icases HB with ⟨H1, H2⟩
    isplitl [HO H1 H2]
    · isplitl [HO]; · iexact HO
      isplitl [H1]
      · rw [hcr]; iexact H1
      iexact H2
    isplitl [HF] <;> iassumption
  · iintro ⟨⟨HO, Hz, Hp⟩, HF, HR⟩
    isplitl [HO]; · iexact HO
    isplitl [HF Hz Hp]
    · iapply HF
      unfold after
      isplitl [Hz] <;> iassumption
    iexact HR

end Steps

end Cert.AttnProof

end
-- ==== Proof.State.lean ====
/-
# The kernel's effects on its own buffers and semaphores

The semaphores the kernel names, the copies of keys and values, and the loads and stores of the computation, each as a
rule on the state of its phase.
-/
module

public import proofs.«01_k».proof.Proof.Steps

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

/-! ## The semaphores -/

/-- Semaphore `t` of an array of 32 from `base`. -/
theorem sem32 {base : ℕ} {hb : base + S32.numel ≤ 148} (k : OK) (t : Fin 32) (hk : onum k = base + t.val) {off : Fin 1 → ℕ} (h : off = ![t.val])
    {inb : ∀ a, off a + S1.size a ≤ S32.size a} :
    SemLoc.dma (sig := sig) (((SemArray.consecutive base S32 hb).slice (Rect.unit (s := S32) off S1.size inb)).squeeze S_ squeezes_S1_S_).sem = osem k := by
  subst h
  refine congrArg SemLoc.dma (Fin.ext ?_)
  show base + (S32.rowMajor ((Rect.unit (s := S32) ![t.val] S1.size inb).emb (Shape.reshapeEquiv _ _))).val = onum k
  rw [hk, Shape.rowMajor_val_one]
  generalize (Shape.reshapeEquiv _ _ : S1.Idx) = x
  show base + (t.val + 1 * (x 0).val) = base + t.val
  have : (x 0).val < 1 := (x 0).isLt
  omega

theorem semS {off : Fin 1 → ℕ} (t : Dev nD) (h : off = ![t.val]) {inb : ∀ a, off a + S1.size a ≤ S32.size a} :
    SemLoc.dma ((cc0_scratch7.slice (Rect.unit (s := S32) off S1.size inb)).squeeze S_ squeezes_S1_S_).sem = osem (oS t) := sem32 (oS t) t rfl h
theorem semR {off : Fin 1 → ℕ} (t : Dev nD) (h : off = ![t.val]) {inb : ∀ a, off a + S1.size a ≤ S32.size a} :
    SemLoc.dma ((cc0_scratch8.slice (Rect.unit (s := S32) off S1.size inb)).squeeze S_ squeezes_S1_S_).sem = osem (oR t) := sem32 (oR t) t rfl h
theorem semA {off : Fin 1 → ℕ} (t : Fin 32) (h : off = ![t.val]) {inb : ∀ a, off a + S1.size a ≤ S32.size a} :
    SemLoc.dma ((cc0_scratch9.slice (Rect.unit (s := S32) off S1.size inb)).squeeze S_ squeezes_S1_S_).sem = osem (oA t) := sem32 (oA t) t rfl h
theorem semG {off : Fin 1 → ℕ} (t : Dev nD) (h : off = ![t.val]) {inb : ∀ a, off a + S1.size a ≤ S32.size a} :
    SemLoc.dma ((cc0_scratch10.slice (Rect.unit (s := S32) off S1.size inb)).squeeze S_ squeezes_S1_S_).sem = osem (oG t) := sem32 (oG t) t rfl h

/-! ## Slices by their offsets -/

theorem kExt_of (c : Dev nD) (h : Fin 8) {off : Fin 4 → ℕ} (e : off = ![0, 0, 8 * c.val + h.val, 0]) {inb : ∀ a, off a + S1x1024x1x128.size a ≤ S1x1024x256x128.size a} :
    (kExtW.slice (Rect.unit (s := S1x1024x256x128) off S1x1024x1x128.size inb) (fun _ => rfl)).squeeze S1024x128 squeezes_S1x1024x1x128_S1024x128 = kExtM c h := by
  subst e; rfl
theorem vExt_of (c : Dev nD) (h : Fin 8) {off : Fin 4 → ℕ} (e : off = ![0, 0, 8 * c.val + h.val, 0]) {inb : ∀ a, off a + S1x1024x1x128.size a ≤ S1x1024x256x128.size a} :
    (vExtW.slice (Rect.unit (s := S1x1024x256x128) off S1x1024x1x128.size inb) (fun _ => rfl)).squeeze S1024x128 squeezes_S1x1024x1x128_S1024x128 = vExtM c h := by
  subst e; rfl
theorem rs_of (s : Dev nD) {off : Fin 3 → ℕ} (e : off = ![s.val, 0, 0]) {inb : ∀ a, off a + S1x32x1024.size a ≤ S32x32x1024.size a} :
    (rsW.slice (Rect.unit (s := S32x32x1024) off S1x32x1024.size inb) (fun _ => rfl)).squeeze S32x1024 squeezes_S1x32x1024_S32x1024 = rsM s := by
  subst e; rfl
theorem part_of (t : Dev nD) {off : Fin 2 → ℕ} (e : off = ![32 * t.val, 0]) {inb : ∀ a, off a + S32x1024.size a ≤ S1024x1024.size a} :
    partW.slice (Rect.unit (s := S1024x1024) off S32x1024.size inb) (fun _ => rfl) = partM t := by
  subst e; rfl
theorem out_of (t : Dev nD) {off : Fin 2 → ℕ} (e : off = ![32 * t.val, 0]) {inb : ∀ a, off a + S32x1024.size a ≤ S1024x1024.size a} :
    outW.slice (Rect.unit (s := S1024x1024) off S32x1024.size inb) (fun _ => rfl) = outM t := by
  subst e; rfl

variable {m : (ℓ : Loc nD τ sig) → Buf (Elt F) ℓ} {K : Dev nD × CK → ℕ}
variable {c : Dev nD} {α : Type} {R : SP F} {Q : α → SP F}

/-! ## What a copy credits -/

theorem credit_k (h : Fin 8) : (kM h).view.dmaCredit = NK := by unfold NK View.dmaCredit; with_reducible rfl
theorem credit_v (h : Fin 8) : (vM h).view.dmaCredit = NK := by unfold NK View.dmaCredit; rfl
theorem credit_rs {off : Fin 3 → ℕ} {inb : ∀ a, off a + S1x32x1024.size a ≤ S32x32x1024.size a} :
    ((rsW.slice (Rect.unit (s := S32x32x1024) off S1x32x1024.size inb) (fun _ => rfl)).squeeze S32x1024 squeezes_S1x32x1024_S32x1024).view.dmaCredit = NR := by
  unfold NR View.dmaCredit; rfl
theorem credit_part {off : Fin 2 → ℕ} {inb : ∀ a, off a + S32x1024.size a ≤ S1024x1024.size a} :
    (partW.slice (Rect.unit (s := S1024x1024) off S32x1024.size inb) (fun _ => rfl)).view.dmaCredit = NR := by unfold NR View.dmaCredit; rfl
theorem credit_out {off : Fin 2 → ℕ} {inb : ∀ a, off a + S32x1024.size a ≤ S1024x1024.size a} :
    (outW.slice (Rect.unit (s := S1024x1024) off S32x1024.size inb) (fun _ => rfl)).view.dmaCredit = NR := by unfold NR View.dmaCredit; rfl

/-! ## Families -/

theorem Tri.perm {P P' : SP F} {p : Prog (TpuEff nD τ sig (Elt F) Λ₀ .tc) α} (e : P = P') (H : Tri m K c P' p Q) : Tri m K c P p Q := e ▸ H
theorem Tri.exist {X : Type} {P : X → SP F} {p : Prog (TpuEff nD τ sig (Elt F) Λ₀ .tc) α} (H : ∀ x, Tri m K c iprop(P x ∗ R) p Q) :
    Tri m K c iprop((∃ x, P x) ∗ R) p Q := by
  unfold Tri at *
  iintro ⟨#HC, ⟨%x, HP⟩, HR⟩
  iapply (H x)
  isplitr; · iexact HC
  isplitl [HP] <;> iassumption

/-- A step that turns a member's state before into its state after advances the family. -/
theorem Tri.famStep {T : Type} [DecidableEq T] {S : Finset T} {rk : T → ℕ} {A B : T → SP F} {n : ℕ} {Y Y' : SP F} (t : T) (ht : t ∈ S) (hn : rk t = n)
    (inj : ∀ d ∈ S, rk d = rk t → d = t) {p p' : Prog (TpuEff nD τ sig (Elt F) Λ₀ .tc) α}
    (hs : ∀ R' : SP F, Tri m K c iprop((Y' ∗ A t) ∗ R') p' Q → Tri m K c iprop((Y ∗ B t) ∗ R') p Q)
    (H : Tri m K c iprop(Y' ∗ fam S rk A B (n + 1) ∗ R) p' Q) : Tri m K c iprop(Y ∗ fam S rk A B n ∗ R) p Q := by
  refine Tri.pre (P' := iprop((Y ∗ B t) ∗ (A t -∗ fam S rk A B (n + 1)) ∗ R)) ?_ (hs _ (H.pre ?_))
  · iintro ⟨HY, HF, HR⟩
    ihave HF := (fam_step S rk _ _ ht hn inj) $$ HF
    icases HF with ⟨HB, HF⟩
    isplitl [HY HB]
    · isplitl [HY] <;> iassumption
    isplitl [HF] <;> iassumption
  · iintro ⟨⟨HY, HA⟩, HF, HR⟩
    isplitl [HY]; · iexact HY
    isplitl [HF HA]
    · iapply HF; iexact HA
    iexact HR

/-- An assertion of no content in front. -/
theorem Tri.emp_in {P : SP F} {p : Prog (TpuEff nD τ sig (Elt F) Λ₀ .tc) α} (H : Tri m K c iprop(emp ∗ P) p Q) : Tri m K c P p Q := H.pre (by
  iintro H; isplitr; · iempintro
  iexact H)
theorem Tri.emp_out {P : SP F} {p : Prog (TpuEff nD τ sig (Elt F) Λ₀ .tc) α} (H : Tri m K c P p Q) : Tri m K c iprop(emp ∗ P) p Q := H.pre (by
  iintro ⟨-, H⟩; iexact H)
theorem Tri.assoc {P P' : SP F} {p : Prog (TpuEff nD τ sig (Elt F) Λ₀ .tc) α} (H : Tri m K c iprop(P ∗ P' ∗ R) p Q) : Tri m K c iprop((P ∗ P') ∗ R) p Q := H.pre (by
  iintro ⟨⟨H1, H2⟩, H3⟩
  isplitl [H1]; · iexact H1
  isplitl [H2] <;> iassumption)
theorem Tri.assoc' {P P' : SP F} {p : Prog (TpuEff nD τ sig (Elt F) Λ₀ .tc) α} (H : Tri m K c iprop((P ∗ P') ∗ R) p Q) : Tri m K c iprop(P ∗ P' ∗ R) p Q := H.pre (by
  iintro ⟨H1, H2, H3⟩
  isplitl [H1 H2]
  · isplitl [H1] <;> iassumption
  iexact H3)

/-! ## The copies of the keys and the values -/

/-- The copies of the heads of the keys, those below `n` begun; of the values likewise. -/
def KSt (m : (ℓ : Loc nD τ sig) → Buf (Elt F) ℓ) (c : Dev nD) (n : ℕ) : SP F :=
  fam Finset.univ Fin.val (fun h : Fin 8 => cred (tallyAt (cell c (.inr (oK h))) () NK))
    (fun h => iprop(kExtPts c h (kx m c) ∗ (∃ f, kPts c h f) ∗ dutyTok ER (cell c (.inr (oK h))) 0 c)) n
def VSt (m : (ℓ : Loc nD τ sig) → Buf (Elt F) ℓ) (c : Dev nD) (n : ℕ) : SP F :=
  fam Finset.univ Fin.val (fun h : Fin 8 => cred (tallyAt (cell c (.inr (oV h))) () NK))
    (fun h => iprop(vExtPts c h (vx m c) ∗ (∃ f, vPts c h f) ∗ dutyTok ER (cell c (.inr (oV h))) 0 c)) n

theorem land_k_pay (h : Fin 8) (fd : (cc0_scratch0 : Ref sig .tc).ty.Contents (Elt F)) :
    (iprop((((c : Thread nD τ).loc cc0_scratch0) ↦[(kM h).view.set]{fullShare} ((kM h).view.write (Elt F) fd ((kExtM c h).view.read (Elt F) (kx m c)) Finset.univ))
      ∗ kExtPts c h (kx m c)) : SP F) ⊢ pay m c (.inr (oK h)) c := by
  rw [show (pay m c (.inr (oK h)) c : SP F) = iprop(kPts c h (KB m c) ∗ kExtPts c h (kx m c)) from rfl]
  unfold kPts
  rw [pointsTo_congr (land_k m c h fd)]

/-- The copy of head `h`. -/
theorem kcopy_step (h : Fin 8) {src : Memref sig .tc .hbm S1024x128 .f32} {dst : Memref sig .tc .vmem S1024x128 .f32} {sem : DmaSem sig}
    {h1 : src.view.WordExact} {h2 : dst.view.WordExact} {h3 : DmaTarget.Typed (nD := nD) (τ := τ) (p := .tc) .hbm (SemLoc.dma sem) (.here dst)}
    (hsrc : src = kExtM c h) (hdst : dst = kM h) (hsem : SemLoc.dma sem = osem (oK h))
    {cont : PUnit → Prog (TpuEff nD τ sig (Elt F) Λ₀ .tc) α}
    (H : Tri m K c iprop(KSt m c (h.val + 1) ∗ R) (cont ⟨⟩) Q) :
    Tri m K c iprop(KSt m c h.val ∗ R) (.op (.enqueueDma src (.here dst) (.dma sem) h1 h2 h3) cont) Q := by
  subst hsrc hdst
  unfold KSt at *
  refine Tri.emp_in (Tri.famStep (p' := cont ⟨⟩) h (Finset.mem_univ h) rfl (fun d _ e => Fin.ext e) (fun R' H' => ?_) H.emp_out)
  refine Tri.pre (P' := iprop((∃ fd, kExtPts c h (kx m c) ∗ kPts c h fd ∗ dutyTok ER (cell c (.inr (oK h))) 0 c) ∗ R')) ?_ (Tri.exist fun fd => ?_)
  · iintro ⟨⟨-, Hs, ⟨%fd, Hd⟩, Ht⟩, HR⟩
    isplitl [Hs Hd Ht]
    · iexists fd
      isplitl [Hs]; · iexact Hs
      isplitl [Hd] <;> iassumption
    iexact HR
  have hp := land_k_pay (m := m) (c := c) h fd
  unfold kExtPts kPts at *
  refine copy_step (m := m) (K := K) (c := c) (src := kExtM c h) (dst := kM h) (oK h) hsem rfl (credit_k h) (fs := kx m c) (fd := fd)
    hp (Tri.pre ?_ H')
  iintro ⟨Hc, HR⟩
  isplitl [Hc]
  · isplitr; · iempintro
    iexact Hc
  iexact HR

theorem land_v_pay (h : Fin 8) (fd : (cc0_scratch1 : Ref sig .tc).ty.Contents (Elt F)) :
    (iprop((((c : Thread nD τ).loc cc0_scratch1) ↦[(vM h).view.set]{fullShare} ((vM h).view.write (Elt F) fd ((vExtM c h).view.read (Elt F) (vx m c)) Finset.univ))
      ∗ vExtPts c h (vx m c)) : SP F) ⊢ pay m c (.inr (oV h)) c := by
  rw [show (pay m c (.inr (oV h)) c : SP F) = iprop(vPts c h (VB m c) ∗ vExtPts c h (vx m c)) from rfl]
  unfold vPts
  rw [pointsTo_congr (land_v m c h fd)]

/-- The copy of head `h`. -/
theorem vcopy_step (h : Fin 8) {src : Memref sig .tc .hbm S1024x128 .f32} {dst : Memref sig .tc .vmem S1024x128 .f32} {sem : DmaSem sig}
    {h1 : src.view.WordExact} {h2 : dst.view.WordExact} {h3 : DmaTarget.Typed (nD := nD) (τ := τ) (p := .tc) .hbm (SemLoc.dma sem) (.here dst)}
    (hsrc : src = vExtM c h) (hdst : dst = vM h) (hsem : SemLoc.dma sem = osem (oV h))
    {cont : PUnit → Prog (TpuEff nD τ sig (Elt F) Λ₀ .tc) α}
    (H : Tri m K c iprop(VSt m c (h.val + 1) ∗ R) (cont ⟨⟩) Q) :
    Tri m K c iprop(VSt m c h.val ∗ R) (.op (.enqueueDma src (.here dst) (.dma sem) h1 h2 h3) cont) Q := by
  subst hsrc hdst
  unfold VSt at *
  refine Tri.emp_in (Tri.famStep (p' := cont ⟨⟩) h (Finset.mem_univ h) rfl (fun d _ e => Fin.ext e) (fun R' H' => ?_) H.emp_out)
  refine Tri.pre (P' := iprop((∃ fd, vExtPts c h (vx m c) ∗ vPts c h fd ∗ dutyTok ER (cell c (.inr (oV h))) 0 c) ∗ R')) ?_ (Tri.exist fun fd => ?_)
  · iintro ⟨⟨-, Hs, ⟨%fd, Hd⟩, Ht⟩, HR⟩
    isplitl [Hs Hd Ht]
    · iexists fd
      isplitl [Hs]; · iexact Hs
      isplitl [Hd] <;> iassumption
    iexact HR
  have hp := land_v_pay (m := m) (c := c) h fd
  unfold vExtPts vPts at *
  refine copy_step (m := m) (K := K) (c := c) (src := vExtM c h) (dst := vM h) (oV h) hsem rfl (credit_v h) (fs := vx m c) (fd := fd)
    hp (Tri.pre ?_ H')
  iintro ⟨Hc, HR⟩
  isplitl [Hc]
  · isplitr; · iempintro
    iexact Hc
  iexact HR

/-- The waits for the heads of the keys, those below `n` past. -/
def KWt (m : (ℓ : Loc nD τ sig) → Buf (Elt F) ℓ) (c : Dev nD) (n : ℕ) : SP F :=
  fam Finset.univ Fin.val (fun h : Fin 8 => after m c (.inr (oK h))) (fun h => before c (.inr (oK h))) n

theorem kwait_step (h : Fin 8) {src : Memref sig .tc .hbm S1024x128 .f32} {dst : Memref sig .tc .vmem S1024x128 .f32} {sem : DmaSem sig}
    {h1 : src.view.WordExact} {h2 : dst.view.WordExact} (hdst : dst = kM h) (hsem : SemLoc.dma sem = osem (oK h))
    {cont : PUnit → Prog (TpuEff nD τ sig (Elt F) Λ₀ .tc) α}
    (H : Tri m K c iprop(owesAny c (Ow c ∅ (others c) (others c)) ∗ KWt m c (h.val + 1) ∗ R) (cont ⟨⟩) Q) :
    Tri m K c iprop(owesAny c (Ow c ∅ (others c) (others c)) ∗ KWt m c h.val ∗ R) (.op (.waitDma2 sem src dst h1 h2) cont) Q := by
  subst hdst
  exact wait_fam (fun h : Fin 8 => oK h) h (Finset.mem_univ h) rfl (fun d _ e => Fin.ext e) (.inl rfl) (.inr (Nat.zero_lt_succ _)) (.inr (Nat.zero_lt_succ _)) hsem
    (Finset.card_singleton c) (credit_k h) H

/-- The waits for the heads of the values, those below `n` past. -/
def VWt (m : (ℓ : Loc nD τ sig) → Buf (Elt F) ℓ) (c : Dev nD) (n : ℕ) : SP F :=
  fam Finset.univ Fin.val (fun h : Fin 8 => after m c (.inr (oV h))) (fun h => before c (.inr (oV h))) n

theorem vwait_step (h : Fin 8) {src : Memref sig .tc .hbm S1024x128 .f32} {dst : Memref sig .tc .vmem S1024x128 .f32} {sem : DmaSem sig}
    {h1 : src.view.WordExact} {h2 : dst.view.WordExact} (hdst : dst = vM h) (hsem : SemLoc.dma sem = osem (oV h))
    {cont : PUnit → Prog (TpuEff nD τ sig (Elt F) Λ₀ .tc) α}
    (H : Tri m K c iprop(owesAny c (Ow c ∅ (others c) (others c)) ∗ VWt m c (h.val + 1) ∗ R) (cont ⟨⟩) Q) :
    Tri m K c iprop(owesAny c (Ow c ∅ (others c) (others c)) ∗ VWt m c h.val ∗ R) (.op (.waitDma2 sem src dst h1 h2) cont) Q := by
  subst hdst
  exact wait_fam (fun h : Fin 8 => oV h) h (Finset.mem_univ h) rfl (fun d _ e => Fin.ext e) (.inl rfl) (.inr (Nat.zero_lt_succ _)) (.inr (Nat.zero_lt_succ _)) hsem
    (Finset.card_singleton c) (credit_v h) H

end Cert.AttnProof

end
-- ==== Proof.Compute.lean ====
/-
# The computation's loads and stores, and the copies of its partial sums

A device holds its key and value buffers, the bias, and its operands; it fills the buffer of the heads a head at a time,
the buffer of partial sums a block at a time, and sends each group of 32 rows of a block to the device it belongs to.
-/
module

public import proofs.«01_k».proof.Proof.State

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-! ## Loads and stores in general -/

/-- A load from a buffer held in part, of indices among those held. -/
theorem load_step {sh : Shape} {e : EltTy} {mr : Memref sig .tc .vmem sh e} {r : LoadRect sh} {hl : mr.view.LoadsAt r}
    {S : Finset (Idx (mr.view.loc (c : Thread nD τ)))} {q : PosShare TreeShare} {f : Buf (Elt F) (mr.view.loc (c : Thread nD τ))}
    (hS : mr.view.setOn r.set ⊆ S) {cont : (r.shape.Idx → Elt F e) → Prog (TpuEff nD τ sig (Elt F) Λ₀ .tc) α}
    (H : Tri m K c iprop((mr.view.loc (c : Thread nD τ) ↦[S]{q} f) ∗ R) (cont (mr.view.readAt (Elt F) r f)) Q) :
    Tri m K c iprop((mr.view.loc (c : Thread nD τ) ↦[S]{q} f) ∗ R) (.op (.load mr r hl) cont) Q := by
  unfold Tri at *
  iintro ⟨#HC, HP, HR⟩
  iapply (wp_load (cs := .vmem) 𝒱₀ (c : Thread nD τ) none Set.univ (m := mr) hS) $$ HP
  iintro HP
  iapply H
  isplitr; · iexact HC
  isplitl [HP] <;> iassumption

/-- A store, of the whole of a rectangle among the indices held. -/
theorem store_step {sh : Shape} {e : EltTy} {mr : Memref sig .tc .vmem sh e} {r : Rect sh} {w : r.shape.Idx → Elt F e}
    {hx : (mr.access r).Stores Finset.univ} {hm : (Finset.univ : Finset r.shape.Idx) = Finset.univ ∨ ∀ a, r.stride a = 1}
    {S : Finset (Idx ((mr.access r).loc (c : Thread nD τ)))} {f : Buf (Elt F) ((mr.access r).loc (c : Thread nD τ))}
    (hS : (mr.access r).set ⊆ S) {cont : PUnit → Prog (TpuEff nD τ sig (Elt F) Λ₀ .tc) α}
    (H : Tri m K c iprop(((mr.access r).loc (c : Thread nD τ) ↦[S]{fullShare} ((mr.access r).write (Elt F) f w Finset.univ)) ∗ R) (cont ⟨⟩) Q) :
    Tri m K c iprop(((mr.access r).loc (c : Thread nD τ) ↦[S]{fullShare} f) ∗ R) (.op (.store mr r w Finset.univ hx hm) cont) Q := by
  unfold Tri at *
  iintro ⟨#HC, HP, HR⟩
  iapply (wp_store (cs := .vmem) 𝒱₀ (c : Thread nD τ) none Set.univ (m := mr) (hx := hx) (hm := hm) hS) $$ HP
  iintro HP
  iapply H
  isplitr; · iexact HC
  isplitl [HP] <;> iassumption

/-! ## The state of the computation -/

/-- What the computation only reads: keys, values, bias, the device's `x`, `Wq`, `Wo`. -/
def Ins (m : (ℓ : Loc nD τ sig) → Buf (Elt F) ℓ) (c : Dev nD) : SP F :=
  iprop((((c : Thread nD τ).loc cc0_scratch0) ↦{fullShare} KB m c) ∗ (((c : Thread nD τ).loc cc0_scratch1) ↦{fullShare} VB m c)
    ∗ (((c : Thread nD τ).loc cc0_scratch3) ↦{fullShare} (k0_pay1 (F := F)))
    ∗ (((c : Thread nD τ).loc cc0_stg0_0) ↦{fullShare} xv m c) ∗ (((c : Thread nD τ).loc cc0_stg1_0) ↦{fullShare} wqv m c)
    ∗ (((c : Thread nD τ).loc cc0_stg2_0) ↦{fullShare} wov m c))

/-- The buffer of heads, those below `h` holding block `b`'s. -/
def Heads (m : (ℓ : Loc nD τ sig) → Buf (Elt F) ℓ) (c : Dev nD) (b : Fin 4) (h : ℕ) : SP F :=
  iprop(∃ f : (cc0_scratch2 : Ref sig .tc).ty.Contents (Elt F), ⌜∀ i : S256x1024.Idx, (i 1).val < 128 * h → f i = ctxAt m c b i⌝
    ∗ (((c : Thread nD τ).loc cc0_scratch2) ↦{fullShare} f))

theorem Heads_zero (b b' : Fin 4) (h : ℕ) : Heads m c b h ⊢ Heads m c b' 0 := by
  unfold Heads
  iintro ⟨%f, -, H⟩
  iexists f
  isplitr
  · ipureintro; intro i hi; omega
  iexact H

/-- A load from a buffer that is part of what a state holds. -/
theorem load_of {P : SP F} {sh : Shape} {e : EltTy} {mr : Memref sig .tc .vmem sh e} {r : LoadRect sh} {hl : mr.view.LoadsAt r}
    {S : Finset (Idx (mr.view.loc (c : Thread nD τ)))} {q : PosShare TreeShare} {f : Buf (Elt F) (mr.view.loc (c : Thread nD τ))}
    (hS : mr.view.setOn r.set ⊆ S) (hP : P ⊢ iprop((mr.view.loc (c : Thread nD τ) ↦[S]{q} f) ∗ ((mr.view.loc (c : Thread nD τ) ↦[S]{q} f) -∗ P)))
    {cont : (r.shape.Idx → Elt F e) → Prog (TpuEff nD τ sig (Elt F) Λ₀ .tc) α}
    (H : Tri m K c iprop(P ∗ R) (cont (mr.view.readAt (Elt F) r f)) Q) :
    Tri m K c iprop(P ∗ R) (.op (.load mr r hl) cont) Q := by
  refine Tri.pre (P' := iprop((mr.view.loc (c : Thread nD τ) ↦[S]{q} f) ∗ ((mr.view.loc (c : Thread nD τ) ↦[S]{q} f) -∗ P) ∗ R)) ?_
    (load_step (hl := hl) hS (H.pre ?_))
  · iintro ⟨HP, HR⟩
    ihave HP := hP $$ HP
    icases HP with ⟨HP, HW⟩
    isplitl [HP]; · iexact HP
    isplitl [HW] <;> iassumption
  · iintro ⟨HP, HW, HR⟩
    isplitl [HP HW]
    · iapply HW; iexact HP
    iexact HR

/-! ## The loads of the computation -/

theorem Ins_K : Ins m c ⊢ iprop((((c : Thread nD τ).loc cc0_scratch0) ↦{fullShare} KB m c) ∗ ((((c : Thread nD τ).loc cc0_scratch0) ↦{fullShare} KB m c) -∗ Ins m c)) := by
  unfold Ins
  iintro ⟨H1, H2, H3, H4, H5, H6⟩
  isplitl [H1]; · iexact H1
  iintro H1
  isplitl [H1]; · iexact H1
  isplitl [H2]; · iexact H2
  isplitl [H3]; · iexact H3
  isplitl [H4]; · iexact H4
  isplitl [H5]; · iexact H5
  iexact H6
theorem Ins_V : Ins m c ⊢ iprop((((c : Thread nD τ).loc cc0_scratch1) ↦{fullShare} VB m c) ∗ ((((c : Thread nD τ).loc cc0_scratch1) ↦{fullShare} VB m c) -∗ Ins m c)) := by
  unfold Ins
  iintro ⟨H1, H2, H3, H4, H5, H6⟩
  isplitl [H2]; · iexact H2
  iintro H2
  isplitl [H1]; · iexact H1
  isplitl [H2]; · iexact H2
  isplitl [H3]; · iexact H3
  isplitl [H4]; · iexact H4
  isplitl [H5]; · iexact H5
  iexact H6
theorem Ins_B : Ins m c ⊢ iprop((((c : Thread nD τ).loc cc0_scratch3) ↦{fullShare} (k0_pay1 (F := F))) ∗ ((((c : Thread nD τ).loc cc0_scratch3) ↦{fullShare} (k0_pay1 (F := F))) -∗ Ins m c)) := by
  unfold Ins
  iintro ⟨H1, H2, H3, H4, H5, H6⟩
  isplitl [H3]; · iexact H3
  iintro H3
  isplitl [H1]; · iexact H1
  isplitl [H2]; · iexact H2
  isplitl [H3]; · iexact H3
  isplitl [H4]; · iexact H4
  isplitl [H5]; · iexact H5
  iexact H6
theorem Ins_X : Ins m c ⊢ iprop((((c : Thread nD τ).loc cc0_stg0_0) ↦{fullShare} xv m c) ∗ ((((c : Thread nD τ).loc cc0_stg0_0) ↦{fullShare} xv m c) -∗ Ins m c)) := by
  unfold Ins
  iintro ⟨H1, H2, H3, H4, H5, H6⟩
  isplitl [H4]; · iexact H4
  iintro H4
  isplitl [H1]; · iexact H1
  isplitl [H2]; · iexact H2
  isplitl [H3]; · iexact H3
  isplitl [H4]; · iexact H4
  isplitl [H5]; · iexact H5
  iexact H6
theorem Ins_Q : Ins m c ⊢ iprop((((c : Thread nD τ).loc cc0_stg1_0) ↦{fullShare} wqv m c) ∗ ((((c : Thread nD τ).loc cc0_stg1_0) ↦{fullShare} wqv m c) -∗ Ins m c)) := by
  unfold Ins
  iintro ⟨H1, H2, H3, H4, H5, H6⟩
  isplitl [H5]; · iexact H5
  iintro H5
  isplitl [H1]; · iexact H1
  isplitl [H2]; · iexact H2
  isplitl [H3]; · iexact H3
  isplitl [H4]; · iexact H4
  isplitl [H5]; · iexact H5
  iexact H6
theorem Ins_O : Ins m c ⊢ iprop((((c : Thread nD τ).loc cc0_stg2_0) ↦{fullShare} wov m c) ∗ ((((c : Thread nD τ).loc cc0_stg2_0) ↦{fullShare} wov m c) -∗ Ins m c)) := by
  unfold Ins
  iintro ⟨H1, H2, H3, H4, H5, H6⟩
  isplitl [H6]; · iexact H6
  iintro H6
  isplitl [H1]; · iexact H1
  isplitl [H2]; · iexact H2
  isplitl [H3]; · iexact H3
  isplitl [H4]; · iexact H4
  isplitl [H5]; · iexact H5
  iexact H6

/-- The load of head `h` of the keys. -/
theorem loadK_step (h : Fin 8) {off : Fin 3 → ℕ} {inb : ∀ a, off a + S1x1024x128.size a ≤ S8x1024x128.size a} (e : off = ![h.val, 0, 0])
    {hl : kW.view.LoadsAt (Rect.unit (s := S8x1024x128) off S1x1024x128.size inb).toLoadRect} {cont : Vec F S1x1024x128 .f32 → Prog (TpuEff nD τ sig (Elt F) Λ₀ .tc) α}
    (H : Tri m K c iprop(Ins m c ∗ R) (cont (kL m c h)) Q) :
    Tri m K c iprop(Ins m c ∗ R) (.op (.load kW (Rect.unit (s := S8x1024x128) off S1x1024x128.size inb).toLoadRect hl) cont) Q := by
  subst e
  exact load_of (m := m) (K := K) (c := c) (mr := kW) (hl := hl) (S := Finset.univ) (q := fullShare) (f := KB m c) (cont := cont) (Finset.subset_univ _) Ins_K H

/-- The load of head `h` of the values. -/
theorem loadV_step (h : Fin 8) {off : Fin 3 → ℕ} {inb : ∀ a, off a + S1x1024x128.size a ≤ S8x1024x128.size a} (e : off = ![h.val, 0, 0])
    {hl : vW.view.LoadsAt (Rect.unit (s := S8x1024x128) off S1x1024x128.size inb).toLoadRect} {cont : Vec F S1x1024x128 .f32 → Prog (TpuEff nD τ sig (Elt F) Λ₀ .tc) α}
    (H : Tri m K c iprop(Ins m c ∗ R) (cont (vL m c h)) Q) :
    Tri m K c iprop(Ins m c ∗ R) (.op (.load vW (Rect.unit (s := S8x1024x128) off S1x1024x128.size inb).toLoadRect hl) cont) Q := by
  subst e
  exact load_of (m := m) (K := K) (c := c) (mr := vW) (hl := hl) (S := Finset.univ) (q := fullShare) (f := VB m c) (cont := cont) (Finset.subset_univ _) Ins_V H

/-- The load of block `b` of the bias. -/
theorem loadB_step (b : Fin 4) {off : Fin 2 → ℕ} {inb : ∀ a, off a + S256x1024.size a ≤ S1024x1024.size a} (e : off = ![256 * b.val, 0])
    {hl : biasM.view.LoadsAt (Rect.unit (s := S1024x1024) off S256x1024.size inb).toLoadRect} {cont : Vec F S256x1024 .f32 → Prog (TpuEff nD τ sig (Elt F) Λ₀ .tc) α}
    (H : Tri m K c iprop(Ins m c ∗ R) (cont (biasL b)) Q) :
    Tri m K c iprop(Ins m c ∗ R) (.op (.load biasM (Rect.unit (s := S1024x1024) off S256x1024.size inb).toLoadRect hl) cont) Q := by
  subst e
  exact load_of (m := m) (K := K) (c := c) (mr := biasM) (hl := hl) (S := Finset.univ) (q := fullShare) (f := k0_pay1 (F := F)) (cont := cont) (Finset.subset_univ _) Ins_B H

/-- The load of block `b` of `x`. -/
theorem loadX_step (b : Fin 4) {off : Fin 3 → ℕ} {inb : ∀ a, off a + S1x256x1024.size a ≤ S1x1024x1024.size a} (e : off = ![0, 256 * b.val, 0])
    {hl : xM.view.LoadsAt (Rect.unit (s := S1x1024x1024) off S1x256x1024.size inb).toLoadRect} {cont : Vec F S1x256x1024 .f32 → Prog (TpuEff nD τ sig (Elt F) Λ₀ .tc) α}
    (H : Tri m K c iprop(Ins m c ∗ R) (cont (xblk m c b)) Q) :
    Tri m K c iprop(Ins m c ∗ R) (.op (.load xM (Rect.unit (s := S1x1024x1024) off S1x256x1024.size inb).toLoadRect hl) cont) Q := by
  subst e
  exact load_of (m := m) (K := K) (c := c) (mr := xM) (hl := hl) (S := Finset.univ) (q := fullShare) (f := xv m c) (cont := cont) (Finset.subset_univ _) Ins_X H

/-- The load of `Wq`. -/
theorem loadQ_step {off : Fin 2 → ℕ} {inb : ∀ a, off a + S1024x1024.size a ≤ S1024x1024.size a} (e : off = ![0, 0])
    {hl : wqM.view.LoadsAt (Rect.unit (s := S1024x1024) off S1024x1024.size inb).toLoadRect} {cont : Vec F S1024x1024 .f32 → Prog (TpuEff nD τ sig (Elt F) Λ₀ .tc) α}
    (H : Tri m K c iprop(Ins m c ∗ R) (cont (wqL m c)) Q) :
    Tri m K c iprop(Ins m c ∗ R) (.op (.load wqM (Rect.unit (s := S1024x1024) off S1024x1024.size inb).toLoadRect hl) cont) Q := by
  subst e
  exact load_of (m := m) (K := K) (c := c) (mr := wqM) (hl := hl) (S := Finset.univ) (q := fullShare) (f := wqv m c) (cont := cont) (Finset.subset_univ _) Ins_Q H

/-- The load of `Wo`. -/
theorem loadO_step {off : Fin 2 → ℕ} {inb : ∀ a, off a + S1024x1024.size a ≤ S1024x1024.size a} (e : off = ![0, 0])
    {hl : woM.view.LoadsAt (Rect.unit (s := S1024x1024) off S1024x1024.size inb).toLoadRect} {cont : Vec F S1024x1024 .f32 → Prog (TpuEff nD τ sig (Elt F) Λ₀ .tc) α}
    (H : Tri m K c iprop(Ins m c ∗ R) (cont (woL m c)) Q) :
    Tri m K c iprop(Ins m c ∗ R) (.op (.load woM (Rect.unit (s := S1024x1024) off S1024x1024.size inb).toLoadRect hl) cont) Q := by
  subst e
  exact load_of (m := m) (K := K) (c := c) (mr := woM) (hl := hl) (S := Finset.univ) (q := fullShare) (f := wov m c) (cont := cont) (Finset.subset_univ _) Ins_O H

/-! ## The buffer of heads -/

theorem cols_emb (h : Fin 8) (x : S256x128.Idx) (hb : 128 * h.val + (x 1).val < 1024) :
    (ctxM.access (Rect.unit (s := S256x1024) ![0, 128 * h.val] S256x128.size (col_inb h))).emb x = (ix2 (x 0) ⟨128 * h.val + (x 1).val, hb⟩ : S256x1024.Idx) := by
  show (Rect.unit (s := S256x1024) ![0, 128 * h.val] S256x128.size (col_inb h)).emb x = _
  funext a; apply Fin.ext
  match a with
  | ⟨0, _⟩ => show 0 + 1 * (x 0).val = (x 0).val; omega
  | ⟨1, _⟩ => show 128 * h.val + 1 * (x 1).val = 128 * h.val + (x 1).val; omega

theorem mem_cols {h : Fin 8} {i : S256x1024.Idx} :
    i ∈ (ctxM.access (Rect.unit (s := S256x1024) ![0, 128 * h.val] S256x128.size (col_inb h))).set ↔ (i 1).val / 128 = h.val := by
  have e : (ctxM.access (Rect.unit (s := S256x1024) ![0, 128 * h.val] S256x128.size (col_inb h))).set
      = (Rect.unit (s := S256x1024) ![0, 128 * h.val] S256x128.size (col_inb h)).set := View.set_slice_whole _ _
  rw [e, Rect.mem_set_unit]
  constructor
  · intro h'; have h0 : 128 * h.val ≤ (i 1).val ∧ (i 1).val < 128 * h.val + 128 := h' 1; omega
  · intro h' a
    match a with
    | ⟨0, _⟩ => have : (i 0).val < 256 := (i 0).isLt; show 0 ≤ (i 0).val ∧ (i 0).val < 0 + 256; omega
    | ⟨1, _⟩ => show 128 * h.val ≤ (i 1).val ∧ (i 1).val < 128 * h.val + 128; omega

theorem ctxAt_at (b : Fin 4) (h : Fin 8) (x : S256x128.Idx) (hb : 128 * h.val + (x 1).val < 1024) :
    ctxAt m c b (ix2 (x 0) ⟨128 * h.val + (x 1).val, hb⟩ : S256x1024.Idx) = headOut m c b h x := by
  have h1 : (x 1).val < 128 := (x 1).isLt
  show headOut m c b ⟨(128 * h.val + (x 1).val) / 128, _⟩ (ix2 (x 0) ⟨(128 * h.val + (x 1).val) % 128, _⟩) = _
  have e1 : (⟨(128 * h.val + (x 1).val) / 128, by omega⟩ : Fin 8) = h := Fin.ext (by show (128 * h.val + (x 1).val) / 128 = h.val; omega)
  have e2 : (ix2 (x 0) ⟨(128 * h.val + (x 1).val) % 128, Nat.mod_lt _ (by decide)⟩ : S256x128.Idx) = x := by
    funext a; apply Fin.ext
    match a with
    | ⟨0, _⟩ => rfl
    | ⟨1, _⟩ => show (128 * h.val + (x 1).val) % 128 = (x 1).val; omega
  rw [e1, e2]

/-- Storing a head adds it to those held. -/
theorem head_stored (b : Fin 4) (h : Fin 8) (f : (cc0_scratch2 : Ref sig .tc).ty.Contents (Elt F)) (hf : ∀ i : S256x1024.Idx, (i 1).val < 128 * h.val → f i = ctxAt m c b i)
    (i : S256x1024.Idx) (hi : (i 1).val < 128 * (h.val + 1)) :
    (ctxM.access (Rect.unit (s := S256x1024) ![0, 128 * h.val] S256x128.size (col_inb h))).write (Elt F) f (headOut m c b h) Finset.univ i = ctxAt m c b i := by
  by_cases hm : (i 1).val / 128 = h.val
  · refine write_eq_of (ctxM.access (Rect.unit (s := S256x1024) ![0, 128 * h.val] S256x128.size (col_inb h))) f (ctxAt m c b) (headOut m c b h) (fun x => ?_) i (mem_cols.mpr hm)
    have h1 : (x 1).val < 128 := (x 1).isLt
    have hb : 128 * h.val + (x 1).val < 1024 := by omega
    show ctxAt m c b ((ctxM.access (Rect.unit (s := S256x1024) ![0, 128 * h.val] S256x128.size (col_inb h))).emb x) = headOut m c b h x
    rw [cols_emb h x hb]
    exact ctxAt_at b h x hb
  · exact (View.write_of_not_mem (v := (ctxM.access (Rect.unit (s := S256x1024) ![0, 128 * h.val] S256x128.size (col_inb h)))) f (headOut m c b h) Finset.univ fun h' => hm (mem_cols.mp h')).trans (hf i (by omega))

/-- A load from the buffer of heads whose value nothing uses. -/
theorem loadC_step {b : Fin 4} {h : ℕ} {r : LoadRect S256x1024} {hl : ctxM.view.LoadsAt r} {cont : (r.shape.Idx → Elt F .f32) → Prog (TpuEff nD τ sig (Elt F) Λ₀ .tc) α}
    (H : ∀ v, Tri m K c iprop(Ins m c ∗ Heads m c b h ∗ R) (cont v) Q) : Tri m K c iprop(Ins m c ∗ Heads m c b h ∗ R) (.op (.load ctxM r hl) cont) Q := by
  refine Tri.swap ?_
  unfold Heads at *
  refine Tri.exist fun f => Tri.assoc (Tri.swap ?_)
  have := load_step (m := m) (K := K) (c := c) (R := iprop(⌜∀ i : S256x1024.Idx, (i 1).val < 128 * h → f i = ctxAt m c b i⌝ ∗ Ins m c ∗ R)) (Q := Q)
    (mr := ctxM) (hl := hl) (S := Finset.univ) (q := fullShare) (f := f) (cont := cont) (Finset.subset_univ _) ((H _).pre (by
      iintro ⟨H1, H2, H3, H4⟩
      isplitl [H3]; · iexact H3
      isplitl [H1 H2]
      · iexists f
        isplitl [H2] <;> iassumption
      iexact H4))
  exact this

/-- The load of all eight heads. -/
theorem loadCtx_step {b : Fin 4} {off : Fin 2 → ℕ} {inb : ∀ a, off a + S256x1024.size a ≤ S256x1024.size a} (e : off = ![0, 0])
    {hl : ctxM.view.LoadsAt (Rect.unit (s := S256x1024) off S256x1024.size inb).toLoadRect} {cont : Vec F S256x1024 .f32 → Prog (TpuEff nD τ sig (Elt F) Λ₀ .tc) α}
    (H : Tri m K c iprop(Ins m c ∗ Heads m c b 8 ∗ R) (cont (ctxAt m c b)) Q) :
    Tri m K c iprop(Ins m c ∗ Heads m c b 8 ∗ R) (.op (.load ctxM (Rect.unit (s := S256x1024) off S256x1024.size inb).toLoadRect hl) cont) Q := by
  refine Tri.swap ?_
  unfold Heads at *
  refine Tri.exist fun f => ?_
  refine Tri.pre (P' := iprop((⌜f = ctxAt m c b⌝ ∗ (((c : Thread nD τ).loc cc0_scratch2) ↦{fullShare} f)) ∗ Ins m c ∗ R)) ?_ (Tri.assoc (Tri.swap ?_))
  · iintro ⟨⟨%hf, H1⟩, H2⟩
    isplitl [H1]
    · isplitr
      · ipureintro; funext i; exact hf i (by have : (i 1).val < 1024 := (i 1).isLt; omega)
      iexact H1
    iexact H2
  have hz : off = fun _ => 0 := by subst e; funext a; match a with | ⟨0, _⟩ => rfl | ⟨1, _⟩ => rfl
  have hr := Memref.readAt_unit_zero (Elt F) (cc0_scratch2 : Ref sig .tc) hz inb f
  have := load_step (m := m) (K := K) (c := c) (R := iprop(⌜f = ctxAt m c b⌝ ∗ Ins m c ∗ R)) (Q := Q)
    (mr := ctxM) (hl := hl) (S := Finset.univ) (q := fullShare) (f := f) (cont := cont) (Finset.subset_univ _) (by
      unfold Tri at *
      iintro ⟨#HC, H1, %H2, H3, H4⟩
      subst H2
      rw [show cont (ctxM.view.readAt (Elt F) (Rect.unit (s := S256x1024) off S256x1024.size inb).toLoadRect (ctxAt m c b)) = cont (ctxAt m c b) from congrArg cont hr]
      iapply H
      isplitr; · iexact HC
      isplitl [H3]; · iexact H3
      isplitl [H1]
      · iexists (ctxAt m c b)
        isplitr
        · ipureintro; intro i _; rfl
        iexact H1
      iexact H4)
  exact this

/-- The store of head `h`. -/
theorem storeC_step {b : Fin 4} (h : Fin 8) {off : Fin 2 → ℕ} {inb : ∀ a, off a + S256x128.size a ≤ S256x1024.size a} (e : off = ![0, 128 * h.val])
    {w : Vec F S256x128 .f32} (hw : w = headOut m c b h)
    {hx : (ctxM.access (Rect.unit (s := S256x1024) off S256x128.size inb)).Stores Finset.univ}
    {hm : (Finset.univ : Finset (Rect.unit (s := S256x1024) off S256x128.size inb).shape.Idx) = Finset.univ ∨ ∀ a, (Rect.unit (s := S256x1024) off S256x128.size inb).stride a = 1}
    {cont : PUnit → Prog (TpuEff nD τ sig (Elt F) Λ₀ .tc) α}
    (H : Tri m K c iprop(Ins m c ∗ Heads m c b (h.val + 1) ∗ R) (cont ⟨⟩) Q) :
    Tri m K c iprop(Ins m c ∗ Heads m c b h.val ∗ R) (.op (.store ctxM (Rect.unit (s := S256x1024) off S256x128.size inb) w Finset.univ hx hm) cont) Q := by
  subst e hw
  refine Tri.swap ?_
  unfold Heads at *
  refine Tri.exist fun f => Tri.assoc (Tri.swap ?_)
  have := store_step (m := m) (K := K) (c := c) (R := iprop(⌜∀ i : S256x1024.Idx, (i 1).val < 128 * h.val → f i = ctxAt m c b i⌝ ∗ Ins m c ∗ R)) (Q := Q)
    (mr := ctxM) (r := Rect.unit (s := S256x1024) ![0, 128 * h.val] S256x128.size inb) (w := headOut m c b h) (hx := hx) (hm := hm) (S := Finset.univ) (f := f) (cont := cont) (Finset.subset_univ _) (H.pre (by
      iintro ⟨H1, %H2, H3, H4⟩
      isplitl [H3]; · iexact H3
      isplitl [H1]
      · iexists _
        isplitr
        · ipureintro; exact head_stored b h f H2
        iexact H1
      iexact H4))
  exact this

end Cert.AttnProof

end
-- ==== Proof.Sends.lean ====
/-
# The partial sums and their sends

A device computes its partial sums a block of 256 rows at a time, and after each block sends that block's eight groups of
32 rows away, leaving out its own group.
-/
module

public import proofs.«01_k».proof.Proof.Compute

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-! ## The buffer of partial sums -/

/-- The device that the rows of an index belong to. -/
def rowDev (i : S1024x1024.Idx) : Dev nD := ⟨(i 0).val / 32, row_lt i⟩

/-- The indices not sent yet once the first `n` groups are: those of later groups and the device's own. -/
def kept (c : Dev nD) (n : ℕ) : Finset S1024x1024.Idx := Finset.univ.filter fun i => n ≤ pos c (rowDev i) ∨ rowDev i = c

theorem mem_kept {n : ℕ} {i : S1024x1024.Idx} : i ∈ kept c n ↔ n ≤ pos c (rowDev i) ∨ rowDev i = c := by
  unfold kept; rw [Finset.mem_filter]; exact and_iff_right (Finset.mem_univ _)
theorem mem_part' {t : Dev nD} {i : S1024x1024.Idx} : i ∈ (partM t).view.set ↔ rowDev i = t :=
  mem_part.trans ⟨fun h => Fin.ext h, fun h => congrArg Fin.val h⟩
theorem kept_zero : kept c 0 = Finset.univ := Finset.filter_true_of_mem fun i _ => .inl (Nat.zero_le _)
theorem kept_end : kept c 32 = (partM c).view.set := by
  ext i
  rw [mem_kept, mem_part']
  have := pos_lt c (rowDev i)
  exact ⟨fun h => h.resolve_left (by omega), .inr⟩
theorem kept_take {n : ℕ} (hn : n < 32) (h : ord c n ≠ c) : kept c n \ (partM (ord c n)).view.set = kept c (n + 1) := by
  ext i
  rw [Finset.mem_sdiff, mem_kept, mem_kept, mem_part']
  constructor
  · rintro ⟨h1 | h1, h2⟩
    · refine .inl ?_
      rcases Nat.lt_or_ge n (pos c (rowDev i)) with h3 | h3
      · exact h3
      · exact absurd (pos_inj c ((show pos c (rowDev i) = n by omega).trans (pos_ord c hn).symm)) h2
    · exact .inr h1
  · rintro (h1 | h1)
    · refine ⟨.inl (by omega), fun h2 => ?_⟩
      rw [h2, pos_ord c hn] at h1; omega
    · exact ⟨.inr h1, fun h2 => h (h2.symm.trans h1)⟩
theorem kept_sub {n : ℕ} (hn : n < 32) : (partM (ord c n)).view.set ⊆ kept c n := fun i hi => by
  rw [mem_kept, mem_part'.mp hi, pos_ord c hn]; exact .inl (Nat.le_refl n)
theorem kept_skip {n : ℕ} (hn : n < 32) (h : ord c n = c) : kept c n = kept c (n + 1) := by
  ext i
  rw [mem_kept, mem_kept]
  constructor
  · rintro (h1 | h1)
    · rcases Nat.lt_or_ge n (pos c (rowDev i)) with h3 | h3
      · exact .inl h3
      · exact .inr ((pos_inj c ((show pos c (rowDev i) = n by omega).trans (pos_ord c hn).symm)).trans h)
    · exact .inr h1
  · rintro (h1 | h1)
    · exact .inl (by omega)
    · exact .inr h1

/-- The rows of block `b`. -/
abbrev blkV (b : Fin 4) := partW.access (Rect.unit (s := S1024x1024) ![256 * b.val, 0] S256x1024.size (blk_inb b))

theorem blk_emb (b : Fin 4) (x : S256x1024.Idx) (hb : 256 * b.val + (x 0).val < 1024) :
    (blkV b).emb x = (ix2 ⟨256 * b.val + (x 0).val, hb⟩ (x 1) : S1024x1024.Idx) := by
  show (Rect.unit (s := S1024x1024) ![256 * b.val, 0] S256x1024.size (blk_inb b)).emb x = _
  funext a; apply Fin.ext
  match a with
  | ⟨0, _⟩ => show 256 * b.val + 1 * (x 0).val = 256 * b.val + (x 0).val; omega
  | ⟨1, _⟩ => show 0 + 1 * (x 1).val = (x 1).val; omega

theorem mem_blk {b : Fin 4} {i : S1024x1024.Idx} : i ∈ (blkV b).set ↔ (i 0).val / 256 = b.val := by
  have e : (blkV b).set = (Rect.unit (s := S1024x1024) ![256 * b.val, 0] S256x1024.size (blk_inb b)).set := View.set_slice_whole _ _
  rw [e, Rect.mem_set_unit]
  constructor
  · intro h'; have h0 : 256 * b.val ≤ (i 0).val ∧ (i 0).val < 256 * b.val + 256 := h' 0; omega
  · intro h' a
    match a with
    | ⟨0, _⟩ => show 256 * b.val ≤ (i 0).val ∧ (i 0).val < 256 * b.val + 256; omega
    | ⟨1, _⟩ => have : (i 1).val < 1024 := (i 1).isLt; show 0 ≤ (i 1).val ∧ (i 1).val < 0 + 1024; omega

theorem PART_at (b : Fin 4) (x : S256x1024.Idx) (hb : 256 * b.val + (x 0).val < 1024) :
    PART m c (ix2 ⟨256 * b.val + (x 0).val, hb⟩ (x 1) : S1024x1024.Idx) = blockOut m c b x := by
  have h1 : (x 0).val < 256 := (x 0).isLt
  show blockOut m c ⟨(256 * b.val + (x 0).val) / 256, _⟩ (ix2 ⟨(256 * b.val + (x 0).val) % 256, _⟩ (x 1)) = _
  have e1 : (⟨(256 * b.val + (x 0).val) / 256, by omega⟩ : Fin 4) = b := Fin.ext (by show (256 * b.val + (x 0).val) / 256 = b.val; omega)
  have e2 : (ix2 ⟨(256 * b.val + (x 0).val) % 256, Nat.mod_lt _ (by decide)⟩ (x 1) : S256x1024.Idx) = x := by
    funext a; apply Fin.ext
    match a with
    | ⟨0, _⟩ => show (256 * b.val + (x 0).val) % 256 = (x 0).val; omega
    | ⟨1, _⟩ => rfl
  rw [e1, e2]

/-- Which block a group of rows lies in, by its place in the order. -/
theorem pos_blk (k : ℕ) (hk : k < 4) (i : S1024x1024.Idx) : (i 0).val / 256 = (blk c k).val ↔ 8 * k ≤ pos c (rowDev i) ∧ pos c (rowDev i) < 8 * (k + 1) := by
  have h0 : (i 0).val < 1024 := (i 0).isLt
  have h1 := c.isLt
  simp only [nD] at h1
  show (i 0).val / 256 = (c.val / 8 + 1 + k) % 4 ↔ 8 * k ≤ 8 * (((i 0).val / 32 / 8 + 3 - c.val / 8) % 4) + (i 0).val / 32 % 8
    ∧ 8 * (((i 0).val / 32 / 8 + 3 - c.val / 8) % 4) + (i 0).val / 32 % 8 < 8 * (k + 1)
  omega

theorem block_stored (k : ℕ) (hk : k < 4) (f : (cc0_scratch4 : Ref sig .tc).ty.Contents (Elt F))
    (hf : ∀ i : S1024x1024.Idx, pos c (rowDev i) < 8 * k → f i = PART m c i) (i : S1024x1024.Idx) (hi : pos c (rowDev i) < 8 * (k + 1)) :
    (blkV (blk c k)).write (Elt F) f (blockOut m c (blk c k)) Finset.univ i = PART m c i := by
  by_cases hm : (i 0).val / 256 = (blk c k).val
  · refine write_eq_of (blkV (blk c k)) f (PART m c) (blockOut m c (blk c k)) (fun x => ?_) i (mem_blk.mpr hm)
    have h1 : (x 0).val < 256 := (x 0).isLt
    have h2 := (blk c k).isLt
    have hb : 256 * (blk c k).val + (x 0).val < 1024 := by omega
    show PART m c ((blkV (blk c k)).emb x) = blockOut m c (blk c k) x
    rw [blk_emb (blk c k) x hb]
    exact PART_at (blk c k) x hb
  · refine (View.write_of_not_mem (v := blkV (blk c k)) f (blockOut m c (blk c k)) Finset.univ fun h' => hm (mem_blk.mp h')).trans (hf i ?_)
    have := mt (pos_blk (c := c) k hk i).mpr hm
    omega

/-! ## The state of the sends -/

/-- The partial sums: `k` blocks computed, the first `n` groups of 32 rows sent. -/
def Sums (m : (ℓ : Loc nD τ sig) → Buf (Elt F) ℓ) (c : Dev nD) (k n : ℕ) : SP F :=
  iprop(∃ f : (cc0_scratch4 : Ref sig .tc).ty.Contents (Elt F), ⌜∀ i : S1024x1024.Idx, pos c (rowDev i) < 8 * k → f i = PART m c i⌝
    ∗ (((c : Thread nD τ).loc cc0_scratch4) ↦[kept c n]{fullShare} f))

/-- What device `c` holds towards its send to device `t`. -/
def toSend (c t : Dev nD) : SP F :=
  iprop(dutyTok ER (cell c (kS t)) 0 c ∗ dutyTok ER (cell t (kR c)) 0 c ∗ (∃ f, rsPts t c f))
/-- The sends, the first `n` done. -/
def Sends (c : Dev nD) (n : ℕ) : SP F :=
  iprop(owesAny c (Ow c ∅ (later c n) (others c))
    ∗ fam (others c) (pos c) (fun t => cred (tallyAt (cell c (kS t)) () NR)) (fun t => toSend c t) n)

/-- A load from the partial sums whose value nothing uses: of the block computed next. -/
theorem loadP_step (k : ℕ) (hk : k < 4) {off : Fin 2 → ℕ} {inb : ∀ a, off a + S256x1024.size a ≤ S1024x1024.size a} (e : off = ![256 * (blk c k).val, 0])
    {hl : partW.view.LoadsAt (Rect.unit (s := S1024x1024) off S256x1024.size inb).toLoadRect} {cont : Vec F S256x1024 .f32 → Prog (TpuEff nD τ sig (Elt F) Λ₀ .tc) α}
    (H : ∀ v, Tri m K c iprop(Sums m c k (8 * k) ∗ R) (cont v) Q) :
    Tri m K c iprop(Sums m c k (8 * k) ∗ R) (.op (.load partW (Rect.unit (s := S1024x1024) off S256x1024.size inb).toLoadRect hl) cont) Q := by
  subst e
  unfold Sums at *
  refine Tri.exist fun f => Tri.assoc (Tri.swap ?_)
  have hS : (blkV (blk c k)).set ⊆ kept c (8 * k) := fun i hi => mem_kept.mpr (.inl ((pos_blk k hk i).mp (mem_blk.mp hi)).1)
  have hS' : partW.view.setOn (Rect.unit (s := S1024x1024) ![256 * (blk c k).val, 0] S256x1024.size inb).set ⊆ kept c (8 * k) := by
    rw [show (blkV (blk c k)).set = partW.view.setOn (Rect.unit (s := S1024x1024) ![256 * (blk c k).val, 0] S256x1024.size inb).set from View.set_slice _ _] at hS
    exact hS
  have := load_step (m := m) (K := K) (c := c) (R := iprop(⌜∀ i : S1024x1024.Idx, pos c (rowDev i) < 8 * k → f i = PART m c i⌝ ∗ R)) (Q := Q)
    (mr := partW) (hl := hl) (S := kept c (8 * k)) (q := fullShare) (f := f) (cont := cont) hS' ((H _).pre (by
      iintro ⟨H1, H2, H4⟩
      isplitl [H1 H2]
      · iexists f
        isplitl [H2] <;> iassumption
      iexact H4))
  exact this

/-- The store of a block of partial sums. -/
theorem storeP_step (k : ℕ) (hk : k < 4) {off : Fin 2 → ℕ} {inb : ∀ a, off a + S256x1024.size a ≤ S1024x1024.size a} (e : off = ![256 * (blk c k).val, 0])
    {w : Vec F S256x1024 .f32} (hw : w = blockOut m c (blk c k))
    {hx : (partW.access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {cont : PUnit → Prog (TpuEff nD τ sig (Elt F) Λ₀ .tc) α}
    (H : Tri m K c iprop(Sums m c (k + 1) (8 * k) ∗ R) (cont ⟨⟩) Q) :
    Tri m K c iprop(Sums m c k (8 * k) ∗ R) (.op (.store partW (Rect.unit (s := S1024x1024) off S256x1024.size inb) w Finset.univ hx hm) cont) Q := by
  subst e hw
  unfold Sums at *
  refine Tri.exist fun f => Tri.assoc (Tri.swap ?_)
  have hS : (blkV (blk c k)).set ⊆ kept c (8 * k) := fun i hi => mem_kept.mpr (.inl ((pos_blk k hk i).mp (mem_blk.mp hi)).1)
  have := store_step (m := m) (K := K) (c := c) (R := iprop(⌜∀ i : S1024x1024.Idx, pos c (rowDev i) < 8 * k → f i = PART m c i⌝ ∗ R)) (Q := Q)
    (mr := partW) (r := Rect.unit (s := S1024x1024) ![256 * (blk c k).val, 0] S256x1024.size inb) (w := blockOut m c (blk c k)) (hx := hx) (hm := hm)
    (S := kept c (8 * k)) (f := f) (cont := cont) hS (H.pre (by
      iintro ⟨H1, %H2, H4⟩
      isplitl [H1]
      · iexists _
        isplitr
        · ipureintro; exact block_stored k hk f H2
        iexact H1
      iexact H4))
  exact this

/-- The kernel's terms for its `n`-th send: done unless the group is the device's own; the group's send semaphore, the device's
    receive semaphore at the target, the device's slot there, the group's rows, the target. -/
def SendFacts (n : ℕ) (cnd : Dev nD → BitVec 1) (oS oR : Dev nD → Fin 1 → ℕ) (oD : Dev nD → Fin 3 → ℕ) (oP : Dev nD → Fin 2 → ℕ) (dv : Dev nD → ℕ) : Prop :=
  ∀ c : Dev nD, (cnd c = 1#1 ↔ ord c n ≠ c) ∧ oS c = ![(ord c n).val] ∧ oR c = ![c.val] ∧ oD c = ![c.val, 0, 0] ∧ oP c = ![32 * (ord c n).val, 0]
    ∧ dv c = (ord c n).val
instance {n cnd oS oR oD oP dv} : Decidable (SendFacts n cnd oS oR oD oP dv) := by unfold SendFacts; infer_instance

theorem Sums_take (k n : ℕ) (hn : n < 32) (hk : n < 8 * k) (h : ord c n ≠ c) :
    Sums m c k n ⊢ iprop(partPts c (ord c n) (PART m c) ∗ Sums m c k (n + 1)) := by
  unfold Sums partPts
  iintro ⟨%f, %hf, H⟩
  ihave H := (pointsTo_split_subset (kept_sub (c := c) hn)).1 $$ H
  rw [kept_take hn h]
  icases H with ⟨H1, H2⟩
  isplitl [H1]
  · rw [show (((partM (ord c n)).view.loc (c : Thread nD τ)) ↦[(partM (ord c n)).view.set]{fullShare} PART m c : SP F)
      = (((c : Thread nD τ).loc cc0_scratch4) ↦[(partM (ord c n)).view.set]{fullShare} f) from
      (pointsTo_congr fun i hi => hf i (by rw [mem_part'.mp hi, pos_ord c hn]; exact hk)).symm]
    iexact H1
  iexists f
  isplitr
  · ipureintro; exact hf
  iexact H2

theorem Sums_skip (k n : ℕ) (hn : n < 32) (h : ord c n = c) : Sums m c k n = Sums m c k (n + 1) := by
  unfold Sums; rw [kept_skip hn h]
theorem Sends_skip (n : ℕ) (hn : n < 32) (h : ord c n = c) : (Sends c n : SP F) = Sends c (n + 1) := by
  unfold Sends
  rw [later_skip c hn h, fam_skip (others c) (pos c) _ _ fun d hd e => mem_others.mp hd ((pos_inj c (e.trans (pos_ord c hn).symm)).trans h)]

theorem land_rs_pay (t : Dev nD) (ht : t ≠ c) (fd : (cc0_scratch6 : Ref sig .tc).ty.Contents (Elt F)) :
    ((((t : Thread nD τ).loc cc0_scratch6) ↦[(rsM c).view.set]{fullShare} ((rsM c).view.write (Elt F) fd ((partM t).view.read (Elt F) (PART m c)) Finset.univ)) : SP F)
      ⊢ pay m t (kR c) c := by
  rw [show (pay m t (kR c) c : SP F) = rsPts t c (RSALL m t) from rfl]
  unfold rsPts
  rw [pointsTo_congr (land_rs m c t fd)]

/-- A send of the group of place `n`, to the device it belongs to. -/
theorem send_to (k n : ℕ) (hn : n < 32) (hk : n < 8 * k) (hne : ord c n ≠ c) {src dst : Memref sig .tc .vmem S32x1024 .f32} {sS sR : DmaSem sig} {d : Dev nD}
    {hsc : dst.view.ref.isScScratch = false} {w1 : src.view.WordExact} {w2 : dst.view.WordExact}
    {w3 : DmaTarget.Typed (p := .tc) .vmem (SemLoc.dma sR) (.remote (Dev.tc d : Thread nD τ) dst (.dma sS) hsc)}
    (hsrc : src = partM (ord c n)) (hdst : dst = rsM c) (hsS : SemLoc.dma sS = osem (oS (ord c n))) (hsR : SemLoc.dma sR = osem (oR c)) (hd : d = ord c n)
    {cont : PUnit → Prog (TpuEff nD τ sig (Elt F) Λ₀ .tc) α}
    (H : Tri m K c iprop(Sums m c k (n + 1) ∗ Sends c (n + 1) ∗ R) (cont ⟨⟩) Q) :
    Tri m K c iprop(Sums m c k n ∗ Sends c n ∗ R)
      (.op (.enqueueDma src (.remote (Dev.tc d : Thread nD τ) dst (.dma sS) hsc) (.dma sR) w1 w2 w3) cont) Q := by
  subst hsrc hdst hd
  refine Tri.pre (P' := iprop((owesAny c (Ow c ∅ (later c n) (others c)) ∗ partPts c (ord c n) (PART m c))
    ∗ fam (others c) (pos c) (fun t => cred (tallyAt (cell c (kS t)) () NR)) (fun t => toSend c t) n ∗ (Sums m c k (n + 1) ∗ R))) ?_
    (Tri.famStep (Y' := owesAny c (Ow c ∅ (later c (n + 1)) (others c))) (p' := cont ⟨⟩) (ord c n) (mem_others.mpr hne) (pos_ord c hn)
      (fun d _ e => pos_inj c e) (fun R' H' => ?_) (H.pre ?_))
  · iintro ⟨HS, HO, HR⟩
    ihave HS := (Sums_take k n hn hk hne) $$ HS
    icases HS with ⟨HP, HS⟩
    unfold Sends
    icases HO with ⟨HO, HF⟩
    isplitl [HO HP]
    · isplitl [HO] <;> iassumption
    isplitl [HF]; · iexact HF
    isplitl [HS] <;> iassumption
  · refine Tri.pre (P' := iprop((∃ fd, owesAny c (Ow c ∅ (later c n) (others c)) ∗ partPts c (ord c n) (PART m c) ∗ rsPts (ord c n) c fd
      ∗ dutyTok ER (cell c (kS (ord c n))) 0 c ∗ dutyTok ER (cell (ord c n) (kR c)) 0 c) ∗ R')) ?_ (Tri.exist fun fd => ?_)
    · unfold toSend
      iintro ⟨⟨⟨HO, HP⟩, H1, H2, ⟨%fd, H3⟩⟩, HR⟩
      isplitr [HR]
      · iexists fd
        isplitl [HO]; · iexact HO
        isplitl [HP]; · iexact HP
        isplitl [H3]; · iexact H3
        isplitl [H1] <;> iassumption
      iexact HR
    have hp := land_rs_pay (m := m) (c := c) (ord c n) hne fd
    have hO := Ow_R c (B := ∅) (A := others c) (later_notMem c hn)
    rw [← later_step c hn hne] at hO
    unfold rsPts partPts at *
    have := send_step (m := m) (K := K) (c := c) (R := R') (Q := Q) (ord c n) (oS (ord c n)) (oR c) (src := partM (ord c n)) (dst := rsM c) (sS := sS) (sR := sR)
      (hsc := hsc) (h1 := w1) (h2 := w2) (h3 := w3) hsS hsR (if_neg hne) (if_neg hne.symm) credit_rs rfl rfl (q := fullShare) (fs := PART m c) (fd := fd)
      (BI.Entails.refl _) hp (Ow c ∅ (later c (n + 1)) (others c)) hO (cont := cont) H'
    exact this
  · iintro ⟨HO, HF, HS, HR⟩
    isplitl [HS]; · iexact HS
    isplitl [HO HF]
    · unfold Sends
      isplitl [HO] <;> iassumption
    iexact HR

/-- The `n`-th send. -/
theorem csend_step (k n : ℕ) (hn : n < 32) (hk : n < 8 * k) {cnd : Dev nD → BitVec 1} {oS oR : Dev nD → Fin 1 → ℕ} {oD : Dev nD → Fin 3 → ℕ} {oP : Dev nD → Fin 2 → ℕ} {dv : Dev nD → ℕ}
    {iS : cnd c = 1#1 → ∀ a, oS c a + S1.size a ≤ S32.size a} {iR : cnd c = 1#1 → ∀ a, oR c a + S1.size a ≤ S32.size a}
    {iD : cnd c = 1#1 → ∀ a, oD c a + S1x32x1024.size a ≤ S32x32x1024.size a} {iP : cnd c = 1#1 → ∀ a, oP c a + S32x1024.size a ≤ S1024x1024.size a}
    {lt : cnd c = 1#1 → dv c < nD}
    {w1 : (h : cnd c = 1#1) → (partW.slice (Rect.unit (s := S1024x1024) (oP c) S32x1024.size (iP h)) (fun _ => rfl)).view.WordExact}
    {w2 : (h : cnd c = 1#1) → ((rsW.slice (Rect.unit (s := S32x32x1024) (oD c) S1x32x1024.size (iD h)) (fun _ => rfl)).squeeze S32x1024 squeezes_S1x32x1024_S32x1024).view.WordExact}
    {hsc : (h : cnd c = 1#1) → ((rsW.slice (Rect.unit (s := S32x32x1024) (oD c) S1x32x1024.size (iD h)) (fun _ => rfl)).squeeze S32x1024 squeezes_S1x32x1024_S32x1024).view.ref.isScScratch = false}
    {w3 : (h : cnd c = 1#1) → DmaTarget.Typed (p := .tc) .vmem (SemLoc.dma ((cc0_scratch8.slice (Rect.unit (s := S32) (oR c) S1.size (iR h))).squeeze S_ squeezes_S1_S_).sem)
      (.remote (Dev.tc (⟨dv c, lt h⟩ : Dev nD) : Thread nD τ)
        ((rsW.slice (Rect.unit (s := S32x32x1024) (oD c) S1x32x1024.size (iD h)) (fun _ => rfl)).squeeze S32x1024 squeezes_S1x32x1024_S32x1024)
        (.dma ((cc0_scratch7.slice (Rect.unit (s := S32) (oS c) S1.size (iS h))).squeeze S_ squeezes_S1_S_).sem) (hsc h))}
    (hf : SendFacts n cnd oS oR oD oP dv) {β : Type} {J : Prog (TpuEff nD τ sig (Elt F) Λ₀ .tc) β} {cont : β → Prog (TpuEff nD τ sig (Elt F) Λ₀ .tc) α}
    (H : Tri m K c iprop(Sums m c k (n + 1) ∗ Sends c (n + 1) ∗ R) (Prog.bind J cont) Q) :
    Tri m K c iprop(Sums m c k n ∗ Sends c n ∗ R)
      (Prog.bind (if h : cnd c = 1#1 then
        .op (.enqueueDma (partW.slice (Rect.unit (s := S1024x1024) (oP c) S32x1024.size (iP h)) (fun _ => rfl))
          (.remote (Dev.tc (⟨dv c, lt h⟩ : Dev nD) : Thread nD τ)
            ((rsW.slice (Rect.unit (s := S32x32x1024) (oD c) S1x32x1024.size (iD h)) (fun _ => rfl)).squeeze S32x1024 squeezes_S1x32x1024_S32x1024)
            (.dma ((cc0_scratch7.slice (Rect.unit (s := S32) (oS c) S1.size (iS h))).squeeze S_ squeezes_S1_S_).sem) (hsc h))
          (.dma ((cc0_scratch8.slice (Rect.unit (s := S32) (oR c) S1.size (iR h))).squeeze S_ squeezes_S1_S_).sem) (w1 h) (w2 h) (w3 h)) (fun _ => J)
        else J) cont) Q := by
  obtain ⟨h1, h2, h3, h4, h5, h6⟩ := hf c
  by_cases h : cnd c = 1#1
  · rw [dif_pos h]
    have hne := h1.mp h
    exact send_to k n hn hk (h1.mp h) (part_of (ord c n) h5) (rs_of c h4) (semS (ord c n) h2) (semR c h3) (Fin.ext h6) H
  · rw [dif_neg h]
    have he : ord c n = c := Decidable.byContradiction fun h' => h (h1.mpr h')
    rw [Sums_skip k n hn he, Sends_skip n hn he]
    exact H

end Cert.AttnProof

end
-- ==== Proof.Calc.lean ====
/-
# The computation of a block, as rules on one state

The state `Calc k h n`: `k` blocks of partial sums done, the first `n` groups of rows sent, `h` heads of the next block done.
-/
module

public import proofs.«01_k».proof.Proof.Sends
public import proofs.«01_k».proof.Proof.Gen.KernelIdeal.Skeleton

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- A function of the body's operands, at those of the launch. -/
abbrev onArgs {X : Type _}
    (p : (a0 : Memref sig .tc .vmem S1x1024x1024 .f32) → a0.IsWhole → (a1 : Memref sig .tc .vmem S1024x1024 .f32) → a1.IsWhole → (a2 : Memref sig .tc .hbm S1x1024x256x128 .f32) → a2.IsWhole → (a3 : Memref sig .tc .hbm S1x1024x256x128 .f32) → a3.IsWhole → (a4 : Memref sig .tc .vmem S1024x1024 .f32) → a4.IsWhole → (a5 : Memref sig .tc .vmem S1024x1024 .f32) → a5.IsWhole → (a6 : Memref sig .tc .vmem S8x1024x128 .f32) → a6.IsWhole → (a7 : Memref sig .tc .vmem S8x1024x128 .f32) → a7.IsWhole → (a8 : Memref sig .tc .vmem S256x1024 .f32) → a8.IsWhole → (a9 : Memref sig .tc .vmem S1024x1024 .f32) → a9.IsWhole → (a10 : Memref sig .tc .vmem S1024x1024 .f32) → a10.IsWhole →
      DmaSems sig S2x8 → (a12 : Memref sig .tc .vmem S32x32x1024 .f32) → a12.IsWhole → DmaSems sig S32 → DmaSems sig S32 → DmaSems sig S32 → DmaSems sig S32 → X) : X :=
  p xM (Memref.isWhole_whole _) wqM (Memref.isWhole_whole _) kExtW (Memref.isWhole_whole _) vExtW (Memref.isWhole_whole _) woM (Memref.isWhole_whole _) outW (Memref.isWhole_whole _) kW (Memref.isWhole_whole _) vW (Memref.isWhole_whole _) ctxM (Memref.isWhole_whole _) biasM (Memref.isWhole_whole _) partW (Memref.isWhole_whole _) cc0_scratch5 rsW (Memref.isWhole_whole _) cc0_scratch7 cc0_scratch8 cc0_scratch9 cc0_scratch10

theorem off2_at : ∀ (c : Dev nD) (k : Fin 4), k0_off2 c (BitVec.ofNat 32 k.val) = ![0, 256 * (blk c k.val).val, 0] := by decide +kernel
theorem off3_at : ∀ (c : Dev nD) (k : Fin 4), k0_off3 c (BitVec.ofNat 32 k.val) = ![256 * (blk c k.val).val, 0] := by decide +kernel

/-- The state of the computation. -/
def Calc (m : (ℓ : Loc nD τ sig) → Buf (Elt F) ℓ) (c : Dev nD) (k h n : ℕ) : SP F :=
  iprop(Ins m c ∗ Heads m c (blk c k) h ∗ Sums m c k n ∗ Sends c n)

theorem Calc.ins {k h n k' h' n' : ℕ} {p p' : Prog (TpuEff nD τ sig (Elt F) Λ₀ .tc) α}
    (hs : ∀ R' : SP F, Tri m K c iprop(Ins m c ∗ Heads m c (blk c k') h' ∗ R') p' Q → Tri m K c iprop(Ins m c ∗ Heads m c (blk c k) h ∗ R') p Q)
    (e : k' = k) (e' : n' = n) (H : Tri m K c iprop(Calc m c k' h' n' ∗ R) p' Q) : Tri m K c iprop(Calc m c k h n ∗ R) p Q := by
  subst e e'
  refine Tri.pre (P' := iprop(Ins m c ∗ Heads m c (blk c k') h ∗ (Sums m c k' n' ∗ Sends c n' ∗ R))) ?_ (hs _ (H.pre ?_))
  · unfold Calc
    iintro ⟨⟨H1, H2, H3, H4⟩, H5⟩
    isplitl [H1]; · iexact H1
    isplitl [H2]; · iexact H2
    isplitl [H3]; · iexact H3
    isplitl [H4] <;> iassumption
  · unfold Calc
    iintro ⟨H1, H2, H3, H4, H5⟩
    isplitr [H5]
    · isplitl [H1]; · iexact H1
      isplitl [H2]; · iexact H2
      isplitl [H3] <;> iassumption
    iexact H5

theorem Calc.sums {k h n k' n' : ℕ} {p p' : Prog (TpuEff nD τ sig (Elt F) Λ₀ .tc) α}
    (hs : ∀ R' : SP F, Tri m K c iprop(Sums m c k' n' ∗ Sends c n' ∗ R') p' Q → Tri m K c iprop(Sums m c k n ∗ Sends c n ∗ R') p Q)
    (e : k' = k) (H : Tri m K c iprop(Calc m c k' h n' ∗ R) p' Q) : Tri m K c iprop(Calc m c k h n ∗ R) p Q := by
  subst e
  refine Tri.pre (P' := iprop(Sums m c k' n ∗ Sends c n ∗ (Ins m c ∗ Heads m c (blk c k') h ∗ R))) ?_ (hs _ (H.pre ?_))
  · unfold Calc
    iintro ⟨⟨H1, H2, H3, H4⟩, H5⟩
    isplitl [H3]; · iexact H3
    isplitl [H4]; · iexact H4
    isplitl [H1]; · iexact H1
    isplitl [H2] <;> iassumption
  · unfold Calc
    iintro ⟨H3, H4, H1, H2, H5⟩
    isplitr [H5]
    · isplitl [H1]; · iexact H1
      isplitl [H2]; · iexact H2
      isplitl [H3] <;> iassumption
    iexact H5

section
variable {k h n : ℕ}

/-- The load of head `i` of the keys. -/
theorem kload (i : Fin 8) {off : Fin 3 → ℕ} {inb : ∀ a, off a + S1x1024x128.size a ≤ S8x1024x128.size a} (e : off = ![i.val, 0, 0])
    {hl : kW.view.LoadsAt (Rect.unit (s := S8x1024x128) off S1x1024x128.size inb).toLoadRect} {cont : Vec F S1x1024x128 .f32 → Prog (TpuEff nD τ sig (Elt F) Λ₀ .tc) α}
    (H : Tri m K c iprop(Calc m c k h n ∗ R) (cont (kL m c i)) Q) :
    Tri m K c iprop(Calc m c k h n ∗ R) (.op (.load kW (Rect.unit (s := S8x1024x128) off S1x1024x128.size inb).toLoadRect hl) cont) Q :=
  Calc.ins (fun R' H' => loadK_step i e H') rfl rfl H

/-- The load of head `i` of the values. -/
theorem vload (i : Fin 8) {off : Fin 3 → ℕ} {inb : ∀ a, off a + S1x1024x128.size a ≤ S8x1024x128.size a} (e : off = ![i.val, 0, 0])
    {hl : vW.view.LoadsAt (Rect.unit (s := S8x1024x128) off S1x1024x128.size inb).toLoadRect} {cont : Vec F S1x1024x128 .f32 → Prog (TpuEff nD τ sig (Elt F) Λ₀ .tc) α}
    (H : Tri m K c iprop(Calc m c k h n ∗ R) (cont (vL m c i)) Q) :
    Tri m K c iprop(Calc m c k h n ∗ R) (.op (.load vW (Rect.unit (s := S8x1024x128) off S1x1024x128.size inb).toLoadRect hl) cont) Q :=
  Calc.ins (fun R' H' => loadV_step i e H') rfl rfl H

/-- The load of the current block of the bias. -/
theorem bload {off : Fin 2 → ℕ} {inb : ∀ a, off a + S256x1024.size a ≤ S1024x1024.size a} (e : off = ![256 * (blk c k).val, 0])
    {hl : biasM.view.LoadsAt (Rect.unit (s := S1024x1024) off S256x1024.size inb).toLoadRect} {cont : Vec F S256x1024 .f32 → Prog (TpuEff nD τ sig (Elt F) Λ₀ .tc) α}
    (H : Tri m K c iprop(Calc m c k h n ∗ R) (cont (biasL (blk c k))) Q) :
    Tri m K c iprop(Calc m c k h n ∗ R) (.op (.load biasM (Rect.unit (s := S1024x1024) off S256x1024.size inb).toLoadRect hl) cont) Q :=
  Calc.ins (fun R' H' => loadB_step (blk c k) e H') rfl rfl H

/-- The load of the current block of `x`. -/
theorem xload {off : Fin 3 → ℕ} {inb : ∀ a, off a + S1x256x1024.size a ≤ S1x1024x1024.size a} (e : off = ![0, 256 * (blk c k).val, 0])
    {hl : xM.view.LoadsAt (Rect.unit (s := S1x1024x1024) off S1x256x1024.size inb).toLoadRect} {cont : Vec F S1x256x1024 .f32 → Prog (TpuEff nD τ sig (Elt F) Λ₀ .tc) α}
    (H : Tri m K c iprop(Calc m c k h n ∗ R) (cont (xblk m c (blk c k))) Q) :
    Tri m K c iprop(Calc m c k h n ∗ R) (.op (.load xM (Rect.unit (s := S1x1024x1024) off S1x256x1024.size inb).toLoadRect hl) cont) Q :=
  Calc.ins (fun R' H' => loadX_step (blk c k) e H') rfl rfl H

/-- The load of `Wq`. -/
theorem qload {off : Fin 2 → ℕ} {inb : ∀ a, off a + S1024x1024.size a ≤ S1024x1024.size a} (e : off = ![0, 0])
    {hl : wqM.view.LoadsAt (Rect.unit (s := S1024x1024) off S1024x1024.size inb).toLoadRect} {cont : Vec F S1024x1024 .f32 → Prog (TpuEff nD τ sig (Elt F) Λ₀ .tc) α}
    (H : Tri m K c iprop(Calc m c k h n ∗ R) (cont (wqL m c)) Q) :
    Tri m K c iprop(Calc m c k h n ∗ R) (.op (.load wqM (Rect.unit (s := S1024x1024) off S1024x1024.size inb).toLoadRect hl) cont) Q :=
  Calc.ins (fun R' H' => loadQ_step e H') rfl rfl H

/-- A load from the buffer of heads whose value nothing uses. -/
theorem cload {r : LoadRect S256x1024} {hl : ctxM.view.LoadsAt r} {cont : (r.shape.Idx → Elt F .f32) → Prog (TpuEff nD τ sig (Elt F) Λ₀ .tc) α}
    (H : ∀ v, Tri m K c iprop(Calc m c k h n ∗ R) (cont v) Q) : Tri m K c iprop(Calc m c k h n ∗ R) (.op (.load ctxM r hl) cont) Q := by
  refine Tri.pre (P' := iprop(Ins m c ∗ Heads m c (blk c k) h ∗ (Sums m c k n ∗ Sends c n ∗ R))) ?_ (loadC_step fun v => (H v).pre ?_)
  · unfold Calc
    iintro ⟨⟨H1, H2, H3, H4⟩, H5⟩
    isplitl [H1]; · iexact H1
    isplitl [H2]; · iexact H2
    isplitl [H3]; · iexact H3
    isplitl [H4] <;> iassumption
  · unfold Calc
    iintro ⟨H1, H2, H3, H4, H5⟩
    isplitr [H5]
    · isplitl [H1]; · iexact H1
      isplitl [H2]; · iexact H2
      isplitl [H3] <;> iassumption
    iexact H5

/-- The store of head `i`, the next one. -/
theorem cstore (i : Fin 8) {off : Fin 2 → ℕ} {inb : ∀ a, off a + S256x128.size a ≤ S256x1024.size a} (e : off = ![0, 128 * i.val])
    {w : Vec F S256x128 .f32} (hw : w = headOut m c (blk c k) i)
    {hx : (ctxM.access (Rect.unit (s := S256x1024) off S256x128.size inb)).Stores Finset.univ}
    {hm : (Finset.univ : Finset (Rect.unit (s := S256x1024) off S256x128.size inb).shape.Idx) = Finset.univ ∨ ∀ a, (Rect.unit (s := S256x1024) off S256x128.size inb).stride a = 1}
    {cont : PUnit → Prog (TpuEff nD τ sig (Elt F) Λ₀ .tc) α}
    (H : Tri m K c iprop(Calc m c k (i.val + 1) n ∗ R) (cont ⟨⟩) Q) :
    Tri m K c iprop(Calc m c k i.val n ∗ R) (.op (.store ctxM (Rect.unit (s := S256x1024) off S256x128.size inb) w Finset.univ hx hm) cont) Q :=
  Calc.ins (p' := cont ⟨⟩) (fun R' H' => storeC_step i e hw H') rfl rfl H

/-- A head: its loads and its store. -/
theorem head (i : Fin 8) {o1 o3 : Fin 3 → ℕ} {o2 o4 : Fin 2 → ℕ} {i1 : ∀ a, o1 a + S1x1024x128.size a ≤ S8x1024x128.size a} {i2 : ∀ a, o2 a + S256x1024.size a ≤ S1024x1024.size a}
    {i3 : ∀ a, o3 a + S1x1024x128.size a ≤ S8x1024x128.size a} {i4 : ∀ a, o4 a + S256x128.size a ≤ S256x1024.size a} {r : LoadRect S256x1024}
    (e1 : o1 = ![i.val, 0, 0]) (e2 : o2 = ![256 * (blk c k).val, 0]) (e3 : o3 = ![i.val, 0, 0]) (e4 : o4 = ![0, 128 * i.val])
    {h1 : kW.view.LoadsAt (Rect.unit (s := S8x1024x128) o1 S1x1024x128.size i1).toLoadRect}
    {h2 : biasM.view.LoadsAt (Rect.unit (s := S1024x1024) o2 S256x1024.size i2).toLoadRect}
    {h3 : vW.view.LoadsAt (Rect.unit (s := S8x1024x128) o3 S1x1024x128.size i3).toLoadRect} {h4 : ctxM.view.LoadsAt r}
    {w : Vec F S1x1024x128 .f32 → Vec F S256x1024 .f32 → Vec F S1x1024x128 .f32 → Vec F S256x128 .f32}
    (hw : w (kL m c i) (biasL (blk c k)) (vL m c i) = headOut m c (blk c k) i)
    {hx : (ctxM.access (Rect.unit (s := S256x1024) o4 S256x128.size i4)).Stores Finset.univ}
    {hm : (Finset.univ : Finset (Rect.unit (s := S256x1024) o4 S256x128.size i4).shape.Idx) = Finset.univ ∨ ∀ a, (Rect.unit (s := S256x1024) o4 S256x128.size i4).stride a = 1}
    {cont : PUnit → Prog (TpuEff nD τ sig (Elt F) Λ₀ .tc) α}
    (H : Tri m K c iprop(Calc m c k (i.val + 1) n ∗ R) (cont ⟨⟩) Q) :
    Tri m K c iprop(Calc m c k i.val n ∗ R) (.op (.load kW (Rect.unit (s := S8x1024x128) o1 S1x1024x128.size i1).toLoadRect h1) fun v1 =>
      .op (.load biasM (Rect.unit (s := S1024x1024) o2 S256x1024.size i2).toLoadRect h2) fun v2 =>
      .op (.load vW (Rect.unit (s := S8x1024x128) o3 S1x1024x128.size i3).toLoadRect h3) fun v3 =>
      .op (.load ctxM r h4) fun _ => .op (.store ctxM (Rect.unit (s := S256x1024) o4 S256x128.size i4) (w v1 v2 v3) Finset.univ hx hm) cont) Q :=
  kload i e1 (bload e2 (vload i e3 (cload fun _ => cstore i e4 hw H)))

/-- The partial sums of a block, its eight heads done: the loads and the store. -/
theorem block (hk : k < 4) {o1 o2 o3 o4 : Fin 2 → ℕ} {i1 : ∀ a, o1 a + S256x1024.size a ≤ S256x1024.size a} {i2 : ∀ a, o2 a + S1024x1024.size a ≤ S1024x1024.size a}
    {i3 : ∀ a, o3 a + S256x1024.size a ≤ S1024x1024.size a} {i4 : ∀ a, o4 a + S256x1024.size a ≤ S1024x1024.size a}
    (e1 : o1 = ![0, 0]) (e2 : o2 = ![0, 0]) (e3 : o3 = ![256 * (blk c k).val, 0]) (e4 : o4 = ![256 * (blk c k).val, 0])
    {h1 : ctxM.view.LoadsAt (Rect.unit (s := S256x1024) o1 S256x1024.size i1).toLoadRect}
    {h2 : woM.view.LoadsAt (Rect.unit (s := S1024x1024) o2 S1024x1024.size i2).toLoadRect}
    {h3 : partW.view.LoadsAt (Rect.unit (s := S1024x1024) o3 S256x1024.size i3).toLoadRect}
    {w : Vec F S256x1024 .f32 → Vec F S1024x1024 .f32 → Vec F S256x1024 .f32} (hw : w (ctxAt m c (blk c k)) (woL m c) = blockOut m c (blk c k))
    {hx : (partW.access (Rect.unit (s := S1024x1024) o4 S256x1024.size i4)).Stores Finset.univ}
    {hm : (Finset.univ : Finset (Rect.unit (s := S1024x1024) o4 S256x1024.size i4).shape.Idx) = Finset.univ ∨ ∀ a, (Rect.unit (s := S1024x1024) o4 S256x1024.size i4).stride a = 1}
    {cont : PUnit → Prog (TpuEff nD τ sig (Elt F) Λ₀ .tc) α}
    (H : Tri m K c iprop(Calc m c (k + 1) 0 (8 * k) ∗ R) (cont ⟨⟩) Q) :
    Tri m K c iprop(Calc m c k 8 (8 * k) ∗ R) (.op (.load ctxM (Rect.unit (s := S256x1024) o1 S256x1024.size i1).toLoadRect h1) fun v1 =>
      .op (.load woM (Rect.unit (s := S1024x1024) o2 S1024x1024.size i2).toLoadRect h2) fun v2 =>
      .op (.load partW (Rect.unit (s := S1024x1024) o3 S256x1024.size i3).toLoadRect h3) fun _ =>
      .op (.store partW (Rect.unit (s := S1024x1024) o4 S256x1024.size i4) (w v1 v2) Finset.univ hx hm) cont) Q := by
  refine Tri.pre (P' := iprop(Ins m c ∗ Heads m c (blk c k) 8 ∗ (Sums m c k (8 * k) ∗ Sends c (8 * k) ∗ R))) ?_
    (loadCtx_step e1 (loadO_step e2 (Tri.pre (P' := iprop(Sums m c k (8 * k) ∗ (Sends c (8 * k) ∗ Ins m c ∗ Heads m c (blk c k) 8 ∗ R))) ?_
      (loadP_step k hk e3 fun _ => storeP_step k hk e4 hw (H.pre ?_)))))
  · unfold Calc
    iintro ⟨⟨H1, H2, H3, H4⟩, H5⟩
    isplitl [H1]; · iexact H1
    isplitl [H2]; · iexact H2
    isplitl [H3]; · iexact H3
    isplitl [H4] <;> iassumption
  · iintro ⟨H1, H2, H3, H4, H5⟩
    isplitl [H3]; · iexact H3
    isplitl [H4]; · iexact H4
    isplitl [H1]; · iexact H1
    isplitl [H2] <;> iassumption
  · unfold Calc
    iintro ⟨H3, H4, H1, H2, H5⟩
    isplitr [H5]
    · isplitl [H1]; · iexact H1
      isplitl [H2]
      · iapply (Heads_zero (blk c k) (blk c (k + 1)) 8); iexact H2
      isplitl [H3] <;> iassumption
    iexact H5
end

/-- The `n`-th send, on the state of the computation. -/
theorem csend (n : ℕ) {k h : ℕ} (hn : n < 32) (hk : n < 8 * k) {cnd : Dev nD → BitVec 1} {oS oR : Dev nD → Fin 1 → ℕ} {oD : Dev nD → Fin 3 → ℕ} {oP : Dev nD → Fin 2 → ℕ} {dv : Dev nD → ℕ}
    {iS : cnd c = 1#1 → ∀ a, oS c a + S1.size a ≤ S32.size a} {iR : cnd c = 1#1 → ∀ a, oR c a + S1.size a ≤ S32.size a}
    {iD : cnd c = 1#1 → ∀ a, oD c a + S1x32x1024.size a ≤ S32x32x1024.size a} {iP : cnd c = 1#1 → ∀ a, oP c a + S32x1024.size a ≤ S1024x1024.size a}
    {lt : cnd c = 1#1 → dv c < nD}
    {w1 : (h : cnd c = 1#1) → (partW.slice (Rect.unit (s := S1024x1024) (oP c) S32x1024.size (iP h)) (fun _ => rfl)).view.WordExact}
    {w2 : (h : cnd c = 1#1) → ((rsW.slice (Rect.unit (s := S32x32x1024) (oD c) S1x32x1024.size (iD h)) (fun _ => rfl)).squeeze S32x1024 squeezes_S1x32x1024_S32x1024).view.WordExact}
    {hsc : (h : cnd c = 1#1) → ((rsW.slice (Rect.unit (s := S32x32x1024) (oD c) S1x32x1024.size (iD h)) (fun _ => rfl)).squeeze S32x1024 squeezes_S1x32x1024_S32x1024).view.ref.isScScratch = false}
    {w3 : (h : cnd c = 1#1) → DmaTarget.Typed (p := .tc) .vmem (SemLoc.dma ((cc0_scratch8.slice (Rect.unit (s := S32) (oR c) S1.size (iR h))).squeeze S_ squeezes_S1_S_).sem)
      (.remote (Dev.tc (⟨dv c, lt h⟩ : Dev nD) : Thread nD τ)
        ((rsW.slice (Rect.unit (s := S32x32x1024) (oD c) S1x32x1024.size (iD h)) (fun _ => rfl)).squeeze S32x1024 squeezes_S1x32x1024_S32x1024)
        (.dma ((cc0_scratch7.slice (Rect.unit (s := S32) (oS c) S1.size (iS h))).squeeze S_ squeezes_S1_S_).sem) (hsc h))}
    (hf : SendFacts n cnd oS oR oD oP dv) {β : Type} {J : Prog (TpuEff nD τ sig (Elt F) Λ₀ .tc) β} {cont : β → Prog (TpuEff nD τ sig (Elt F) Λ₀ .tc) α}
    (H : Tri m K c iprop(Calc m c k h (n + 1) ∗ R) (Prog.bind J cont) Q) :
    Tri m K c iprop(Calc m c k h n ∗ R)
      (Prog.bind (if h : cnd c = 1#1 then
        .op (.enqueueDma (partW.slice (Rect.unit (s := S1024x1024) (oP c) S32x1024.size (iP h)) (fun _ => rfl))
          (.remote (Dev.tc (⟨dv c, lt h⟩ : Dev nD) : Thread nD τ)
            ((rsW.slice (Rect.unit (s := S32x32x1024) (oD c) S1x32x1024.size (iD h)) (fun _ => rfl)).squeeze S32x1024 squeezes_S1x32x1024_S32x1024)
            (.dma ((cc0_scratch7.slice (Rect.unit (s := S32) (oS c) S1.size (iS h))).squeeze S_ squeezes_S1_S_).sem) (hsc h))
          (.dma ((cc0_scratch8.slice (Rect.unit (s := S32) (oR c) S1.size (iR h))).squeeze S_ squeezes_S1_S_).sem) (w1 h) (w2 h) (w3 h)) (fun r => Prog.bind (Prog.ret r) fun _ => J)
        else J) cont) Q :=
  Calc.sums (p' := Prog.bind J cont) (fun R' H' => csend_step k n hn hk hf H') rfl H

end Cert.AttnProof

end
-- ==== Proof.Open.lean ====
/-
# The first parts of the body: the barrier, the copies of the heads, the bias
-/
module

public import proofs.«01_k».proof.Proof.Calc

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-! ## The barrier -/

theorem device_step {cont : Dev nD → Prog (TpuEff nD τ sig (Elt F) Λ₀ .tc) α} {P : SP F} (H : Tri m K c P (cont c) Q) :
    Tri m K c P (.op .deviceId cont) Q := by
  unfold Tri at *
  rw [wp_deviceId]
  exact H

theorem Tri.mid {P A B : SP F} {p : Prog (TpuEff nD τ sig (Elt F) Λ₀ .tc) α} (H : Tri m K c iprop(P ∗ B ∗ A ∗ R) p Q) : Tri m K c iprop(P ∗ A ∗ B ∗ R) p Q := H.pre (by
  iintro ⟨H1, H2, H3, H4⟩
  isplitl [H1]; · iexact H1
  isplitl [H3]; · iexact H3
  isplitl [H2] <;> iassumption)

/-- What the wait on the barrier takes. -/
def ToBar (c : Dev nD) : SP F := iprop(cred (tallyAt (cell c kB) () 31) ∗ atPos ER (cell c kB) 0 ∅ 0)

theorem bar_wait {cont : PUnit → Prog (TpuEff nD τ sig (Elt F) Λ₀ .tc) α}
    (H : Tri m K c iprop(owesAny c (Ow c ∅ (others c) (others c)) ∗ after m c kB ∗ R) (cont ⟨⟩) Q) :
    Tri m K c iprop(SigSt c 32 ∗ ToBar c ∗ R) (.op (.semWait barS (31#32).toInt) cont) Q := by
  refine Tri.pre (P' := iprop((owesAny c (Ow c ∅ (others c) (others c)) ∗ cred (tallyAt (cell c kB) () 31) ∗ atPos ER (cell c kB) 0 ∅ 0) ∗ R)) ?_
    (wait_step kB (.inl rfl) (.inr (by decide)) (.inr (by decide)) (fun K' => wpE_semWait_eq 𝒱₀ (c : Thread nD τ) none Set.univ K') ?_ (H.pre ?_))
  · unfold SigSt ToBar
    rw [far_end]
    iintro ⟨⟨HO, -⟩, ⟨H1, H2⟩, HR⟩
    isplitr [HR]
    · isplitl [HO]; · iexact HO
      isplitl [H1] <;> iassumption
    iexact HR
  · rw [show payers c kB = others c from rfl, show (others c).card = 31 from by unfold others; rw [Finset.card_erase_of_mem (Finset.mem_univ _)]; rfl]
    rfl
  · unfold after
    iintro ⟨⟨H1, H2, H3⟩, HR⟩
    isplitl [H1]; · iexact H1
    isplitr [HR]
    · isplitl [H2] <;> iassumption
    iexact HR

/-! ## The copies of the heads -/

theorem sem2 (k : OK) (i : Fin 2) (h : Fin 8) (hk : onum k = 4 + (i.val * 8 + h.val)) {off : Fin 2 → ℕ} (e : off = ![i.val, h.val])
    {inb : ∀ a, off a + S1x1.size a ≤ S2x8.size a} :
    SemLoc.dma (sig := sig) ((cc0_scratch5.slice (Rect.unit (s := S2x8) off S1x1.size inb)).squeeze S_ squeezes_S1x1_S_).sem = osem k := by
  subst e
  refine congrArg SemLoc.dma (Fin.ext ?_)
  show 4 + (S2x8.rowMajor ((Rect.unit (s := S2x8) ![i.val, h.val] S1x1.size inb).emb (Shape.reshapeEquiv _ _))).val = onum k
  rw [hk, Shape.rowMajor_val_two]
  generalize (Shape.reshapeEquiv _ _ : S1x1.Idx) = x
  show 4 + ((i.val + 1 * (x 0).val) * 8 + (h.val + 1 * (x 1).val)) = 4 + (i.val * 8 + h.val)
  have h0 : (x 0).val < 1 := (x 0).isLt
  have h1 : (x 1).val < 1 := (x 1).isLt
  omega
theorem semK (h : Fin 8) {off : Fin 2 → ℕ} (e : off = ![0, h.val]) {inb : ∀ a, off a + S1x1.size a ≤ S2x8.size a} :
    SemLoc.dma ((cc0_scratch5.slice (Rect.unit (s := S2x8) off S1x1.size inb)).squeeze S_ squeezes_S1x1_S_).sem = osem (oK h) :=
  sem2 (oK h) 0 h (by show 4 + h.val = 4 + (0 * 8 + h.val); omega) e
theorem semV (h : Fin 8) {off : Fin 2 → ℕ} (e : off = ![1, h.val]) {inb : ∀ a, off a + S1x1.size a ≤ S2x8.size a} :
    SemLoc.dma ((cc0_scratch5.slice (Rect.unit (s := S2x8) off S1x1.size inb)).squeeze S_ squeezes_S1x1_S_).sem = osem (oV h) :=
  sem2 (oV h) 1 h (by show 12 + h.val = 4 + (1 * 8 + h.val); omega) e
theorem kM_of (h : Fin 8) {off : Fin 3 → ℕ} (e : off = ![h.val, 0, 0]) {inb : ∀ a, off a + S1x1024x128.size a ≤ S8x1024x128.size a} :
    (kW.slice (Rect.unit (s := S8x1024x128) off S1x1024x128.size inb) (fun _ => rfl)).squeeze S1024x128 squeezes_S1x1024x128_S1024x128 = kM h := by
  subst e; rfl
theorem vM_of (h : Fin 8) {off : Fin 3 → ℕ} (e : off = ![h.val, 0, 0]) {inb : ∀ a, off a + S1x1024x128.size a ≤ S8x1024x128.size a} :
    (vW.slice (Rect.unit (s := S8x1024x128) off S1x1024x128.size inb) (fun _ => rfl)).squeeze S1024x128 squeezes_S1x1024x128_S1024x128 = vM h := by
  subst e; rfl

/-- The copy of head `h` of the keys. -/
theorem kcopy (h : Fin 8) {n : ℕ} {o1 : Fin 2 → ℕ} {o2 : Fin 3 → ℕ} {o3 : Fin 4 → ℕ} {i1 : ∀ a, o1 a + S1x1.size a ≤ S2x8.size a} {i2 : ∀ a, o2 a + S1x1024x128.size a ≤ S8x1024x128.size a}
    {i3 : ∀ a, o3 a + S1x1024x1x128.size a ≤ S1x1024x256x128.size a}
    (e1 : o1 = ![0, h.val]) (e2 : o2 = ![h.val, 0, 0]) (e3 : o3 = ![0, 0, 8 * c.val + h.val, 0])
    {w1 : (((kExtW.slice (Rect.unit (s := S1x1024x256x128) o3 S1x1024x1x128.size i3) (fun _ => rfl)).squeeze S1024x128 squeezes_S1x1024x1x128_S1024x128).view.WordExact)}
    {w2 : (((kW.slice (Rect.unit (s := S8x1024x128) o2 S1x1024x128.size i2) (fun _ => rfl)).squeeze S1024x128 squeezes_S1x1024x128_S1024x128).view.WordExact)}
    {w3 : DmaTarget.Typed (nD := nD) (τ := τ) (p := .tc) .hbm (SemLoc.dma ((cc0_scratch5.slice (Rect.unit (s := S2x8) o1 S1x1.size i1)).squeeze S_ squeezes_S1x1_S_).sem)
      (.here ((kW.slice (Rect.unit (s := S8x1024x128) o2 S1x1024x128.size i2) (fun _ => rfl)).squeeze S1024x128 squeezes_S1x1024x128_S1024x128))}
    {cont : PUnit → Prog (TpuEff nD τ sig (Elt F) Λ₀ .tc) α} (H : Tri m K c iprop(KSt m c (h.val + 1) ∗ VSt m c n ∗ R) (cont ⟨⟩) Q) :
    Tri m K c iprop(KSt m c h.val ∗ VSt m c n ∗ R) (.op (.enqueueDma ((kExtW.slice (Rect.unit (s := S1x1024x256x128) o3 S1x1024x1x128.size i3) (fun _ => rfl)).squeeze S1024x128 squeezes_S1x1024x1x128_S1024x128)
      (.here ((kW.slice (Rect.unit (s := S8x1024x128) o2 S1x1024x128.size i2) (fun _ => rfl)).squeeze S1024x128 squeezes_S1x1024x128_S1024x128))
      (.dma ((cc0_scratch5.slice (Rect.unit (s := S2x8) o1 S1x1.size i1)).squeeze S_ squeezes_S1x1_S_).sem) w1 w2 w3) cont) Q :=
  kcopy_step h (kExt_of c h e3) (kM_of h e2) (semK h e1) H

/-- The wait for head `h` of the keys. -/
theorem kwait (h : Fin 8) {n : ℕ} {o1 : Fin 2 → ℕ} {o2 : Fin 3 → ℕ} {i1 : ∀ a, o1 a + S1x1.size a ≤ S2x8.size a} {i2 : ∀ a, o2 a + S1x1024x128.size a ≤ S8x1024x128.size a}
    {src : Memref sig .tc .hbm S1024x128 .f32} (e1 : o1 = ![0, h.val]) (e2 : o2 = ![h.val, 0, 0]) {w1 : src.view.WordExact}
    {w2 : (((kW.slice (Rect.unit (s := S8x1024x128) o2 S1x1024x128.size i2) (fun _ => rfl)).squeeze S1024x128 squeezes_S1x1024x128_S1024x128).view.WordExact)}
    {cont : PUnit → Prog (TpuEff nD τ sig (Elt F) Λ₀ .tc) α} (H : Tri m K c iprop(owesAny c (Ow c ∅ (others c) (others c)) ∗ KWt m c (h.val + 1) ∗ VWt m c n ∗ R) (cont ⟨⟩) Q) :
    Tri m K c iprop(owesAny c (Ow c ∅ (others c) (others c)) ∗ KWt m c h.val ∗ VWt m c n ∗ R) (.op (.waitDma2 ((cc0_scratch5.slice (Rect.unit (s := S2x8) o1 S1x1.size i1)).squeeze S_ squeezes_S1x1_S_).sem src
      ((kW.slice (Rect.unit (s := S8x1024x128) o2 S1x1024x128.size i2) (fun _ => rfl)).squeeze S1024x128 squeezes_S1x1024x128_S1024x128) w1 w2) cont) Q :=
  kwait_step h (kM_of h e2) (semK h e1) H

/-- The copy of head `h` of the values. -/
theorem vcopy (h : Fin 8) {n : ℕ} {o1 : Fin 2 → ℕ} {o2 : Fin 3 → ℕ} {o3 : Fin 4 → ℕ} {i1 : ∀ a, o1 a + S1x1.size a ≤ S2x8.size a} {i2 : ∀ a, o2 a + S1x1024x128.size a ≤ S8x1024x128.size a}
    {i3 : ∀ a, o3 a + S1x1024x1x128.size a ≤ S1x1024x256x128.size a}
    (e1 : o1 = ![1, h.val]) (e2 : o2 = ![h.val, 0, 0]) (e3 : o3 = ![0, 0, 8 * c.val + h.val, 0])
    {w1 : (((vExtW.slice (Rect.unit (s := S1x1024x256x128) o3 S1x1024x1x128.size i3) (fun _ => rfl)).squeeze S1024x128 squeezes_S1x1024x1x128_S1024x128).view.WordExact)}
    {w2 : (((vW.slice (Rect.unit (s := S8x1024x128) o2 S1x1024x128.size i2) (fun _ => rfl)).squeeze S1024x128 squeezes_S1x1024x128_S1024x128).view.WordExact)}
    {w3 : DmaTarget.Typed (nD := nD) (τ := τ) (p := .tc) .hbm (SemLoc.dma ((cc0_scratch5.slice (Rect.unit (s := S2x8) o1 S1x1.size i1)).squeeze S_ squeezes_S1x1_S_).sem)
      (.here ((vW.slice (Rect.unit (s := S8x1024x128) o2 S1x1024x128.size i2) (fun _ => rfl)).squeeze S1024x128 squeezes_S1x1024x128_S1024x128))}
    {cont : PUnit → Prog (TpuEff nD τ sig (Elt F) Λ₀ .tc) α} (H : Tri m K c iprop(KSt m c n ∗ VSt m c (h.val + 1) ∗ R) (cont ⟨⟩) Q) :
    Tri m K c iprop(KSt m c n ∗ VSt m c h.val ∗ R) (.op (.enqueueDma ((vExtW.slice (Rect.unit (s := S1x1024x256x128) o3 S1x1024x1x128.size i3) (fun _ => rfl)).squeeze S1024x128 squeezes_S1x1024x1x128_S1024x128)
      (.here ((vW.slice (Rect.unit (s := S8x1024x128) o2 S1x1024x128.size i2) (fun _ => rfl)).squeeze S1024x128 squeezes_S1x1024x128_S1024x128))
      (.dma ((cc0_scratch5.slice (Rect.unit (s := S2x8) o1 S1x1.size i1)).squeeze S_ squeezes_S1x1_S_).sem) w1 w2 w3) cont) Q :=
  Tri.swap (vcopy_step h (vExt_of c h e3) (vM_of h e2) (semV h e1) (Tri.swap H))

/-- The wait for head `h` of the values. -/
theorem vwait (h : Fin 8) {n : ℕ} {o1 : Fin 2 → ℕ} {o2 : Fin 3 → ℕ} {i1 : ∀ a, o1 a + S1x1.size a ≤ S2x8.size a} {i2 : ∀ a, o2 a + S1x1024x128.size a ≤ S8x1024x128.size a}
    {src : Memref sig .tc .hbm S1024x128 .f32} (e1 : o1 = ![1, h.val]) (e2 : o2 = ![h.val, 0, 0]) {w1 : src.view.WordExact}
    {w2 : (((vW.slice (Rect.unit (s := S8x1024x128) o2 S1x1024x128.size i2) (fun _ => rfl)).squeeze S1024x128 squeezes_S1x1024x128_S1024x128).view.WordExact)}
    {cont : PUnit → Prog (TpuEff nD τ sig (Elt F) Λ₀ .tc) α} (H : Tri m K c iprop(owesAny c (Ow c ∅ (others c) (others c)) ∗ KWt m c n ∗ VWt m c (h.val + 1) ∗ R) (cont ⟨⟩) Q) :
    Tri m K c iprop(owesAny c (Ow c ∅ (others c) (others c)) ∗ KWt m c n ∗ VWt m c h.val ∗ R) (.op (.waitDma2 ((cc0_scratch5.slice (Rect.unit (s := S2x8) o1 S1x1.size i1)).squeeze S_ squeezes_S1x1_S_).sem src
      ((vW.slice (Rect.unit (s := S8x1024x128) o2 S1x1024x128.size i2) (fun _ => rfl)).squeeze S1024x128 squeezes_S1x1024x128_S1024x128) w1 w2) cont) Q :=
  Tri.mid (vwait_step (R := iprop(KWt m c n ∗ R)) h (vM_of h e2) (semV h e1) (Tri.mid H))

/-- The positions of the cells of the heads, at the start. -/
def AtKV (c : Dev nD) : SP F :=
  iprop((bigSep Finset.univ fun h : Fin 8 => atPos ER (cell c (kK h)) 0 ∅ 0) ∗ bigSep Finset.univ fun h : Fin 8 => atPos ER (cell c (kV h)) 0 ∅ 0)
/-- The buffer of the bias. -/
def biasPts (c : Dev nD) (f : Vec F S1024x1024 .f32) : SP F := iprop(((c : Thread nD τ).loc cc0_scratch3) ↦{fullShare} f)

theorem KWt_start : iprop(KSt m c 8 ∗ bigSep Finset.univ fun h : Fin 8 => atPos ER (cell c (kK h)) 0 ∅ 0) ⊢ KWt m c 0 := by
  unfold KSt KWt
  rw [fam_end _ _ _ _ _ (fun d _ => d.isLt), fam_start _ _ _ _ _ (fun d _ => Nat.zero_le _), ← bigSep_sep']
  exact BI.Entails.refl _
theorem VWt_start : iprop(VSt m c 8 ∗ bigSep Finset.univ fun h : Fin 8 => atPos ER (cell c (kV h)) 0 ∅ 0) ⊢ VWt m c 0 := by
  unfold VSt VWt
  rw [fam_end _ _ _ _ _ (fun d _ => d.isLt), fam_start _ _ _ _ _ (fun d _ => Nat.zero_le _), ← bigSep_sep']
  exact BI.Entails.refl _

/-- The bias stored, and the waits for the heads ready to begin. -/
theorem biasStore {off off' : Fin 2 → ℕ} {i1 : ∀ a, off a + S1024x1024.size a ≤ S1024x1024.size a} {i2 : ∀ a, off' a + S1024x1024.size a ≤ S1024x1024.size a}
    (e : off' = ![0, 0])
    {hl : biasM.view.LoadsAt (Rect.unit (s := S1024x1024) off S1024x1024.size i1).toLoadRect}
    {hx : (biasM.access (Rect.unit (s := S1024x1024) off' S1024x1024.size i2)).Stores Finset.univ}
    {hm : (Finset.univ : Finset (Rect.unit (s := S1024x1024) off' S1024x1024.size i2).shape.Idx) = Finset.univ ∨ ∀ a, (Rect.unit (s := S1024x1024) off' S1024x1024.size i2).stride a = 1}
    {cont : PUnit → Prog (TpuEff nD τ sig (Elt F) Λ₀ .tc) α}
    (H : Tri m K c iprop(owesAny c (Ow c ∅ (others c) (others c)) ∗ KWt m c 0 ∗ VWt m c 0 ∗ biasPts c (k0_pay1 (F := F)) ∗ R) (cont ⟨⟩) Q) :
    Tri m K c iprop(KSt m c 8 ∗ VSt m c 8 ∗ owesAny c (Ow c ∅ (others c) (others c)) ∗ AtKV c ∗ (∃ f, biasPts c f) ∗ R)
      (.op (.load biasM (Rect.unit (s := S1024x1024) off S1024x1024.size i1).toLoadRect hl) fun _ =>
        .op (.store biasM (Rect.unit (s := S1024x1024) off' S1024x1024.size i2) (k0_pay1 (F := F)) Finset.univ hx hm) cont) Q := by
  subst e
  refine Tri.pre (P' := iprop((∃ f, biasPts c f) ∗ (owesAny c (Ow c ∅ (others c) (others c)) ∗ KWt m c 0 ∗ VWt m c 0 ∗ R))) ?_ (Tri.exist fun f => ?_)
  · iintro ⟨H1, H2, H3, H4, H5, H6⟩
    unfold AtKV
    icases H4 with ⟨H4, H7⟩
    isplitl [H5]; · iexact H5
    isplitl [H3]; · iexact H3
    isplitl [H1 H4]
    · iapply KWt_start; isplitl [H1] <;> iassumption
    isplitl [H2 H7]
    · iapply VWt_start; isplitl [H2] <;> iassumption
    iexact H6
  unfold biasPts at *
  have h2 := store_step (m := m) (K := K) (c := c) (R := iprop(owesAny c (Ow c ∅ (others c) (others c)) ∗ KWt m c 0 ∗ VWt m c 0 ∗ R)) (Q := Q)
    (mr := biasM) (r := Rect.unit (s := S1024x1024) ![0, 0] S1024x1024.size i2) (w := k0_pay1 (F := F)) (hx := hx) (hm := hm) (S := Finset.univ) (f := f) (cont := cont) (Finset.subset_univ _)
    (by
      rw [show (biasM.access (Rect.unit (s := S1024x1024) ![0, 0] S1024x1024.size i2)).write (Elt F) f (k0_pay1 (F := F)) Finset.univ = (k0_pay1 (F := F)) from
        Memref.write_access_unit_zero_univ (Elt F) cc0_scratch3 (by decide) i2 f (k0_pay1 (F := F))]
      exact H.pre (by
        iintro ⟨H1, H2, H3, H4, H5⟩
        isplitl [H2]; · iexact H2
        isplitl [H3]; · iexact H3
        isplitl [H4]; · iexact H4
        isplitl [H1] <;> iassumption))
  have h1 := load_step (m := m) (K := K) (c := c) (R := iprop(owesAny c (Ow c ∅ (others c) (others c)) ∗ KWt m c 0 ∗ VWt m c 0 ∗ R)) (Q := Q)
    (mr := biasM) (hl := hl) (S := Finset.univ) (q := fullShare) (f := f) (cont := fun _ => .op (.store biasM (Rect.unit (s := S1024x1024) ![0, 0] S1024x1024.size i2) (k0_pay1 (F := F)) Finset.univ hx hm) cont)
    (Finset.subset_univ _) h2
  exact h1

/-- What the computation takes besides the heads and the bias: the device's `x`, `Wq`, `Wo`, the buffers of heads and of partial sums,
    and what its sends take. -/
def Fresh (m : (ℓ : Loc nD τ sig) → Buf (Elt F) ℓ) (c : Dev nD) : SP F :=
  iprop((((c : Thread nD τ).loc cc0_stg0_0) ↦{fullShare} xv m c) ∗ (((c : Thread nD τ).loc cc0_stg1_0) ↦{fullShare} wqv m c)
    ∗ (((c : Thread nD τ).loc cc0_stg2_0) ↦{fullShare} wov m c)
    ∗ (∃ f : (cc0_scratch2 : Ref sig .tc).ty.Contents (Elt F), ((c : Thread nD τ).loc cc0_scratch2) ↦{fullShare} f)
    ∗ (∃ f : (cc0_scratch4 : Ref sig .tc).ty.Contents (Elt F), ((c : Thread nD τ).loc cc0_scratch4) ↦{fullShare} f)
    ∗ bigSep (others c) fun t => toSend c t)
/-- What the copies of the heads leave: their semaphores at zero, and the heads in main memory. -/
def KVDone (m : (ℓ : Loc nD τ sig) → Buf (Elt F) ℓ) (c : Dev nD) : SP F :=
  iprop((bigSep Finset.univ fun h : Fin 8 => iprop(semVal (cell c (kK h)) 0 ∗ kExtPts c h (kx m c)))
    ∗ bigSep Finset.univ fun h : Fin 8 => iprop(semVal (cell c (kV h)) 0 ∗ vExtPts c h (vx m c)))

theorem K_done (h : Fin 8) : after m c (kK h) ⊢ iprop(kPts c h (KB m c) ∗ (semVal (cell c (kK h)) 0 ∗ kExtPts c h (kx m c))) := by
  unfold after
  rw [show payers c (kK h) = {c} from rfl, bigSep_singleton, show (pay m c (kK h) c : SP F) = iprop(kPts c h (KB m c) ∗ kExtPts c h (kx m c)) from rfl]
  iintro ⟨H1, H2, H3⟩
  isplitl [H2]; · iexact H2
  isplitl [H1] <;> iassumption
theorem KWt_done : KWt m c 8 ⊢ iprop((((c : Thread nD τ).loc cc0_scratch0) ↦{fullShare} KB m c) ∗ bigSep Finset.univ fun h : Fin 8 => iprop(semVal (cell c (kK h)) 0 ∗ kExtPts c h (kx m c))) := by
  unfold KWt
  rw [fam_end _ _ _ _ _ (fun d _ => d.isLt), k_split, ← bigSep_sep']
  refine bigSep_mono fun h _ => ?_
  exact K_done h
theorem V_done (h : Fin 8) : after m c (kV h) ⊢ iprop(vPts c h (VB m c) ∗ (semVal (cell c (kV h)) 0 ∗ vExtPts c h (vx m c))) := by
  unfold after
  rw [show payers c (kV h) = {c} from rfl, bigSep_singleton, show (pay m c (kV h) c : SP F) = iprop(vPts c h (VB m c) ∗ vExtPts c h (vx m c)) from rfl]
  iintro ⟨H1, H2, H3⟩
  isplitl [H2]; · iexact H2
  isplitl [H1] <;> iassumption
theorem VWt_done : VWt m c 8 ⊢ iprop((((c : Thread nD τ).loc cc0_scratch1) ↦{fullShare} VB m c) ∗ bigSep Finset.univ fun h : Fin 8 => iprop(semVal (cell c (kV h)) 0 ∗ vExtPts c h (vx m c))) := by
  unfold VWt
  rw [fam_end _ _ _ _ _ (fun d _ => d.isLt), v_split, ← bigSep_sep']
  refine bigSep_mono fun h _ => ?_
  exact V_done h

theorem Heads_start (b : Fin 4) : iprop(∃ f : (cc0_scratch2 : Ref sig .tc).ty.Contents (Elt F), ((c : Thread nD τ).loc cc0_scratch2) ↦{fullShare} f) ⊢ Heads m c b 0 := by
  unfold Heads
  iintro ⟨%f, H⟩
  iexists f
  isplitr
  · ipureintro; intro i hi; omega
  iexact H
theorem Sums_start : iprop(∃ f : (cc0_scratch4 : Ref sig .tc).ty.Contents (Elt F), ((c : Thread nD τ).loc cc0_scratch4) ↦{fullShare} f) ⊢ Sums m c 0 0 := by
  unfold Sums
  rw [kept_zero]
  iintro ⟨%f, H⟩
  iexists f
  isplitr
  · ipureintro; intro i hi; omega
  iexact H
theorem Sends_start : iprop(owesAny c (Ow c ∅ (others c) (others c)) ∗ bigSep (others c) fun t => toSend c t) ⊢ (Sends c 0 : SP F) := by
  unfold Sends
  rw [later_zero, fam_start _ _ _ _ _ (fun d _ => Nat.zero_le _)]

/-- The computation ready to begin. -/
theorem calc_start {p : Prog (TpuEff nD τ sig (Elt F) Λ₀ .tc) α} (H : Tri m K c iprop(Calc m c 0 0 0 ∗ KVDone m c ∗ R) p Q) :
    Tri m K c iprop(owesAny c (Ow c ∅ (others c) (others c)) ∗ KWt m c 8 ∗ VWt m c 8 ∗ biasPts c (k0_pay1 (F := F)) ∗ Fresh m c ∗ R) p Q := by
  refine H.pre ?_
  unfold Fresh
  iintro ⟨HO, HK, HV, HB, ⟨Hx, Hq, Ho, Hc, Hp, Hs⟩, HR⟩
  ihave HK := KWt_done $$ HK
  ihave HV := VWt_done $$ HV
  icases HK with ⟨HK, HK'⟩
  icases HV with ⟨HV, HV'⟩
  unfold biasPts
  isplitl [HO HK HV HB Hx Hq Ho Hc Hp Hs]
  · unfold Calc
    isplitl [HK HV HB Hx Hq Ho]
    · unfold Ins
      isplitl [HK]; · iexact HK
      isplitl [HV]; · iexact HV
      isplitl [HB]; · iexact HB
      isplitl [Hx]; · iexact Hx
      isplitl [Hq] <;> iassumption
    isplitl [Hc]
    · iapply Heads_start; iexact Hc
    isplitl [Hp]
    · iapply Sums_start; iexact Hp
    iapply Sends_start
    isplitl [HO] <;> iassumption
  isplitl [HK' HV']
  · unfold KVDone
    isplitl [HK'] <;> iassumption
  iexact HR

/-! ## The parts -/

/-- Part 1: the device's number and two barrier signals. -/
theorem part1 {k : _ → Prog (TpuEff nD τ sig (Elt F) Λ₀ .tc) α}
    (H : ∀ w0 w1 : BitVec 32, Tri m K c iprop(SigSt c 3 ∗ R) (k ⟨c, w0, w1, (SemArray.scalar (sig.barrier 0 rfl) : Sems sig S_)⟩) Q) :
    Tri m K c iprop(SigSt c 1 ∗ R) (Prog.bind (onArgs (k0_part1 (F := F))) k) Q := by
  unfold onArgs
  rw [k0_part1_eq_skeleton]
  unfold k0_part1_skel
  refine device_step ?_
  refine sig_step 1 (by decide) (by decide) (Fin.ext (k0_dev1_eq c)) ?_
  refine sig_step 2 (by decide) (by decide) (Fin.ext (k0_dev2_eq c)) ?_
  exact H _ _

/-- Part 2: six barrier signals. -/
theorem part2 {v2 : BitVec 32} {k : _ → Prog (TpuEff nD τ sig (Elt F) Λ₀ .tc) α}
    (H : Tri m K c iprop(SigSt c 9 ∗ R) (k ⟨⟩) Q) :
    Tri m K c iprop(SigSt c 3 ∗ R) (Prog.bind ((onArgs (k0_part2 (F := F))) c v2 (SemArray.scalar (sig.barrier 0 rfl) : Sems sig S_)) k) Q := by
  unfold onArgs
  rw [k0_part2_eq_skeleton]
  unfold k0_part2_skel
  refine sig_step 3 (by decide) (by decide) (Fin.ext (k0_dev3_eq c)) ?_
  refine sig_step 4 (by decide) (by decide) (Fin.ext (k0_dev4_eq c)) ?_
  refine sig_step 5 (by decide) (by decide) (Fin.ext (k0_dev5_eq c)) ?_
  refine sig_step 6 (by decide) (by decide) (Fin.ext (k0_dev6_eq c)) ?_
  refine sig_step 7 (by decide) (by decide) (Fin.ext (k0_dev7_eq c)) ?_
  refine sig_step 8 (by decide) (by decide) (Fin.ext (k0_dev8_eq c)) ?_
  exact H

/-- Part 3: six barrier signals. -/
theorem part3 {v2 : BitVec 32} {k : _ → Prog (TpuEff nD τ sig (Elt F) Λ₀ .tc) α}
    (H : Tri m K c iprop(SigSt c 15 ∗ R) (k ⟨⟩) Q) :
    Tri m K c iprop(SigSt c 9 ∗ R) (Prog.bind ((onArgs (k0_part3 (F := F))) c v2 (SemArray.scalar (sig.barrier 0 rfl) : Sems sig S_)) k) Q := by
  unfold onArgs
  rw [k0_part3_eq_skeleton]
  unfold k0_part3_skel
  refine sig_step 9 (by decide) (by decide) (Fin.ext (k0_dev9_eq c)) ?_
  refine sig_step 10 (by decide) (by decide) (Fin.ext (k0_dev10_eq c)) ?_
  refine sig_step 11 (by decide) (by decide) (Fin.ext (k0_dev11_eq c)) ?_
  refine sig_step 12 (by decide) (by decide) (Fin.ext (k0_dev12_eq c)) ?_
  refine sig_step 13 (by decide) (by decide) (Fin.ext (k0_dev13_eq c)) ?_
  refine sig_step 14 (by decide) (by decide) (Fin.ext (k0_dev14_eq c)) ?_
  exact H

/-- Part 4: six barrier signals. -/
theorem part4 {v2 : BitVec 32} {k : _ → Prog (TpuEff nD τ sig (Elt F) Λ₀ .tc) α}
    (H : Tri m K c iprop(SigSt c 21 ∗ R) (k ⟨⟩) Q) :
    Tri m K c iprop(SigSt c 15 ∗ R) (Prog.bind ((onArgs (k0_part4 (F := F))) c v2 (SemArray.scalar (sig.barrier 0 rfl) : Sems sig S_)) k) Q := by
  unfold onArgs
  rw [k0_part4_eq_skeleton]
  unfold k0_part4_skel
  refine sig_step 15 (by decide) (by decide) (Fin.ext (k0_dev15_eq c)) ?_
  refine sig_step 16 (by decide) (by decide) (Fin.ext (k0_dev16_eq c)) ?_
  refine sig_step 17 (by decide) (by decide) (Fin.ext (k0_dev17_eq c)) ?_
  refine sig_step 18 (by decide) (by decide) (Fin.ext (k0_dev18_eq c)) ?_
  refine sig_step 19 (by decide) (by decide) (Fin.ext (k0_dev19_eq c)) ?_
  refine sig_step 20 (by decide) (by decide) (Fin.ext (k0_dev20_eq c)) ?_
  exact H

/-- Part 5: six barrier signals. -/
theorem part5 {v2 : BitVec 32} {k : _ → Prog (TpuEff nD τ sig (Elt F) Λ₀ .tc) α}
    (H : Tri m K c iprop(SigSt c 27 ∗ R) (k ⟨⟩) Q) :
    Tri m K c iprop(SigSt c 21 ∗ R) (Prog.bind ((onArgs (k0_part5 (F := F))) c v2 (SemArray.scalar (sig.barrier 0 rfl) : Sems sig S_)) k) Q := by
  unfold onArgs
  rw [k0_part5_eq_skeleton]
  unfold k0_part5_skel
  refine sig_step 21 (by decide) (by decide) (Fin.ext (k0_dev21_eq c)) ?_
  refine sig_step 22 (by decide) (by decide) (Fin.ext (k0_dev22_eq c)) ?_
  refine sig_step 23 (by decide) (by decide) (Fin.ext (k0_dev23_eq c)) ?_
  refine sig_step 24 (by decide) (by decide) (Fin.ext (k0_dev24_eq c)) ?_
  refine sig_step 25 (by decide) (by decide) (Fin.ext (k0_dev25_eq c)) ?_
  refine sig_step 26 (by decide) (by decide) (Fin.ext (k0_dev26_eq c)) ?_
  exact H

/-- Part 6: the last barrier signals and the wait for all others. -/
theorem part6 {v2 : BitVec 32} {k : _ → Prog (TpuEff nD τ sig (Elt F) Λ₀ .tc) α}
    (H : Tri m K c iprop(owesAny c (Ow c ∅ (others c) (others c)) ∗ after m c kB ∗ R) (k ⟨⟩) Q) :
    Tri m K c iprop(SigSt c 27 ∗ ToBar c ∗ R) (Prog.bind ((onArgs (k0_part6 (F := F))) c v2 (SemArray.scalar (sig.barrier 0 rfl) : Sems sig S_)) k) Q := by
  unfold onArgs
  rw [k0_part6_eq_skeleton]
  unfold k0_part6_skel
  refine sig_step 27 (by decide) (by decide) (Fin.ext (k0_dev27_eq c)) ?_
  refine sig_step 28 (by decide) (by decide) (Fin.ext (k0_dev28_eq c)) ?_
  refine sig_step 29 (by decide) (by decide) (Fin.ext (k0_dev29_eq c)) ?_
  refine sig_step 30 (by decide) (by decide) (Fin.ext (k0_dev30_eq c)) ?_
  refine sig_step 31 (by decide) (by decide) (Fin.ext (k0_dev31_eq c)) ?_
  refine bar_wait ?_
  exact H

/-- Part 7: copies of heads begun. -/
theorem part7 {v2 : BitVec 32} {k : _ → Prog (TpuEff nD τ sig (Elt F) Λ₀ .tc) α}
    (H : Tri m K c iprop(KSt m c 2 ∗ VSt m c 2 ∗ R) (k ⟨⟩) Q) :
    Tri m K c iprop(KSt m c 0 ∗ VSt m c 0 ∗ R) (Prog.bind ((onArgs (k0_part7 (F := F))) c v2) k) Q := by
  unfold onArgs
  rw [k0_part7_eq_skeleton]
  unfold k0_part7_skel
  refine kcopy 0 rfl rfl (k0_off1_eq c 0) ?_
  refine vcopy 0 rfl rfl (k0_off1_eq c 0) ?_
  refine kcopy 1 rfl rfl (k0_off1_eq c 1) ?_
  refine vcopy 1 rfl rfl (k0_off1_eq c 1) ?_
  exact H

/-- Part 8: copies of heads begun. -/
theorem part8 {v2 : BitVec 32} {k : _ → Prog (TpuEff nD τ sig (Elt F) Λ₀ .tc) α}
    (H : Tri m K c iprop(KSt m c 4 ∗ VSt m c 4 ∗ R) (k ⟨⟩) Q) :
    Tri m K c iprop(KSt m c 2 ∗ VSt m c 2 ∗ R) (Prog.bind ((onArgs (k0_part8 (F := F))) c v2) k) Q := by
  unfold onArgs
  rw [k0_part8_eq_skeleton]
  unfold k0_part8_skel
  refine kcopy 2 rfl rfl (k0_off1_eq c 2) ?_
  refine vcopy 2 rfl rfl (k0_off1_eq c 2) ?_
  refine kcopy 3 rfl rfl (k0_off1_eq c 3) ?_
  refine vcopy 3 rfl rfl (k0_off1_eq c 3) ?_
  exact H

/-- Part 9: copies of heads begun. -/
theorem part9 {v2 : BitVec 32} {k : _ → Prog (TpuEff nD τ sig (Elt F) Λ₀ .tc) α}
    (H : Tri m K c iprop(KSt m c 6 ∗ VSt m c 5 ∗ R) (k ⟨⟩) Q) :
    Tri m K c iprop(KSt m c 4 ∗ VSt m c 4 ∗ R) (Prog.bind ((onArgs (k0_part9 (F := F))) c v2) k) Q := by
  unfold onArgs
  rw [k0_part9_eq_skeleton]
  unfold k0_part9_skel
  refine kcopy 4 rfl rfl (k0_off1_eq c 4) ?_
  refine vcopy 4 rfl rfl (k0_off1_eq c 4) ?_
  refine kcopy 5 rfl rfl (k0_off1_eq c 5) ?_
  exact H

/-- Part 10: copies of heads begun. -/
theorem part10 {v2 : BitVec 32} {k : _ → Prog (TpuEff nD τ sig (Elt F) Λ₀ .tc) α}
    (H : Tri m K c iprop(KSt m c 7 ∗ VSt m c 7 ∗ R) (k ⟨⟩) Q) :
    Tri m K c iprop(KSt m c 6 ∗ VSt m c 5 ∗ R) (Prog.bind ((onArgs (k0_part10 (F := F))) c v2) k) Q := by
  unfold onArgs
  rw [k0_part10_eq_skeleton]
  unfold k0_part10_skel
  refine vcopy 5 rfl rfl (k0_off1_eq c 5) ?_
  refine kcopy 6 rfl rfl (k0_off1_eq c 6) ?_
  refine vcopy 6 rfl rfl (k0_off1_eq c 6) ?_
  exact H

/-- Part 11: the last copies begun, the bias stored, the first wait. -/
theorem part11 {k : _ → Prog (TpuEff nD τ sig (Elt F) Λ₀ .tc) α}
    (H : Tri m K c iprop(owesAny c (Ow c ∅ (others c) (others c)) ∗ KWt m c 1 ∗ VWt m c 0 ∗ biasPts c (k0_pay1 (F := F)) ∗ R) (k ⟨⟩) Q) :
    Tri m K c iprop(KSt m c 7 ∗ VSt m c 7 ∗ owesAny c (Ow c ∅ (others c) (others c)) ∗ AtKV c ∗ (∃ f, biasPts c f) ∗ R) (Prog.bind ((onArgs (k0_part11 (F := F))) c) k) Q := by
  unfold onArgs
  rw [k0_part11_eq_skeleton]
  unfold k0_part11_skel
  refine kcopy 7 rfl rfl (k0_off1_eq c 7) ?_
  refine vcopy 7 rfl rfl (k0_off1_eq c 7) ?_
  refine biasStore rfl ?_
  refine kwait 0 rfl rfl ?_
  exact H

/-- Part 12: waits for copies of heads. -/
theorem part12 {k : _ → Prog (TpuEff nD τ sig (Elt F) Λ₀ .tc) α}
    (H : Tri m K c iprop(owesAny c (Ow c ∅ (others c) (others c)) ∗ KWt m c 3 ∗ VWt m c 2 ∗ R) (k ⟨⟩) Q) :
    Tri m K c iprop(owesAny c (Ow c ∅ (others c) (others c)) ∗ KWt m c 1 ∗ VWt m c 0 ∗ R) (Prog.bind ((onArgs (k0_part12 (F := F))) c) k) Q := by
  unfold onArgs
  rw [k0_part12_eq_skeleton]
  unfold k0_part12_skel
  refine vwait 0 rfl rfl ?_
  refine kwait 1 rfl rfl ?_
  refine vwait 1 rfl rfl ?_
  refine kwait 2 rfl rfl ?_
  exact H

/-- Part 13: waits for copies of heads. -/
theorem part13 {k : _ → Prog (TpuEff nD τ sig (Elt F) Λ₀ .tc) α}
    (H : Tri m K c iprop(owesAny c (Ow c ∅ (others c) (others c)) ∗ KWt m c 5 ∗ VWt m c 4 ∗ R) (k ⟨⟩) Q) :
    Tri m K c iprop(owesAny c (Ow c ∅ (others c) (others c)) ∗ KWt m c 3 ∗ VWt m c 2 ∗ R) (Prog.bind ((onArgs (k0_part13 (F := F))) c) k) Q := by
  unfold onArgs
  rw [k0_part13_eq_skeleton]
  unfold k0_part13_skel
  refine vwait 2 rfl rfl ?_
  refine kwait 3 rfl rfl ?_
  refine vwait 3 rfl rfl ?_
  refine kwait 4 rfl rfl ?_
  exact H

/-- Part 14: waits for copies of heads. -/
theorem part14 {k : _ → Prog (TpuEff nD τ sig (Elt F) Λ₀ .tc) α}
    (H : Tri m K c iprop(owesAny c (Ow c ∅ (others c) (others c)) ∗ KWt m c 7 ∗ VWt m c 6 ∗ R) (k ⟨⟩) Q) :
    Tri m K c iprop(owesAny c (Ow c ∅ (others c) (others c)) ∗ KWt m c 5 ∗ VWt m c 4 ∗ R) (Prog.bind ((onArgs (k0_part14 (F := F))) c) k) Q := by
  unfold onArgs
  rw [k0_part14_eq_skeleton]
  unfold k0_part14_skel
  refine vwait 4 rfl rfl ?_
  refine kwait 5 rfl rfl ?_
  refine vwait 5 rfl rfl ?_
  refine kwait 6 rfl rfl ?_
  exact H

/-- Part 15: the last waits, and the first operands loaded. -/
theorem part15 {v19 : BitVec 32} {k : _ → Prog (TpuEff nD τ sig (Elt F) Λ₀ .tc) α}
    (H : ∀ w0 w1 : BitVec 32, Tri m K c iprop(Calc m c 0 0 0 ∗ KVDone m c ∗ R) (k ⟨w0, w1, k0_pay2 (xblk m c (blk c 0)), k0_pay3 (wqL m c), constant S256x1024 .f32 0x00000000#32⟩) Q) :
    Tri m K c iprop(owesAny c (Ow c ∅ (others c) (others c)) ∗ KWt m c 7 ∗ VWt m c 6 ∗ biasPts c (k0_pay1 (F := F)) ∗ Fresh m c ∗ R) (Prog.bind ((onArgs (k0_part15 (F := F))) c v19) k) Q := by
  unfold onArgs
  rw [k0_part15_eq_skeleton]
  unfold k0_part15_skel
  refine vwait 6 rfl rfl ?_
  refine kwait 7 rfl rfl ?_
  refine vwait 7 rfl rfl ?_
  refine calc_start ?_
  refine xload (off2_at c 0) ?_
  refine qload rfl ?_
  exact H _ _

end Cert.AttnProof

end
-- ==== Proof.Block0.lean ====
/-
# The parts of the body that compute and send the first block

Each takes the state of the computation from where the part before it left it; what the part returns for the next is given by its payloads at the contents of the buffers.
-/
module

public import proofs.«01_k».proof.Proof.Calc

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- Part 16: from block 0, 0 heads, 0 sends, to block 0, 1 heads, 0 sends. -/
theorem part16 {v374 : BitVec 32} {v377 : FVec F S256x1024 .f32} {v379 : FVec F S1024x1024 .f32} {cst_415 : FVec F S256x1024 .f32}
    (h0 : k0_pay5 v377 v379 cst_415 (kL m c 0) (biasL (blk c 0)) (vL m c 0) = headOut m c (blk c 0) 0)
    {k : _ → Prog (TpuEff nD τ sig (Elt F) Λ₀ .tc) α}
    (H : Tri m K c iprop(Calc m c 0 1 0 ∗ R) (k ⟨k0_pay4 v377 v379 cst_415, k0_pay6 v377 v379 cst_415 (kL m c 1) (biasL (blk c 0)), (vL m c 1)⟩) Q) :
    Tri m K c iprop(Calc m c 0 0 0 ∗ R) (Prog.bind ((onArgs (k0_part16 (F := F))) c v374 v377 v379 cst_415) k) Q := by
  unfold onArgs
  rw [k0_part16_eq_skeleton]
  unfold k0_part16_skel
  refine head 0 rfl (off3_at c 0) rfl rfl h0 ?_
  refine kload 1 rfl ?_
  refine bload (off3_at c 0) ?_
  refine vload 1 rfl ?_
  exact H

/-- Part 17: from block 0, 1 heads, 0 sends, to block 0, 3 heads, 0 sends. -/
theorem part17 {v374 : BitVec 32} {v380 : FVec F S256x1024 .f32} {v414 : FVec F S256x1024 .f32} {v415 : Vec F S1x1024x128 .f32}
    (h0 : k0_pay7 v414 v415 = headOut m c (blk c 0) 1)
    (h1 : k0_pay8 v380 (kL m c 2) (biasL (blk c 0)) (vL m c 2) = headOut m c (blk c 0) 2)
    {k : _ → Prog (TpuEff nD τ sig (Elt F) Λ₀ .tc) α}
    (H : Tri m K c iprop(Calc m c 0 3 0 ∗ R) (k ((k0_pay9 v380 (kL m c 3) (biasL (blk c 0))))) Q) :
    Tri m K c iprop(Calc m c 0 1 0 ∗ R) (Prog.bind ((onArgs (k0_part17 (F := F))) c v374 v380 v414 v415) k) Q := by
  unfold onArgs
  rw [k0_part17_eq_skeleton]
  unfold k0_part17_skel
  refine cload fun _ => ?_
  refine cstore 1 rfl h0 ?_
  refine head 2 rfl (off3_at c 0) rfl rfl h1 ?_
  refine kload 3 rfl ?_
  refine bload (off3_at c 0) ?_
  exact H

/-- Part 18: from block 0, 3 heads, 0 sends, to block 0, 5 heads, 0 sends. -/
theorem part18 {v374 : BitVec 32} {v380 : FVec F S256x1024 .f32} {v450 : FVec F S256x1024 .f32}
    (h0 : k0_pay10 v450 (vL m c 3) = headOut m c (blk c 0) 3)
    (h1 : k0_pay11 v380 (kL m c 4) (biasL (blk c 0)) (vL m c 4) = headOut m c (blk c 0) 4)
    {k : _ → Prog (TpuEff nD τ sig (Elt F) Λ₀ .tc) α}
    (H : Tri m K c iprop(Calc m c 0 5 0 ∗ R) (k ⟨k0_pay12 v380 (kL m c 5), (Named.named κ "scale" 0x3DB504F3#32 : F .f32)⟩) Q) :
    Tri m K c iprop(Calc m c 0 3 0 ∗ R) (Prog.bind ((onArgs (k0_part18 (F := F))) c v374 v380 v450) k) Q := by
  unfold onArgs
  rw [k0_part18_eq_skeleton]
  unfold k0_part18_skel
  refine vload 3 rfl ?_
  refine cload fun _ => ?_
  refine cstore 3 rfl h0 ?_
  refine head 4 rfl (off3_at c 0) rfl rfl h1 ?_
  refine kload 5 rfl ?_
  exact H

/-- Part 19: from block 0, 5 heads, 0 sends, to block 0, 7 heads, 0 sends. -/
theorem part19 {v374 : BitVec 32} {v380 : FVec F S256x1024 .f32} {v484 : FVec F S256x1024 .f32} {cst_476 : F .f32}
    (h0 : k0_pay13 v484 cst_476 (biasL (blk c 0)) (vL m c 5) = headOut m c (blk c 0) 5)
    (h1 : k0_pay14 v380 (kL m c 6) (biasL (blk c 0)) (vL m c 6) = headOut m c (blk c 0) 6)
    {k : _ → Prog (TpuEff nD τ sig (Elt F) Λ₀ .tc) α}
    (H : Tri m K c iprop(Calc m c 0 7 0 ∗ R) (k ((k0_pay15 v380))) Q) :
    Tri m K c iprop(Calc m c 0 5 0 ∗ R) (Prog.bind ((onArgs (k0_part19 (F := F))) c v374 v380 v484 cst_476) k) Q := by
  unfold onArgs
  rw [k0_part19_eq_skeleton]
  unfold k0_part19_skel
  refine bload (off3_at c 0) ?_
  refine vload 5 rfl ?_
  refine cload fun _ => ?_
  refine cstore 5 rfl h0 ?_
  refine head 6 rfl (off3_at c 0) rfl rfl h1 ?_
  exact H

/-- Part 20: from block 0, 7 heads, 0 sends, to block 1, 0 heads, 1 sends. -/
theorem part20 {v2 : BitVec 32} {v373 : BitVec 32} {v374 : BitVec 32} {v521 : FVec F S256x128 .f32}
    (h0 : k0_pay16 v521 (kL m c 7) (biasL (blk c 0)) (vL m c 7) = headOut m c (blk c 0) 7)
    {k : _ → Prog (TpuEff nD τ sig (Elt F) Λ₀ .tc) α}
    (H : ∀ w0 w1 : BitVec 32, Tri m K c iprop(Calc m c 1 0 1 ∗ R) (k ⟨w0, w1⟩) Q) :
    Tri m K c iprop(Calc m c 0 7 0 ∗ R) (Prog.bind ((onArgs (k0_part20 (F := F))) c v2 v373 v374 v521) k) Q := by
  unfold onArgs
  rw [k0_part20_eq_skeleton]
  unfold k0_part20_skel
  refine head 7 rfl (off3_at c 0) rfl rfl h0 ?_
  refine block (k := 0) (by decide) rfl rfl (off3_at c 0) (off3_at c 0) (by rfl) ?_
  refine csend 0 (by decide) (by decide) (by decide +kernel) ?_
  exact H _ _

/-- Part 21: from block 1, 0 heads, 1 sends, to block 1, 0 heads, 6 sends. -/
theorem part21 {v2 : BitVec 32} {v373 : BitVec 32} {c8_i32_516 : BitVec 32}
    {k : _ → Prog (TpuEff nD τ sig (Elt F) Λ₀ .tc) α}
    (H : ∀ w0 w1 w2 w3 w4 w5 : BitVec 32, Tri m K c iprop(Calc m c 1 0 6 ∗ R) (k ⟨w0, w1, w2, w3, w4, w5⟩) Q) :
    Tri m K c iprop(Calc m c 1 0 1 ∗ R) (Prog.bind ((onArgs (k0_part21 (F := F))) c v2 v373 c8_i32_516) k) Q := by
  unfold onArgs
  rw [k0_part21_eq_skeleton]
  unfold k0_part21_skel
  refine csend 1 (by decide) (by decide) (by decide +kernel) ?_
  refine csend 2 (by decide) (by decide) (by decide +kernel) ?_
  refine csend 3 (by decide) (by decide) (by decide +kernel) ?_
  refine csend 4 (by decide) (by decide) (by decide +kernel) ?_
  refine csend 5 (by decide) (by decide) (by decide +kernel) ?_
  exact H _ _ _ _ _ _

end Cert.AttnProof

end
-- ==== Proof.Block1.lean ====
/-
# The parts of the body that compute and send the second block

Each takes the state of the computation from where the part before it left it; what the part returns for the next is given by its payloads at the contents of the buffers.
-/
module

public import proofs.«01_k».proof.Proof.Calc

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- Part 22: from block 1, 0 heads, 6 sends, to block 1, 0 heads, 8 sends. -/
theorem part22 {v2 : BitVec 32} {v19 : BitVec 32} {v373 : BitVec 32} {v586 : BitVec 32}
    {k : _ → Prog (TpuEff nD τ sig (Elt F) Λ₀ .tc) α}
    (H : ∀ w0 w1 w2 : BitVec 32, Tri m K c iprop(Calc m c 1 0 8 ∗ R) (k ⟨w0, w1, w2, k0_pay18 (xblk m c (blk c 1)) (wqL m c), k0_pay19 (xblk m c (blk c 1)) (wqL m c) (kL m c 0) (biasL (blk c 1)), (vL m c 0)⟩) Q) :
    Tri m K c iprop(Calc m c 1 0 6 ∗ R) (Prog.bind ((onArgs (k0_part22 (F := F))) c v2 v19 v373 v586) k) Q := by
  unfold onArgs
  rw [k0_part22_eq_skeleton]
  unfold k0_part22_skel
  refine csend 6 (by decide) (by decide) (by decide +kernel) ?_
  refine csend 7 (by decide) (by decide) (by decide +kernel) ?_
  refine xload (off2_at c 1) ?_
  refine qload rfl ?_
  refine kload 0 rfl ?_
  refine bload (off3_at c 1) ?_
  refine vload 0 rfl ?_
  exact H _ _ _

/-- Part 23: from block 1, 0 heads, 8 sends, to block 1, 2 heads, 8 sends. -/
theorem part23 {v600 : BitVec 32} {v606 : FVec F S256x1024 .f32} {v620 : FVec F S256x1024 .f32} {v621 : Vec F S1x1024x128 .f32}
    (h0 : k0_pay20 v620 v621 = headOut m c (blk c 1) 0)
    (h1 : k0_pay21 v606 (kL m c 1) (biasL (blk c 1)) (vL m c 1) = headOut m c (blk c 1) 1)
    {k : _ → Prog (TpuEff nD τ sig (Elt F) Λ₀ .tc) α}
    (H : Tri m K c iprop(Calc m c 1 2 8 ∗ R) (k ((k0_pay22 v606 (kL m c 2) (biasL (blk c 1))))) Q) :
    Tri m K c iprop(Calc m c 1 0 8 ∗ R) (Prog.bind ((onArgs (k0_part23 (F := F))) c v600 v606 v620 v621) k) Q := by
  unfold onArgs
  rw [k0_part23_eq_skeleton]
  unfold k0_part23_skel
  refine cload fun _ => ?_
  refine cstore 0 rfl h0 ?_
  refine head 1 rfl (off3_at c 1) rfl rfl h1 ?_
  refine kload 2 rfl ?_
  refine bload (off3_at c 1) ?_
  exact H

/-- Part 24: from block 1, 2 heads, 8 sends, to block 1, 4 heads, 8 sends. -/
theorem part24 {v600 : BitVec 32} {v606 : FVec F S256x1024 .f32} {v656 : FVec F S256x1024 .f32}
    (h0 : k0_pay23 v656 (vL m c 2) = headOut m c (blk c 1) 2)
    (h1 : k0_pay24 v606 (kL m c 3) (biasL (blk c 1)) (vL m c 3) = headOut m c (blk c 1) 3)
    {k : _ → Prog (TpuEff nD τ sig (Elt F) Λ₀ .tc) α}
    (H : Tri m K c iprop(Calc m c 1 4 8 ∗ R) (k ⟨k0_pay25 v606 (kL m c 4), (Named.named κ "scale" 0x3DB504F3#32 : F .f32)⟩) Q) :
    Tri m K c iprop(Calc m c 1 2 8 ∗ R) (Prog.bind ((onArgs (k0_part24 (F := F))) c v600 v606 v656) k) Q := by
  unfold onArgs
  rw [k0_part24_eq_skeleton]
  unfold k0_part24_skel
  refine vload 2 rfl ?_
  refine cload fun _ => ?_
  refine cstore 2 rfl h0 ?_
  refine head 3 rfl (off3_at c 1) rfl rfl h1 ?_
  refine kload 4 rfl ?_
  exact H

/-- Part 25: from block 1, 4 heads, 8 sends, to block 1, 6 heads, 8 sends. -/
theorem part25 {v600 : BitVec 32} {v606 : FVec F S256x1024 .f32} {v690 : FVec F S256x1024 .f32} {cst_609 : F .f32}
    (h0 : k0_pay26 v690 cst_609 (biasL (blk c 1)) (vL m c 4) = headOut m c (blk c 1) 4)
    (h1 : k0_pay27 v606 (kL m c 5) (biasL (blk c 1)) (vL m c 5) = headOut m c (blk c 1) 5)
    {k : _ → Prog (TpuEff nD τ sig (Elt F) Λ₀ .tc) α}
    (H : Tri m K c iprop(Calc m c 1 6 8 ∗ R) (k ((k0_pay28 v606))) Q) :
    Tri m K c iprop(Calc m c 1 4 8 ∗ R) (Prog.bind ((onArgs (k0_part25 (F := F))) c v600 v606 v690 cst_609) k) Q := by
  unfold onArgs
  rw [k0_part25_eq_skeleton]
  unfold k0_part25_skel
  refine bload (off3_at c 1) ?_
  refine vload 4 rfl ?_
  refine cload fun _ => ?_
  refine cstore 4 rfl h0 ?_
  refine head 5 rfl (off3_at c 1) rfl rfl h1 ?_
  exact H

/-- Part 26: from block 1, 6 heads, 8 sends, to block 1, 7 heads, 8 sends. -/
theorem part26 {v600 : BitVec 32} {v606 : FVec F S256x1024 .f32} {v727 : FVec F S256x128 .f32}
    (h0 : k0_pay29 v727 (kL m c 6) (biasL (blk c 1)) (vL m c 6) = headOut m c (blk c 1) 6)
    {k : _ → Prog (TpuEff nD τ sig (Elt F) Λ₀ .tc) α}
    (H : Tri m K c iprop(Calc m c 1 7 8 ∗ R) (k ⟨k0_pay30 v606 (kL m c 7) (biasL (blk c 1)), k0_pay31 (vL m c 7), (constant S256x128 .f32 0x00000000#32 : FVec F S256x128 .f32)⟩) Q) :
    Tri m K c iprop(Calc m c 1 6 8 ∗ R) (Prog.bind ((onArgs (k0_part26 (F := F))) c v600 v606 v727) k) Q := by
  unfold onArgs
  rw [k0_part26_eq_skeleton]
  unfold k0_part26_skel
  refine head 6 rfl (off3_at c 1) rfl rfl h0 ?_
  refine kload 7 rfl ?_
  refine bload (off3_at c 1) ?_
  refine vload 7 rfl ?_
  exact H

/-- Part 27: from block 1, 7 heads, 8 sends, to block 2, 0 heads, 11 sends. -/
theorem part27 {v2 : BitVec 32} {v599 : BitVec 32} {v600 : BitVec 32} {v760 : FVec F S256x1024 .f32} {v762 : FVec F S1024x128 .f32} {cst_654 : FVec F S256x128 .f32}
    (h0 : k0_pay32 v760 v762 cst_654 = headOut m c (blk c 1) 7)
    {k : _ → Prog (TpuEff nD τ sig (Elt F) Λ₀ .tc) α}
    (H : ∀ w0 w1 w2 w3 w4 : BitVec 32, Tri m K c iprop(Calc m c 2 0 11 ∗ R) (k ⟨w0, w1, w2, w3, w4⟩) Q) :
    Tri m K c iprop(Calc m c 1 7 8 ∗ R) (Prog.bind ((onArgs (k0_part27 (F := F))) c v2 v599 v600 v760 v762 cst_654) k) Q := by
  unfold onArgs
  rw [k0_part27_eq_skeleton]
  unfold k0_part27_skel
  refine cload fun _ => ?_
  refine cstore 7 rfl h0 ?_
  refine block (k := 1) (by decide) rfl rfl (off3_at c 1) (off3_at c 1) (by rfl) ?_
  refine csend 8 (by decide) (by decide) (by decide +kernel) ?_
  refine csend 9 (by decide) (by decide) (by decide +kernel) ?_
  refine csend 10 (by decide) (by decide) (by decide +kernel) ?_
  exact H _ _ _ _ _

/-- Part 28: from block 2, 0 heads, 11 sends, to block 2, 0 heads, 16 sends. -/
theorem part28 {v2 : BitVec 32} {v19 : BitVec 32} {v599 : BitVec 32} {v794 : BitVec 32} {c32_i32_677 : BitVec 32}
    {k : _ → Prog (TpuEff nD τ sig (Elt F) Λ₀ .tc) α}
    (H : ∀ w0 w1 w2 w3 w4 w5 : BitVec 32, Tri m K c iprop(Calc m c 2 0 16 ∗ R) (k ⟨w0, w1, w2, w3, w4, w5⟩) Q) :
    Tri m K c iprop(Calc m c 2 0 11 ∗ R) (Prog.bind ((onArgs (k0_part28 (F := F))) c v2 v19 v599 v794 c32_i32_677) k) Q := by
  unfold onArgs
  rw [k0_part28_eq_skeleton]
  unfold k0_part28_skel
  refine csend 11 (by decide) (by decide) (by decide +kernel) ?_
  refine csend 12 (by decide) (by decide) (by decide +kernel) ?_
  refine csend 13 (by decide) (by decide) (by decide +kernel) ?_
  refine csend 14 (by decide) (by decide) (by decide +kernel) ?_
  refine csend 15 (by decide) (by decide) (by decide +kernel) ?_
  exact H _ _ _ _ _ _

end Cert.AttnProof

end
-- ==== Proof.Block2.lean ====
/-
# The parts of the body that compute and send the third block

Each takes the state of the computation from where the part before it left it; what the part returns for the next is given by its payloads at the contents of the buffers.
-/
module

public import proofs.«01_k».proof.Proof.Calc

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- Part 29: from block 2, 0 heads, 16 sends, to block 2, 1 heads, 16 sends. -/
theorem part29 {v826 : BitVec 32}
    {k : _ → Prog (TpuEff nD τ sig (Elt F) Λ₀ .tc) α}
    (H : Tri m K c iprop(Calc m c 2 1 16 ∗ R) (k ⟨k0_pay34 (xblk m c (blk c 2)) (wqL m c), k0_pay36 (xblk m c (blk c 2)) (wqL m c) (kL m c 1) (biasL (blk c 2))⟩) Q) :
    Tri m K c iprop(Calc m c 2 0 16 ∗ R) (Prog.bind ((onArgs (k0_part29 (F := F))) c v826) k) Q := by
  unfold onArgs
  rw [k0_part29_eq_skeleton]
  unfold k0_part29_skel
  refine xload (off2_at c 2) ?_
  refine qload rfl ?_
  refine head 0 rfl (off3_at c 2) rfl rfl (by rfl) ?_
  refine kload 1 rfl ?_
  refine bload (off3_at c 2) ?_
  exact H

/-- Part 30: from block 2, 1 heads, 16 sends, to block 2, 3 heads, 16 sends. -/
theorem part30 {v826 : BitVec 32} {v832 : FVec F S256x1024 .f32} {v862 : FVec F S256x1024 .f32}
    (h0 : k0_pay37 v862 (vL m c 1) = headOut m c (blk c 2) 1)
    (h1 : k0_pay38 v832 (kL m c 2) (biasL (blk c 2)) (vL m c 2) = headOut m c (blk c 2) 2)
    {k : _ → Prog (TpuEff nD τ sig (Elt F) Λ₀ .tc) α}
    (H : Tri m K c iprop(Calc m c 2 3 16 ∗ R) (k ⟨k0_pay39 v832 (kL m c 3), (Named.named κ "scale" 0x3DB504F3#32 : F .f32)⟩) Q) :
    Tri m K c iprop(Calc m c 2 1 16 ∗ R) (Prog.bind ((onArgs (k0_part30 (F := F))) c v826 v832 v862) k) Q := by
  unfold onArgs
  rw [k0_part30_eq_skeleton]
  unfold k0_part30_skel
  refine vload 1 rfl ?_
  refine cload fun _ => ?_
  refine cstore 1 rfl h0 ?_
  refine head 2 rfl (off3_at c 2) rfl rfl h1 ?_
  refine kload 3 rfl ?_
  exact H

/-- Part 31: from block 2, 3 heads, 16 sends, to block 2, 5 heads, 16 sends. -/
theorem part31 {v826 : BitVec 32} {v832 : FVec F S256x1024 .f32} {v896 : FVec F S256x1024 .f32} {cst_747 : F .f32}
    (h0 : k0_pay40 v896 cst_747 (biasL (blk c 2)) (vL m c 3) = headOut m c (blk c 2) 3)
    (h1 : k0_pay41 v832 (kL m c 4) (biasL (blk c 2)) (vL m c 4) = headOut m c (blk c 2) 4)
    {k : _ → Prog (TpuEff nD τ sig (Elt F) Λ₀ .tc) α}
    (H : Tri m K c iprop(Calc m c 2 5 16 ∗ R) (k ((k0_pay42 v832))) Q) :
    Tri m K c iprop(Calc m c 2 3 16 ∗ R) (Prog.bind ((onArgs (k0_part31 (F := F))) c v826 v832 v896 cst_747) k) Q := by
  unfold onArgs
  rw [k0_part31_eq_skeleton]
  unfold k0_part31_skel
  refine bload (off3_at c 2) ?_
  refine vload 3 rfl ?_
  refine cload fun _ => ?_
  refine cstore 3 rfl h0 ?_
  refine head 4 rfl (off3_at c 2) rfl rfl h1 ?_
  exact H

/-- Part 32: from block 2, 5 heads, 16 sends, to block 2, 6 heads, 16 sends. -/
theorem part32 {v826 : BitVec 32} {v832 : FVec F S256x1024 .f32} {v933 : FVec F S256x128 .f32}
    (h0 : k0_pay43 v933 (kL m c 5) (biasL (blk c 2)) (vL m c 5) = headOut m c (blk c 2) 5)
    {k : _ → Prog (TpuEff nD τ sig (Elt F) Λ₀ .tc) α}
    (H : Tri m K c iprop(Calc m c 2 6 16 ∗ R) (k ⟨k0_pay44 v832 (kL m c 6) (biasL (blk c 2)), k0_pay45 (vL m c 6), (constant S256x128 .f32 0x00000000#32 : FVec F S256x128 .f32)⟩) Q) :
    Tri m K c iprop(Calc m c 2 5 16 ∗ R) (Prog.bind ((onArgs (k0_part32 (F := F))) c v826 v832 v933) k) Q := by
  unfold onArgs
  rw [k0_part32_eq_skeleton]
  unfold k0_part32_skel
  refine head 5 rfl (off3_at c 2) rfl rfl h0 ?_
  refine kload 6 rfl ?_
  refine bload (off3_at c 2) ?_
  refine vload 6 rfl ?_
  exact H

/-- Part 33: from block 2, 6 heads, 16 sends, to block 3, 0 heads, 16 sends. -/
theorem part33 {v825 : BitVec 32} {v826 : BitVec 32} {v832 : FVec F S256x1024 .f32} {v966 : FVec F S256x1024 .f32} {v968 : FVec F S1024x128 .f32} {cst_792 : FVec F S256x128 .f32}
    (h0 : k0_pay46 v966 v968 cst_792 = headOut m c (blk c 2) 6)
    (h1 : k0_pay47 v832 (kL m c 7) (biasL (blk c 2)) (vL m c 7) = headOut m c (blk c 2) 7)
    {k : _ → Prog (TpuEff nD τ sig (Elt F) Λ₀ .tc) α}
    (H : ∀ w0 : BitVec 32, Tri m K c iprop(Calc m c 3 0 16 ∗ R) (k (w0)) Q) :
    Tri m K c iprop(Calc m c 2 6 16 ∗ R) (Prog.bind ((onArgs (k0_part33 (F := F))) c v825 v826 v832 v966 v968 cst_792) k) Q := by
  unfold onArgs
  rw [k0_part33_eq_skeleton]
  unfold k0_part33_skel
  refine cload fun _ => ?_
  refine cstore 6 rfl h0 ?_
  refine head 7 rfl (off3_at c 2) rfl rfl h1 ?_
  refine block (k := 2) (by decide) rfl rfl (off3_at c 2) (off3_at c 2) (by rfl) ?_
  exact H _

/-- Part 34: from block 3, 0 heads, 16 sends, to block 3, 0 heads, 21 sends. -/
theorem part34 {v2 : BitVec 32} {v825 : BitVec 32} {v1002 : BitVec 32}
    {k : _ → Prog (TpuEff nD τ sig (Elt F) Λ₀ .tc) α}
    (H : ∀ w0 w1 w2 w3 w4 w5 w6 : BitVec 32, Tri m K c iprop(Calc m c 3 0 21 ∗ R) (k ⟨w0, w1, w2, w3, w4, w5, w6⟩) Q) :
    Tri m K c iprop(Calc m c 3 0 16 ∗ R) (Prog.bind ((onArgs (k0_part34 (F := F))) c v2 v825 v1002) k) Q := by
  unfold onArgs
  rw [k0_part34_eq_skeleton]
  unfold k0_part34_skel
  refine csend 16 (by decide) (by decide) (by decide +kernel) ?_
  refine csend 17 (by decide) (by decide) (by decide +kernel) ?_
  refine csend 18 (by decide) (by decide) (by decide +kernel) ?_
  refine csend 19 (by decide) (by decide) (by decide +kernel) ?_
  refine csend 20 (by decide) (by decide) (by decide +kernel) ?_
  exact H _ _ _ _ _ _ _

end Cert.AttnProof

end
-- ==== Proof.Block3.lean ====
/-
# The parts of the body that compute and send the fourth block

Each takes the state of the computation from where the part before it left it; what the part returns for the next is given by its payloads at the contents of the buffers.
-/
module

public import proofs.«01_k».proof.Proof.Calc

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- Part 35: from block 3, 0 heads, 21 sends, to block 3, 0 heads, 24 sends. -/
theorem part35 {v2 : BitVec 32} {v19 : BitVec 32} {v825 : BitVec 32} {v1032 : BitVec 32} {v1035 : BitVec 32} {c0_i32_837 : BitVec 32}
    {k : _ → Prog (TpuEff nD τ sig (Elt F) Λ₀ .tc) α}
    (H : ∀ w0 w1 w2 w3 : BitVec 32, Tri m K c iprop(Calc m c 3 0 24 ∗ R) (k ⟨w0, w1, w2, w3, k0_pay49 (xblk m c (blk c 3)) (wqL m c), k0_pay50 (xblk m c (blk c 3)) (wqL m c) (kL m c 0) (biasL (blk c 3))⟩) Q) :
    Tri m K c iprop(Calc m c 3 0 21 ∗ R) (Prog.bind ((onArgs (k0_part35 (F := F))) c v2 v19 v825 v1032 v1035 c0_i32_837) k) Q := by
  unfold onArgs
  rw [k0_part35_eq_skeleton]
  unfold k0_part35_skel
  refine csend 21 (by decide) (by decide) (by decide +kernel) ?_
  refine csend 22 (by decide) (by decide) (by decide +kernel) ?_
  refine csend 23 (by decide) (by decide) (by decide +kernel) ?_
  refine xload (off2_at c 3) ?_
  refine qload rfl ?_
  refine kload 0 rfl ?_
  refine bload (off3_at c 3) ?_
  exact H _ _ _ _

/-- Part 36: from block 3, 0 heads, 24 sends, to block 3, 2 heads, 24 sends. -/
theorem part36 {v1052 : BitVec 32} {v1058 : FVec F S256x1024 .f32} {v1068 : FVec F S256x1024 .f32}
    (h0 : k0_pay51 v1068 (vL m c 0) = headOut m c (blk c 3) 0)
    (h1 : k0_pay52 v1058 (kL m c 1) (biasL (blk c 3)) (vL m c 1) = headOut m c (blk c 3) 1)
    {k : _ → Prog (TpuEff nD τ sig (Elt F) Λ₀ .tc) α}
    (H : Tri m K c iprop(Calc m c 3 2 24 ∗ R) (k ⟨k0_pay53 v1058 (kL m c 2), (Named.named κ "scale" 0x3DB504F3#32 : F .f32)⟩) Q) :
    Tri m K c iprop(Calc m c 3 0 24 ∗ R) (Prog.bind ((onArgs (k0_part36 (F := F))) c v1052 v1058 v1068) k) Q := by
  unfold onArgs
  rw [k0_part36_eq_skeleton]
  unfold k0_part36_skel
  refine vload 0 rfl ?_
  refine cload fun _ => ?_
  refine cstore 0 rfl h0 ?_
  refine head 1 rfl (off3_at c 3) rfl rfl h1 ?_
  refine kload 2 rfl ?_
  exact H

/-- Part 37: from block 3, 2 heads, 24 sends, to block 3, 4 heads, 24 sends. -/
theorem part37 {v1052 : BitVec 32} {v1058 : FVec F S256x1024 .f32} {v1102 : FVec F S256x1024 .f32} {cst_885 : F .f32}
    (h0 : k0_pay54 v1102 cst_885 (biasL (blk c 3)) (vL m c 2) = headOut m c (blk c 3) 2)
    (h1 : k0_pay55 v1058 (kL m c 3) (biasL (blk c 3)) (vL m c 3) = headOut m c (blk c 3) 3)
    {k : _ → Prog (TpuEff nD τ sig (Elt F) Λ₀ .tc) α}
    (H : Tri m K c iprop(Calc m c 3 4 24 ∗ R) (k ((k0_pay56 v1058))) Q) :
    Tri m K c iprop(Calc m c 3 2 24 ∗ R) (Prog.bind ((onArgs (k0_part37 (F := F))) c v1052 v1058 v1102 cst_885) k) Q := by
  unfold onArgs
  rw [k0_part37_eq_skeleton]
  unfold k0_part37_skel
  refine bload (off3_at c 3) ?_
  refine vload 2 rfl ?_
  refine cload fun _ => ?_
  refine cstore 2 rfl h0 ?_
  refine head 3 rfl (off3_at c 3) rfl rfl h1 ?_
  exact H

/-- Part 38: from block 3, 4 heads, 24 sends, to block 3, 5 heads, 24 sends. -/
theorem part38 {v1052 : BitVec 32} {v1058 : FVec F S256x1024 .f32} {v1139 : FVec F S256x128 .f32}
    (h0 : k0_pay57 v1139 (kL m c 4) (biasL (blk c 3)) (vL m c 4) = headOut m c (blk c 3) 4)
    {k : _ → Prog (TpuEff nD τ sig (Elt F) Λ₀ .tc) α}
    (H : Tri m K c iprop(Calc m c 3 5 24 ∗ R) (k ⟨k0_pay58 v1058 (kL m c 5) (biasL (blk c 3)), k0_pay59 (vL m c 5), (constant S256x128 .f32 0x00000000#32 : FVec F S256x128 .f32)⟩) Q) :
    Tri m K c iprop(Calc m c 3 4 24 ∗ R) (Prog.bind ((onArgs (k0_part38 (F := F))) c v1052 v1058 v1139) k) Q := by
  unfold onArgs
  rw [k0_part38_eq_skeleton]
  unfold k0_part38_skel
  refine head 4 rfl (off3_at c 3) rfl rfl h0 ?_
  refine kload 5 rfl ?_
  refine bload (off3_at c 3) ?_
  refine vload 5 rfl ?_
  exact H

/-- Part 39: from block 3, 5 heads, 24 sends, to block 3, 7 heads, 24 sends. -/
theorem part39 {v1052 : BitVec 32} {v1058 : FVec F S256x1024 .f32} {v1172 : FVec F S256x1024 .f32} {v1174 : FVec F S1024x128 .f32} {cst_930 : FVec F S256x128 .f32}
    (h0 : k0_pay60 v1172 v1174 cst_930 = headOut m c (blk c 3) 5)
    (h1 : k0_pay61 v1058 (kL m c 6) (biasL (blk c 3)) (vL m c 6) = headOut m c (blk c 3) 6)
    {k : _ → Prog (TpuEff nD τ sig (Elt F) Λ₀ .tc) α}
    (H : Tri m K c iprop(Calc m c 3 7 24 ∗ R) (k ⟨k0_pay62 v1058 (kL m c 7) (biasL (blk c 3)), k0_pay63 v1058 (kL m c 7) (biasL (blk c 3))⟩) Q) :
    Tri m K c iprop(Calc m c 3 5 24 ∗ R) (Prog.bind ((onArgs (k0_part39 (F := F))) c v1052 v1058 v1172 v1174 cst_930) k) Q := by
  unfold onArgs
  rw [k0_part39_eq_skeleton]
  unfold k0_part39_skel
  refine cload fun _ => ?_
  refine cstore 5 rfl h0 ?_
  refine head 6 rfl (off3_at c 3) rfl rfl h1 ?_
  refine kload 7 rfl ?_
  refine bload (off3_at c 3) ?_
  exact H

/-- Part 40: from block 3, 7 heads, 24 sends, to block 4, 0 heads, 26 sends. -/
theorem part40 {v2 : BitVec 32} {v1051 : BitVec 32} {v1052 : BitVec 32} {v1208 : FVec F S256x1024 .f32} {v1210 : FVec F S256x1 .f32}
    (h0 : k0_pay64 v1208 v1210 (vL m c 7) = headOut m c (blk c 3) 7)
    {k : _ → Prog (TpuEff nD τ sig (Elt F) Λ₀ .tc) α}
    (H : ∀ w0 w1 w2 w3 : BitVec 32, Tri m K c iprop(Calc m c 4 0 26 ∗ R) (k ⟨w0, w1, w2, w3⟩) Q) :
    Tri m K c iprop(Calc m c 3 7 24 ∗ R) (Prog.bind ((onArgs (k0_part40 (F := F))) c v2 v1051 v1052 v1208 v1210) k) Q := by
  unfold onArgs
  rw [k0_part40_eq_skeleton]
  unfold k0_part40_skel
  refine vload 7 rfl ?_
  refine cload fun _ => ?_
  refine cstore 7 rfl h0 ?_
  refine block (k := 3) (by decide) rfl rfl (off3_at c 3) (off3_at c 3) (by rfl) ?_
  refine csend 24 (by decide) (by decide) (by decide +kernel) ?_
  refine csend 25 (by decide) (by decide) (by decide +kernel) ?_
  exact H _ _ _ _

/-- Part 41: from block 4, 0 heads, 26 sends, to block 4, 0 heads, 32 sends. -/
theorem part41 {v2 : BitVec 32} {v1051 : BitVec 32} {v1240 : BitVec 32} {v1243 : BitVec 32}
    {k : _ → Prog (TpuEff nD τ sig (Elt F) Λ₀ .tc) α}
    (H : ∀ w0 w1 w2 w3 w4 w5 : BitVec 32, Tri m K c iprop(Calc m c 4 0 32 ∗ R) (k ⟨w0, w1, w2, w3, w4, w5⟩) Q) :
    Tri m K c iprop(Calc m c 4 0 26 ∗ R) (Prog.bind ((onArgs (k0_part41 (F := F))) c v2 v1051 v1240 v1243) k) Q := by
  unfold onArgs
  rw [k0_part41_eq_skeleton]
  unfold k0_part41_skel
  refine csend 26 (by decide) (by decide) (by decide +kernel) ?_
  refine csend 27 (by decide) (by decide) (by decide +kernel) ?_
  refine csend 28 (by decide) (by decide) (by decide +kernel) ?_
  refine csend 29 (by decide) (by decide) (by decide +kernel) ?_
  refine csend 30 (by decide) (by decide) (by decide +kernel) ?_
  refine csend 31 (by decide) (by decide) (by decide +kernel) ?_
  exact H _ _ _ _ _ _

end Cert.AttnProof

end
-- ==== Proof.Exchange.lean ====
/-
# The two exchanges, as rules

The waits for the rows received, the sum of a device's rows, the waits for its own sends, and the gathering of the result.
-/
module

public import proofs.«01_k».proof.Proof.Open
public import proofs.«01_k».proof.Proof.Gen.KernelIdeal.Skeleton

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

theorem nx_val (c : Dev nD) (j : ℕ) (h0 : 0 < j) (hj : j < 32) : (c.val + (j - 1) + 1) % 32 = (nx c j).val := by unfold nx; dsimp only; congr 1; omega
theorem off132_at (c : Dev nD) (j : ℕ) (h0 : 0 < j) (hj : j < 32) : k0_off132 c (BitVec.ofNat 32 j) = ![(nx c j).val] := by
  have h := k0_off132_eq c ⟨j - 1, by omega⟩
  rw [show 1 + (j - 1) = j by omega] at h
  rw [h]; exact congrArg (fun x : ℕ => ![x]) (nx_val c j h0 hj)
theorem off135_at (c : Dev nD) (j : ℕ) (h0 : 0 < j) (hj : j < 32) : k0_off135 c (BitVec.ofNat 32 j) = ![(nx c j).val, 0, 0] := by
  have h := k0_off135_eq c ⟨j - 1, by omega⟩
  rw [show 1 + (j - 1) = j by omega] at h
  rw [h]; exact congrArg (fun x : ℕ => ![x, 0, 0]) (nx_val c j h0 hj)

/-! ## The waits for the partial sums received -/

/-- What device `c` owes while it waits for and adds the partial sums: the rows of the result. -/
abbrev owesRows (c : Dev nD) : SP F := owesAny c (Ow c ∅ ∅ (others c))

def RWt (m : (ℓ : Loc nD τ sig) → Buf (Elt F) ℓ) (c : Dev nD) (n : ℕ) : SP F :=
  fam (others c) (dist c) (fun s => after m c (.inr (oR s))) (fun s => before c (.inr (oR s))) n

theorem rwait (j : ℕ) (h0 : 0 < j) (hj : j < 32) {off : Fin 1 → ℕ} {o1 o2 : Fin 3 → ℕ} (e : off = ![(nx c j).val])
    {i0 : ∀ a, off a + S1.size a ≤ S32.size a} {i1 : ∀ a, o1 a + S1x32x1024.size a ≤ S32x32x1024.size a} {i2 : ∀ a, o2 a + S1x32x1024.size a ≤ S32x32x1024.size a}
    {w1 : ((rsW.slice (Rect.unit (s := S32x32x1024) o1 S1x32x1024.size i1) (fun _ => rfl)).squeeze S32x1024 squeezes_S1x32x1024_S32x1024).view.WordExact}
    {w2 : ((rsW.slice (Rect.unit (s := S32x32x1024) o2 S1x32x1024.size i2) (fun _ => rfl)).squeeze S32x1024 squeezes_S1x32x1024_S32x1024).view.WordExact}
    {cont : PUnit → Prog (TpuEff nD τ sig (Elt F) Λ₀ .tc) α}
    (H : Tri m K c iprop(owesRows c ∗ RWt m c (j + 1) ∗ R) (cont ⟨⟩) Q) :
    Tri m K c iprop(owesRows c ∗ RWt m c j ∗ R)
      (.op (.waitDma2 ((cc0_scratch8.slice (Rect.unit (s := S32) off S1.size i0)).squeeze S_ squeezes_S1_S_).sem
        ((rsW.slice (Rect.unit (s := S32x32x1024) o1 S1x32x1024.size i1) (fun _ => rfl)).squeeze S32x1024 squeezes_S1x32x1024_S32x1024)
        ((rsW.slice (Rect.unit (s := S32x32x1024) o2 S1x32x1024.size i2) (fun _ => rfl)).squeeze S32x1024 squeezes_S1x32x1024_S32x1024) w1 w2) cont) Q :=
  wait_fam (fun s : Dev nD => oR s) (nx c j) (mem_others.mpr (nx_ne c h0 hj)) (dist_nx c hj) (fun _ _ => dist_inj c) (.inl rfl) (.inl rfl)
    (.inr (by show 2 < 3; decide)) (semR (nx c j) e) (by rw [payers_R (nx_ne c h0 hj), Finset.card_singleton]) credit_rs H

/-! ## The sum of a device's rows -/

/-- A device's own partial sums of its rows, those received, and its rows of the result. -/
def Tot (m : (ℓ : Loc nD τ sig) → Buf (Elt F) ℓ) (c : Dev nD) : SP F :=
  iprop(partPts c c (PART m c) ∗ (bigSep (others c) fun s => rsPts c s (RSALL m c)) ∗ ∃ f, outPts c c fullShare f)

theorem set_part (c : Dev nD) : partW.view.setOn (Rect.unit (s := S1024x1024) ![32 * c.val, 0] S32x1024.size (row_inb c)).set ⊆ (partM c).view.set :=
  subset_of_eq (View.set_slice _ _).symm
theorem set_out (c : Dev nD) : outW.view.setOn (Rect.unit (s := S1024x1024) ![32 * c.val, 0] S32x1024.size (row_inb c)).set ⊆ (outM c).view.set :=
  subset_of_eq (View.set_slice _ _).symm

theorem ownload {off : Fin 2 → ℕ} (e : off = ![32 * c.val, 0]) {i0 : ∀ a, off a + S32x1024.size a ≤ S1024x1024.size a}
    {hl : partW.view.LoadsAt (Rect.unit (s := S1024x1024) off S32x1024.size i0).toLoadRect}
    {cont : Vec F S32x1024 .f32 → Prog (TpuEff nD τ sig (Elt F) Λ₀ .tc) α}
    (H : Tri m K c iprop(Tot m c ∗ R) (cont (ownL m c)) Q) :
    Tri m K c iprop(Tot m c ∗ R) (.op (.load partW (Rect.unit (s := S1024x1024) off S32x1024.size i0).toLoadRect hl) cont) Q := by
  subst e
  have hP : Tot m c ⊢ iprop((partW.view.loc (c : Thread nD τ) ↦[(partM c).view.set]{fullShare} PART m c)
      ∗ ((partW.view.loc (c : Thread nD τ) ↦[(partM c).view.set]{fullShare} PART m c) -∗ Tot m c)) := by
    unfold Tot
    iintro ⟨H1, H2, H3⟩
    isplitl [H1]
    · unfold partPts; iexact H1
    iintro H1
    isplitl [H1]
    · unfold partPts; iexact H1
    isplitl [H2] <;> iassumption
  exact load_of (m := m) (K := K) (c := c) (R := R) (Q := Q) (mr := partW) (hl := hl) (q := fullShare) (f := PART m c) (cont := cont) (set_part c) hP H

theorem outload {off : Fin 2 → ℕ} (e : off = ![32 * c.val, 0]) {i0 : ∀ a, off a + S32x1024.size a ≤ S1024x1024.size a}
    {hl : outW.view.LoadsAt (Rect.unit (s := S1024x1024) off S32x1024.size i0).toLoadRect}
    {cont : Vec F S32x1024 .f32 → Prog (TpuEff nD τ sig (Elt F) Λ₀ .tc) α}
    (H : ∀ v, Tri m K c iprop(Tot m c ∗ R) (cont v) Q) :
    Tri m K c iprop(Tot m c ∗ R) (.op (.load outW (Rect.unit (s := S1024x1024) off S32x1024.size i0).toLoadRect hl) cont) Q := by
  subst e
  refine Tri.pre (P' := iprop((∃ f, outPts c c fullShare f) ∗ ((partPts c c (PART m c) ∗ (bigSep (others c) fun s => rsPts c s (RSALL m c))) ∗ R))) ?_
    (Tri.exist fun f => ?_)
  · unfold Tot
    iintro ⟨⟨H1, H2, H3⟩, HR⟩
    isplitl [H3]; · iexact H3
    isplitl [H1 H2]
    · isplitl [H1] <;> iassumption
    iexact HR
  unfold outPts
  have := load_step (m := m) (K := K) (c := c) (R := iprop((partPts c c (PART m c) ∗ (bigSep (others c) fun s => rsPts c s (RSALL m c))) ∗ R)) (Q := Q) (mr := outW)
    (hl := hl) (q := fullShare) (f := f) (cont := cont) (set_out c) ((H _).pre (by
    unfold Tot outPts
    iintro ⟨H3, ⟨H1, H2⟩, HR⟩
    isplitr [HR]
    · isplitl [H1]; · iexact H1
      isplitl [H2]; · iexact H2
      iexists f; iexact H3
    iexact HR))
  exact this

theorem set_rs (s : Dev nD) : rsW.view.setOn (Rect.unit (s := S32x32x1024) ![s.val, 0, 0] S1x32x1024.size (rs_inb s)).set ⊆ (rsM s).view.set :=
  subset_of_eq ((View.set_reshape _ _).trans (View.set_slice _ _)).symm

theorem slotload (j : ℕ) (h0 : 0 < j) (hj : j < 32) {off : Fin 3 → ℕ} (e : off = ![(nx c j).val, 0, 0]) {i0 : ∀ a, off a + S1x32x1024.size a ≤ S32x32x1024.size a}
    {hl : rsW.view.LoadsAt (Rect.unit (s := S32x32x1024) off S1x32x1024.size i0).toLoadRect}
    {cont : Vec F S1x32x1024 .f32 → Prog (TpuEff nD τ sig (Elt F) Λ₀ .tc) α}
    (H : Tri m K c iprop(Tot m c ∗ R) (cont (slotL m c (nx c j))) Q) :
    Tri m K c iprop(Tot m c ∗ R) (.op (.load rsW (Rect.unit (s := S32x32x1024) off S1x32x1024.size i0).toLoadRect hl) cont) Q := by
  subst e
  have hP : Tot m c ⊢ iprop((rsW.view.loc (c : Thread nD τ) ↦[(rsM (nx c j)).view.set]{fullShare} RSALL m c)
      ∗ ((rsW.view.loc (c : Thread nD τ) ↦[(rsM (nx c j)).view.set]{fullShare} RSALL m c) -∗ Tot m c)) := by
    unfold Tot
    rw [bigSep_out (mem_others.mpr (nx_ne c h0 hj))]
    iintro ⟨H1, ⟨H2, H4⟩, H3⟩
    isplitl [H2]
    · unfold rsPts; iexact H2
    iintro H2
    isplitl [H1]; · iexact H1
    isplitl [H2 H4]
    · isplitl [H2]
      · unfold rsPts; iexact H2
      iexact H4
    iexact H3
  exact load_of (m := m) (K := K) (c := c) (R := R) (Q := Q) (mr := rsW) (hl := hl) (q := fullShare) (f := RSALL m c) (cont := cont) (set_rs (nx c j)) hP H

theorem OUTALL_at (t : Dev nD) (x : S32x1024.Idx) : OUTALL m ((outM t).view.emb x) = OUTCH m t x := by
  rw [out_emb]
  have hx : (x 0).val < 32 := (x 0).isLt
  have h1 : (32 * t.val + (x 0).val) / 32 = t.val := by omega
  have h2 : (32 * t.val + (x 0).val) % 32 = (x 0).val := by omega
  have h3 : (⟨(32 * t.val + (x 0).val) / 32, by rw [h1]; exact t.isLt⟩ : Dev nD) = t := Fin.ext h1
  have h4 : (ix2 ⟨(32 * t.val + (x 0).val) % 32, by rw [h2]; exact hx⟩ (x 1) : S32x1024.Idx) = x := by
    rw [show (⟨(32 * t.val + (x 0).val) % 32, by rw [h2]; exact hx⟩ : Fin 32) = x 0 from Fin.ext h2]
    exact (ValueIdx.eq_ix2 x).symm
  show OUTCH m ⟨(32 * t.val + (x 0).val) / 32, _⟩ (ix2 ⟨(32 * t.val + (x 0).val) % 32, _⟩ (x 1)) = OUTCH m t x
  exact congr (congrArg (OUTCH m) h3) h4

/-- What a device holds once its rows are done. -/
def Rows (m : (ℓ : Loc nD τ sig) → Buf (Elt F) ℓ) (c : Dev nD) : SP F :=
  iprop(partPts c c (PART m c) ∗ (bigSep (others c) fun s => rsPts c s (RSALL m c)) ∗ outPts c c fullShare (OUTALL m))

theorem outstore {off : Fin 2 → ℕ} (e : off = ![32 * c.val, 0]) {i0 : ∀ a, off a + S32x1024.size a ≤ S1024x1024.size a} {w : Vec F S32x1024 .f32} (hw : w = OUTCH m c)
    {hx : (outW.access (Rect.unit (s := S1024x1024) off S32x1024.size i0)).Stores Finset.univ}
    {hm : (Finset.univ : Finset (Rect.unit (s := S1024x1024) off S32x1024.size i0).shape.Idx) = Finset.univ ∨ ∀ a, (Rect.unit (s := S1024x1024) off S32x1024.size i0).stride a = 1}
    {cont : PUnit → Prog (TpuEff nD τ sig (Elt F) Λ₀ .tc) α}
    (H : Tri m K c iprop(Rows m c ∗ R) (cont ⟨⟩) Q) :
    Tri m K c iprop(Tot m c ∗ R) (.op (.store outW (Rect.unit (s := S1024x1024) off S32x1024.size i0) w Finset.univ hx hm) cont) Q := by
  subst e
  refine Tri.pre (P' := iprop((∃ f, outPts c c fullShare f) ∗ ((partPts c c (PART m c) ∗ (bigSep (others c) fun s => rsPts c s (RSALL m c))) ∗ R))) ?_
    (Tri.exist fun f => ?_)
  · unfold Tot
    iintro ⟨⟨H1, H2, H3⟩, HR⟩
    isplitl [H3]; · iexact H3
    isplitl [H1 H2]
    · isplitl [H1] <;> iassumption
    iexact HR
  have hv : ∀ i ∈ (outM c).view.set, (outM c).view.write (Elt F) f w Finset.univ i = OUTALL m i :=
    write_eq_of (outM c).view f (OUTALL m) w fun x => by rw [hw]; exact OUTALL_at c x
  have hv' : (((outM c).view.loc (c : Thread nD τ)) ↦[(outM c).view.set]{fullShare} ((outM c).view.write (Elt F) f w Finset.univ) : SP F)
      = (((outM c).view.loc (c : Thread nD τ)) ↦[(outM c).view.set]{fullShare} OUTALL m) := pointsTo_congr hv
  have hE : (iprop((((outM c).view.loc (c : Thread nD τ)) ↦[(outM c).view.set]{fullShare} ((outM c).view.write (Elt F) f w Finset.univ))
      ∗ (partPts c c (PART m c) ∗ (bigSep (others c) fun s => rsPts c s (RSALL m c))) ∗ R) : SP F) ⊢ iprop(Rows m c ∗ R) := by
    rw [hv']
    unfold Rows outPts
    iintro ⟨H3, ⟨H1, H2⟩, HR⟩
    isplitr [HR]
    · isplitl [H1]; · iexact H1
      isplitl [H2] <;> iassumption
    iexact HR
  unfold outPts
  have := store_step (m := m) (K := K) (c := c) (R := iprop((partPts c c (PART m c) ∗ (bigSep (others c) fun s => rsPts c s (RSALL m c))) ∗ R)) (Q := Q) (mr := outW)
    (hx := hx) (hm := hm) (S := (outM c).view.set) (f := f) (cont := cont) (Finset.Subset.refl _) (H.pre hE)
  exact this

/-! ## The waits for the sends of the first exchange -/

def SWt (m : (ℓ : Loc nD τ sig) → Buf (Elt F) ℓ) (c : Dev nD) (n : ℕ) : SP F :=
  fam (others c) (pos c) (fun t => after m c (.inr (oS t))) (fun t => before c (.inr (oS t))) n

/-- What the `n`-th conditional wait is to say of its condition and its semaphore's offset. -/
def WaitFacts (n : ℕ) (cnd : Dev nD → BitVec 1) (oS : Dev nD → Fin 1 → ℕ) : Prop :=
  ∀ c : Dev nD, (cnd c = 1#1 ↔ ord c n ≠ c) ∧ oS c = ![(ord c n).val]
instance {n cnd oS} : Decidable (WaitFacts n cnd oS) := by unfold WaitFacts; infer_instance

theorem cwait (n : ℕ) (hn : n < 32) {cnd : Dev nD → BitVec 1} {oS : Dev nD → Fin 1 → ℕ} {oD : Dev nD → Fin 3 → ℕ} {oP : Dev nD → Fin 2 → ℕ}
    {iS : cnd c = 1#1 → ∀ a, oS c a + S1.size a ≤ S32.size a}
    {iD : cnd c = 1#1 → ∀ a, oD c a + S1x32x1024.size a ≤ S32x32x1024.size a} {iP : cnd c = 1#1 → ∀ a, oP c a + S32x1024.size a ≤ S1024x1024.size a}
    {w1 : (h : cnd c = 1#1) → ((rsW.slice (Rect.unit (s := S32x32x1024) (oD c) S1x32x1024.size (iD h)) (fun _ => rfl)).squeeze S32x1024 squeezes_S1x32x1024_S32x1024).view.WordExact}
    {w2 : (h : cnd c = 1#1) → (partW.slice (Rect.unit (s := S1024x1024) (oP c) S32x1024.size (iP h)) (fun _ => rfl)).view.WordExact}
    (hf : WaitFacts n cnd oS) {β : Type} {J : Prog (TpuEff nD τ sig (Elt F) Λ₀ .tc) β} {cont : β → Prog (TpuEff nD τ sig (Elt F) Λ₀ .tc) α}
    (H : Tri m K c iprop(owesRows c ∗ SWt m c (n + 1) ∗ R) (Prog.bind J cont) Q) :
    Tri m K c iprop(owesRows c ∗ SWt m c n ∗ R)
      (Prog.bind (if h : cnd c = 1#1 then
        .op (.waitDma2 ((cc0_scratch7.slice (Rect.unit (s := S32) (oS c) S1.size (iS h))).squeeze S_ squeezes_S1_S_).sem
          ((rsW.slice (Rect.unit (s := S32x32x1024) (oD c) S1x32x1024.size (iD h)) (fun _ => rfl)).squeeze S32x1024 squeezes_S1x32x1024_S32x1024)
          (partW.slice (Rect.unit (s := S1024x1024) (oP c) S32x1024.size (iP h)) (fun _ => rfl)) (w1 h) (w2 h)) (fun r => Prog.bind (Prog.ret r) fun _ => J)
        else J) cont) Q := by
  obtain ⟨h1, h2⟩ := hf c
  by_cases h : cnd c = 1#1
  · rw [dif_pos h]
    have hne := h1.mp h
    exact wait_fam (fun t : Dev nD => Cert.AttnProof.oS t) (ord c n) (mem_others.mpr hne) (pos_ord c hn) (fun _ _ => pos_inj c) (.inl rfl) (.inl rfl)
      (.inr (by show 0 < 3; decide)) (semS (ord c n) h2) (by rw [payers_S hne, Finset.card_singleton]) credit_part H
  · rw [dif_neg h]
    have he : ord c n = c := Decidable.byContradiction fun h' => h (h1.mpr h')
    have hs : (SWt m c n : SP F) = SWt m c (n + 1) := fam_skip (others c) (pos c) _ _ fun d hd e =>
      mem_others.mp hd ((pos_inj c (e.trans (pos_ord c hn).symm)).trans he)
    rw [hs]; exact H

/-! ## The second exchange -/

/-- What a send of a device's rows of the result takes. -/
def toSpread (m : (ℓ : Loc nD τ sig) → Buf (Elt F) ℓ) (c t : Dev nD) : SP F :=
  iprop(outPts c c (lend c t) (OUTALL m) ∗ dutyTok ER (cell c (kA (ai c t))) 0 c ∗ dutyTok ER (cell t (kG c)) 0 c ∗ ∃ f, outPts t c fullShare f)

def AGs (m : (ℓ : Loc nD τ sig) → Buf (Elt F) ℓ) (c : Dev nD) (n : ℕ) : SP F :=
  iprop(owesAny c (Ow c ∅ ∅ (far c n)) ∗ fam (others c) (dist c) (fun t => cred (tallyAt (cell c (kA (ai c t))) () NR)) (fun t => toSpread m c t) n)

theorem ai_pos {c t : Dev nD} (h : t ≠ c) : 0 < (ai c t).val := dist_pos h

theorem pay_A (t : Dev nD) : (pay m c (kA (ai c t)) c : SP F) = outPts c c (lend c t) (OUTALL m) := by
  show outPts c c (lend c (nx c (ai c t).val)) (OUTALL m) = _
  rw [show nx c (ai c t).val = t from nx_dist c t]
theorem land_out_pay (t : Dev nD) (fd : (cc0_stg3_0 : Ref sig .tc).ty.Contents (Elt F)) :
    ((((outM c).view.loc (t : Thread nD τ)) ↦[(outM c).view.set]{fullShare} ((outM c).view.write (Elt F) fd ((outM c).view.read (Elt F) (OUTALL m)) Finset.univ)) : SP F)
      ⊢ pay m t (kG c) c := by
  rw [show (pay m t (kG c) c : SP F) = outPts t c fullShare (OUTALL m) from rfl]
  unfold outPts
  rw [pointsTo_congr (land_out c fd (OUTALL m))]

theorem agsend (j : ℕ) (h0 : 0 < j) (hj : j < 32) {o1 o2 : Fin 1 → ℕ} {o3 o4 : Fin 2 → ℕ} {dv : ℕ} (e1 : o1 = ![j]) (e2 : o2 = ![c.val]) (e3 : o3 = ![32 * c.val, 0])
    (e4 : o4 = ![32 * c.val, 0]) (e5 : dv = (c.val + j) % 32)
    {i1 : ∀ a, o1 a + S1.size a ≤ S32.size a} {i2 : ∀ a, o2 a + S1.size a ≤ S32.size a} {i3 : ∀ a, o3 a + S32x1024.size a ≤ S1024x1024.size a}
    {i4 : ∀ a, o4 a + S32x1024.size a ≤ S1024x1024.size a} {lt : dv < nD}
    {hsc : (outW.slice (Rect.unit (s := S1024x1024) o4 S32x1024.size i4) (fun _ => rfl)).view.ref.isScScratch = false}
    {w1 : (outW.slice (Rect.unit (s := S1024x1024) o3 S32x1024.size i3) (fun _ => rfl)).view.WordExact}
    {w2 : (outW.slice (Rect.unit (s := S1024x1024) o4 S32x1024.size i4) (fun _ => rfl)).view.WordExact}
    {w3 : DmaTarget.Typed (p := .tc) .vmem (SemLoc.dma ((cc0_scratch10.slice (Rect.unit (s := S32) o2 S1.size i2)).squeeze S_ squeezes_S1_S_).sem)
      (.remote (Dev.tc (⟨dv, lt⟩ : Dev nD) : Thread nD τ) (outW.slice (Rect.unit (s := S1024x1024) o4 S32x1024.size i4) (fun _ => rfl))
        (.dma ((cc0_scratch9.slice (Rect.unit (s := S32) o1 S1.size i1)).squeeze S_ squeezes_S1_S_).sem) hsc)}
    {cont : PUnit → Prog (TpuEff nD τ sig (Elt F) Λ₀ .tc) α}
    (H : Tri m K c iprop(AGs m c (j + 1) ∗ R) (cont ⟨⟩) Q) :
    Tri m K c iprop(AGs m c j ∗ R)
      (.op (.enqueueDma (outW.slice (Rect.unit (s := S1024x1024) o3 S32x1024.size i3) (fun _ => rfl))
        (.remote (Dev.tc (⟨dv, lt⟩ : Dev nD) : Thread nD τ) (outW.slice (Rect.unit (s := S1024x1024) o4 S32x1024.size i4) (fun _ => rfl))
          (.dma ((cc0_scratch9.slice (Rect.unit (s := S32) o1 S1.size i1)).squeeze S_ squeezes_S1_S_).sem) hsc)
        (.dma ((cc0_scratch10.slice (Rect.unit (s := S32) o2 S1.size i2)).squeeze S_ squeezes_S1_S_).sem) w1 w2 w3) cont) Q := by
  subst e3 e4 e5
  have hne := nx_ne c h0 hj
  have hsS := semA (ai c (nx c j)) (off := o1) (by rw [e1]; exact congrArg (fun x : ℕ => ![x]) (dist_nx c hj).symm) (inb := i1)
  have hsR := semG c e2 (inb := i2)
  refine Tri.pre (P' := iprop(owesAny c (Ow c ∅ ∅ (far c j))
      ∗ fam (others c) (dist c) (fun t => cred (tallyAt (cell c (kA (ai c t))) () NR)) (fun t => toSpread m c t) j ∗ R)) ?_
    (Tri.famStep (Y' := owesAny c (Ow c ∅ ∅ (far c (j + 1)))) (p' := cont ⟨⟩) (nx c j) (mem_others.mpr hne) (dist_nx c hj)
      (fun d _ e => dist_inj c e) (fun R' H' => ?_) (H.pre ?_))
  · unfold AGs
    iintro ⟨⟨HO, HF⟩, HR⟩
    isplitl [HO]; · iexact HO
    isplitl [HF] <;> iassumption
  · refine Tri.pre (P' := iprop((∃ fd, owesAny c (Ow c ∅ ∅ (far c j)) ∗ outPts c c (lend c (nx c j)) (OUTALL m) ∗ outPts (nx c j) c fullShare fd
      ∗ dutyTok ER (cell c (kA (ai c (nx c j)))) 0 c ∗ dutyTok ER (cell (nx c j) (kG c)) 0 c) ∗ R')) ?_ (Tri.exist fun fd => ?_)
    · unfold toSpread
      iintro ⟨⟨HO, HP, H1, H2, ⟨%fd, H3⟩⟩, HR⟩
      isplitr [HR]
      · iexists fd
        isplitl [HO]; · iexact HO
        isplitl [HP]; · iexact HP
        isplitl [H3]; · iexact H3
        isplitl [H1] <;> iassumption
      iexact HR
    have hp1 : (outPts c c (lend c (nx c j)) (OUTALL m) : SP F) ⊢ pay m c (kA (ai c (nx c j))) c := Entails.of_eq (pay_A (nx c j)).symm
    have hp2 := land_out_pay (m := m) (c := c) (nx c j) fd
    have hO := Ow_A c (B := ∅) (R := ∅) (far_notMem c hj)
    rw [← far_step c h0 hj] at hO
    unfold outPts at *
    have := send_step (m := m) (K := K) (c := c) (R := R') (Q := Q) (nx c j) (oA (ai c (nx c j))) (oG c) (src := outM c) (dst := outM c)
      (hsc := hsc) (h1 := w1) (h2 := w2) (h3 := w3) hsS hsR (payers_A c (ai_pos hne)) (payers_G hne.symm) credit_out rfl rfl (q := lend c (nx c j)) (fs := OUTALL m) (fd := fd)
      hp1 hp2 (Ow c ∅ ∅ (far c (j + 1))) hO (cont := cont) H'
    exact this
  · unfold AGs
    iintro ⟨HO, HF, HR⟩
    isplitl [HO HF]
    · isplitl [HO] <;> iassumption
    iexact HR

/-- A device that owes nothing. -/
abbrev owesNone (c : Dev nD) : SP F := owesAny c (Ow c ∅ ∅ ∅)

def GWt (m : (ℓ : Loc nD τ sig) → Buf (Elt F) ℓ) (c : Dev nD) (n : ℕ) : SP F :=
  fam (others c) (dist c) (fun s => after m c (.inr (oG s))) (fun s => before c (.inr (oG s))) n
def AWt (m : (ℓ : Loc nD τ sig) → Buf (Elt F) ℓ) (c : Dev nD) (n : ℕ) : SP F :=
  fam (others c) (dist c) (fun s => after m c (.inr (oA (ai c s)))) (fun s => before c (.inr (oA (ai c s)))) n

theorem gwait (j : ℕ) (h0 : 0 < j) (hj : j < 32) {off : Fin 1 → ℕ} {o1 o2 : Fin 2 → ℕ} (e : off = ![(nx c j).val])
    {i0 : ∀ a, off a + S1.size a ≤ S32.size a} {i1 : ∀ a, o1 a + S32x1024.size a ≤ S1024x1024.size a} {i2 : ∀ a, o2 a + S32x1024.size a ≤ S1024x1024.size a}
    {w1 : (outW.slice (Rect.unit (s := S1024x1024) o1 S32x1024.size i1) (fun _ => rfl)).view.WordExact}
    {w2 : (outW.slice (Rect.unit (s := S1024x1024) o2 S32x1024.size i2) (fun _ => rfl)).view.WordExact}
    {cont : PUnit → Prog (TpuEff nD τ sig (Elt F) Λ₀ .tc) α}
    (H : Tri m K c iprop(owesNone c ∗ GWt m c (j + 1) ∗ R) (cont ⟨⟩) Q) :
    Tri m K c iprop(owesNone c ∗ GWt m c j ∗ R)
      (.op (.waitDma2 ((cc0_scratch10.slice (Rect.unit (s := S32) off S1.size i0)).squeeze S_ squeezes_S1_S_).sem
        (outW.slice (Rect.unit (s := S1024x1024) o1 S32x1024.size i1) (fun _ => rfl)) (outW.slice (Rect.unit (s := S1024x1024) o2 S32x1024.size i2) (fun _ => rfl)) w1 w2) cont) Q :=
  wait_fam (fun s : Dev nD => oG s) (nx c j) (mem_others.mpr (nx_ne c h0 hj)) (dist_nx c hj) (fun _ _ => dist_inj c) (.inl rfl) (.inl rfl)
    (.inl rfl) (semG (nx c j) e) (by rw [payers_G (nx_ne c h0 hj), Finset.card_singleton]) credit_out H

theorem await (j : ℕ) (h0 : 0 < j) (hj : j < 32) {off : Fin 1 → ℕ} {o1 o2 : Fin 2 → ℕ} (e : off = ![j])
    {i0 : ∀ a, off a + S1.size a ≤ S32.size a} {i1 : ∀ a, o1 a + S32x1024.size a ≤ S1024x1024.size a} {i2 : ∀ a, o2 a + S32x1024.size a ≤ S1024x1024.size a}
    {w1 : (outW.slice (Rect.unit (s := S1024x1024) o1 S32x1024.size i1) (fun _ => rfl)).view.WordExact}
    {w2 : (outW.slice (Rect.unit (s := S1024x1024) o2 S32x1024.size i2) (fun _ => rfl)).view.WordExact}
    {cont : PUnit → Prog (TpuEff nD τ sig (Elt F) Λ₀ .tc) α}
    (H : Tri m K c iprop(owesNone c ∗ AWt m c (j + 1) ∗ R) (cont ⟨⟩) Q) :
    Tri m K c iprop(owesNone c ∗ AWt m c j ∗ R)
      (.op (.waitDma2 ((cc0_scratch9.slice (Rect.unit (s := S32) off S1.size i0)).squeeze S_ squeezes_S1_S_).sem
        (outW.slice (Rect.unit (s := S1024x1024) o1 S32x1024.size i1) (fun _ => rfl)) (outW.slice (Rect.unit (s := S1024x1024) o2 S32x1024.size i2) (fun _ => rfl)) w1 w2) cont) Q :=
  wait_fam (fun s : Dev nD => oA (ai c s)) (nx c j) (mem_others.mpr (nx_ne c h0 hj)) (dist_nx c hj) (fun _ _ => dist_inj c) (.inl rfl) (.inl rfl)
    (.inl rfl) (semA (ai c (nx c j)) (by rw [e]; exact congrArg (fun x : ℕ => ![x]) (dist_nx c hj).symm))
    (by rw [payers_A c (ai_pos (nx_ne c h0 hj)), Finset.card_singleton]) credit_out H

end Cert.AttnProof

end
-- ==== Proof.Turn.lean ====
/-
# Between the two exchanges
-/
module

public import proofs.«01_k».proof.Proof.Exchange

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- What stays of the two buffers of the sums until they are added: the device's own rows of each. -/
def ToAdd (m : (ℓ : Loc nD τ sig) → Buf (Elt F) ℓ) (c : Dev nD) : SP F := iprop(partPts c c (PART m c) ∗ ∃ f, outPts c c fullShare f)
/-- The semaphores of the partial sums received, read out. -/
def Received (c : Dev nD) : SP F := bigSep (others c) fun s => semVal (cell c (kR s)) 0

theorem got_R {s : Dev nD} (h : s ∈ others c) : after m c (kR s) ⊢ iprop(semVal (cell c (kR s)) 0 ∗ rsPts c s (RSALL m c)) := by
  unfold after
  rw [payers_R (mem_others.mp h), bigSep_singleton, show (pay m c (kR s) s : SP F) = rsPts c s (RSALL m c) from rfl]
theorem RWt_done : RWt m c 32 ⊢ iprop(Received c ∗ bigSep (others c) fun s => rsPts c s (RSALL m c)) := by
  unfold RWt Received
  rw [fam_end _ _ _ _ _ (fun d _ => dist_lt c d), ← bigSep_sep']
  exact bigSep_mono fun s h => got_R h
theorem RWt_start : (bigSep (others c) fun s => before c (.inr (oR s))) ⊢ RWt m c 1 := by
  unfold RWt
  rw [fam_start _ _ _ _ _ (fun d h => dist_pos (mem_others.mp h))]

theorem start_add : (iprop(owesRows c ∗ RWt m c 32 ∗ ToAdd m c ∗ R) : SP F) ⊢ iprop(Tot m c ∗ owesRows c ∗ Received c ∗ R) := by
  unfold ToAdd Tot
  iintro ⟨HO, HW, ⟨H1, H2⟩, HR⟩
  ihave HW := RWt_done $$ HW
  icases HW with ⟨H3, H4⟩
  isplitl [H1 H2 H4]
  · isplitl [H1]; · iexact H1
    isplitl [H4] <;> iassumption
  isplitl [HO]; · iexact HO
  isplitl [H3] <;> iassumption

theorem turn {A B : SP F} : (iprop(Rows m c ∗ A ∗ B ∗ R) : SP F) ⊢ iprop(A ∗ B ∗ Rows m c ∗ R) := by
  iintro ⟨H1, H2, H3, H4⟩
  isplitl [H2]; · iexact H2
  isplitl [H3]; · iexact H3
  isplitl [H1] <;> iassumption

/-- What the sends of the rows of the result take. -/
def Spread (m : (ℓ : Loc nD τ sig) → Buf (Elt F) ℓ) (c : Dev nD) : SP F := bigSep (others c) fun t => toSpread m c t
/-- The semaphores of the sends of the first exchange, read out, and the rows sent. -/
def Sent (m : (ℓ : Loc nD τ sig) → Buf (Elt F) ℓ) (c : Dev nD) : SP F :=
  bigSep (others c) fun t => iprop(semVal (cell c (kS t)) 0 ∗ partPts c t (PART m c))

theorem got_S {t : Dev nD} (h : t ∈ others c) : after m c (kS t) ⊢ iprop(semVal (cell c (kS t)) 0 ∗ partPts c t (PART m c)) := by
  unfold after
  rw [payers_S (mem_others.mp h), bigSep_singleton, show (pay m c (kS t) c : SP F) = partPts c t (PART m c) from rfl]
theorem SWt_done : SWt m c 32 ⊢ Sent m c := by
  unfold SWt Sent
  rw [fam_end _ _ _ _ _ (fun d _ => pos_lt c d)]
  exact bigSep_mono fun s h => got_S h
theorem SWt_start : (bigSep (others c) fun s => before c (.inr (oS s))) ⊢ SWt m c 0 := by
  unfold SWt
  rw [fam_start _ _ _ _ _ (fun d h => Nat.zero_le _)]

theorem start_spread : (iprop(owesRows c ∗ SWt m c 32 ∗ Spread m c ∗ R) : SP F) ⊢ iprop(AGs m c 1 ∗ Sent m c ∗ R) := by
  unfold AGs
  rw [far_one, fam_start _ _ _ _ _ (fun d h => dist_pos (mem_others.mp h))]
  iintro ⟨HO, HW, HS, HR⟩
  isplitl [HO HS]
  · isplitl [HO]; · iexact HO
    unfold Spread; iexact HS
  isplitl [HW]
  · iapply SWt_done; iexact HW
  iexact HR

theorem AGs_done : AGs m c 32 ⊢ iprop(owesNone c ∗ bigSep (others c) fun t => cred (tallyAt (cell c (kA (ai c t))) () NR)) := by
  unfold AGs
  rw [far_end, fam_end _ _ _ _ _ (fun d _ => dist_lt c d)]

theorem GWt_start : (bigSep (others c) fun s => before c (.inr (oG s))) ⊢ GWt m c 1 := by
  unfold GWt
  rw [fam_start _ _ _ _ _ (fun d h => dist_pos (mem_others.mp h))]
theorem got_G {s : Dev nD} (h : s ∈ others c) : after m c (kG s) ⊢ iprop(semVal (cell c (kG s)) 0 ∗ outPts c s fullShare (OUTALL m)) := by
  unfold after
  rw [payers_G (mem_others.mp h), bigSep_singleton, show (pay m c (kG s) s : SP F) = outPts c s fullShare (OUTALL m) from rfl]
theorem GWt_done : GWt m c 32 ⊢ iprop((bigSep (others c) fun s => semVal (cell c (kG s)) 0) ∗ bigSep (others c) fun s => outPts c s fullShare (OUTALL m)) := by
  unfold GWt
  rw [fam_end _ _ _ _ _ (fun d _ => dist_lt c d), ← bigSep_sep']
  exact bigSep_mono fun s h => got_G h
theorem AWt_start : (bigSep (others c) fun s => before c (.inr (oA (ai c s)))) ⊢ AWt m c 1 := by
  unfold AWt
  rw [fam_start _ _ _ _ _ (fun d h => dist_pos (mem_others.mp h))]
theorem got_A {s : Dev nD} (h : s ∈ others c) : after m c (kA (ai c s)) ⊢ iprop(semVal (cell c (kA (ai c s))) 0 ∗ outPts c c (lend c s) (OUTALL m)) := by
  unfold after
  rw [payers_A c (ai_pos (mem_others.mp h)), bigSep_singleton, pay_A s]
/-- All waits for the sends past: the device's own rows of the result whole again. -/
theorem AWt_done : AWt m c 32 ⊢ iprop((bigSep (others c) fun s => semVal (cell c (kA (ai c s))) 0) ∗ outPts c c fullShare (OUTALL m)) := by
  unfold AWt
  rw [fam_end _ _ _ _ _ (fun d _ => dist_lt c d), out_deal, ← bigSep_sep']
  exact bigSep_mono fun s h => got_A h

end Cert.AttnProof

end
-- ==== Proof.Finish0.lean ====
/-
# The parts of the body that receive the partial sums and add them
-/
module

public import proofs.«01_k».proof.Proof.Turn

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- Part 42: three waits for partial sums. -/
theorem part42 {v2 : BitVec 32} {v1275 : BitVec 32} {k : _ → Prog (TpuEff nD τ sig (Elt F) Λ₀ .tc) α}
    (H : ∀ w0 : BitVec 32, Tri m K c iprop(owesRows c ∗ RWt m c 4 ∗ R) (k w0) Q) :
    Tri m K c iprop(owesRows c ∗ RWt m c 1 ∗ R) (Prog.bind ((onArgs (k0_part42 (F := F))) c v2 v1275) k) Q := by
  unfold onArgs
  rw [k0_part42_eq_skeleton]
  unfold k0_part42_skel
  refine rwait 1 (by decide) (by decide) (off132_at c 1 (by decide) (by decide)) ?_
  refine rwait 2 (by decide) (by decide) (off132_at c 2 (by decide) (by decide)) ?_
  refine rwait 3 (by decide) (by decide) (off132_at c 3 (by decide) (by decide)) ?_
  exact H _

/-- Part 43: three waits for partial sums. -/
theorem part43 {v2 : BitVec 32} {v1305 : BitVec 32} {k : _ → Prog (TpuEff nD τ sig (Elt F) Λ₀ .tc) α}
    (H : ∀ w0 : BitVec 32, Tri m K c iprop(owesRows c ∗ RWt m c 7 ∗ R) (k w0) Q) :
    Tri m K c iprop(owesRows c ∗ RWt m c 4 ∗ R) (Prog.bind ((onArgs (k0_part43 (F := F))) c v2 v1305) k) Q := by
  unfold onArgs
  rw [k0_part43_eq_skeleton]
  unfold k0_part43_skel
  refine rwait 4 (by decide) (by decide) (off132_at c 4 (by decide) (by decide)) ?_
  refine rwait 5 (by decide) (by decide) (off132_at c 5 (by decide) (by decide)) ?_
  refine rwait 6 (by decide) (by decide) (off132_at c 6 (by decide) (by decide)) ?_
  exact H _

/-- Part 44: three waits for partial sums. -/
theorem part44 {v2 : BitVec 32} {v1335 : BitVec 32} {k : _ → Prog (TpuEff nD τ sig (Elt F) Λ₀ .tc) α}
    (H : ∀ w0 : BitVec 32, Tri m K c iprop(owesRows c ∗ RWt m c 10 ∗ R) (k w0) Q) :
    Tri m K c iprop(owesRows c ∗ RWt m c 7 ∗ R) (Prog.bind ((onArgs (k0_part44 (F := F))) c v2 v1335) k) Q := by
  unfold onArgs
  rw [k0_part44_eq_skeleton]
  unfold k0_part44_skel
  refine rwait 7 (by decide) (by decide) (off132_at c 7 (by decide) (by decide)) ?_
  refine rwait 8 (by decide) (by decide) (off132_at c 8 (by decide) (by decide)) ?_
  refine rwait 9 (by decide) (by decide) (off132_at c 9 (by decide) (by decide)) ?_
  exact H _

/-- Part 45: three waits for partial sums. -/
theorem part45 {v2 : BitVec 32} {v1365 : BitVec 32} {k : _ → Prog (TpuEff nD τ sig (Elt F) Λ₀ .tc) α}
    (H : ∀ w0 : BitVec 32, Tri m K c iprop(owesRows c ∗ RWt m c 13 ∗ R) (k w0) Q) :
    Tri m K c iprop(owesRows c ∗ RWt m c 10 ∗ R) (Prog.bind ((onArgs (k0_part45 (F := F))) c v2 v1365) k) Q := by
  unfold onArgs
  rw [k0_part45_eq_skeleton]
  unfold k0_part45_skel
  refine rwait 10 (by decide) (by decide) (off132_at c 10 (by decide) (by decide)) ?_
  refine rwait 11 (by decide) (by decide) (off132_at c 11 (by decide) (by decide)) ?_
  refine rwait 12 (by decide) (by decide) (off132_at c 12 (by decide) (by decide)) ?_
  exact H _

/-- Part 46: three waits for partial sums. -/
theorem part46 {v2 : BitVec 32} {v1395 : BitVec 32} {k : _ → Prog (TpuEff nD τ sig (Elt F) Λ₀ .tc) α}
    (H : ∀ w0 : BitVec 32, Tri m K c iprop(owesRows c ∗ RWt m c 16 ∗ R) (k w0) Q) :
    Tri m K c iprop(owesRows c ∗ RWt m c 13 ∗ R) (Prog.bind ((onArgs (k0_part46 (F := F))) c v2 v1395) k) Q := by
  unfold onArgs
  rw [k0_part46_eq_skeleton]
  unfold k0_part46_skel
  refine rwait 13 (by decide) (by decide) (off132_at c 13 (by decide) (by decide)) ?_
  refine rwait 14 (by decide) (by decide) (off132_at c 14 (by decide) (by decide)) ?_
  refine rwait 15 (by decide) (by decide) (off132_at c 15 (by decide) (by decide)) ?_
  exact H _

/-- Part 47: three waits for partial sums. -/
theorem part47 {v2 : BitVec 32} {v1425 : BitVec 32} {k : _ → Prog (TpuEff nD τ sig (Elt F) Λ₀ .tc) α}
    (H : ∀ w0 : BitVec 32, Tri m K c iprop(owesRows c ∗ RWt m c 19 ∗ R) (k w0) Q) :
    Tri m K c iprop(owesRows c ∗ RWt m c 16 ∗ R) (Prog.bind ((onArgs (k0_part47 (F := F))) c v2 v1425) k) Q := by
  unfold onArgs
  rw [k0_part47_eq_skeleton]
  unfold k0_part47_skel
  refine rwait 16 (by decide) (by decide) (off132_at c 16 (by decide) (by decide)) ?_
  refine rwait 17 (by decide) (by decide) (off132_at c 17 (by decide) (by decide)) ?_
  refine rwait 18 (by decide) (by decide) (off132_at c 18 (by decide) (by decide)) ?_
  exact H _

/-- Part 48: three waits for partial sums. -/
theorem part48 {v2 : BitVec 32} {v1455 : BitVec 32} {k : _ → Prog (TpuEff nD τ sig (Elt F) Λ₀ .tc) α}
    (H : ∀ w0 : BitVec 32, Tri m K c iprop(owesRows c ∗ RWt m c 22 ∗ R) (k w0) Q) :
    Tri m K c iprop(owesRows c ∗ RWt m c 19 ∗ R) (Prog.bind ((onArgs (k0_part48 (F := F))) c v2 v1455) k) Q := by
  unfold onArgs
  rw [k0_part48_eq_skeleton]
  unfold k0_part48_skel
  refine rwait 19 (by decide) (by decide) (off132_at c 19 (by decide) (by decide)) ?_
  refine rwait 20 (by decide) (by decide) (off132_at c 20 (by decide) (by decide)) ?_
  refine rwait 21 (by decide) (by decide) (off132_at c 21 (by decide) (by decide)) ?_
  exact H _

/-- Part 49: three waits for partial sums. -/
theorem part49 {v2 : BitVec 32} {v1485 : BitVec 32} {k : _ → Prog (TpuEff nD τ sig (Elt F) Λ₀ .tc) α}
    (H : ∀ w0 : BitVec 32, Tri m K c iprop(owesRows c ∗ RWt m c 25 ∗ R) (k w0) Q) :
    Tri m K c iprop(owesRows c ∗ RWt m c 22 ∗ R) (Prog.bind ((onArgs (k0_part49 (F := F))) c v2 v1485) k) Q := by
  unfold onArgs
  rw [k0_part49_eq_skeleton]
  unfold k0_part49_skel
  refine rwait 22 (by decide) (by decide) (off132_at c 22 (by decide) (by decide)) ?_
  refine rwait 23 (by decide) (by decide) (off132_at c 23 (by decide) (by decide)) ?_
  refine rwait 24 (by decide) (by decide) (off132_at c 24 (by decide) (by decide)) ?_
  exact H _

/-- Part 50: three waits for partial sums. -/
theorem part50 {v2 : BitVec 32} {v1515 : BitVec 32} {k : _ → Prog (TpuEff nD τ sig (Elt F) Λ₀ .tc) α}
    (H : ∀ w0 : BitVec 32, Tri m K c iprop(owesRows c ∗ RWt m c 28 ∗ R) (k w0) Q) :
    Tri m K c iprop(owesRows c ∗ RWt m c 25 ∗ R) (Prog.bind ((onArgs (k0_part50 (F := F))) c v2 v1515) k) Q := by
  unfold onArgs
  rw [k0_part50_eq_skeleton]
  unfold k0_part50_skel
  refine rwait 25 (by decide) (by decide) (off132_at c 25 (by decide) (by decide)) ?_
  refine rwait 26 (by decide) (by decide) (off132_at c 26 (by decide) (by decide)) ?_
  refine rwait 27 (by decide) (by decide) (off132_at c 27 (by decide) (by decide)) ?_
  exact H _

/-- Part 51: three waits for partial sums. -/
theorem part51 {v2 : BitVec 32} {v1545 : BitVec 32} {k : _ → Prog (TpuEff nD τ sig (Elt F) Λ₀ .tc) α}
    (H : ∀ w0 : BitVec 32, Tri m K c iprop(owesRows c ∗ RWt m c 31 ∗ R) (k w0) Q) :
    Tri m K c iprop(owesRows c ∗ RWt m c 28 ∗ R) (Prog.bind ((onArgs (k0_part51 (F := F))) c v2 v1545) k) Q := by
  unfold onArgs
  rw [k0_part51_eq_skeleton]
  unfold k0_part51_skel
  refine rwait 28 (by decide) (by decide) (off132_at c 28 (by decide) (by decide)) ?_
  refine rwait 29 (by decide) (by decide) (off132_at c 29 (by decide) (by decide)) ?_
  refine rwait 30 (by decide) (by decide) (off132_at c 30 (by decide) (by decide)) ?_
  exact H _

/-- Part 52: the rows of the next slots loaded. -/
theorem part52 {v2 : BitVec 32} {v1575 : BitVec 32} {k : _ → Prog (TpuEff nD τ sig (Elt F) Λ₀ .tc) α}
    (H : ∀ w0 : BitVec 32, Tri m K c iprop(Tot m c ∗ owesRows c ∗ Received c ∗ R) (k ⟨ownL m c, k0_pay66 (slotL m c (nx c 1)), k0_pay67 (slotL m c (nx c 2)), k0_pay68 (slotL m c (nx c 3)), k0_pay69 (slotL m c (nx c 4)), w0⟩) Q) :
    Tri m K c iprop(owesRows c ∗ RWt m c 31 ∗ ToAdd m c ∗ R) (Prog.bind ((onArgs (k0_part52 (F := F))) c v2 v1575) k) Q := by
  unfold onArgs
  rw [k0_part52_eq_skeleton]
  unfold k0_part52_skel
  refine rwait 31 (by decide) (by decide) (off132_at c 31 (by decide) (by decide)) ?_
  refine Tri.pre start_add ?_
  refine ownload (k0_off134_eq c) ?_
  refine slotload 1 (by decide) (by decide) (off135_at c 1 (by decide) (by decide)) ?_
  refine slotload 2 (by decide) (by decide) (off135_at c 2 (by decide) (by decide)) ?_
  refine slotload 3 (by decide) (by decide) (off135_at c 3 (by decide) (by decide)) ?_
  refine slotload 4 (by decide) (by decide) (off135_at c 4 (by decide) (by decide)) ?_
  exact H _

/-- Part 53: the rows of the next slots loaded. -/
theorem part53 {v2 : BitVec 32} {c5_i32_1294 : BitVec 32} {k : _ → Prog (TpuEff nD τ sig (Elt F) Λ₀ .tc) α}
    (H : Tri m K c iprop(Tot m c ∗ R) (k ⟨k0_pay70 (slotL m c (nx c 5)), k0_pay71 (slotL m c (nx c 6)), k0_pay72 (slotL m c (nx c 7)), k0_pay73 (slotL m c (nx c 8)), k0_pay74 (slotL m c (nx c 9)), k0_pay75 (slotL m c (nx c 10))⟩) Q) :
    Tri m K c iprop(Tot m c ∗ R) (Prog.bind ((onArgs (k0_part53 (F := F))) c v2 c5_i32_1294) k) Q := by
  unfold onArgs
  rw [k0_part53_eq_skeleton]
  unfold k0_part53_skel
  refine slotload 5 (by decide) (by decide) (off135_at c 5 (by decide) (by decide)) ?_
  refine slotload 6 (by decide) (by decide) (off135_at c 6 (by decide) (by decide)) ?_
  refine slotload 7 (by decide) (by decide) (off135_at c 7 (by decide) (by decide)) ?_
  refine slotload 8 (by decide) (by decide) (off135_at c 8 (by decide) (by decide)) ?_
  refine slotload 9 (by decide) (by decide) (off135_at c 9 (by decide) (by decide)) ?_
  refine slotload 10 (by decide) (by decide) (off135_at c 10 (by decide) (by decide)) ?_
  exact H

/-- Part 54: the rows of the next slots loaded. -/
theorem part54 {v2 : BitVec 32} {k : _ → Prog (TpuEff nD τ sig (Elt F) Λ₀ .tc) α}
    (H : ∀ w0 : BitVec 32, Tri m K c iprop(Tot m c ∗ R) (k ⟨k0_pay76 (slotL m c (nx c 11)), k0_pay77 (slotL m c (nx c 12)), k0_pay78 (slotL m c (nx c 13)), k0_pay79 (slotL m c (nx c 14)), k0_pay80 (slotL m c (nx c 15)), k0_pay81 (slotL m c (nx c 16)), k0_pay82 (slotL m c (nx c 17)), w0⟩) Q) :
    Tri m K c iprop(Tot m c ∗ R) (Prog.bind ((onArgs (k0_part54 (F := F))) c v2) k) Q := by
  unfold onArgs
  rw [k0_part54_eq_skeleton]
  unfold k0_part54_skel
  refine slotload 11 (by decide) (by decide) (off135_at c 11 (by decide) (by decide)) ?_
  refine slotload 12 (by decide) (by decide) (off135_at c 12 (by decide) (by decide)) ?_
  refine slotload 13 (by decide) (by decide) (off135_at c 13 (by decide) (by decide)) ?_
  refine slotload 14 (by decide) (by decide) (off135_at c 14 (by decide) (by decide)) ?_
  refine slotload 15 (by decide) (by decide) (off135_at c 15 (by decide) (by decide)) ?_
  refine slotload 16 (by decide) (by decide) (off135_at c 16 (by decide) (by decide)) ?_
  refine slotload 17 (by decide) (by decide) (off135_at c 17 (by decide) (by decide)) ?_
  exact H _

/-- Part 55: the rows of the next slots loaded. -/
theorem part55 {v2 : BitVec 32} {v1674 : BitVec 32} {k : _ → Prog (TpuEff nD τ sig (Elt F) Λ₀ .tc) α}
    (H : ∀ w0 : BitVec 32, Tri m K c iprop(Tot m c ∗ R) (k ⟨k0_pay83 (slotL m c (nx c 18)), k0_pay84 (slotL m c (nx c 19)), k0_pay85 (slotL m c (nx c 20)), k0_pay86 (slotL m c (nx c 21)), k0_pay87 (slotL m c (nx c 22)), k0_pay88 (slotL m c (nx c 23)), k0_pay89 (slotL m c (nx c 24)), w0⟩) Q) :
    Tri m K c iprop(Tot m c ∗ R) (Prog.bind ((onArgs (k0_part55 (F := F))) c v2 v1674) k) Q := by
  unfold onArgs
  rw [k0_part55_eq_skeleton]
  unfold k0_part55_skel
  refine slotload 18 (by decide) (by decide) (off135_at c 18 (by decide) (by decide)) ?_
  refine slotload 19 (by decide) (by decide) (off135_at c 19 (by decide) (by decide)) ?_
  refine slotload 20 (by decide) (by decide) (off135_at c 20 (by decide) (by decide)) ?_
  refine slotload 21 (by decide) (by decide) (off135_at c 21 (by decide) (by decide)) ?_
  refine slotload 22 (by decide) (by decide) (off135_at c 22 (by decide) (by decide)) ?_
  refine slotload 23 (by decide) (by decide) (off135_at c 23 (by decide) (by decide)) ?_
  refine slotload 24 (by decide) (by decide) (off135_at c 24 (by decide) (by decide)) ?_
  exact H _

/-- Part 56: the rows of the next slots loaded. -/
theorem part56 {v2 : BitVec 32} {c25_i32_1374 : BitVec 32} {k : _ → Prog (TpuEff nD τ sig (Elt F) Λ₀ .tc) α}
    (H : Tri m K c iprop(Tot m c ∗ R) (k ⟨k0_pay90 (slotL m c (nx c 25)), k0_pay91 (slotL m c (nx c 26)), k0_pay92 (slotL m c (nx c 27)), k0_pay93 (slotL m c (nx c 28)), k0_pay94 (slotL m c (nx c 29)), k0_pay95 (slotL m c (nx c 30))⟩) Q) :
    Tri m K c iprop(Tot m c ∗ R) (Prog.bind ((onArgs (k0_part56 (F := F))) c v2 c25_i32_1374) k) Q := by
  unfold onArgs
  rw [k0_part56_eq_skeleton]
  unfold k0_part56_skel
  refine slotload 25 (by decide) (by decide) (off135_at c 25 (by decide) (by decide)) ?_
  refine slotload 26 (by decide) (by decide) (off135_at c 26 (by decide) (by decide)) ?_
  refine slotload 27 (by decide) (by decide) (off135_at c 27 (by decide) (by decide)) ?_
  refine slotload 28 (by decide) (by decide) (off135_at c 28 (by decide) (by decide)) ?_
  refine slotload 29 (by decide) (by decide) (off135_at c 29 (by decide) (by decide)) ?_
  refine slotload 30 (by decide) (by decide) (off135_at c 30 (by decide) (by decide)) ?_
  exact H

/-- Part 57: the last slot, the sum stored, four waits for sends. -/
theorem part57 {v2 : BitVec 32} {v550 : BitVec 32} {v556 : BitVec 32} {v562 : BitVec 32} {v568 : BitVec 32} {v574 : BitVec 32} {v1587 : Vec F S32x1024 .f32} {v1592 : FVec F S32x1024 .f32} {v1597 : FVec F S32x1024 .f32} {v1602 : FVec F S32x1024 .f32} {v1607 : FVec F S32x1024 .f32} {v1612 : FVec F S32x1024 .f32} {v1617 : FVec F S32x1024 .f32} {v1622 : FVec F S32x1024 .f32} {v1627 : FVec F S32x1024 .f32} {v1632 : FVec F S32x1024 .f32} {v1637 : FVec F S32x1024 .f32} {v1642 : FVec F S32x1024 .f32} {v1647 : FVec F S32x1024 .f32} {v1652 : FVec F S32x1024 .f32} {v1657 : FVec F S32x1024 .f32} {v1662 : FVec F S32x1024 .f32} {v1667 : FVec F S32x1024 .f32} {v1672 : FVec F S32x1024 .f32} {v1677 : FVec F S32x1024 .f32} {v1682 : FVec F S32x1024 .f32} {v1687 : FVec F S32x1024 .f32} {v1692 : FVec F S32x1024 .f32} {v1697 : FVec F S32x1024 .f32} {v1702 : FVec F S32x1024 .f32} {v1707 : FVec F S32x1024 .f32} {v1712 : FVec F S32x1024 .f32} {v1717 : FVec F S32x1024 .f32} {v1722 : FVec F S32x1024 .f32} {v1727 : FVec F S32x1024 .f32} {v1732 : FVec F S32x1024 .f32} {v1737 : FVec F S32x1024 .f32} {k : _ → Prog (TpuEff nD τ sig (Elt F) Λ₀ .tc) α}
    (hw : k0_pay96 v1587 v1592 v1597 v1602 v1607 v1612 v1617 v1622 v1627 v1632 v1637 v1642 v1647 v1652 v1657 v1662 v1667 v1672 v1677 v1682 v1687 v1692 v1697 v1702 v1707 v1712 v1717 v1722 v1727 v1732 v1737 (slotL m c (nx c 31)) = OUTCH m c)
    (H : ∀ w0 : BitVec 1, Tri m K c iprop(owesRows c ∗ SWt m c 4 ∗ Rows m c ∗ R) (k w0) Q) :
    Tri m K c iprop(Tot m c ∗ owesRows c ∗ SWt m c 0 ∗ R) (Prog.bind ((onArgs (k0_part57 (F := F))) c v2 v550 v556 v562 v568 v574 v1587 v1592 v1597 v1602 v1607 v1612 v1617 v1622 v1627 v1632 v1637 v1642 v1647 v1652 v1657 v1662 v1667 v1672 v1677 v1682 v1687 v1692 v1697 v1702 v1707 v1712 v1717 v1722 v1727 v1732 v1737) k) Q := by
  unfold onArgs
  rw [k0_part57_eq_skeleton]
  unfold k0_part57_skel
  refine slotload 31 (by decide) (by decide) (off135_at c 31 (by decide) (by decide)) ?_
  refine outload (k0_off134_eq c) fun _ => ?_
  refine outstore (k0_off134_eq c) hw ?_
  refine Tri.pre turn ?_
  refine cwait 0 (by decide) (by decide +kernel) ?_
  refine cwait 1 (by decide) (by decide +kernel) ?_
  refine cwait 2 (by decide) (by decide +kernel) ?_
  refine cwait 3 (by decide) (by decide +kernel) ?_
  exact H _

end Cert.AttnProof

end
-- ==== Proof.Finish1.lean ====
/-
# The parts of the body that wait for the sends of the first exchange
-/
module

public import proofs.«01_k».proof.Proof.Turn

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- Part 58: twelve waits for sends. -/
theorem part58 {v2 : BitVec 32} {v580 : BitVec 32} {v586 : BitVec 32} {v592 : BitVec 32} {v776 : BitVec 32} {v782 : BitVec 32} {v788 : BitVec 32} {v794 : BitVec 32} {v800 : BitVec 32} {v806 : BitVec 32} {v812 : BitVec 32} {v818 : BitVec 32} {v1002 : BitVec 32} {v1789 : BitVec 1} {k : _ → Prog (TpuEff nD τ sig (Elt F) Λ₀ .tc) α}
    (H : ∀ w0 : BitVec 1, Tri m K c iprop(owesRows c ∗ SWt m c 16 ∗ R) (k w0) Q) :
    Tri m K c iprop(owesRows c ∗ SWt m c 4 ∗ R) (Prog.bind ((onArgs (k0_part58 (F := F))) c v2 v580 v586 v592 v776 v782 v788 v794 v800 v806 v812 v818 v1002 v1789) k) Q := by
  unfold onArgs
  rw [k0_part58_eq_skeleton]
  unfold k0_part58_skel
  refine cwait 4 (by decide) (by decide +kernel) ?_
  refine cwait 5 (by decide) (by decide +kernel) ?_
  refine cwait 6 (by decide) (by decide +kernel) ?_
  refine cwait 7 (by decide) (by decide +kernel) ?_
  refine cwait 8 (by decide) (by decide +kernel) ?_
  refine cwait 9 (by decide) (by decide +kernel) ?_
  refine cwait 10 (by decide) (by decide +kernel) ?_
  refine cwait 11 (by decide) (by decide +kernel) ?_
  refine cwait 12 (by decide) (by decide +kernel) ?_
  refine cwait 13 (by decide) (by decide +kernel) ?_
  refine cwait 14 (by decide) (by decide +kernel) ?_
  refine cwait 15 (by decide) (by decide +kernel) ?_
  exact H _

/-- Part 59: twelve waits for sends. -/
theorem part59 {v2 : BitVec 32} {v1008 : BitVec 32} {v1014 : BitVec 32} {v1020 : BitVec 32} {v1026 : BitVec 32} {v1032 : BitVec 32} {v1038 : BitVec 32} {v1044 : BitVec 32} {v1228 : BitVec 32} {v1234 : BitVec 32} {v1240 : BitVec 32} {v1246 : BitVec 32} {v1252 : BitVec 32} {v1825 : BitVec 1} {k : _ → Prog (TpuEff nD τ sig (Elt F) Λ₀ .tc) α}
    (H : ∀ w0 : BitVec 1, Tri m K c iprop(owesRows c ∗ SWt m c 28 ∗ R) (k w0) Q) :
    Tri m K c iprop(owesRows c ∗ SWt m c 16 ∗ R) (Prog.bind ((onArgs (k0_part59 (F := F))) c v2 v1008 v1014 v1020 v1026 v1032 v1038 v1044 v1228 v1234 v1240 v1246 v1252 v1825) k) Q := by
  unfold onArgs
  rw [k0_part59_eq_skeleton]
  unfold k0_part59_skel
  refine cwait 16 (by decide) (by decide +kernel) ?_
  refine cwait 17 (by decide) (by decide +kernel) ?_
  refine cwait 18 (by decide) (by decide +kernel) ?_
  refine cwait 19 (by decide) (by decide +kernel) ?_
  refine cwait 20 (by decide) (by decide +kernel) ?_
  refine cwait 21 (by decide) (by decide +kernel) ?_
  refine cwait 22 (by decide) (by decide +kernel) ?_
  refine cwait 23 (by decide) (by decide +kernel) ?_
  refine cwait 24 (by decide) (by decide +kernel) ?_
  refine cwait 25 (by decide) (by decide +kernel) ?_
  refine cwait 26 (by decide) (by decide +kernel) ?_
  refine cwait 27 (by decide) (by decide +kernel) ?_
  exact H _

/-- Part 60: the last waits for sends; the rows go to the first neighbour. -/
theorem part60 {v2 : BitVec 32} {v1258 : BitVec 32} {v1264 : BitVec 32} {v1270 : BitVec 32} {v1861 : BitVec 1} {k : _ → Prog (TpuEff nD τ sig (Elt F) Λ₀ .tc) α}
    (H : Tri m K c iprop(AGs m c 2 ∗ Sent m c ∗ R) (k ⟨⟩) Q) :
    Tri m K c iprop(owesRows c ∗ SWt m c 28 ∗ Spread m c ∗ R) (Prog.bind ((onArgs (k0_part60 (F := F))) c v2 v1258 v1264 v1270 v1861) k) Q := by
  unfold onArgs
  rw [k0_part60_eq_skeleton]
  unfold k0_part60_skel
  refine cwait 28 (by decide) (by decide +kernel) ?_
  refine cwait 29 (by decide) (by decide +kernel) ?_
  refine cwait 30 (by decide) (by decide +kernel) ?_
  refine cwait 31 (by decide) (by decide +kernel) ?_
  refine Tri.pre start_spread ?_
  refine agsend 1 (by decide) (by decide) rfl (k0_off232_eq c) (k0_off233_eq c) (k0_off233_eq c) (k0_dev64_eq c) ?_
  exact H

end Cert.AttnProof

end
-- ==== Proof.Finish2.lean ====
/-
# The parts of the body that gather the result
-/
module

public import proofs.«01_k».proof.Proof.Turn

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- Part 61: the rows go to the next neighbours. -/
theorem part61 {v2 : BitVec 32} {k : _ → Prog (TpuEff nD τ sig (Elt F) Λ₀ .tc) α}
    (H : Tri m K c iprop(AGs m c 5 ∗ R) (k ⟨⟩) Q) :
    Tri m K c iprop(AGs m c 2 ∗ R) (Prog.bind ((onArgs (k0_part61 (F := F))) c v2) k) Q := by
  unfold onArgs
  rw [k0_part61_eq_skeleton]
  unfold k0_part61_skel
  refine agsend 2 (by decide) (by decide) rfl (k0_off232_eq c) (k0_off233_eq c) (k0_off233_eq c) (k0_dev65_eq c) ?_
  refine agsend 3 (by decide) (by decide) rfl (k0_off232_eq c) (k0_off233_eq c) (k0_off233_eq c) (k0_dev66_eq c) ?_
  refine agsend 4 (by decide) (by decide) rfl (k0_off232_eq c) (k0_off233_eq c) (k0_off233_eq c) (k0_dev67_eq c) ?_
  exact H

/-- Part 62: the rows go to the next neighbours. -/
theorem part62 {v2 : BitVec 32} {k : _ → Prog (TpuEff nD τ sig (Elt F) Λ₀ .tc) α}
    (H : ∀ w0 w1 : BitVec 32, Tri m K c iprop(AGs m c 8 ∗ R) (k ⟨w0, w1⟩) Q) :
    Tri m K c iprop(AGs m c 5 ∗ R) (Prog.bind ((onArgs (k0_part62 (F := F))) c v2) k) Q := by
  unfold onArgs
  rw [k0_part62_eq_skeleton]
  unfold k0_part62_skel
  refine agsend 5 (by decide) (by decide) rfl (k0_off232_eq c) (k0_off233_eq c) (k0_off233_eq c) (k0_dev68_eq c) ?_
  refine agsend 6 (by decide) (by decide) rfl (k0_off232_eq c) (k0_off233_eq c) (k0_off233_eq c) (k0_dev69_eq c) ?_
  refine agsend 7 (by decide) (by decide) rfl (k0_off232_eq c) (k0_off233_eq c) (k0_off233_eq c) (k0_dev70_eq c) ?_
  exact H _ _

/-- Part 63: the rows go to the next neighbours. -/
theorem part63 {v2 : BitVec 32} {v1958 : BitVec 32} {c32_i32_1502 : BitVec 32} {k : _ → Prog (TpuEff nD τ sig (Elt F) Λ₀ .tc) α}
    (H : ∀ w0 : BitVec 32, Tri m K c iprop(AGs m c 11 ∗ R) (k w0) Q) :
    Tri m K c iprop(AGs m c 8 ∗ R) (Prog.bind ((onArgs (k0_part63 (F := F))) c v2 v1958 c32_i32_1502) k) Q := by
  unfold onArgs
  rw [k0_part63_eq_skeleton]
  unfold k0_part63_skel
  refine agsend 8 (by decide) (by decide) rfl (k0_off232_eq c) (k0_off233_eq c) (k0_off233_eq c) (k0_dev71_eq c) ?_
  refine agsend 9 (by decide) (by decide) rfl (k0_off232_eq c) (k0_off233_eq c) (k0_off233_eq c) (k0_dev72_eq c) ?_
  refine agsend 10 (by decide) (by decide) rfl (k0_off232_eq c) (k0_off233_eq c) (k0_off233_eq c) (k0_dev73_eq c) ?_
  exact H _

/-- Part 64: the rows go to the next neighbours. -/
theorem part64 {v2 : BitVec 32} {c11_i32_1526 : BitVec 32} {k : _ → Prog (TpuEff nD τ sig (Elt F) Λ₀ .tc) α}
    (H : Tri m K c iprop(AGs m c 13 ∗ R) (k ⟨⟩) Q) :
    Tri m K c iprop(AGs m c 11 ∗ R) (Prog.bind ((onArgs (k0_part64 (F := F))) c v2 c11_i32_1526) k) Q := by
  unfold onArgs
  rw [k0_part64_eq_skeleton]
  unfold k0_part64_skel
  refine agsend 11 (by decide) (by decide) rfl (k0_off232_eq c) (k0_off233_eq c) (k0_off233_eq c) (k0_dev74_eq c) ?_
  refine agsend 12 (by decide) (by decide) rfl (k0_off232_eq c) (k0_off233_eq c) (k0_off233_eq c) (k0_dev75_eq c) ?_
  exact H

/-- Part 65: the rows go to the next neighbours. -/
theorem part65 {v2 : BitVec 32} {k : _ → Prog (TpuEff nD τ sig (Elt F) Λ₀ .tc) α}
    (H : ∀ w0 : BitVec 32, Tri m K c iprop(AGs m c 16 ∗ R) (k w0) Q) :
    Tri m K c iprop(AGs m c 13 ∗ R) (Prog.bind ((onArgs (k0_part65 (F := F))) c v2) k) Q := by
  unfold onArgs
  rw [k0_part65_eq_skeleton]
  unfold k0_part65_skel
  refine agsend 13 (by decide) (by decide) rfl (k0_off232_eq c) (k0_off233_eq c) (k0_off233_eq c) (k0_dev76_eq c) ?_
  refine agsend 14 (by decide) (by decide) rfl (k0_off232_eq c) (k0_off233_eq c) (k0_off233_eq c) (k0_dev77_eq c) ?_
  refine agsend 15 (by decide) (by decide) rfl (k0_off232_eq c) (k0_off233_eq c) (k0_off233_eq c) (k0_dev78_eq c) ?_
  exact H _

/-- Part 66: the rows go to the next neighbours. -/
theorem part66 {v2 : BitVec 32} {v2057 : BitVec 32} {k : _ → Prog (TpuEff nD τ sig (Elt F) Λ₀ .tc) α}
    (H : ∀ w0 w1 : BitVec 32, Tri m K c iprop(AGs m c 19 ∗ R) (k ⟨w0, w1⟩) Q) :
    Tri m K c iprop(AGs m c 16 ∗ R) (Prog.bind ((onArgs (k0_part66 (F := F))) c v2 v2057) k) Q := by
  unfold onArgs
  rw [k0_part66_eq_skeleton]
  unfold k0_part66_skel
  refine agsend 16 (by decide) (by decide) rfl (k0_off232_eq c) (k0_off233_eq c) (k0_off233_eq c) (k0_dev79_eq c) ?_
  refine agsend 17 (by decide) (by decide) rfl (k0_off232_eq c) (k0_off233_eq c) (k0_off233_eq c) (k0_dev80_eq c) ?_
  refine agsend 18 (by decide) (by decide) rfl (k0_off232_eq c) (k0_off233_eq c) (k0_off233_eq c) (k0_dev81_eq c) ?_
  exact H _ _

/-- Part 67: the rows go to the next neighbours. -/
theorem part67 {v2 : BitVec 32} {v2090 : BitVec 32} {c32_i32_1600 : BitVec 32} {k : _ → Prog (TpuEff nD τ sig (Elt F) Λ₀ .tc) α}
    (H : Tri m K c iprop(AGs m c 21 ∗ R) (k ⟨⟩) Q) :
    Tri m K c iprop(AGs m c 19 ∗ R) (Prog.bind ((onArgs (k0_part67 (F := F))) c v2 v2090 c32_i32_1600) k) Q := by
  unfold onArgs
  rw [k0_part67_eq_skeleton]
  unfold k0_part67_skel
  refine agsend 19 (by decide) (by decide) rfl (k0_off232_eq c) (k0_off233_eq c) (k0_off233_eq c) (k0_dev82_eq c) ?_
  refine agsend 20 (by decide) (by decide) rfl (k0_off232_eq c) (k0_off233_eq c) (k0_off233_eq c) (k0_dev83_eq c) ?_
  exact H

/-- Part 68: the rows go to the next neighbours. -/
theorem part68 {v2 : BitVec 32} {k : _ → Prog (TpuEff nD τ sig (Elt F) Λ₀ .tc) α}
    (H : Tri m K c iprop(AGs m c 24 ∗ R) (k ⟨⟩) Q) :
    Tri m K c iprop(AGs m c 21 ∗ R) (Prog.bind ((onArgs (k0_part68 (F := F))) c v2) k) Q := by
  unfold onArgs
  rw [k0_part68_eq_skeleton]
  unfold k0_part68_skel
  refine agsend 21 (by decide) (by decide) rfl (k0_off232_eq c) (k0_off233_eq c) (k0_off233_eq c) (k0_dev84_eq c) ?_
  refine agsend 22 (by decide) (by decide) rfl (k0_off232_eq c) (k0_off233_eq c) (k0_off233_eq c) (k0_dev85_eq c) ?_
  refine agsend 23 (by decide) (by decide) rfl (k0_off232_eq c) (k0_off233_eq c) (k0_off233_eq c) (k0_dev86_eq c) ?_
  exact H

/-- Part 69: the rows go to the next neighbours. -/
theorem part69 {v2 : BitVec 32} {k : _ → Prog (TpuEff nD τ sig (Elt F) Λ₀ .tc) α}
    (H : ∀ w0 : BitVec 32, Tri m K c iprop(AGs m c 27 ∗ R) (k w0) Q) :
    Tri m K c iprop(AGs m c 24 ∗ R) (Prog.bind ((onArgs (k0_part69 (F := F))) c v2) k) Q := by
  unfold onArgs
  rw [k0_part69_eq_skeleton]
  unfold k0_part69_skel
  refine agsend 24 (by decide) (by decide) rfl (k0_off232_eq c) (k0_off233_eq c) (k0_off233_eq c) (k0_dev87_eq c) ?_
  refine agsend 25 (by decide) (by decide) rfl (k0_off232_eq c) (k0_off233_eq c) (k0_off233_eq c) (k0_dev88_eq c) ?_
  refine agsend 26 (by decide) (by decide) rfl (k0_off232_eq c) (k0_off233_eq c) (k0_off233_eq c) (k0_dev89_eq c) ?_
  exact H _

/-- Part 70: the rows go to the next neighbours. -/
theorem part70 {v2 : BitVec 32} {v2186 : BitVec 32} {k : _ → Prog (TpuEff nD τ sig (Elt F) Λ₀ .tc) α}
    (H : ∀ w0 w1 : BitVec 32, Tri m K c iprop(AGs m c 30 ∗ R) (k ⟨w0, w1⟩) Q) :
    Tri m K c iprop(AGs m c 27 ∗ R) (Prog.bind ((onArgs (k0_part70 (F := F))) c v2 v2186) k) Q := by
  unfold onArgs
  rw [k0_part70_eq_skeleton]
  unfold k0_part70_skel
  refine agsend 27 (by decide) (by decide) rfl (k0_off232_eq c) (k0_off233_eq c) (k0_off233_eq c) (k0_dev90_eq c) ?_
  refine agsend 28 (by decide) (by decide) rfl (k0_off232_eq c) (k0_off233_eq c) (k0_off233_eq c) (k0_dev91_eq c) ?_
  refine agsend 29 (by decide) (by decide) rfl (k0_off232_eq c) (k0_off233_eq c) (k0_off233_eq c) (k0_dev92_eq c) ?_
  exact H _ _

/-- Part 71: the rows go to the next neighbours. -/
theorem part71 {v2 : BitVec 32} {v2221 : BitVec 32} {c32_i32_1698 : BitVec 32} {k : _ → Prog (TpuEff nD τ sig (Elt F) Λ₀ .tc) α}
    (H : Tri m K c iprop(AGs m c 32 ∗ R) (k ⟨⟩) Q) :
    Tri m K c iprop(AGs m c 30 ∗ R) (Prog.bind ((onArgs (k0_part71 (F := F))) c v2 v2221 c32_i32_1698) k) Q := by
  unfold onArgs
  rw [k0_part71_eq_skeleton]
  unfold k0_part71_skel
  refine agsend 30 (by decide) (by decide) rfl (k0_off232_eq c) (k0_off233_eq c) (k0_off233_eq c) (k0_dev93_eq c) ?_
  refine agsend 31 (by decide) (by decide) rfl (k0_off232_eq c) (k0_off233_eq c) (k0_off233_eq c) (k0_dev94_eq c) ?_
  exact H

/-- Part 72: three waits for rows of the result. -/
theorem part72 {v2 : BitVec 32} {k : _ → Prog (TpuEff nD τ sig (Elt F) Λ₀ .tc) α}
    (H : Tri m K c iprop(owesNone c ∗ GWt m c 4 ∗ R) (k ⟨⟩) Q) :
    Tri m K c iprop(owesNone c ∗ GWt m c 1 ∗ R) (Prog.bind ((onArgs (k0_part72 (F := F))) c v2) k) Q := by
  unfold onArgs
  rw [k0_part72_eq_skeleton]
  unfold k0_part72_skel
  refine gwait 1 (by decide) (by decide) (off132_at c 1 (by decide) (by decide)) ?_
  refine gwait 2 (by decide) (by decide) (off132_at c 2 (by decide) (by decide)) ?_
  refine gwait 3 (by decide) (by decide) (off132_at c 3 (by decide) (by decide)) ?_
  exact H

/-- Part 73: three waits for rows of the result. -/
theorem part73 {v2 : BitVec 32} {k : _ → Prog (TpuEff nD τ sig (Elt F) Λ₀ .tc) α}
    (H : Tri m K c iprop(owesNone c ∗ GWt m c 7 ∗ R) (k ⟨⟩) Q) :
    Tri m K c iprop(owesNone c ∗ GWt m c 4 ∗ R) (Prog.bind ((onArgs (k0_part73 (F := F))) c v2) k) Q := by
  unfold onArgs
  rw [k0_part73_eq_skeleton]
  unfold k0_part73_skel
  refine gwait 4 (by decide) (by decide) (off132_at c 4 (by decide) (by decide)) ?_
  refine gwait 5 (by decide) (by decide) (off132_at c 5 (by decide) (by decide)) ?_
  refine gwait 6 (by decide) (by decide) (off132_at c 6 (by decide) (by decide)) ?_
  exact H

/-- Part 74: three waits for rows of the result. -/
theorem part74 {v2 : BitVec 32} {k : _ → Prog (TpuEff nD τ sig (Elt F) Λ₀ .tc) α}
    (H : Tri m K c iprop(owesNone c ∗ GWt m c 10 ∗ R) (k ⟨⟩) Q) :
    Tri m K c iprop(owesNone c ∗ GWt m c 7 ∗ R) (Prog.bind ((onArgs (k0_part74 (F := F))) c v2) k) Q := by
  unfold onArgs
  rw [k0_part74_eq_skeleton]
  unfold k0_part74_skel
  refine gwait 7 (by decide) (by decide) (off132_at c 7 (by decide) (by decide)) ?_
  refine gwait 8 (by decide) (by decide) (off132_at c 8 (by decide) (by decide)) ?_
  refine gwait 9 (by decide) (by decide) (off132_at c 9 (by decide) (by decide)) ?_
  exact H

/-- Part 75: three waits for rows of the result. -/
theorem part75 {v2 : BitVec 32} {k : _ → Prog (TpuEff nD τ sig (Elt F) Λ₀ .tc) α}
    (H : Tri m K c iprop(owesNone c ∗ GWt m c 13 ∗ R) (k ⟨⟩) Q) :
    Tri m K c iprop(owesNone c ∗ GWt m c 10 ∗ R) (Prog.bind ((onArgs (k0_part75 (F := F))) c v2) k) Q := by
  unfold onArgs
  rw [k0_part75_eq_skeleton]
  unfold k0_part75_skel
  refine gwait 10 (by decide) (by decide) (off132_at c 10 (by decide) (by decide)) ?_
  refine gwait 11 (by decide) (by decide) (off132_at c 11 (by decide) (by decide)) ?_
  refine gwait 12 (by decide) (by decide) (off132_at c 12 (by decide) (by decide)) ?_
  exact H

/-- Part 76: three waits for rows of the result. -/
theorem part76 {v2 : BitVec 32} {k : _ → Prog (TpuEff nD τ sig (Elt F) Λ₀ .tc) α}
    (H : Tri m K c iprop(owesNone c ∗ GWt m c 16 ∗ R) (k ⟨⟩) Q) :
    Tri m K c iprop(owesNone c ∗ GWt m c 13 ∗ R) (Prog.bind ((onArgs (k0_part76 (F := F))) c v2) k) Q := by
  unfold onArgs
  rw [k0_part76_eq_skeleton]
  unfold k0_part76_skel
  refine gwait 13 (by decide) (by decide) (off132_at c 13 (by decide) (by decide)) ?_
  refine gwait 14 (by decide) (by decide) (off132_at c 14 (by decide) (by decide)) ?_
  refine gwait 15 (by decide) (by decide) (off132_at c 15 (by decide) (by decide)) ?_
  exact H

/-- Part 77: three waits for rows of the result. -/
theorem part77 {v2 : BitVec 32} {k : _ → Prog (TpuEff nD τ sig (Elt F) Λ₀ .tc) α}
    (H : Tri m K c iprop(owesNone c ∗ GWt m c 19 ∗ R) (k ⟨⟩) Q) :
    Tri m K c iprop(owesNone c ∗ GWt m c 16 ∗ R) (Prog.bind ((onArgs (k0_part77 (F := F))) c v2) k) Q := by
  unfold onArgs
  rw [k0_part77_eq_skeleton]
  unfold k0_part77_skel
  refine gwait 16 (by decide) (by decide) (off132_at c 16 (by decide) (by decide)) ?_
  refine gwait 17 (by decide) (by decide) (off132_at c 17 (by decide) (by decide)) ?_
  refine gwait 18 (by decide) (by decide) (off132_at c 18 (by decide) (by decide)) ?_
  exact H

/-- Part 78: three waits for rows of the result. -/
theorem part78 {v2 : BitVec 32} {k : _ → Prog (TpuEff nD τ sig (Elt F) Λ₀ .tc) α}
    (H : Tri m K c iprop(owesNone c ∗ GWt m c 22 ∗ R) (k ⟨⟩) Q) :
    Tri m K c iprop(owesNone c ∗ GWt m c 19 ∗ R) (Prog.bind ((onArgs (k0_part78 (F := F))) c v2) k) Q := by
  unfold onArgs
  rw [k0_part78_eq_skeleton]
  unfold k0_part78_skel
  refine gwait 19 (by decide) (by decide) (off132_at c 19 (by decide) (by decide)) ?_
  refine gwait 20 (by decide) (by decide) (off132_at c 20 (by decide) (by decide)) ?_
  refine gwait 21 (by decide) (by decide) (off132_at c 21 (by decide) (by decide)) ?_
  exact H

/-- Part 79: three waits for rows of the result. -/
theorem part79 {v2 : BitVec 32} {k : _ → Prog (TpuEff nD τ sig (Elt F) Λ₀ .tc) α}
    (H : Tri m K c iprop(owesNone c ∗ GWt m c 25 ∗ R) (k ⟨⟩) Q) :
    Tri m K c iprop(owesNone c ∗ GWt m c 22 ∗ R) (Prog.bind ((onArgs (k0_part79 (F := F))) c v2) k) Q := by
  unfold onArgs
  rw [k0_part79_eq_skeleton]
  unfold k0_part79_skel
  refine gwait 22 (by decide) (by decide) (off132_at c 22 (by decide) (by decide)) ?_
  refine gwait 23 (by decide) (by decide) (off132_at c 23 (by decide) (by decide)) ?_
  refine gwait 24 (by decide) (by decide) (off132_at c 24 (by decide) (by decide)) ?_
  exact H

/-- Part 80: three waits for rows of the result. -/
theorem part80 {v2 : BitVec 32} {k : _ → Prog (TpuEff nD τ sig (Elt F) Λ₀ .tc) α}
    (H : Tri m K c iprop(owesNone c ∗ GWt m c 28 ∗ R) (k ⟨⟩) Q) :
    Tri m K c iprop(owesNone c ∗ GWt m c 25 ∗ R) (Prog.bind ((onArgs (k0_part80 (F := F))) c v2) k) Q := by
  unfold onArgs
  rw [k0_part80_eq_skeleton]
  unfold k0_part80_skel
  refine gwait 25 (by decide) (by decide) (off132_at c 25 (by decide) (by decide)) ?_
  refine gwait 26 (by decide) (by decide) (off132_at c 26 (by decide) (by decide)) ?_
  refine gwait 27 (by decide) (by decide) (off132_at c 27 (by decide) (by decide)) ?_
  exact H

/-- Part 81: three waits for rows of the result. -/
theorem part81 {v2 : BitVec 32} {k : _ → Prog (TpuEff nD τ sig (Elt F) Λ₀ .tc) α}
    (H : Tri m K c iprop(owesNone c ∗ GWt m c 31 ∗ R) (k ⟨⟩) Q) :
    Tri m K c iprop(owesNone c ∗ GWt m c 28 ∗ R) (Prog.bind ((onArgs (k0_part81 (F := F))) c v2) k) Q := by
  unfold onArgs
  rw [k0_part81_eq_skeleton]
  unfold k0_part81_skel
  refine gwait 28 (by decide) (by decide) (off132_at c 28 (by decide) (by decide)) ?_
  refine gwait 29 (by decide) (by decide) (off132_at c 29 (by decide) (by decide)) ?_
  refine gwait 30 (by decide) (by decide) (off132_at c 30 (by decide) (by decide)) ?_
  exact H

/-- Part 82: the last wait for rows, and six for the sends. -/
theorem part82 {k : _ → Prog (TpuEff nD τ sig (Elt F) Λ₀ .tc) α}
    (H : Tri m K c iprop(owesNone c ∗ AWt m c 7 ∗ GWt m c 32 ∗ R) (k ⟨⟩) Q) :
    Tri m K c iprop(owesNone c ∗ GWt m c 31 ∗ AWt m c 1 ∗ R) (Prog.bind ((onArgs (k0_part82 (F := F))) c) k) Q := by
  unfold onArgs
  rw [k0_part82_eq_skeleton]
  unfold k0_part82_skel
  refine gwait 31 (by decide) (by decide) (off132_at c 31 (by decide) (by decide)) ?_
  refine Tri.mid ?_
  refine await 1 (by decide) (by decide) rfl ?_
  refine await 2 (by decide) (by decide) rfl ?_
  refine await 3 (by decide) (by decide) rfl ?_
  refine await 4 (by decide) (by decide) rfl ?_
  refine await 5 (by decide) (by decide) rfl ?_
  refine await 6 (by decide) (by decide) rfl ?_
  exact H

/-- Part 83: waits for the sends. -/
theorem part83 {k : _ → Prog (TpuEff nD τ sig (Elt F) Λ₀ .tc) α}
    (H : Tri m K c iprop(owesNone c ∗ AWt m c 14 ∗ R) (k ⟨⟩) Q) :
    Tri m K c iprop(owesNone c ∗ AWt m c 7 ∗ R) (Prog.bind ((onArgs (k0_part83 (F := F))) c) k) Q := by
  unfold onArgs
  rw [k0_part83_eq_skeleton]
  unfold k0_part83_skel
  refine await 7 (by decide) (by decide) rfl ?_
  refine await 8 (by decide) (by decide) rfl ?_
  refine await 9 (by decide) (by decide) rfl ?_
  refine await 10 (by decide) (by decide) rfl ?_
  refine await 11 (by decide) (by decide) rfl ?_
  refine await 12 (by decide) (by decide) rfl ?_
  refine await 13 (by decide) (by decide) rfl ?_
  exact H

/-- Part 84: waits for the sends. -/
theorem part84 {k : _ → Prog (TpuEff nD τ sig (Elt F) Λ₀ .tc) α}
    (H : Tri m K c iprop(owesNone c ∗ AWt m c 20 ∗ R) (k ⟨⟩) Q) :
    Tri m K c iprop(owesNone c ∗ AWt m c 14 ∗ R) (Prog.bind ((onArgs (k0_part84 (F := F))) c) k) Q := by
  unfold onArgs
  rw [k0_part84_eq_skeleton]
  unfold k0_part84_skel
  refine await 14 (by decide) (by decide) rfl ?_
  refine await 15 (by decide) (by decide) rfl ?_
  refine await 16 (by decide) (by decide) rfl ?_
  refine await 17 (by decide) (by decide) rfl ?_
  refine await 18 (by decide) (by decide) rfl ?_
  refine await 19 (by decide) (by decide) rfl ?_
  exact H

/-- Part 85: waits for the sends. -/
theorem part85 {k : _ → Prog (TpuEff nD τ sig (Elt F) Λ₀ .tc) α}
    (H : Tri m K c iprop(owesNone c ∗ AWt m c 27 ∗ R) (k ⟨⟩) Q) :
    Tri m K c iprop(owesNone c ∗ AWt m c 20 ∗ R) (Prog.bind ((onArgs (k0_part85 (F := F))) c) k) Q := by
  unfold onArgs
  rw [k0_part85_eq_skeleton]
  unfold k0_part85_skel
  refine await 20 (by decide) (by decide) rfl ?_
  refine await 21 (by decide) (by decide) rfl ?_
  refine await 22 (by decide) (by decide) rfl ?_
  refine await 23 (by decide) (by decide) rfl ?_
  refine await 24 (by decide) (by decide) rfl ?_
  refine await 25 (by decide) (by decide) rfl ?_
  refine await 26 (by decide) (by decide) rfl ?_
  exact H

end Cert.AttnProof

end
-- ==== Proof.Body0.lean ====
/-
# Between the parts of the body
-/
module

public import proofs.«01_k».proof.Proof.Open
public import proofs.«01_k».proof.Proof.Block0
public import proofs.«01_k».proof.Proof.Block1
public import proofs.«01_k».proof.Proof.Block2
public import proofs.«01_k».proof.Proof.Block3
public import proofs.«01_k».proof.Proof.Finish0
public import proofs.«01_k».proof.Proof.Finish1
public import proofs.«01_k».proof.Proof.Finish2

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

/-- A program that is done. -/
theorem Tri.done {P : SP F} {Q : PUnit → SP F} (H : iprop(Ctx m K ∗ P) ⊢ iprop(|={Set.univ}=> Q ⟨⟩)) : Tri m K c P (Prog.ret ⟨⟩) Q := by
  unfold Tri
  refine H.trans ?_
  rw [wp_ret]

/-- A sequence within a sequence. -/
theorem Tri.bb {β γ : Type} {P : SP F} {p : Prog (TpuEff nD τ sig (Elt F) Λ₀ .tc) β} {f : β → Prog (TpuEff nD τ sig (Elt F) Λ₀ .tc) γ}
    {k : γ → Prog (TpuEff nD τ sig (Elt F) Λ₀ .tc) α} (H : Tri m K c P (Prog.bind p fun x => Prog.bind (f x) k) Q) :
    Tri m K c P (Prog.bind (Bind.bind p f) k) Q := by
  rw [show Prog.bind (Bind.bind p f) k = Prog.bind p fun x => Prog.bind (f x) k from Prog.bind_assoc p f k]; exact H

/-! ## What a device holds between the stages -/

abbrev owesOpen (c : Dev nD) : SP F := owesAny c (Ow c ∅ (others c) (others c))

/-- The tokens of the sends of the first exchange, and of the second. -/
def Toks1 (c : Dev nD) : SP F := bigSep (others c) fun t => iprop(dutyTok ER (cell c (kS t)) 0 c ∗ dutyTok ER (cell t (kR c)) 0 c)
def Toks2 (c : Dev nD) : SP F := bigSep (others c) fun t => iprop(dutyTok ER (cell c (kA (ai c t))) 0 c ∗ dutyTok ER (cell t (kG c)) 0 c)
/-- The places at the semaphores of the sends. -/
def AtS (c : Dev nD) : SP F := bigSep (others c) fun t => atPos ER (cell c (kS t)) 0 ∅ 0
def AtA (c : Dev nD) : SP F := bigSep (others c) fun t => atPos ER (cell c (kA (ai c t))) 0 ∅ 0
/-- The buffers of the computation as it starts, and the tokens of the first exchange. -/
def Opened (m : (ℓ : Loc nD τ sig) → Buf (Elt F) ℓ) (c : Dev nD) : SP F :=
  iprop((((c : Thread nD τ).loc cc0_stg0_0) ↦{fullShare} xv m c) ∗ (((c : Thread nD τ).loc cc0_stg1_0) ↦{fullShare} wqv m c)
    ∗ (((c : Thread nD τ).loc cc0_stg2_0) ↦{fullShare} wov m c)
    ∗ (∃ f : (cc0_scratch2 : Ref sig .tc).ty.Contents (Elt F), ((c : Thread nD τ).loc cc0_scratch2) ↦{fullShare} f)
    ∗ (∃ f : (cc0_scratch4 : Ref sig .tc).ty.Contents (Elt F), ((c : Thread nD τ).loc cc0_scratch4) ↦{fullShare} f)
    ∗ Toks1 c)
/-- What the later stages take. -/
def Later (m : (ℓ : Loc nD τ sig) → Buf (Elt F) ℓ) (c : Dev nD) : SP F :=
  iprop(Toks2 c ∗ (∃ f, rsPts c c f) ∗ (∃ f, outPts c c fullShare f) ∗ AtS c ∗ AtA c ∗ RWt m c 1 ∗ GWt m c 1)
/-- What the barrier brings for the second exchange. -/
def OutGot (c : Dev nD) : SP F := iprop(semVal (cell c kB) 0 ∗ bigSep (others c) fun t => iprop(∃ f, outPts t c fullShare f))

/-- All a device holds as it starts. -/
def Start (m : (ℓ : Loc nD τ sig) → Buf (Elt F) ℓ) (c : Dev nD) : SP F :=
  iprop(SigSt c 1 ∗ ToBar c ∗ KSt m c 0 ∗ VSt m c 0 ∗ AtKV c ∗ (∃ f, biasPts c f) ∗ Opened m c ∗ Later m c)

theorem after_B : after m c kB ⊢ iprop((bigSep (others c) fun t => iprop(∃ f, rsPts t c f)) ∗ OutGot c) := by
  unfold after OutGot
  rw [show payers c kB = others c from rfl, show (fun d => (pay m c kB d : SP F)) = fun d => iprop((∃ f, rsPts d c f) ∗ (∃ f, outPts d c fullShare f)) from rfl, bigSep_sep']
  iintro ⟨H1, H2, H3⟩
  isplitl [H2]; · iexact H2
  isplitl [H1] <;> iassumption

theorem toSend_one (t : Dev nD) : (iprop((dutyTok ER (cell c (kS t)) 0 c ∗ dutyTok ER (cell t (kR c)) 0 c) ∗ ∃ f, rsPts t c f) : SP F) ⊢ toSend c t := by
  unfold toSend
  iintro ⟨⟨H1, H2⟩, H3⟩
  isplitl [H1]; · iexact H1
  isplitl [H2] <;> iassumption
theorem toSend_of : iprop(Toks1 c ∗ bigSep (others c) fun t => iprop(∃ f, rsPts (F := F) t c f)) ⊢ (bigSep (others c) fun t => toSend c t : SP F) := by
  unfold Toks1
  rw [← bigSep_sep']
  exact bigSep_mono fun t _ => toSend_one t

theorem go_open : (iprop(owesOpen c ∗ after m c kB ∗ KSt m c 0 ∗ VSt m c 0 ∗ AtKV c ∗ (∃ f, biasPts c f) ∗ Opened m c ∗ Later m c ∗ R) : SP F)
    ⊢ iprop(KSt m c 0 ∗ VSt m c 0 ∗ owesOpen c ∗ AtKV c ∗ (∃ f, biasPts c f) ∗ Fresh m c ∗ OutGot c ∗ Later m c ∗ R) := by
  iintro ⟨HO, HB, HK, HV, HA, Hb, HF, HL, HR⟩
  ihave HB := after_B $$ HB
  icases HB with ⟨HB, HG⟩
  isplitl [HK]; · iexact HK
  isplitl [HV]; · iexact HV
  isplitl [HO]; · iexact HO
  isplitl [HA]; · iexact HA
  isplitl [Hb]; · iexact Hb
  isplitl [HF HB]
  · unfold Opened Fresh
    icases HF with ⟨H1, H2, H3, H4, H5, H6⟩
    isplitl [H1]; · iexact H1
    isplitl [H2]; · iexact H2
    isplitl [H3]; · iexact H3
    isplitl [H4]; · iexact H4
    isplitl [H5]; · iexact H5
    iapply toSend_of
    isplitl [H6] <;> iassumption
  isplitl [HG]; · iexact HG
  isplitl [HL] <;> iassumption

/-- What a device keeps aside from its sums on. -/
def Held (m : (ℓ : Loc nD τ sig) → Buf (Elt F) ℓ) (c : Dev nD) : SP F :=
  iprop(Ins m c ∗ Heads m c (blk c 4) 0 ∗ KVDone m c ∗ (∃ f, rsPts c c f) ∗ semVal (cell c kB) 0)
/-- What the second exchange takes besides the rows. -/
def Gather (m : (ℓ : Loc nD τ sig) → Buf (Elt F) ℓ) (c : Dev nD) : SP F :=
  iprop(Toks2 c ∗ (bigSep (others c) fun t => iprop(∃ f, outPts t c fullShare f)) ∗ AtA c ∗ GWt m c 1)

theorem Sums_end : Sums m c 4 32 ⊢ partPts c c (PART m c) := by
  unfold Sums partPts
  rw [kept_end]
  iintro ⟨%f, %hf, H⟩
  rw [show (((partM c).view.loc (c : Thread nD τ)) ↦[(partM c).view.set]{fullShare} PART m c : SP F)
    = (((c : Thread nD τ).loc cc0_scratch4) ↦[(partM c).view.set]{fullShare} f) from
    (pointsTo_congr fun i hi => hf i (pos_lt c _)).symm]
  iexact H
theorem Sends_end : Sends c 32 ⊢ (iprop(owesRows c ∗ bigSep (others c) fun t => cred (tallyAt (cell c (kS t)) () NR)) : SP F) := by
  unfold Sends
  rw [later_end, fam_end _ _ _ _ _ (fun d _ => pos_lt c d)]
theorem SWt_of : (iprop((bigSep (others c) fun t => cred (tallyAt (cell c (kS t)) () NR)) ∗ AtS c) : SP F) ⊢ SWt m c 0 := by
  refine BI.Entails.trans ?_ SWt_start
  unfold AtS
  rw [← bigSep_sep']
  exact BI.Entails.refl _
theorem AWt_of : (iprop((bigSep (others c) fun t => cred (tallyAt (cell c (kA (ai c t))) () NR)) ∗ AtA c) : SP F) ⊢ AWt m c 1 := by
  refine BI.Entails.trans ?_ AWt_start
  unfold AtA
  rw [← bigSep_sep']
  exact BI.Entails.refl _

theorem go_receive : (iprop(Calc m c 4 0 32 ∗ KVDone m c ∗ OutGot c ∗ Later m c ∗ R) : SP F)
    ⊢ iprop(owesRows c ∗ RWt m c 1 ∗ ToAdd m c ∗ SWt m c 0 ∗ Gather m c ∗ Held m c ∗ R) := by
  unfold Calc OutGot Later
  iintro ⟨⟨HI, HH, HS, HO⟩, HK, ⟨HB, HG⟩, ⟨HT, HC, HU, H1, H2, H3, H4⟩, HR⟩
  ihave HO := Sends_end $$ HO
  icases HO with ⟨HO, HC1⟩
  isplitl [HO]; · iexact HO
  isplitl [H3]; · iexact H3
  isplitl [HS HU]
  · unfold ToAdd
    isplitl [HS]
    · iapply Sums_end; iexact HS
    iexact HU
  isplitl [HC1 H1]
  · iapply SWt_of
    isplitl [HC1] <;> iassumption
  isplitl [HT HG H2 H4]
  · unfold Gather
    isplitl [HT]; · iexact HT
    isplitl [HG]; · iexact HG
    isplitl [H2] <;> iassumption
  isplitr [HR]
  · unfold Held
    isplitl [HI]; · iexact HI
    isplitl [HH]; · iexact HH
    isplitl [HK]; · iexact HK
    isplitl [HC] <;> iassumption
  iexact HR

theorem go_waits : (iprop(Tot m c ∗ owesRows c ∗ Received c ∗ SWt m c 0 ∗ R) : SP F) ⊢ iprop(Tot m c ∗ owesRows c ∗ SWt m c 0 ∗ Received c ∗ R) := by
  iintro ⟨H1, H2, H3, H4, HR⟩
  isplitl [H1]; · iexact H1
  isplitl [H2]; · iexact H2
  isplitl [H4]; · iexact H4
  isplitl [H3] <;> iassumption

/-- The partial sums once added. -/
def RowsIn (m : (ℓ : Loc nD τ sig) → Buf (Elt F) ℓ) (c : Dev nD) : SP F :=
  iprop(partPts c c (PART m c) ∗ bigSep (others c) fun s => rsPts c s (RSALL m c))

theorem toSpread_one (t : Dev nD) : (iprop(outPts c c (lend c t) (OUTALL m) ∗ (dutyTok ER (cell c (kA (ai c t))) 0 c ∗ dutyTok ER (cell t (kG c)) 0 c)
    ∗ ∃ f, outPts t c fullShare f) : SP F) ⊢ toSpread m c t := by
  unfold toSpread
  iintro ⟨H1, ⟨H2, H3⟩, H4⟩
  isplitl [H1]; · iexact H1
  isplitl [H2]; · iexact H2
  isplitl [H3] <;> iassumption
theorem Spread_of : (iprop(outPts c c fullShare (OUTALL m) ∗ Toks2 c ∗ bigSep (others c) fun t => iprop(∃ f, outPts t c fullShare f)) : SP F) ⊢ Spread m c := by
  unfold Toks2 Spread
  rw [out_deal, ← bigSep_sep', ← bigSep_sep']
  exact bigSep_mono fun t _ => toSpread_one t

theorem go_spread {A : SP F} : (iprop(owesRows c ∗ A ∗ Rows m c ∗ Received c ∗ Gather m c ∗ R) : SP F)
    ⊢ iprop(owesRows c ∗ A ∗ Spread m c ∗ RowsIn m c ∗ Received c ∗ AtA c ∗ GWt m c 1 ∗ R) := by
  unfold Rows Gather
  iintro ⟨HO, HA, ⟨H1, H2, H3⟩, HE, ⟨H4, H5, H6, H7⟩, HR⟩
  isplitl [HO]; · iexact HO
  isplitl [HA]; · iexact HA
  isplitl [H3 H4 H5]
  · iapply Spread_of
    isplitl [H3]; · iexact H3
    isplitl [H4] <;> iassumption
  isplitl [H1 H2]
  · unfold RowsIn
    isplitl [H1] <;> iassumption
  isplitl [HE]; · iexact HE
  isplitl [H6]; · iexact H6
  isplitl [H7] <;> iassumption

theorem go_gather : (iprop(AGs m c 32 ∗ Sent m c ∗ RowsIn m c ∗ Received c ∗ AtA c ∗ GWt m c 1 ∗ R) : SP F)
    ⊢ iprop(owesNone c ∗ GWt m c 1 ∗ AWt m c 1 ∗ Sent m c ∗ RowsIn m c ∗ Received c ∗ R) := by
  iintro ⟨HO, H1, H2, H3, H4, H5, HR⟩
  ihave HO := AGs_done $$ HO
  icases HO with ⟨HO, HC⟩
  isplitl [HO]; · iexact HO
  isplitl [H5]; · iexact H5
  isplitl [HC H4]
  · iapply AWt_of
    isplitl [HC] <;> iassumption
  isplitl [H1]; · iexact H1
  isplitl [H2]; · iexact H2
  isplitl [H3] <;> iassumption

end Cert.AttnProof

end
-- ==== Proof.Launch.lean ====
/-
# What the launch makes: the cells' invariants, every device's positions, tokens and credit

A token is minted for the device that pays with it, so nothing is dealt around: for every semaphore kind `k`, payer `c`
and device `d` one token of `c` on the cell `k` of `d`; those of pairs that never pay stay unused.
-/
module

public import proofs.«01_k».proof.Proof.Body0
public import proofs.«01_k».proof.Proof.Gen.KernelIdeal.Launch

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Families over the semaphores -/

/-- A family over all semaphores of the protocol, kind by kind. -/
theorem CKfam (Φ : CK → SP F) : bigSep Finset.univ Φ = iprop(Φ kB ∗ (bigSep Finset.univ fun h : Fin 8 => Φ (kK h)) ∗ (bigSep Finset.univ fun h : Fin 8 => Φ (kV h))
    ∗ (bigSep Finset.univ fun t : Dev nD => Φ (kS t)) ∗ (bigSep Finset.univ fun s : Dev nD => Φ (kR s))
    ∗ (bigSep Finset.univ fun j : Fin 32 => Φ (kA j)) ∗ bigSep Finset.univ fun s : Dev nD => Φ (kG s)) := by
  rw [BI.bigSep_univ_sum, BI.bigSep_univ_sum, BI.bigSep_univ_sum, BI.bigSep_univ_sum, BI.bigSep_univ_sum, BI.bigSep_univ_sum,
    Finset.univ_unique, bigSep_singleton]
  rfl

theorem ai_inj (c : Dev nD) : Function.Injective (ai c) := fun s t h =>
  dist_inj c (congrArg Fin.val h)
theorem ai_bij (c : Dev nD) : Function.Bijective (ai c) := (Fintype.bijective_iff_injective_and_card _).mpr ⟨ai_inj c, rfl⟩

/-- A family over the places on from device `c`, by devices. -/
theorem by_device (c : Dev nD) (Φ : Fin 32 → SP F) : bigSep Finset.univ Φ = bigSep Finset.univ fun t : Dev nD => Φ (ai c t) :=
  BI.bigSep_univ_equiv (Equiv.ofBijective (ai c) (ai_bij c)) Φ

/-! ## What the launch mints -/

theorem kcell_inj : Function.Injective (fun p : Dev nD × CK => cell p.1 p.2) := fun p q h => Prod.ext (cell_eq.mp h).1 (cell_eq.mp h).2
def allCells : Finset (GSem nD τ sig) := Finset.univ.map ⟨fun p : Dev nD × CK => cell p.1 p.2, kcell_inj⟩

/-- The token of payer `p.1` on the cell `p.2.1` of device `p.2.2`. -/
def tokOf (p : Dev nD × CK × Dev nD) : GSem nD τ sig × ℕ × Dev nD := (cell p.2.2 p.2.1, 0, p.1)
theorem tokOf_inj : Function.Injective tokOf := fun p q h => by
  obtain ⟨c, k, d⟩ := p
  obtain ⟨c', k', d'⟩ := q
  have h1 : cell d k = cell d' k' := congrArg Prod.fst h
  have h2 : c = c' := congrArg (fun x : GSem nD τ sig × ℕ × Dev nD => x.2.2) h
  obtain ⟨h3, h4⟩ := cell_eq.mp h1
  rw [h2, h3, h4]
def allToks : Finset (GSem nD τ sig × ℕ × Dev nD) := Finset.univ.map ⟨tokOf, tokOf_inj⟩

def u₀ : UU := (initOf (Pipeline.cells cfgs cellOf_inj) (Pipeline.launchToks cfgs cellOf_inj), initOf allCells allToks)

/-- The tokens of device `c`. -/
def toks (c : Dev nD) : SP F := bigSep Finset.univ fun k : CK => bigSep Finset.univ fun d : Dev nD => dutyTok ER (cell d k) 0 c
/-- Device `c` at round 0 of its cells. -/
def atAll (c : Dev nD) : SP F := bigSep Finset.univ fun k : CK => atPos ER (cell c k) 0 ∅ 0

/-- What the launch gives device `c`, -/
def G (c : Dev nD) : SP F :=
  iprop((bigSep Finset.univ fun k : CK => roundState ER (Rd m) (cell c k) 0)
    ∗ (atAll c ∗ bigSep Finset.univ fun k : CK => reached ER (cell c k) 0) ∗ toks c)
/-- and what is made of it. -/
def G' (c : Dev nD) : SP F := iprop(∃ K, records m K ∗ atAll c ∗ toks c)

theorem by_cell (Φ : GSem nD τ sig → SP F) : bigSep allCells Φ = bigSep Finset.univ fun c : Dev nD => bigSep Finset.univ fun k : CK => Φ (cell c k) := by
  unfold allCells; rw [bigSep_map, bigSep_univ_prod]; rfl
theorem by_tok : bigSep allToks (fun x => (dutyTok ER x.1 x.2.1 x.2.2 : SP F)) = bigSep Finset.univ fun c : Dev nD => toks c := by
  unfold allToks; rw [bigSep_map, bigSep_univ_prod]
  exact bigSep_congr fun c _ => by unfold toks; rw [bigSep_univ_prod]; rfl

theorem fund_all : BI.own (ER (initOf allCells allToks)) ⊢ (|==> bigSep Finset.univ (G m) : SP F) := by
  iintro HX
  imod (Rounds.fund ER (Rd m) allCells allToks) $$ HX with ⟨Hst, Hr, Hat, Htok⟩
  imodintro
  ihave Hst' := (Entails.of_eq (by_cell fun g => roundState ER (Rd m) g 0)) $$ Hst
  ihave Hat' := (Entails.of_eq (by_cell fun g => atPos ER g 0 ∅ 0)) $$ Hat
  ihave Hr' := (Entails.of_eq (by_cell fun g => reached ER g 0)) $$ Hr
  ihave Htok' := (Entails.of_eq by_tok) $$ Htok
  unfold G atAll; simp only [bigSep_sep']
  isplitl [Hst']; · iexact Hst'
  isplitl [Hat' Hr']
  · isplitl [Hat'] <;> iassumption
  iexact Htok'

/-! ## The invariants -/

/-- The barrier semaphore is the one semaphore that is not the kernel's own. -/
theorem unscopedSems0_eq (c : Dev nD) : (unscopedSems0 c : SP F) = semVal (cell c kB) 0 := by
  unfold unscopedSems0; rw [bigSep_eq_bigSepL_of_eq [SemLoc.reg barS] (by decide) (by decide)]; rfl

/-- All counters of device `c` at zero: the barrier's and the kernel's own. -/
theorem sems_CK (c : Dev nD) : (bigSep Finset.univ fun k : CK => semVal (cell c k) 0 : SP F)
    = iprop(unscopedSems0 c ∗ Pipeline.ownSems0 (Ix := Unit) (Name := ℕ) (U := UU) (Lvl := ℕ) (Val := Elt F) (τ := τ) osem c) := by
  rw [unscopedSems0_eq, BI.bigSep_univ_sum, Finset.univ_unique, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (atAll c ∗ bigSep Finset.univ fun k : CK => reached ER (cell c k) 0) ∗ toks c) := by
  unfold G
  iintro ⟨Hos, Hus, Hst, Hat, Htok⟩
  ihave Hv := (Entails.of_eq (sems_CK (F := F) c).symm) $$ [Hos Hus]
  · isplitl [Hus] <;> iassumption
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : SP F) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : SP F} [BI.Persistent R] {Φ Ψ : I → SP F}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m K ∗ (atAll c ∗ toks c)) ⊢ G' m c := by
  unfold G'
  iintro ⟨#HI, H⟩
  iexists K
  isplitr; · iexact HI
  iexact H

theorem regroup :
    (bigSep Finset.univ fun c : Dev nD => iprop((bigSep Finset.univ fun k : CK => iprop(∃ κ : ℕ, cellInv ER (Rd m) κ (cell c k)))
          ∗ (atAll c ∗ bigSep Finset.univ fun k : CK => reached ER (cell c k) 0) ∗ toks c) : SP F)
      ⊢ bigSep Finset.univ (G' m) := by
  rw [bigSep_sep', bigSep_sep', bigSep_sep', ← bigSep_univ_prod (fun p : Dev nD × CK => iprop(∃ κ : ℕ, cellInv ER (Rd m) κ (cell p.1 p.2))),
    ← bigSep_univ_prod (fun p : Dev nD × CK => (reached ER (cell p.1 p.2) 0 : SP F))]
  iintro ⟨HI, ⟨Hat, #HR⟩, Htok⟩
  ihave HK := (BI.bigSep_exists_pi Finset.univ (fun (p : Dev nD × CK) (κ : ℕ) => (cellInv ER (Rd m) κ (cell p.1 p.2) : SP F))) $$ HI
  icases HK with ⟨%K, #HI⟩
  iapply (with_persistent (R := records m K) fun c _ => ghost_intro m K c)
  isplitr
  · unfold records; isplitl; · iexact HI
    iexact HR
  · iapply (Entails.of_eq (bigSep_sep' Finset.univ (fun c : Dev nD => (atAll c : SP F)) toks).symm)
    isplitl [Hat]; · iexact Hat
    iexact Htok

/-- The launch's global step: the counters of all devices at once. -/
theorem glob : (bigSep Finset.univ fun c => iprop(Pipeline.ownSems0 (Ix := Unit) (Name := ℕ) (U := UU) (Lvl := ℕ) (Val := Elt F) (τ := τ) osem c ∗ unscopedSems0 c ∗ G m c) : SP F)
    ⊢ |={Set.univ}=> bigSep Finset.univ (G' m) :=
  ((bigSep_mono fun c _ => core_alloc m c).trans (bigSep_fupd _ _)).trans (BI.fupd_mono (regroup m))

/-! ## The tokens of a device -/

/-- Of the tokens of device `c` the ones it pays with. -/
theorem toks_deal (c : Dev nD) : (toks c : SP F) ⊢ iprop((bigSep (others c) fun d => dutyTok ER (cell d kB) 0 c)
    ∗ (bigSep Finset.univ fun h : Fin 8 => dutyTok ER (cell c (kK h)) 0 c) ∗ (bigSep Finset.univ fun h : Fin 8 => dutyTok ER (cell c (kV h)) 0 c)
    ∗ Toks1 c ∗ Toks2 c) := by
  unfold toks Toks1 Toks2
  rw [CKfam, by_device c (fun j => bigSep Finset.univ fun d : Dev nD => (dutyTok ER (cell d (kA j)) 0 c : SP F)), bigSep_sep', bigSep_sep']
  have sub (Ψ : Dev nD → SP F) : bigSep Finset.univ Ψ ⊢ bigSep (others c) Ψ := bigSep_subset (Finset.subset_univ _)
  have own (Ψ : Dev nD → Dev nD → SP F) : (bigSep Finset.univ fun t : Dev nD => bigSep Finset.univ fun d : Dev nD => Ψ t d) ⊢ bigSep (others c) fun t => Ψ t c :=
    (bigSep_subset (Finset.subset_univ _)).trans (bigSep_mono fun t _ => bigSep_elim (Finset.mem_univ c))
  have its (Ψ : Dev nD → Dev nD → SP F) : (bigSep Finset.univ fun t : Dev nD => bigSep Finset.univ fun d : Dev nD => Ψ t d) ⊢ bigSep (others c) fun d => Ψ c d :=
    (bigSep_elim (Finset.mem_univ c)).trans (bigSep_subset (Finset.subset_univ _))
  have own8 (Ψ : Fin 8 → Dev nD → SP F) : (bigSep Finset.univ fun t : Fin 8 => bigSep Finset.univ fun d : Dev nD => Ψ t d) ⊢ bigSep Finset.univ fun t => Ψ t c :=
    bigSep_mono fun t _ => bigSep_elim (Finset.mem_univ c)
  iintro ⟨HB, HK, HV, HS, HR, HA, HG⟩
  isplitl [HB]; · iapply (sub fun d => dutyTok ER (cell d kB) 0 c); iexact HB
  isplitl [HK]; · iapply (own8 fun h d => dutyTok ER (cell d (kK h)) 0 c); iexact HK
  isplitl [HV]; · iapply (own8 fun h d => dutyTok ER (cell d (kV h)) 0 c); iexact HV
  isplitl [HS HR]
  · isplitl [HS]; · iapply (own fun t d => dutyTok ER (cell d (kS t)) 0 c); iexact HS
    iapply (its fun s d => dutyTok ER (cell d (kR s)) 0 c); iexact HR
  · isplitl [HA]; · iapply (own fun t d => dutyTok ER (cell d (kA (ai c t))) 0 c); iexact HA
    iapply (its fun s d => dutyTok ER (cell d (kG s)) 0 c); iexact HG

/-! ## The credit of a device -/

/-- What device `c` owes as it starts. -/
abbrev O₀ (c : Dev nD) : CellTallies nD τ sig Unit := Ow c (others c) (others c) (others c)

theorem tally_cells (S : Finset (Dev nD)) (k k' : CK) (n : ℕ) (c : Dev nD) :
    (∑ d ∈ S, (tallyAt (cell d k) () n : CellTallies nD τ sig Unit)) (cell c k') () = if k' = k ∧ c ∈ S then n else 0 := by
  rw [sum_tally_apply, Finset.sum_congr rfl fun d _ => tallyAt_apply (cell d k) () n (cell c k') ()]
  by_cases h : k' = k
  · subst h
    rw [Finset.sum_congr rfl (g := fun d => if c = d then n else 0) fun d _ => by
      by_cases hd : c = d
      · rw [if_pos ⟨by rw [hd], rfl⟩, if_pos hd]
      · rw [if_neg fun h' => hd (cell_eq.mp h'.1).1, if_neg hd]]
    rw [Finset.sum_ite_eq]
    by_cases hc : c ∈ S
    · rw [if_pos hc, if_pos ⟨rfl, hc⟩]
    · rw [if_neg hc, if_neg fun h' => hc h'.2]
  · rw [if_neg fun h' => h h'.1]
    exact Finset.sum_eq_zero fun d _ => if_neg fun h' => h (cell_eq.mp h'.1).2

theorem owed_at (d c : Dev nD) (k : CK) : O₀ d (cell c k) ()
    = (if k = kB ∧ c ∈ others d then 1 else 0) + (if k = kR d ∧ c ∈ others d then NR else 0) + (if k = kG d ∧ c ∈ others d then NR else 0) := by
  show Ow d (others d) (others d) (others d) (cell c k) () = _
  unfold Ow
  rw [Pi.add_apply, Finsupp.add_apply, Pi.add_apply, Finsupp.add_apply, tally_cells, tally_cells, tally_cells]

theorem mem_others_symm {c d : Dev nD} : c ∈ others d ↔ d ∈ others c := by rw [mem_others, mem_others]; exact ne_comm
theorem card_others (c : Dev nD) : (others c).card = 31 := by rw [Finset.card_erase_of_mem (Finset.mem_univ c)]; rfl

theorem launch_at (c : Dev nD) (k : CK) (n : ℕ) (h : ∑ d, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem launch_B (c : Dev nD) : ∑ d, O₀ d (cell c kB) () = 31 := by
  rw [Finset.sum_congr rfl (g := fun d => if d ∈ others c then 1 else 0) fun d _ => by
    rw [owed_at, if_neg (fun h => by cases h.1 : ¬(kB = kR d ∧ c ∈ others d)), if_neg (fun h => by cases h.1 : ¬(kB = kG d ∧ c ∈ others d))]
    by_cases h : d ∈ others c
    · rw [if_pos h, if_pos ⟨rfl, mem_others_symm.mpr h⟩]
    · rw [if_neg h, if_neg fun h' => h (mem_others_symm.mp h'.2)]]
  rw [Finset.sum_ite_mem, Finset.univ_inter, Finset.sum_const, card_others]; rfl
theorem launch_R (c s : Dev nD) (hs : s ∈ others c) : ∑ d, O₀ d (cell c (kR s)) () = NR := by
  rw [Finset.sum_congr rfl (g := fun d => if s = d then NR else 0) fun d _ => by
    rw [owed_at, if_neg (fun h => by cases h.1 : ¬(kR s = kB ∧ c ∈ others d)), if_neg (fun h => by cases h.1 : ¬(kR s = kG d ∧ c ∈ others d)), Nat.zero_add, Nat.add_zero]
    by_cases h : s = d
    · subst h; rw [if_pos rfl, if_pos ⟨rfl, mem_others_symm.mpr hs⟩]
    · rw [if_neg h, if_neg fun h' => h (by have := h'.1; cases this; rfl)]]
  rw [Finset.sum_ite_eq, if_pos (Finset.mem_univ s)]
theorem launch_G (c s : Dev nD) (hs : s ∈ others c) : ∑ d, O₀ d (cell c (kG s)) () = NR := by
  rw [Finset.sum_congr rfl (g := fun d => if s = d then NR else 0) fun d _ => by
    rw [owed_at, if_neg (fun h => by cases h.1 : ¬(kG s = kB ∧ c ∈ others d)), if_neg (fun h => by cases h.1 : ¬(kG s = kR d ∧ c ∈ others d)), Nat.add_zero, Nat.zero_add]
    by_cases h : s = d
    · subst h; rw [if_pos rfl, if_pos ⟨rfl, mem_others_symm.mpr hs⟩]
    · rw [if_neg h, if_neg fun h' => h (by have := h'.1; cases this; rfl)]]
  rw [Finset.sum_ite_eq, if_pos (Finset.mem_univ s)]

/-- The credit device `c` starts with: the others' signals, and the others' copies in both exchanges. -/
def creds (c : Dev nD) : SP F := iprop(cred (tallyAt (cell c kB) () 31) ∗ (bigSep (others c) fun s => cred (tallyAt (cell c (kR s)) () NR))
  ∗ bigSep (others c) fun s => cred (tallyAt (cell c (kG s)) () NR))

theorem creds_of (c : Dev nD) : (Pipeline.launchCred O₀ c : SP F) ⊢ creds c := by
  have h1 : (Pipeline.launchCred O₀ c : SP F) ⊢ bigSep Finset.univ fun k : CK => cred (tallyOn (cell c k) (launchCredit (Pipeline.owing O₀) 0 (cell c k))) := by
    unfold Pipeline.launchCred
    refine (bigSep_subset (Finset.subset_univ (Finset.univ.map ⟨csem, csem_inj⟩))).trans ?_
    rw [bigSep_map]
    exact BI.Entails.refl _
  refine h1.trans ?_
  unfold creds
  rw [CKfam, launch_at c kB 31 (launch_B c)]
  iintro ⟨HB, -, -, -, HR, -, HG⟩
  isplitl [HB]; · iexact HB
  isplitl [HR]
  · iapply (show (bigSep Finset.univ fun s : Dev nD => cred (tallyOn (cell c (kR s)) (launchCredit (Pipeline.owing O₀) 0 (cell c (kR s)))) : SP F)
      ⊢ bigSep (others c) fun s => cred (tallyAt (cell c (kR s)) () NR) from
        (bigSep_subset (Finset.subset_univ _)).trans (bigSep_mono fun s hs => Entails.of_eq (congrArg cred (launch_at c (kR s) NR (launch_R c s hs)))))
    iexact HR
  · iapply (show (bigSep Finset.univ fun s : Dev nD => cred (tallyOn (cell c (kG s)) (launchCredit (Pipeline.owing O₀) 0 (cell c (kG s)))) : SP F)
      ⊢ bigSep (others c) fun s => cred (tallyAt (cell c (kG s)) () NR) from
        (bigSep_subset (Finset.subset_univ _)).trans (bigSep_mono fun s hs => Entails.of_eq (congrArg cred (launch_at c (kG s) NR (launch_G c s hs)))))
    iexact HG

end Cert.AttnProof

end
-- ==== Proof.Body.lean ====
/-
# The body, its parts one after another
-/
module

public import proofs.«01_k».proof.Proof.Body0

@[expose] public section

set_option maxHeartbeats 400000

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig Unit (Elt F) ℕ UU ℕ

variable {m : (ℓ : Loc nD τ sig) → Buf (Elt F) ℓ} {K : Dev nD × CK → ℕ}
variable {c : Dev nD} {α : Type} {R : SP F} {Q : α → SP F}

attribute [local irreducible] Tri

set_option maxHeartbeats 4000000 in
/-- The body up to the first rows sent on. -/
theorem part86 {k : _ → Prog (TpuEff nD τ sig (Elt F) Λ₀ .tc) α}
    (H : ∀ w : BitVec 32, Tri m K c iprop(AGs m c 2 ∗ Sent m c ∗ RowsIn m c ∗ Received c ∗ AtA c ∗ GWt m c 1 ∗ Held m c ∗ R) (k ⟨c, w⟩) Q) :
    Tri m K c iprop(SigSt c 1 ∗ ToBar c ∗ KSt m c 0 ∗ VSt m c 0 ∗ AtKV c ∗ (∃ f, biasPts c f) ∗ Opened m c ∗ Later m c ∗ R) (Prog.bind (onArgs (k0_part86 (F := F))) k) Q := by
  unfold onArgs
  rw [k0_part86_eq_skeleton]
  unfold k0_part86_skel
  refine Tri.bb (part1 fun _ _ => ?_)
  refine Tri.bb (part2 ?_)
  refine Tri.bb (part3 ?_)
  refine Tri.bb (part4 ?_)
  refine Tri.bb (part5 ?_)
  refine Tri.bb (part6 ?_)
  refine Tri.pre go_open ?_
  refine Tri.bb (part7 ?_)
  refine Tri.bb (part8 ?_)
  refine Tri.bb (part9 ?_)
  refine Tri.bb (part10 ?_)
  refine Tri.bb (part11 ?_)
  refine Tri.bb (part12 ?_)
  refine Tri.bb (part13 ?_)
  refine Tri.bb (part14 ?_)
  refine Tri.bb (part15 fun _ _ => ?_)
  refine Tri.bb (part16 (by rfl) ?_)
  refine Tri.bb (part17 (by rfl) (by rfl) ?_)
  refine Tri.bb (part18 (by rfl) (by rfl) ?_)
  refine Tri.bb (part19 (by rfl) (by rfl) ?_)
  refine Tri.bb (part20 (by rfl) fun _ _ => ?_)
  refine Tri.bb (part21 fun _ _ _ _ _ _ => ?_)
  refine Tri.bb (part22 fun _ _ _ => ?_)
  refine Tri.bb (part23 (by rfl) (by rfl) ?_)
  refine Tri.bb (part24 (by rfl) (by rfl) ?_)
  refine Tri.bb (part25 (by rfl) (by rfl) ?_)
  refine Tri.bb (part26 (by rfl) ?_)
  refine Tri.bb (part27 (by rfl) fun _ _ _ _ _ => ?_)
  refine Tri.bb (part28 fun _ _ _ _ _ _ => ?_)
  refine Tri.bb (part29 ?_)
  refine Tri.bb (part30 (by rfl) (by rfl) ?_)
  refine Tri.bb (part31 (by rfl) (by rfl) ?_)
  refine Tri.bb (part32 (by rfl) ?_)
  refine Tri.bb (part33 (by rfl) (by rfl) fun _ => ?_)
  refine Tri.bb (part34 fun _ _ _ _ _ _ _ => ?_)
  refine Tri.bb (part35 fun _ _ _ _ => ?_)
  refine Tri.bb (part36 (by rfl) (by rfl) ?_)
  refine Tri.bb (part37 (by rfl) (by rfl) ?_)
  refine Tri.bb (part38 (by rfl) ?_)
  refine Tri.bb (part39 (by rfl) (by rfl) ?_)
  refine Tri.bb (part40 (by rfl) fun _ _ _ _ => ?_)
  refine Tri.bb (part41 fun _ _ _ _ _ _ => ?_)
  refine Tri.pre go_receive ?_
  refine Tri.bb (part42 fun _ => ?_)
  refine Tri.bb (part43 fun _ => ?_)
  refine Tri.bb (part44 fun _ => ?_)
  refine Tri.bb (part45 fun _ => ?_)
  refine Tri.bb (part46 fun _ => ?_)
  refine Tri.bb (part47 fun _ => ?_)
  refine Tri.bb (part48 fun _ => ?_)
  refine Tri.bb (part49 fun _ => ?_)
  refine Tri.bb (part50 fun _ => ?_)
  refine Tri.bb (part51 fun _ => ?_)
  refine Tri.bb (part52 fun _ => ?_)
  refine Tri.bb (part53 ?_)
  refine Tri.bb (part54 fun _ => ?_)
  refine Tri.bb (part55 fun _ => ?_)
  refine Tri.bb (part56 ?_)
  refine Tri.pre go_waits ?_
  refine Tri.bb (part57 (by rfl) fun _ => ?_)
  refine Tri.bb (part58 fun _ => ?_)
  refine Tri.bb (part59 fun _ => ?_)
  refine Tri.pre go_spread ?_
  refine Tri.bb (part60 ?_)
  exact H _

/-- The body from there to the last wait. -/
theorem part87 {w : BitVec 32} {k : _ → Prog (TpuEff nD τ sig (Elt F) Λ₀ .tc) α}
    (H : Tri m K c iprop(owesNone c ∗ AWt m c 31 ∗ GWt m c 32 ∗ Sent m c ∗ RowsIn m c ∗ Received c ∗ R) (k ⟨⟩) Q) :
    Tri m K c iprop(AGs m c 2 ∗ Sent m c ∗ RowsIn m c ∗ Received c ∗ AtA c ∗ GWt m c 1 ∗ R) (Prog.bind (onArgs (k0_part87 (F := F)) c w) k) Q := by
  unfold onArgs
  rw [k0_part87_eq_skeleton]
  unfold k0_part87_skel
  refine Tri.bb (part61 ?_)
  refine Tri.bb (part62 fun _ _ => ?_)
  refine Tri.bb (part63 fun _ => ?_)
  refine Tri.bb (part64 ?_)
  refine Tri.bb (part65 fun _ => ?_)
  refine Tri.bb (part66 fun _ _ => ?_)
  refine Tri.bb (part67 ?_)
  refine Tri.bb (part68 ?_)
  refine Tri.bb (part69 fun _ => ?_)
  refine Tri.bb (part70 fun _ _ => ?_)
  refine Tri.bb (part71 ?_)
  refine Tri.pre go_gather ?_
  refine Tri.bb (part72 ?_)
  refine Tri.bb (part73 ?_)
  refine Tri.bb (part74 ?_)
  refine Tri.bb (part75 ?_)
  refine Tri.bb (part76 ?_)
  refine Tri.bb (part77 ?_)
  refine Tri.bb (part78 ?_)
  refine Tri.bb (part79 ?_)
  refine Tri.bb (part80 ?_)
  refine Tri.bb (part81 ?_)
  refine Tri.bb (part82 ?_)
  refine Tri.bb (part83 ?_)
  refine Tri.bb (part84 ?_)
  refine Tri.bb (part85 ?_)
  refine await 27 (by decide) (by decide) rfl ?_
  refine await 28 (by decide) (by decide) rfl ?_
  refine await 29 (by decide) (by decide) rfl ?_
  refine await 30 (by decide) (by decide) rfl ?_
  exact H

/-- All a device holds as it ends. -/
def Final (m : (ℓ : Loc nD τ sig) → Buf (Elt F) ℓ) (c : Dev nD) : SP F :=
  iprop(owesNone c ∗ AWt m c 32 ∗ GWt m c 32 ∗ Sent m c ∗ RowsIn m c ∗ Received c ∗ Held m c)

/-- The whole body. -/
theorem body_run {Q : PUnit → SP F} (H : iprop(Ctx m K ∗ Final m c ∗ R) ⊢ iprop(|={Set.univ}=> Q ⟨⟩)) :
    Tri m K c iprop(Start m c ∗ R) (onArgs (cc0_body (F := F))) Q := by
  unfold onArgs
  rw [cc0_body_eq_skeleton]
  unfold cc0_body_skel
  refine Tri.pre (P' := iprop(SigSt c 1 ∗ ToBar c ∗ KSt m c 0 ∗ VSt m c 0 ∗ AtKV c ∗ (∃ f, biasPts c f) ∗ Opened m c ∗ Later m c ∗ R)) ?_
    (part86 fun _ => part87 ?_)
  · unfold Start
    iintro ⟨⟨H1, H2, H3, H4, H5, H6, H7, H8⟩, HR⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  refine await 31 (by decide) (by decide) rfl ?_
  refine Tri.pre (P' := iprop(Final m c ∗ R)) ?_ (Tri.done H)
  unfold Final
  iintro ⟨H1, H2, H3, H4, H5, H6, H7, HR⟩
  isplitr [HR]
  · isplitl [H1]; · iexact H1
    isplitl [H2]; · iexact H2
    isplitl [H3]; · iexact H3
    isplitl [H4]; · iexact H4
    isplitl [H5]; · iexact H5
    isplitl [H6] <;> iassumption
  iexact HR

end Cert.AttnProof

end
-- ==== Proof.Ends.lean ====
/-
# How a device starts and how it ends

`Given` is what the launch and the pipeline put into a device's hands, `Ended` what they take back.
-/
module

public import proofs.«01_k».proof.Proof.Launch
public import proofs.«01_k».proof.Proof.Body

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {m : (ℓ : Loc nD τ sig) → Buf (Elt F) ℓ} {K : Dev nD × CK → ℕ} {c : Dev nD}

/-! ## The start -/

/-- The positions of the cells that nobody pays: those of a copy from a device to itself. -/
def Idle (c : Dev nD) : SP F := iprop(atPos ER (cell c (kS c)) 0 ∅ 0 ∗ atPos ER (cell c (kR c)) 0 ∅ 0
  ∗ atPos ER (cell c (kA (ai c c))) 0 ∅ 0 ∗ atPos ER (cell c (kG c)) 0 ∅ 0)

theorem at_deal : (atAll c : SP F) ⊢ iprop(atPos ER (cell c kB) 0 ∅ 0 ∗ AtKV c ∗ AtS c ∗ AtA c
    ∗ (bigSep (others c) fun s => atPos ER (cell c (kR s)) 0 ∅ 0) ∗ (bigSep (others c) fun s => atPos ER (cell c (kG s)) 0 ∅ 0) ∗ Idle c) := by
  unfold atAll AtKV AtS AtA Idle
  rw [CKfam, by_device c (fun j => (atPos ER (cell c (kA j)) 0 ∅ 0 : SP F)),
    bigSep_out (Finset.mem_univ c) (Φ := fun t : Dev nD => (atPos ER (cell c (kS t)) 0 ∅ 0 : SP F)),
    bigSep_out (Finset.mem_univ c) (Φ := fun t : Dev nD => (atPos ER (cell c (kR t)) 0 ∅ 0 : SP F)),
    bigSep_out (Finset.mem_univ c) (Φ := fun t : Dev nD => (atPos ER (cell c (kA (ai c t))) 0 ∅ 0 : SP F)),
    bigSep_out (Finset.mem_univ c) (Φ := fun t : Dev nD => (atPos ER (cell c (kG t)) 0 ∅ 0 : SP F))]
  iintro ⟨HB, HK, HV, ⟨HS0, HS⟩, ⟨HR0, HR⟩, ⟨HA0, HA⟩, ⟨HG0, HG⟩⟩
  isplitl [HB]; · iexact HB
  isplitl [HK HV]; · isplitl [HK] <;> iassumption
  isplitl [HS]; · iexact HS
  isplitl [HA]; · iexact HA
  isplitl [HR]; · iexact HR
  isplitl [HG]; · iexact HG
  isplitl [HS0]; · iexact HS0
  isplitl [HR0]; · iexact HR0
  isplitl [HA0] <;> iassumption

theorem kst_one (h : Fin 8) (f : Buf (Elt F) ((c : Thread nD τ).loc cc0_scratch0)) :
    (iprop(kExtPts c h (kx m c) ∗ kPts c h f ∗ dutyTok ER (cell c (kK h)) 0 c) : SP F)
      ⊢ iprop(kExtPts c h (kx m c) ∗ (∃ f, kPts c h f) ∗ dutyTok ER (cell c (kK h)) 0 c) := by
  iintro ⟨H1, H2, H3⟩
  isplitl [H1]; · iexact H1
  isplitl [H2]; · iexists f; iexact H2
  iexact H3
theorem vst_one (h : Fin 8) (f : Buf (Elt F) ((c : Thread nD τ).loc cc0_scratch1)) :
    (iprop(vExtPts c h (vx m c) ∗ vPts c h f ∗ dutyTok ER (cell c (kV h)) 0 c) : SP F)
      ⊢ iprop(vExtPts c h (vx m c) ∗ (∃ f, vPts c h f) ∗ dutyTok ER (cell c (kV h)) 0 c) := by
  iintro ⟨H1, H2, H3⟩
  isplitl [H1]; · iexact H1
  isplitl [H2]; · iexists f; iexact H2
  iexact H3

theorem KSt_of (f : Buf (Elt F) ((c : Thread nD τ).loc cc0_scratch0)) :
    (iprop((bigSep Finset.univ fun h : Fin 8 => kExtPts c h (kx m c)) ∗ (((c : Thread nD τ).loc cc0_scratch0) ↦{fullShare} f)
      ∗ bigSep Finset.univ fun h : Fin 8 => dutyTok ER (cell c (kK h)) 0 c) : SP F) ⊢ KSt m c 0 := by
  unfold KSt
  rw [fam_start _ _ _ _ _ (fun d _ => Nat.zero_le _), k_split, ← bigSep_sep', ← bigSep_sep']
  exact bigSep_mono fun h _ => kst_one h f
theorem VSt_of (f : Buf (Elt F) ((c : Thread nD τ).loc cc0_scratch1)) :
    (iprop((bigSep Finset.univ fun h : Fin 8 => vExtPts c h (vx m c)) ∗ (((c : Thread nD τ).loc cc0_scratch1) ↦{fullShare} f)
      ∗ bigSep Finset.univ fun h : Fin 8 => dutyTok ER (cell c (kV h)) 0 c) : SP F) ⊢ VSt m c 0 := by
  unfold VSt
  rw [fam_start _ _ _ _ _ (fun d _ => Nat.zero_le _), v_split, ← bigSep_sep', ← bigSep_sep']
  exact bigSep_mono fun h _ => vst_one h f

theorem sig_one (d : Dev nD) (f : Buf (Elt F) ((c : Thread nD τ).loc cc0_scratch6)) (g : Buf (Elt F) ((c : Thread nD τ).loc cc0_stg3_0)) :
    (iprop(dutyTok ER (cell d kB) 0 c ∗ rsPts c d f ∗ outPts c d fullShare g) : SP F) ⊢ iprop(dutyTok ER (cell d kB) 0 c ∗ handed c d) := by
  unfold handed
  iintro ⟨H1, H2, H3⟩
  isplitl [H1]; · iexact H1
  isplitl [H2]; · iexists f; iexact H2
  iexists g; iexact H3

theorem SigSt_of (f : Buf (Elt F) ((c : Thread nD τ).loc cc0_scratch6)) (g : Buf (Elt F) ((c : Thread nD τ).loc cc0_stg3_0)) :
    (iprop(owesAny c (O₀ c) ∗ (bigSep (others c) fun d => dutyTok ER (cell d kB) 0 c) ∗ (bigSep (others c) fun d => rsPts c d f)
      ∗ bigSep (others c) fun d => outPts c d fullShare g) : SP F) ⊢ SigSt c 1 := by
  unfold SigSt
  rw [far_one, fam_start _ _ _ _ _ (fun d h => dist_pos (mem_others.mp h)), ← bigSep_sep', ← bigSep_sep']
  exact sep_mono_right (bigSep_mono fun d _ => sig_one d f g)

theorem Waits_R : (iprop((bigSep (others c) fun s => cred (tallyAt (cell c (kR s)) () NR)) ∗ bigSep (others c) fun s => atPos ER (cell c (kR s)) 0 ∅ 0) : SP F)
    ⊢ RWt m c 1 := by
  rw [← bigSep_sep']
  exact RWt_start
theorem Waits_G : (iprop((bigSep (others c) fun s => cred (tallyAt (cell c (kG s)) () NR)) ∗ bigSep (others c) fun s => atPos ER (cell c (kG s)) 0 ∅ 0) : SP F)
    ⊢ GWt m c 1 := by
  rw [← bigSep_sep']
  exact GWt_start

/-- What stays with the launch: the credit, the tokens and the positions, and the keys and values in main memory. -/
def Hand (m : (ℓ : Loc nD τ sig) → Buf (Elt F) ℓ) (c : Dev nD) : SP F :=
  iprop(atAll c ∗ toks c ∗ creds c ∗ (((c : Thread nD τ).loc main_arg2) ↦{fullShare} kx m c) ∗ (((c : Thread nD τ).loc main_arg3) ↦{fullShare} vx m c))
/-- The scratch buffers. -/
def Scratch (c : Dev nD) : SP F :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ ∃ f : Buf (Elt F) ((c : Thread nD τ).loc cc0_scratch6), ((c : Thread nD τ).loc cc0_scratch6) ↦{fullShare} f)
/-- The operands that the pipeline stages. -/
def Staged (m : (ℓ : Loc nD τ sig) → Buf (Elt F) ℓ) (c : Dev nD) : SP F :=
  iprop((((c : Thread nD τ).loc cc0_stg0_0) ↦{fullShare} xv m c) ∗ (((c : Thread nD τ).loc cc0_stg1_0) ↦{fullShare} wqv m c)
    ∗ (((c : Thread nD τ).loc cc0_stg2_0) ↦{fullShare} wov m c))
def Given (m : (ℓ : Loc nD τ sig) → Buf (Elt F) ℓ) (c : Dev nD) : SP F :=
  iprop(owesAny c (O₀ c) ∗ Hand m c ∗ Scratch c ∗ Staged m c
    ∗ ∃ f : Buf (Elt F) ((c : Thread nD τ).loc cc0_stg3_0), ((c : Thread nD τ).loc cc0_stg3_0) ↦{fullShare} f)
/-- What the body leaves alone. -/
def Aside (m : (ℓ : Loc nD τ sig) → Buf (Elt F) ℓ) (c : Dev nD) : SP F := iprop(Idle c ∗ kExtRest c (kx m c) ∗ vExtRest c (vx m c))

/-- What a device is given is what the body starts from, and a rest. -/
theorem start_of : Given m c ⊢ iprop(Start m c ∗ Aside m c) := by
  unfold Given Hand Scratch Staged
  iintro ⟨HO, ⟨Hat, Htok, Hcr, HK, HV⟩, ⟨⟨%f0, H0⟩, ⟨%f1, H1⟩, ⟨%f2, H2⟩, ⟨%f3, H3⟩, ⟨%f4, H4⟩, ⟨%f6, H6⟩⟩, ⟨Hx, Hq, Hw⟩, ⟨%g, Hg⟩⟩
  ihave Hat := at_deal $$ Hat
  icases Hat with ⟨HaB, HaKV, HaS, HaA, HaR, HaG, HI⟩
  ihave Htok := (toks_deal c) $$ Htok
  icases Htok with ⟨HtB, HtK, HtV, Ht1, Ht2⟩
  unfold creds
  icases Hcr with ⟨HcB, HcR, HcG⟩
  ihave HK := (kExt_split c (kx m c)).1 $$ HK
  icases HK with ⟨HK, HKr⟩
  ihave HV := (vExt_split c (vx m c)).1 $$ HV
  icases HV with ⟨HV, HVr⟩
  ihave H6 := (Entails.of_eq ((rs_split c f6).trans (bigSep_out (Finset.mem_univ c)))) $$ H6
  icases H6 with ⟨H6c, H6⟩
  ihave Hg := (Entails.of_eq ((out_split c g).trans (bigSep_out (Finset.mem_univ c)))) $$ Hg
  icases Hg with ⟨Hgc, Hg⟩
  unfold Aside Start ToBar biasPts Opened Later
  isplitr [HI HKr HVr]
  · isplitl [HO HtB H6 Hg]
    · iapply (SigSt_of f6 g)
      isplitl [HO]; · iexact HO
      isplitl [HtB]; · iexact HtB
      isplitl [H6] <;> iassumption
    isplitl [HcB HaB]; · isplitl [HcB] <;> iassumption
    isplitl [HK H0 HtK]
    · iapply (KSt_of f0)
      isplitl [HK]; · iexact HK
      isplitl [H0] <;> iassumption
    isplitl [HV H1 HtV]
    · iapply (VSt_of f1)
      isplitl [HV]; · iexact HV
      isplitl [H1] <;> iassumption
    isplitl [HaKV]; · iexact HaKV
    isplitl [H3]; · iexists f3; iexact H3
    isplitl [Hx Hq Hw H2 H4 Ht1]
    · isplitl [Hx]; · iexact Hx
      isplitl [Hq]; · iexact Hq
      isplitl [Hw]; · iexact Hw
      isplitl [H2]; · iexists f2; iexact H2
      isplitl [H4]; · iexists f4; iexact H4
      iexact Ht1
    isplitl [Ht2]; · iexact Ht2
    isplitl [H6c]; · iexists f6; iexact H6c
    isplitl [Hgc]; · iexists g; iexact Hgc
    isplitl [HaS]; · iexact HaS
    isplitl [HaA]; · iexact HaA
    isplitl [HcR HaR]
    · iapply Waits_R; isplitl [HcR] <;> iassumption
    · iapply Waits_G; isplitl [HcG] <;> iassumption
  · isplitl [HI]; · iexact HI
    isplitl [HKr] <;> iassumption

/-! ## The end -/

/-- A cell that nobody pays closes as it stands. -/
theorem idle_close (k : CK) (h : payers c k = ∅) : iprop(Ctx m K ∗ atPos ER (cell c k) 0 ∅ 0) ⊢ iprop(|={Set.univ}=> semVal (cell c k) 0) :=
  (sep_mono_left (Ctx_inv m K c k)).trans (Rounds.cell_close ER (Rd m) (Set.mem_univ (K (c, k))) (fun h => h) (R := 0) fun r _ => by
    rcases Nat.eq_zero_or_pos r with rfl | hr
    · rw [duties_cell, h]
    · exact duties_later m (cell c k) r hr)

theorem ai_self (c : Dev nD) : (ai c c).val = 0 := by
  show dist c c = 0
  exact dist_self c

/-- All counters of device `c` at zero. -/
theorem sems_all : (iprop(semVal (cell c kB) 0 ∗ (bigSep Finset.univ fun h : Fin 8 => semVal (cell c (kK h)) 0) ∗ (bigSep Finset.univ fun h : Fin 8 => semVal (cell c (kV h)) 0)
    ∗ (semVal (cell c (kS c)) 0 ∗ bigSep (others c) fun t => semVal (cell c (kS t)) 0)
    ∗ (semVal (cell c (kR c)) 0 ∗ bigSep (others c) fun t => semVal (cell c (kR t)) 0)
    ∗ (semVal (cell c (kA (ai c c))) 0 ∗ bigSep (others c) fun t => semVal (cell c (kA (ai c t))) 0)
    ∗ (semVal (cell c (kG c)) 0 ∗ bigSep (others c) fun t => semVal (cell c (kG t)) 0)) : SP F)
    = bigSep Finset.univ fun k : CK => semVal (cell c k) 0 := by
  rw [CKfam, by_device c (fun j => (semVal (cell c (kA j)) 0 : SP F)),
    bigSep_out (Finset.mem_univ c) (Φ := fun t : Dev nD => (semVal (cell c (kS t)) 0 : SP F)),
    bigSep_out (Finset.mem_univ c) (Φ := fun t : Dev nD => (semVal (cell c (kR t)) 0 : SP F)),
    bigSep_out (Finset.mem_univ c) (Φ := fun t : Dev nD => (semVal (cell c (kA (ai c t))) 0 : SP F)),
    bigSep_out (Finset.mem_univ c) (Φ := fun t : Dev nD => (semVal (cell c (kG t)) 0 : SP F))]

/-- The receive slots, each at some contents, are the buffer at some contents. -/
theorem rs_join : (bigSep Finset.univ fun s => iprop(∃ f, rsPts c s f) : SP F) ⊢ iprop(∃ f : Buf (Elt F) ((c : Thread nD τ).loc cc0_scratch6), ((c : Thread nD τ).loc cc0_scratch6) ↦{fullShare} f) := by
  have : Nonempty (Buf (Elt F) ((c : Thread nD τ).loc cc0_scratch6)) := ⟨fun _ => Classical.choice inferInstance⟩
  refine (BI.bigSep_exists_pi Finset.univ (fun s (f : Buf (Elt F) ((c : Thread nD τ).loc cc0_scratch6)) => (rsPts c s f : SP F))).trans ?_
  iintro ⟨%fs, H⟩
  unfold rsPts
  ihave H := (pointsTo_biUnion_join (ℓ := (c : Thread nD τ).loc cc0_scratch6) (q := fullShare) Finset.univ (fun s : Dev nD => (rsM s).view.set) fs (fs c) rs_disj) $$ H
  icases H with ⟨%g, -, H⟩
  iexists g
  rw [← rs_univ]
  iexact H

/-- What a device ends with. -/
def Ended (m : (ℓ : Loc nD τ sig) → Buf (Elt F) ℓ) (c : Dev nD) : SP F :=
  iprop(owesNone c ∗ (bigSep Finset.univ fun k : CK => semVal (cell c k) 0)
    ∗ (((c : Thread nD τ).loc main_arg2) ↦{fullShare} kx m c) ∗ (((c : Thread nD τ).loc main_arg3) ↦{fullShare} vx m c)
    ∗ Scratch c ∗ Staged m c ∗ (((c : Thread nD τ).loc cc0_stg3_0) ↦{fullShare} OUTALL m))

theorem bigSep_halves {T : Type} (S : Finset T) (Φ Ψ : T → SP F) : (bigSep S fun t => iprop(Φ t ∗ Ψ t) : SP F) ⊢ iprop(bigSep S Φ ∗ bigSep S Ψ) :=
  Entails.of_eq (bigSep_sep' S Φ Ψ)

theorem some_one (s : Dev nD) (f : Buf (Elt F) ((c : Thread nD τ).loc cc0_scratch6)) : (rsPts c s f : SP F) ⊢ iprop(∃ f, rsPts c s f) := by
  iintro H
  iexists f; iexact H
theorem some_rs : (iprop((∃ f, rsPts c c f) ∗ bigSep (others c) fun s => rsPts c s (RSALL m c)) : SP F) ⊢ bigSep Finset.univ fun s => iprop(∃ f, rsPts c s f) := by
  rw [bigSep_out (Finset.mem_univ c) (Φ := fun s : Dev nD => (iprop(∃ f, rsPts c s f) : SP F))]
  exact sep_mono_right (bigSep_mono fun s _ => some_one s (RSALL m c))

/-- From the end of the body. -/
theorem ended_of : iprop(Ctx m K ∗ Final m c ∗ Aside m c) ⊢ iprop(|={Set.univ}=> Ended m c) := by
  unfold Final Aside Idle RowsIn Held Ins KVDone Received Sent Heads
  iintro ⟨#HC, ⟨HO, HA, HG, HS, ⟨HP, HRs⟩, HR, ⟨H0, H1, H3, Hx, Hq, Hw⟩, ⟨%f2, -, H2⟩, ⟨HK, HV⟩, Hrc, HB⟩, ⟨HiS, HiR, HiA, HiG⟩, HKr, HVr⟩
  imod (idle_close (K := K) (kS c) (if_pos rfl)) $$ [HiS] with HiS
  · isplitr; · iexact HC
    iexact HiS
  imod (idle_close (K := K) (kR c) (if_pos rfl)) $$ [HiR] with HiR
  · isplitr; · iexact HC
    iexact HiR
  imod (idle_close (K := K) (kA (ai c c)) (if_pos (ai_self c))) $$ [HiA] with HiA
  · isplitr; · iexact HC
    iexact HiA
  imod (idle_close (K := K) (kG c) (if_pos rfl)) $$ [HiG] with HiG
  · isplitr; · iexact HC
    iexact HiG
  imodintro
  ihave HA := AWt_done $$ HA
  icases HA with ⟨HsA, Hoc⟩
  ihave HG := GWt_done $$ HG
  icases HG with ⟨HsG, Hog⟩
  ihave HS := (bigSep_halves (others c) (fun t => semVal (cell c (kS t)) 0) (fun t => partPts c t (PART m c))) $$ HS
  icases HS with ⟨HsS, HPs⟩
  ihave HK := (bigSep_halves Finset.univ (fun h : Fin 8 => semVal (cell c (kK h)) 0) (fun h => kExtPts c h (kx m c))) $$ HK
  icases HK with ⟨HsK, HK⟩
  ihave HV := (bigSep_halves Finset.univ (fun h : Fin 8 => semVal (cell c (kV h)) 0) (fun h => vExtPts c h (vx m c))) $$ HV
  icases HV with ⟨HsV, HV⟩
  unfold Ended Scratch Staged
  isplitl [HO]; · iexact HO
  isplitl [HB HsK HsV HiS HsS HiR HR HiA HsA HiG HsG]
  · iapply (Entails.of_eq (sems_all (F := F) (c := c)))
    isplitl [HB]; · iexact HB
    isplitl [HsK]; · iexact HsK
    isplitl [HsV]; · iexact HsV
    isplitl [HiS HsS]; · isplitl [HiS] <;> iassumption
    isplitl [HiR HR]; · isplitl [HiR] <;> iassumption
    isplitl [HiA HsA]; · isplitl [HiA] <;> iassumption
    isplitl [HiG] <;> iassumption
  isplitl [HK HKr]
  · iapply (kExt_split c (kx m c)).2; isplitl [HK] <;> iassumption
  isplitl [HV HVr]
  · iapply (vExt_split c (vx m c)).2; isplitl [HV] <;> iassumption
  isplitl [H0 H1 H2 H3 HP HPs Hrc HRs]
  · isplitl [H0]; · iexists (KB m c); iexact H0
    isplitl [H1]; · iexists (VB m c); iexact H1
    isplitl [H2]; · iexists f2; iexact H2
    isplitl [H3]; · iexists (k0_pay1 (F := F)); iexact H3
    isplitl [HP HPs]
    · iexists (PART m c)
      iapply (Entails.of_eq ((part_split c (PART m c)).trans (bigSep_out (Finset.mem_univ c))).symm)
      isplitl [HP] <;> iassumption
    iapply rs_join
    iapply some_rs
    isplitl [Hrc] <;> iassumption
  isplitl [Hx Hq Hw]
  · isplitl [Hx]; · iexact Hx
    isplitl [Hq] <;> iassumption
  iapply (Entails.of_eq ((out_split c (OUTALL m)).trans (bigSep_out (Finset.mem_univ c))).symm)
  isplitl [Hoc] <;> iassumption

end Cert.AttnProof

end
-- ==== Proof.Run.lean ====
/-
# The run of the kernel

The launch on 32 devices: each device's body from what it is given to what it ends with; at the end the result array of
every device holds `OUTALL`, its arguments what they held, and every semaphore counter is at zero.
-/
module

public import proofs.«01_k».proof.Proof.Ends
public import Idealize.ShloMosaic.Lib.Pipeline.CollectiveSegs
public import proofs.«01_k».proof.Proof.Gen.KernelIdeal.Points

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at the start. -/
def s₀ : MemSt nD τ sig (Elt F) := ⟨m, fun _ => 0, ρ⟩

/-- What a device holds before the body beside its staging buffers, -/
def start (c : Dev nD) : SP F := iprop((∃ K, Ctx m K) ∗ Hand m c)
def Φ₀ (c : Dev nD) : SP F := iprop(start m c ∗ Scratch c)
/-- and after it. -/
def Φ₁ (c : Dev nD) : SP F := iprop((bigSep Finset.univ fun k : CK => semVal (cell c k) 0)
  ∗ ((((c : Thread nD τ).loc main_arg2) ↦{fullShare} kx m c) ∗ (((c : Thread nD τ).loc main_arg3) ↦{fullShare} vx m c)) ∗ Scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wqv m c
    | ⟨2, _⟩ => wov m c
    | ⟨3, _⟩ => OUTALL m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0
theorem fin_N (t : Fin cfg0.N) : t = t₀ := fin_N0 t

theorem bigSep_W (Φ : Fin cfg0.W → SP F) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : SP F)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : SP F :=
  iprop(∃ f : Buf (Elt F) (((c : Dev nD) : Thread nD τ).loc b), ⌜f = X⌝ ∗ (((c : Thread nD τ).loc b) ↦{fullShare} f))

def bodyPre (c : Dev nD) : SP F :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : SP F :=
  iprop(Φ₁ m c ∗ (dats m ρ 0 c).owesAt () t₀.succ ∗ stg c cc0_stg0_0 (xv m c) ∗ stg c cc0_stg1_0 (wqv m c) ∗ stg c cc0_stg2_0 (wov m c)
    ∗ stg c cc0_stg3_0 (OUTALL m))

theorem pre_given (c : Dev nD) : bodyPre m ρ c ⊢ iprop(∃ K, Ctx m K ∗ Given m c) := by
  unfold bodyPre Φ₀ start Given Staged
  iintro ⟨⟨⟨⟨%K, #HC⟩, HH⟩, Hs⟩, Ho, ⟨%d0, %g0, %hg0, Hx⟩, ⟨%d1, %g1, %hg1, Hq⟩, ⟨%d2, %g2, %hg2, Hw⟩, ⟨%d3, %g3, %hg3, Hout⟩⟩
  have hx : g0 = xv m c := by rw [hg0]; unfold Dat.before; rw [if_pos (fetch0_0 t₀)]; rfl
  have hq : g1 = wqv m c := by rw [hg1]; unfold Dat.before; rw [if_pos (fetch0_1 t₀)]; rfl
  have hw : g2 = wov m c := by rw [hg2]; unfold Dat.before; rw [if_pos (fetch0_2 t₀)]; rfl
  subst hx hq hw
  unfold Dat.owesAt Pipeline.owesWithin
  icases Ho with ⟨%W, %hW, HO⟩
  rw [show (dats m ρ 0 c).owed t₀.castSucc = O₀ c from rfl]
  iexists K
  isplitr; · iexact HC
  isplitl [HO]; · unfold owesAny; iexists W; iexact HO
  isplitl [HH]; · iexact HH
  isplitl [Hs]; · iexact Hs
  isplitl [Hx Hq Hw]
  · isplitl [Hx]; · iexact Hx
    isplitl [Hq] <;> iassumption
  iexists g3; iexact Hout

theorem owesNone_eq (c : Dev nD) : (owesNone c : SP F) = iprop(∃ W, owes (c : Thread nD τ) 0 W) := by
  show owesAny c (Ow c ∅ ∅ ∅) = _
  unfold owesAny
  rw [Ow_nil]

theorem ended_post (c : Dev nD) : Ended m c ⊢ bodyPost m ρ c := by
  unfold bodyPost Φ₁ Ended Staged Dat.owesAt Pipeline.owesWithin
  rw [show (dats m ρ 0 c).owed t₀.succ = 0 from rfl, owesNone_eq]
  iintro ⟨⟨%W, HO⟩, Hz, HK, HV, Hs, ⟨Hx, Hq, Hw⟩, Hout⟩
  isplitl [Hz HK HV Hs]
  · isplitl [Hz]; · iexact Hz
    isplitl [HK HV]; · isplitl [HK] <;> iassumption
    iexact Hs
  isplitl [HO]
  · iexists W
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

/-- The body from what the pipeline hands it to what the pipeline takes back. -/
theorem body_ok (K : Dev nD × CK → ℕ) (c : Dev nD) : Tri m K c (Given m c) (onArgs (cc0_body (F := F))) fun _ => bodyPost m ρ c :=
  Tri.pre start_of (body_run (ended_of.trans (BI.fupd_mono (ended_post m ρ c))))

theorem body_safe (c : Dev nD) : bodyPre m ρ c ⊢ wp frame (wpE (defs₀ (F := F)) 𝒱₀ (c : Thread nD τ) none) Set.univ (onArgs (cc0_body (F := F))) fun _ => bodyPost m ρ c := by
  refine (pre_given m ρ c).trans ?_
  iintro ⟨%K, H⟩
  have h := body_ok m ρ K c
  unfold Tri at h
  iapply h
  iexact H

section
attribute [local irreducible] cc0_body

set_option maxRecDepth 4000 in
/-- The pipeline's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  have hp : defs₀ (F := F) Proc.tc 0 (t₀, cfg0.slots t₀) = onArgs (cc0_body (F := F)) := rfl
  rw [hp]
  refine BI.Entails.trans (Q := bodyPre m ρ c) ?_ ((body_safe m ρ c).trans ?_)
  · exact BI.Entails.refl _
  · exact BI.Entails.refl _
end

/-! ## The launch -/

/-- The kernel's own semaphores are none of the pipeline's, whose numbers are below four. -/
theorem stage_sem_lt (w : Fin 4) (s : Fin (spec0 w).nbuf) : ((spec0 w).sem s).val < 4 := by
  revert s; revert w; decide
theorem ownSemFacts : Pipeline.OwnSemFacts cfg0.spec osem where
  isScoped k := by
    have h : ∀ q : Fin 148, (SemLoc.dma q : SemLoc sig).isScoped .tc = true := by decide
    exact h _
  inj := osem_inj
  disj k w s h := by
    have h1 : (⟨onum k, onum_lt k⟩ : Fin 148) = (spec0 w).sem s := SemLoc.dma.inj h
    have h2 := onum_ge k
    have h3 := stage_sem_lt w s
    rw [← h1] at h3
    dsimp only at h3
    omega

theorem share_eq (c : Dev nD) (w : Fin cfg0.W) : (dats m ρ 0 c).share w = fullShare := by unfold Dat.share; split <;> rfl

theorem scratch_eq (c : Dev nD) : (Pipeline.scopedRest cfg0.spec c : SP F) = Scratch c := by
  unfold Scratch
  exact scopedRest0_eq c

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : SP F)
    = iprop((((c : Thread nD τ).loc main_arg2) ↦{fullShare} kx m c) ∗ (((c : Thread nD τ).loc main_arg3) ↦{fullShare} vx m c)) from unscopedRest0_eq c _]
  unfold G' start Ctx Hand Levs
  iintro ⟨⟨HK, HV⟩, #Hlev, Hcr, -, ⟨%K, #HI, Hat, Htok⟩⟩
  ihave Hc := (creds_of (F := F) c) $$ Hcr
  imodintro
  isplitl
  · isplitr
    · iexists K
      isplitr; · iexact HI
      iexact Hlev
    isplitl [Hat]; · iexact Hat
    isplitl [Htok]; · iexact Htok
    isplitl [Hc]; · iexact Hc
    isplitl [HK] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

/-- What the launch reads at the end: the barrier's counter, the keys and the values. -/
def keptArrs (c : Dev nD) : SP F := iprop((((c : Thread nD τ).loc main_arg2) ↦{fullShare} kx m c) ∗ (((c : Thread nD τ).loc main_arg3) ↦{fullShare} vx m c))

theorem phi1_exit (c : Dev nD) :
    (dats m ρ 0 c).Φ (Fin.last cfg0.N) ⊢ iprop((unscopedSems0 c ∗ keptArrs m c) ∗ Pipeline.ownSems0 osem c ∗ Pipeline.scopedRest cfg0.spec c) := by
  rw [show (dats m ρ 0 c).Φ (Fin.last cfg0.N) = Φ₁ m c from rfl, scratch_eq]
  unfold Φ₁
  rw [sems_CK]
  unfold keptArrs
  iintro ⟨⟨Hu, Ho⟩, Hk, Hs⟩
  isplitl [Hu Hk]
  · isplitl [Hu] <;> iassumption
  isplitl [Ho] <;> iassumption

theorem waits (c : Dev nD) : (levAts L lv : SP F) ⊢ Pipeline.cellsWaits cfgs (dats m ρ) () 0 c :=
  Pipeline.cellsWaits_intro cfgs (dats m ρ) () 0 c fun w s t => by
    have hq : ((spec0 w).sem s).val < 4 := stage_sem_lt w s
    have h0 : hgt (.dma ((spec0 w).sem s)) = 0 := hgt_stage _ hq
    rcases t with ⟨_ | _, ht⟩
    · exact mayWait c (.dma ((spec0 w).sem s)) (others c) (others c) (others c) (Or.inr (by rw [h0]; decide)) (Or.inr (by rw [h0]; decide)) (Or.inr (by rw [h0]; decide))
    · have h := mayWait (F := F) c (.dma ((spec0 w).sem s)) ∅ ∅ ∅ (Or.inl rfl) (Or.inl rfl) (Or.inl rfl)
      rw [Ow_nil] at h
      exact h

/-- What the launch reads off the final memory of device `c` besides the staged arrays. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_one (ℓ : Loc nD τ sig) (f : Buf (Elt F) ℓ) (s' : Phys nD τ sig (Elt F)) :
    (iprop((ℓ ↦{fullShare} f) ∗ SI s') : SP F) ⊢ iprop(⌜s'.mem.mem ℓ = f⌝ ∗ SI s') := by
  have h := Idealize.ShloMosaic.pointsTo_read_all' (Ix := Unit) (Name := ℕ) (U := UU) (Lvl := ℕ) (Finset.univ : Finset Unit) (fun _ => ℓ) (fun _ => f) s' (fun _ => fullShare)
  rw [Finset.univ_unique, bigSep_singleton] at h
  refine h.trans ?_
  iintro ⟨%h, H⟩
  isplitr; · ipureintro; exact h default (Finset.mem_singleton_self _)
  iexact H

theorem read_end (c : Dev nD) (s' : Phys nD τ sig (Elt F)) :
    iprop((unscopedSems0 c ∗ keptArrs m c) ∗ emp ∗ SI s') ⊢ |={Set.univ}=> iprop(⌜QY m c s'.mem⌝ ∗ SI s') := by
  unfold keptArrs
  iintro ⟨⟨Hu, HK, HV⟩, -, HSI⟩
  ihave H := (read_one _ _ s') $$ [HK HSI]
  · isplitl [HK] <;> iassumption
  icases H with ⟨%h2, HSI⟩
  ihave H := (read_one _ _ s') $$ [HV HSI]
  · isplitl [HV] <;> iassumption
  icases H with ⟨%h3, HSI⟩
  imod (Pipeline.unscopedSems0_read (X := unscopedSems0 c) (c := c) fupd_intro s') $$ [Hu HSI] with ⟨%h1, HSI⟩
  · isplitl [Hu] <;> iassumption
  imodintro
  isplitr; · ipureintro; exact ⟨h1, h2, h3⟩
  iexact HSI

def finalA (c : Dev nD) (w : Fin cfg0.W) : Buf (Elt F) ((cfg0.win w).arr.view.loc (c : Thread nD τ)) := (dats m ρ 0 c).arrAt w cfg0.N

/-- The end of the run: the staged arrays at the pipeline's contents, the keys and values unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

end Cert.AttnProof

end
-- ==== Proof.Whole.lean ====
/-
# The whole program

The launch of the kernel on the 32 devices: it ends from any memory with zero counters, and the result of every device
is `OUTALL`.
-/
module

public import proofs.«01_k».proof.Proof.Run

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section
attribute [local irreducible] cc0_body

set_option maxRecDepth 8000 in
/-- From any memory with zero counters every execution on the 32 devices ends, with the staged arrays at what the
    pipeline computes, the keys and values unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ keptArrs m c)) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2.2⟩, sem_eq_zero hs fun c => (h c).2.2.1⟩)

end

/-! ## The arrays at the end -/

theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg1) := (dats (F := F) m ρ 0 c).arrAt_in (1 : Fin 4) rfl _
theorem finalA_2 (c : Dev nD) : finalA m ρ c (2 : Fin 4) = m ((c : Thread nD τ).loc main_arg4) := (dats (F := F) m ρ 0 c).arrAt_in (2 : Fin 4) rfl _

/-- The result array ends holding what the body left in its staging buffer. -/
theorem finalA_3 (c : Dev nD) : finalA m ρ c (3 : Fin 4) = OUTALL m := by
  have h : (win0_3.blk (0 : Fin 1)).view.read (Elt F) (finalA m ρ c (3 : Fin 4)) = OUTALL m := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from flush0_3 _, if_pos rfl]
    exact View.read_write_univ _ _
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  exact (hr _).symm.trans h

/-- The run, read at the buffers of the program. -/
theorem run_read : θ_run defs (onTc (τ := τ) (main (F := F))) (s₀ m ρ) (fun r => (∀ c : Dev nD,
      r.2.mem ((c : Thread nD τ).loc main_v1) = OUTALL m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun r h => ⟨fun c => ⟨((h.1 c).1 (3 : Fin 4)).trans (finalA_3 m ρ c), ((h.1 c).1 (0 : Fin 4)).trans (finalA_0 m ρ c),
    ((h.1 c).1 (1 : Fin 4)).trans (finalA_1 m ρ c), (h.1 c).2.1, (h.1 c).2.2, ((h.1 c).1 (2 : Fin 4)).trans (finalA_2 m ρ c)⟩, h.2⟩) (run_main m ρ)

end Cert.AttnProof

end
-- ==== Proof.Frames.lean ====
/-
# The frames

Each of the three programs ends from any memory with zero counters, leaves its arguments unchanged and every counter at
zero; and the idealized kernel is the kernel with the mask's number and the scale named.
-/
module

public import proofs.«01_k».proof.Defs
public import proofs.«01_k».proof.Proof.Whole
public import proofs.«01_k».proof.Proof.Gen.ReferenceIdeal
public import proofs.«01_k».proof.Proof.Gen.ReferenceIdeal.Run
public import Idealize.ShloMosaic.Lib.Quiescent

@[expose] public section

noncomputable section

namespace Cert.AttnProof

open Idealize.ShloMosaic Idealize.ShloMosaic.TcCoe Idealize.SL.Sem

/-- The idealized kernel: it ends, its arguments unchanged, every counter at zero. -/
theorem frame_ideal [hi : Cert.KernelIdeal.Facts] : Cert.quiescent_KernelIdeal := fun m ρ _ =>
  (θ_run Cert.KernelIdeal.defs _ _).mono (fun _ h => ⟨fun c => (h.1 c).2, h.2⟩) (run_read (F := Ideal) m ρ)

/-- The reference: the same. -/
theorem frame_reference [hi : Cert.ReferenceIdeal.Facts] : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealized kernel's mask is the kernel's number read as −∞, its scale the kernel's read as `1/√128`. -/
theorem preserves : Cert.preserves_Kernel_KernelIdeal :=
  ⟨IdealRules.named_const.statement Cert.KernelIdeal.κ "mask" .f32 0xCE6E6B28#32 ⊥ rfl,
    IdealRules.named_const.statement Cert.KernelIdeal.κ "scale" .f32 0x3DB504F3#32 (((Real.sqrt 128)⁻¹ : ℝ) : EReal) rfl⟩

end Cert.AttnProof

end
-- ==== Proof.Same.lean ====
/-
# The kernel's own frame

The kernel and its idealized text differ in two numbers, the mask's and the scale, which at the bit patterns are the same
numbers. So the run of the idealized text, read at the bit patterns, is the run of the kernel.
-/
module

public import proofs.«01_k».proof.Defs
public import proofs.«01_k».proof.Proof.Whole
public import proofs.«01_k».proof.Proof.Gen.Kernel

@[expose] public section

noncomputable section

namespace Cert.AttnProof

open Idealize.ShloMosaic Idealize.ShloMosaic.TcCoe Idealize.SL.Sem

/-- At the bit patterns a named number is the number written. -/
local instance namedBits : Named Bits where
  named κ name {φ} bits := FloatOps.ofBits φ bits

set_option maxRecDepth 100000 in
set_option maxHeartbeats 1000000 in
/-- The two bodies are one at the bit patterns. -/
theorem body_same : Cert.Kernel.cc0_body (F := Bits) = Cert.KernelIdeal.cc0_body (F := Bits) := rfl

/-- So are the two tables of bodies; -/
theorem calls_same : Cert.Kernel.defs₀ (F := Bits) = Cert.KernelIdeal.defs₀ (F := Bits) := by
  unfold Cert.Kernel.defs₀ Cert.KernelIdeal.defs₀
  refine congrArg Defs.onTc ?_
  funext ℓ x
  fin_cases ℓ
  rcases x with ⟨t, s⟩
  exact congrArg (fun B => onArgs B) body_same
theorem defs_same : Cert.Kernel.defs (F := Bits) = Cert.KernelIdeal.defs (F := Bits) := congrArg (Pipeline.defs Cert.KernelIdeal.pcfgs) calls_same
/-- and the two programs. -/
theorem main_same : Cert.Kernel.main (F := Bits) = Cert.KernelIdeal.main (F := Bits) := rfl

/-- The kernel: it ends, its arguments unchanged, every counter at zero. -/
theorem frame_kernel [hk : Cert.Kernel.Facts] : Cert.quiescent_Kernel := fun m ρ _ => by
  rw [defs_same, main_same]
  exact (θ_run (Cert.KernelIdeal.defs (F := Bits)) _ _).mono (fun _ h => ⟨fun c => (h.1 c).2, h.2⟩) (run_read (F := Bits) m ρ)

end Cert.AttnProof

end
-- ==== Proof.Soft.lean ====
/-
# Softmax over the extended reals

A row of scores of which none is `+∞` and one is finite has the same softmax whether or not the row's maximum is
taken off first; and the finite values are closed under sums and products.
-/
module

public import Idealize.ShloMosaic.PureOps
public import Idealize.ShloMosaic.PureOps.Ideal.Laws

@[expose] public section

noncomputable section

namespace Cert.AttnProof

open Idealize.ShloMosaic

/-- A value that is a real number. -/
def Fine (x : EReal) : Prop := ∃ r : ℝ, x = (r : EReal)

theorem Fine.mul {x y : EReal} (hx : Fine x) (hy : Fine y) : Fine (x * y) := by
  obtain ⟨a, rfl⟩ := hx; obtain ⟨b, rfl⟩ := hy; exact ⟨a * b, (EReal.coe_mul a b).symm⟩

theorem Fine.add {x y : EReal} (hx : Fine x) (hy : Fine y) : Fine (x + y) := by
  obtain ⟨a, rfl⟩ := hx; obtain ⟨b, rfl⟩ := hy; exact ⟨a + b, (EReal.coe_add a b).symm⟩

/-- A sum of real numbers is a real number: their sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem Fine.sum {ι : Type} {s : Finset ι} {f : ι → EReal} (h : ∀ i, Fine (f i)) : Fine (∑ i ∈ s, f i) := by
  choose g hg using h
  exact ⟨∑ i ∈ s, g i, by rw [← coe_sum]; exact Finset.sum_congr rfl fun i _ => hg i⟩

theorem Fine.ne_top {x : EReal} (h : Fine x) : x ≠ ⊤ := by obtain ⟨a, rfl⟩ := h; exact EReal.coe_ne_top a
theorem Fine.ne_bot {x : EReal} (h : Fine x) : x ≠ ⊥ := by obtain ⟨a, rfl⟩ := h; exact EReal.coe_ne_bot a

/-- A value below `+∞` in absolute value is a real number. -/
theorem fine_of_abs {x : EReal} (h : max x (-x) < ⊤) : Fine x := by
  induction x using EReal.rec with
  | bot => simp at h
  | top => simp at h
  | coe r => exact ⟨r, rfl⟩

/-- The exponential of a value other than `+∞`, a real number. -/
def wt (x : EReal) : ℝ := (Ideal.exp x).toReal

theorem exp_wt {x : EReal} (h : x ≠ ⊤) : Ideal.exp x = (wt x : EReal) := by
  induction x using EReal.rec with
  | bot => simp [wt]
  | top => exact absurd rfl h
  | coe r => simp [wt]

theorem wt_nonneg (x : EReal) : 0 ≤ wt x := by
  induction x using EReal.rec with
  | bot => simp [wt]
  | top => simp [wt]
  | coe r => simp [wt]; exact (Real.exp_pos r).le

theorem wt_pos {x : EReal} (h : Fine x) : 0 < wt x := by
  obtain ⟨r, rfl⟩ := h; simp [wt]; exact Real.exp_pos r

/-- Taking a real number off a score divides its exponential. -/
theorem exp_sub {x : EReal} (h : x ≠ ⊤) (M : ℝ) : Ideal.exp (x - (M : EReal)) = ((wt x * Real.exp (-M) : ℝ) : EReal) := by
  induction x using EReal.rec with
  | bot => simp [wt]
  | top => exact absurd rfl h
  | coe r =>
    have hw : wt (r : EReal) = Real.exp r := rfl
    rw [← EReal.coe_sub, Ideal.exp_coe, hw, ← Real.exp_add, sub_eq_add_neg]

/-- The maximum of a row of which one entry is finite and none `+∞`, from `-∞` on, is finite. -/
theorem max_fine {n : ℕ} (t : Fin n → EReal) (ht : ∀ j, t j ≠ ⊤) (j₀ : Fin n) (h₀ : Fine (t j₀)) :
    Fine (Finset.univ.fold max ⊥ t) := by
  have h1 : Finset.univ.fold max ⊥ t < ⊤ :=
    (Finset.fold_max_lt _).mpr ⟨bot_lt_top, fun j _ => lt_top_iff_ne_top.mpr (ht j)⟩
  have h2 : ⊥ < Finset.univ.fold max ⊥ t :=
    (Finset.lt_fold_max _).mpr (Or.inr ⟨j₀, Finset.mem_univ _, bot_lt_iff_ne_bot.mpr h₀.ne_bot⟩)
  generalize Finset.univ.fold max ⊥ t = M at h1 h2
  induction M using EReal.rec with
  | bot => exact absurd h2 (lt_irrefl _)
  | top => exact absurd h1 (lt_irrefl _)
  | coe r => exact ⟨r, rfl⟩

/-- The softmax of such a row, with and without its maximum taken off. -/
theorem soft {n : ℕ} (t : Fin n → EReal) (ht : ∀ j, t j ≠ ⊤) (j₀ : Fin n) (h₀ : Fine (t j₀)) (j : Fin n) :
    Ideal.div (Ideal.exp (t j - Finset.univ.fold max ⊥ t)) (∑ k, Ideal.exp (t k - Finset.univ.fold max ⊥ t))
      = Ideal.div (Ideal.exp (t j)) (∑ k, Ideal.exp (t k)) := by
  obtain ⟨M, hM⟩ := max_fine t ht j₀ h₀
  rw [hM]
  have hpos : 0 < ∑ k, wt (t k) :=
    Finset.sum_pos' (fun k _ => wt_nonneg (t k)) ⟨j₀, Finset.mem_univ _, wt_pos h₀⟩
  have e1 : (∑ k, Ideal.exp (t k)) = ((∑ k, wt (t k) : ℝ) : EReal) := by
    rw [← coe_sum]; exact Finset.sum_congr rfl fun k _ => exp_wt (ht k)
  have e2 : (∑ k, Ideal.exp (t k - (M : EReal))) = (((∑ k, wt (t k)) * Real.exp (-M) : ℝ) : EReal) := by
    rw [Finset.sum_mul, ← coe_sum]; exact Finset.sum_congr rfl fun k _ => exp_sub (ht k) M
  have hr : Real.exp (-M) ≠ 0 := (Real.exp_pos _).ne'
  rw [e1, e2, exp_sub (ht j) M, exp_wt (ht j), Ideal.div_coe (mul_ne_zero hpos.ne' hr), Ideal.div_coe hpos.ne',
    ← EReal.coe_mul, ← EReal.coe_mul]
  congr 1
  field_simp

end Cert.AttnProof

end
-- ==== Proof.Spec.lean ====
/-
# The attention layer, entry by entry

Over the whole arrays, as extended reals: the queries, the scores, which pairs the mask keeps, the weights of a row and
the context, each as a function of its coordinates.
-/
module

public import proofs.«01_k».proof.Proof.Soft
public import Idealize.ShloMosaic.Lib.ValueIdx
public import Idealize.ShloMosaic.Lib.ValueIdxCore
public import Idealize.ShloMosaic.Lib.ValueIdxRank1

@[expose] public section

noncomputable section

namespace Cert.AttnProof

open Idealize.ShloMosaic
open Idealize.ShloMosaic.ValueIdx

/-- The number by which the scores are multiplied: one over the root of a head's length. -/
def scaleNum : EReal := (((Real.sqrt 128)⁻¹ : ℝ) : EReal)

/-- The bit that says whether query `i` sees key `j`: they are at most 128 apart, or one of them is among the first 32. -/
def keepBit (i j : Fin 1024) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- A set bit or-ed with any bit is set. -/
theorem ori_one : ∀ b : BitVec 1, IntOp.ori 1#1 b = 1#1 := by decide

/-- Every query sees its own key. -/
theorem keepBit_self (i : Fin 1024) : keepBit i i = 1#1 := by
  unfold keepBit
  have h : IntOp.cmpi .sle (IntOp.absi (IntOp.subi (BitVec.ofNat 32 i.val) (BitVec.ofNat 32 i.val))) 128#32 = 1#1 := by
    have : IntOp.subi (BitVec.ofNat 32 i.val) (BitVec.ofNat 32 i.val) = 0#32 := by simp [IntOp.subi]
    rw [this]; decide
  rw [h]
  exact ori_one _

abbrev ShX : Shape := ⟨3, ![1, 1024, 1024]⟩
abbrev ShW : Shape := ⟨2, ![1024, 32768]⟩
abbrev ShK : Shape := ⟨4, ![1, 1024, 256, 128]⟩
abbrev ShO : Shape := ⟨2, ![32768, 1024]⟩

variable (X : ShX.Idx → EReal) (W : ShW.Idx → EReal) (K V : ShK.Idx → EReal) (O : ShO.Idx → EReal)

/-- Column `d` of head `h` among all 32768 columns. -/
def colOf (h : Fin 256) (d : Fin 128) : Fin 32768 := ⟨128 * h.val + d.val, by have := h.isLt; have := d.isLt; omega⟩

/-- The queries. -/
def qSpec (i : Fin 1024) (n : Fin 32768) : EReal := ∑ k : Fin 1024, X (ix3 0 i k) * W (ix2 k n)
/-- The scaled scores. -/
def sSpec (h : Fin 256) (i j : Fin 1024) : EReal :=
  (∑ d : Fin 128, qSpec X W i (colOf h d) * K (ix4 0 j h d)) * scaleNum
/-- The masked scores: `-∞` where the query does not see the key. -/
def tSpec (h : Fin 256) (i j : Fin 1024) : EReal := Scalar.select (keepBit i j) (sSpec X W K h i j) ⊥
/-- The weights: the softmax of a row. -/
def wSpec (h : Fin 256) (i j : Fin 1024) : EReal :=
  Ideal.div (Ideal.exp (tSpec X W K h i j)) (∑ k : Fin 1024, Ideal.exp (tSpec X W K h i k))
/-- The context. -/
def cSpec (i : Fin 1024) (h : Fin 256) (d : Fin 128) : EReal := ∑ j : Fin 1024, wSpec X W K h i j * V (ix4 0 j h d)
/-- The head of a column and the place in it. -/
def headOf (n : Fin 32768) : Fin 256 := ⟨n.val / 128, by have := n.isLt; omega⟩
def placeOf (n : Fin 32768) : Fin 128 := ⟨n.val % 128, Nat.mod_lt _ (by decide)⟩
/-- The layer's result. -/
def oSpec (i o : Fin 1024) : EReal := ∑ n : Fin 32768, cSpec X W K V i (headOf n) (placeOf n) * O (ix2 n o)

/-- The scale is a real number. -/
theorem scale_fine : Fine scaleNum := ⟨_, rfl⟩

variable {X W K}

/-- The scores of finite arrays are finite, -/
theorem sSpec_fine (hX : ∀ i, Fine (X i)) (hW : ∀ i, Fine (W i)) (hK : ∀ i, Fine (K i)) (h : Fin 256) (i j : Fin 1024) :
    Fine (sSpec X W K h i j) :=
  Fine.mul (Fine.sum fun d => Fine.mul (Fine.sum fun k => Fine.mul (hX _) (hW _)) (hK _)) scale_fine

/-- so a masked score is never `+∞`, -/
theorem tSpec_ne_top (hX : ∀ i, Fine (X i)) (hW : ∀ i, Fine (W i)) (hK : ∀ i, Fine (K i)) (h : Fin 256) (i j : Fin 1024) :
    tSpec X W K h i j ≠ ⊤ := by
  unfold tSpec
  by_cases hb : keepBit i j = 1#1
  · rw [hb, select_one]; exact (sSpec_fine hX hW hK h i j).ne_top
  · rw [eq_zero_of_ne_one hb, select_zero]; exact bot_ne_top

/-- and that of a query's own key is finite. -/
theorem tSpec_self (hX : ∀ i, Fine (X i)) (hW : ∀ i, Fine (W i)) (hK : ∀ i, Fine (K i)) (h : Fin 256) (i : Fin 1024) :
    Fine (tSpec X W K h i i) := by
  unfold tSpec
  rw [keepBit_self, select_one]; exact sSpec_fine hX hW hK h i i

/-- The weights with the row's maximum taken off first are the weights. -/
theorem wSpec_max (hX : ∀ i, Fine (X i)) (hW : ∀ i, Fine (W i)) (hK : ∀ i, Fine (K i)) (h : Fin 256) (i j : Fin 1024) :
    Ideal.div (Ideal.exp (tSpec X W K h i j - Finset.univ.fold max ⊥ (tSpec X W K h i)))
        (∑ k, Ideal.exp (tSpec X W K h i k - Finset.univ.fold max ⊥ (tSpec X W K h i)))
      = wSpec X W K h i j :=
  soft (tSpec X W K h i) (tSpec_ne_top hX hW hK h i) i (tSpec_self hX hW hK h i) j

/-- The masked score is the score plus the mask's bias: zero where the query sees the key, `-∞` elsewhere. -/
theorem tSpec_bias (h : Fin 256) (i j : Fin 1024) :
    sSpec X W K h i j + Scalar.select (keepBit i j) 0 ⊥ = tSpec X W K h i j := by
  unfold tSpec
  by_cases hb : keepBit i j = 1#1
  · rw [hb, select_one, select_one, add_zero]
  · rw [eq_zero_of_ne_one hb, select_zero, select_zero, EReal.add_bot]

/-- Or-ing bits of which one is set gives a set bit. -/
theorem fold_ori {n : ℕ} (f : Fin n → BitVec 1) (b : BitVec 1) (k : Fin n) (hk : f k = 1#1) :
    (Finset.univ : Finset (Fin n)).fold (IntOp.ori (w := 1)) b f = 1#1 := by
  classical
  rw [← Finset.insert_erase (Finset.mem_univ k), Finset.fold_insert (Finset.notMem_erase k _), hk]
  exact ori_one _

end Cert.AttnProof

end
-- ==== Proof.RefValue.lean ====
/-
# The reference's result, entry by entry

The reference's composed term is the attention layer of `Spec`, at every index, for finite `x`, `Wq` and keys.
-/
module

public import proofs.«01_k».proof.Proof.Spec
public import proofs.«01_k».proof.Proof.Gen.ReferenceIdeal
public import proofs.«01_k».proof.Proof.Gen.ReferenceIdeal.Run
public import Idealize.ShloMosaic.Lib.Pipeline.Value
public import Idealize.ShloMosaic.PureOps.Reduce

@[expose] public section

noncomputable section

namespace Cert.AttnProof

open Idealize.ShloMosaic
open Idealize.ShloMosaic.ValueIdx

/-- A product summed over a one-axis contraction, by the contracted coordinate. -/
theorem sum_contr {sl sr so : Shape} (D : DotDims sl sr so) (n : ℕ) (hr : D.contr.rank = 1)
    (hs : D.contr.size ⟨0, by omega⟩ = n) (l : sl.Idx → EReal) (r : sr.Idx → EReal) (j : so.Idx)
    (L : Fin n → sl.Idx) (R : Fin n → sr.Idx) (hL : ∀ q, D.lhsIdx j q = L (contrEquiv1 D n hr hs q))
    (hR : ∀ q, D.rhsIdx j q = R (contrEquiv1 D n hr hs q)) :
    ∑ q, l (D.lhsIdx j q) * r (D.rhsIdx j q) = ∑ k : Fin n, l (L k) * r (R k) := by
  rw [← Equiv.sum_comp (contrEquiv1 D n hr hs) fun k => l (L k) * r (R k)]
  exact Finset.sum_congr rfl fun q _ => by rw [hL q, hR q]

end Cert.AttnProof

namespace Cert.AttnProof.Ref

open Cert.ReferenceIdeal Cert.ReferenceIdeal.Gen
open Idealize.ShloMosaic
open Idealize.ShloMosaic.TcCoe
open Idealize.ShloMosaic.ValueIdx

/-- The mask. -/
def maskR : IVec S1024x1024 1 :=
  ori (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32))) (ori (broadcastInDim S1024x1024 ![0, 1] bcast_S1x1024_S1024x1024_0_1 (cmpi .slt (broadcastInDim S1x1024 ![1] bcast_S1024_S1x1024_1 (iotaInDim S1024 32 0)) (broadcastInDim S1x1024 ![] bcast_S_S1x1024 (constantI S_ 32 32#32)))) (broadcastInDim S1024x1024 ![0, 1] bcast_S1024x1_S1024x1024_0_1 (cmpi .slt (broadcastInDim S1024x1 ![0] bcast_S1024_S1024x1_0 (iotaInDim S1024 32 0)) (broadcastInDim S1024x1 ![] bcast_S_S1024x1 (constantI S_ 32 32#32)))))
/-- Which rows keep an entry. -/
def keepR : IVec S1024 1 := Host.reduce IntOp.ori maskR (constantI S_ 1 0#1) reducesTo_S1024x1024_S1024_d1 h_S_

variable (x : FVec Ideal S1x1024x1024 .f32) (w : FVec Ideal S1024x32768 .f32) (k v : FVec Ideal S1x1024x256x128 .f32)
  (o : FVec Ideal S32768x1024 .f32)

/-- The queries, cut into heads. -/
def qR : FVec Ideal S1x1024x256x128 .f32 :=
  shapeCast _ (Host.dotGeneral dot_S1x1024x1024_S1024x32768_S1x1024x32768_2_0_01_1_n_n none x w) shapeCasts_S1x1024x32768_S1x1024x256x128
/-- The masked scores. -/
def tR (q : FVec Ideal S1x1024x256x128 .f32) : FVec Ideal S1x256x1024x1024 .f32 :=
  select (broadcastInDim S1x256x1024x1024 ![0, 1, 2, 3] bcast_S1x1x1024x1024_S1x256x1024x1024_0_1_2_3 (broadcastInDim S1x1x1024x1024 ![2, 3] bcast_S1024x1024_S1x1x1024x1024_2_3 maskR)) (Host.divf (Host.dotGeneral dot_S1x1024x256x128_S1x1024x256x128_S1x256x1024x1024_3_3_1_1_02_02 none q k) (broadcastInDim S1x256x1024x1024 ![] bcast_S_S1x256x1024x1024 (Host.sqrt (constant S_ .f32 0x43000000#32)))) (broadcastInDim S1x256x1024x1024 ![] bcast_S_S1x256x1024x1024 (id (constant S_ .f32 0xFF800000#32)))
/-- The exponentials of the scores less their row's maximum. -/
def eR (t : FVec Ideal S1x256x1024x1024 .f32) : FVec Ideal S1x256x1024x1024 .f32 :=
  Host.exp (subf t (broadcastInDim S1x256x1024x1024 ![0, 1, 2, 3] bcast_S1x256x1024x1_S1x256x1024x1024_0_1_2_3 (broadcastInDim S1x256x1024x1 ![0, 1, 2] bcast_S1x256x1024_S1x256x1024x1_0_1_2 (Host.reduce FloatOps.maximumf t (constant S_ .f32 0xFF800000#32) reducesTo_S1x256x1024x1024_S1x256x1024_d3 h_S_))))
/-- The weights. -/
def wR (e : FVec Ideal S1x256x1024x1024 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 keepR)) (Host.divf e (broadcastInDim S1x256x1024x1024 ![0, 1, 2, 3] bcast_S1x256x1024x1_S1x256x1024x1024_0_1_2_3 (select (broadcastInDim S1x256x1024x1 ![0, 1, 2, 3] bcast_S1x1x1024x1_S1x256x1024x1_0_1_2_3 (broadcastInDim S1x1x1024x1 ![2] bcast_S1024_S1x1x1024x1_2 keepR)) (broadcastInDim S1x256x1024x1 ![0, 1, 2] bcast_S1x256x1024_S1x256x1024x1_0_1_2 (Host.reduceAdd e (constant S_ .f32 0x00000000#32) reducesTo_S1x256x1024x1024_S1x256x1024_d3 h_S_)) (broadcastInDim S1x256x1024x1 ![] bcast_S_S1x256x1024x1 (id (constant S_ .f32 0x3F800000#32)))))) (broadcastInDim S1x256x1024x1024 ![] bcast_S_S1x256x1024x1024 (id (constant S_ .f32 0x00000000#32)))
/-- The context, its heads side by side. -/
def cR (p : FVec Ideal S1x256x1024x1024 .f32) : FVec Ideal S1x1024x32768 .f32 :=
  shapeCast _ (transpose S1x1024x256x128 [0, 3, 1, 2] (Host.dotGeneral dot_S1x1024x256x128_S1x256x1024x1024_S1x256x128x1024_1_3_3_2_02_01 none v p) transposes_S1x256x128x1024_S1x1024x256x128_0_3_1_2) shapeCasts_S1x1024x256x128_S1x1024x32768
/-- The result. -/
def oR (c : FVec Ideal S1x1024x32768 .f32) : FVec Ideal S1024x1024 .f32 :=
  shapeCast _ (Host.dotGeneral dot_S1x1024x32768_S32768x1024_S1x1024x1024_2_0_01_1_n_n none c o) shapeCasts_S1x1024x1024_S1024x1024

set_option maxRecDepth 8192 in
/-- The reference's composed term, in these parts. -/
theorem res_eq (m : (ℓ : Loc nD τ sig) → Buf (Elt Ideal) ℓ) (c : Dev nD) :
    Value.res_out0 m c = oR (m ((c.tc : Thread nD τ).loc main_arg4)) (cR (m ((c.tc : Thread nD τ).loc main_arg3))
      (wR (eR (tR (m ((c.tc : Thread nD τ).loc main_arg2)) (qR (m ((c.tc : Thread nD τ).loc main_arg0)) (m ((c.tc : Thread nD τ).loc main_arg1))))))) := rfl

/-- The mask's bit of a pair. -/
theorem maskR_apply (i j : Fin 1024) : maskR (ix2 i j) = keepBit i j := rfl

/-- Every row keeps an entry. -/
theorem keepR_apply (i : Fin 1024) : keepR (ix1 i) = 1#1 := by
  have hR : S1024x1024.Reduces [1] S1024 := by decide
  unfold keepR
  rw [Host.reduce_eq_fold_single _ _ _ _ hR]
  refine fold_ori _ _ i ?_
  show maskR (hR.lift (ix1 i) i) = 1#1
  have : hR.lift (ix1 i) i = ix2 i i := by
    funext a; match a with
    | ⟨0, _⟩ => rfl
    | ⟨1, _⟩ => rfl
  rw [this, maskR_apply, keepBit_self]

theorem qR_apply (i : Fin 1024) (h : Fin 256) (d : Fin 128) :
    qR x w (ix4 0 i h d) = qSpec x w i (colOf h d) := by
  refine (shapeCast_apply _ shapeCasts_S1x1024x32768_S1x1024x256x128 (ix4 0 i h d) (ix3 0 i (colOf h d)) ?_).trans ?_
  · rw [Shape.rowMajor_val_three, Shape.rowMajor_val_four]
    show (0 * 1024 + i.val) * 32768 + (128 * h.val + d.val) = ((0 * 1024 + i.val) * 256 + h.val) * 128 + d.val
    omega
  · refine (Ideal.dotGeneral_apply _ _ _ _ _ _).trans ?_
    refine sum_contr dot_S1x1024x1024_S1024x32768_S1x1024x32768_2_0_01_1_n_n 1024 rfl rfl x w (ix3 0 i (colOf h d))
      (fun q => ix3 0 i q) (fun q => ix2 q (colOf h d)) ?_ ?_
    · intro q; funext a; match a with
      | ⟨0, _⟩ => rfl
      | ⟨1, _⟩ => rfl
      | ⟨2, _⟩ => rfl
    · intro q; funext a; match a with
      | ⟨0, _⟩ => rfl
      | ⟨1, _⟩ => rfl

variable {x w k v o}

/-- Dividing by the root of a head's length is multiplying by the scale. -/
theorem div_root (a : EReal) : Ideal.div a (Ideal.sqrt (Ideal.ofBits .f32 0x43000000#32)) = a * scaleNum := by
  have h : Ideal.ofBits .f32 0x43000000#32 = ((128 : ℝ) : EReal) := by
    simp [Ideal.ofBits, Ideal.ieee, -EReal.coe_mul]
    norm_num
  have hn : ¬ (128 : ℝ) < 0 := by norm_num
  have hp : Real.sqrt 128 ≠ 0 := (Real.sqrt_pos.mpr (by norm_num)).ne'
  rw [h, Ideal.sqrt_coe, if_neg hn, Ideal.div_coe hp, one_div]
  rfl

/-- The masked scores, of queries known entry by entry. -/
theorem tR_apply {q : FVec Ideal S1x1024x256x128 .f32} (hq : ∀ i h d, q (ix4 0 i h d) = qSpec x w i (colOf h d))
    (h : Fin 256) (i j : Fin 1024) : tR k q (ix4 0 h i j) = tSpec x w k h i j := by
  have e : FloatOps.dotGeneral dot_S1x1024x256x128_S1x1024x256x128_S1x256x1024x1024_3_3_1_1_02_02 none .single q k (ix4 0 h i j)
      = ∑ d : Fin 128, qSpec x w i (colOf h d) * k (ix4 0 j h d) := by
    refine (Ideal.dotGeneral_apply _ _ _ _ _ _).trans ?_
    refine (sum_contr dot_S1x1024x256x128_S1x1024x256x128_S1x256x1024x1024_3_3_1_1_02_02 128 rfl rfl q k (ix4 0 h i j)
      (fun d => ix4 0 i h d) (fun d => ix4 0 j h d) ?_ ?_).trans (Finset.sum_congr rfl fun d _ => by rw [hq])
    · intro q; funext a; match a with
      | ⟨0, _⟩ => rfl
      | ⟨1, _⟩ => rfl
      | ⟨2, _⟩ => rfl
      | ⟨3, _⟩ => rfl
    · intro q; funext a; match a with
      | ⟨0, _⟩ => rfl
      | ⟨1, _⟩ => rfl
      | ⟨2, _⟩ => rfl
      | ⟨3, _⟩ => rfl
  have hb : Ideal.ofBits .f32 0xFF800000#32 = ⊥ := by simp [Ideal.ofBits, Ideal.ieee]
  show Scalar.select (maskR (ix2 i j)) (Ideal.div (FloatOps.dotGeneral dot_S1x1024x256x128_S1x1024x256x128_S1x256x1024x1024_3_3_1_1_02_02 none .single q k (ix4 0 h i j))
      (Ideal.sqrt (Ideal.ofBits .f32 0x43000000#32))) (Ideal.ofBits .f32 0xFF800000#32) = _
  rw [e, hb, maskR_apply, div_root]
  rfl

/-- A value per row, spread over the row. -/
theorem spread_apply {α : Type} (f : S1x256x1024x1.Idx → α) (h : Fin 256) (i j : Fin 1024) :
    broadcastInDim S1x256x1024x1024 ![0, 1, 2, 3] bcast_S1x256x1024x1_S1x256x1024x1024_0_1_2_3 f (ix4 0 h i j) = f (ix4 0 h i 0) :=
  broadcastInDim_apply _ _ _ _ _ fun a => match a with
    | ⟨0, _⟩ => rfl
    | ⟨1, _⟩ => rfl
    | ⟨2, _⟩ => rfl
    | ⟨3, _⟩ => rfl

/-- A value per row, with a unit axis put behind. -/
theorem column_apply {α : Type} (f : S1x256x1024.Idx → α) (h : Fin 256) (i : Fin 1024) :
    broadcastInDim S1x256x1024x1 ![0, 1, 2] bcast_S1x256x1024_S1x256x1024x1_0_1_2 f (ix4 0 h i 0) = f (ix3 0 h i) :=
  broadcastInDim_apply _ _ _ _ _ fun a => match a with
    | ⟨0, _⟩ => rfl
    | ⟨1, _⟩ => rfl
    | ⟨2, _⟩ => rfl

/-- Whether a row keeps an entry, spread over the heads; -/
theorem keepCol_apply (h : Fin 256) (i : Fin 1024) :
    broadcastInDim S1x256x1024x1 ![0, 1, 2, 3] bcast_S1x1x1024x1_S1x256x1024x1_0_1_2_3 (broadcastInDim S1x1x1024x1 ![2] bcast_S1024_S1x1x1024x1_2 keepR) (ix4 0 h i 0) = 1#1 :=
  ((broadcastInDim_apply _ _ _ _ (ix4 0 0 i 0) fun a => match a with
    | ⟨0, _⟩ => rfl
    | ⟨1, _⟩ => rfl
    | ⟨2, _⟩ => rfl
    | ⟨3, _⟩ => rfl).trans (broadcastInDim_apply _ _ _ _ (ix1 i) fun a => match a with
    | ⟨0, _⟩ => rfl)).trans (keepR_apply i)

/-- and over the row as well. -/
theorem keepAll_apply (h : Fin 256) (i j : Fin 1024) :
    broadcastInDim S1x256x1024x1024 ![0, 1, 2, 3] bcast_S1x1x1024x1_S1x256x1024x1024_0_1_2_3 (broadcastInDim S1x1x1024x1 ![2] bcast_S1024_S1x1x1024x1_2 keepR) (ix4 0 h i j) = 1#1 :=
  ((broadcastInDim_apply _ _ _ _ (ix4 0 0 i 0) fun a => match a with
    | ⟨0, _⟩ => rfl
    | ⟨1, _⟩ => rfl
    | ⟨2, _⟩ => rfl
    | ⟨3, _⟩ => rfl).trans (broadcastInDim_apply _ _ _ _ (ix1 i) fun a => match a with
    | ⟨0, _⟩ => rfl)).trans (keepR_apply i)

/-- The exponentials, of a row known entry by entry. -/
theorem eR_apply {t : FVec Ideal S1x256x1024x1024 .f32} {T : Fin 256 → Fin 1024 → Fin 1024 → EReal}
    (ht : ∀ h i j, t (ix4 0 h i j) = T h i j) (h : Fin 256) (i j : Fin 1024) :
    eR t (ix4 0 h i j) = Ideal.exp (T h i j - Finset.univ.fold max ⊥ (T h i)) := by
  have hR : S1x256x1024x1024.Reduces [3] S1x256x1024 := by decide
  have hb : Ideal.ofBits .f32 0xFF800000#32 = ⊥ := by simp [Ideal.ofBits, Ideal.ieee]
  have e : Host.reduce FloatOps.maximumf t (constant S_ .f32 0xFF800000#32) reducesTo_S1x256x1024x1024_S1x256x1024_d3 h_S_ (ix3 0 h i)
      = Finset.univ.fold max ⊥ (T h i) := by
    rw [Host.reduce_eq_fold_single _ _ _ _ hR]
    show Finset.univ.fold max (Ideal.ofBits .f32 0xFF800000#32) (t ∘ hR.lift (ix3 0 h i)) = _
    rw [hb]
    congr 1
    funext j
    refine Eq.trans ?_ (ht h i j)
    show t _ = t _
    congr 1
    funext a; match a with
      | ⟨0, _⟩ => rfl
      | ⟨1, _⟩ => rfl
      | ⟨2, _⟩ => rfl
      | ⟨3, _⟩ => rfl
  refine congrArg Ideal.exp (congrArg₂ (fun a b : EReal => a - b) (ht h i j) ?_)
  exact (spread_apply _ h i j).trans ((column_apply _ h i).trans e)

/-- The host's quotient at an index. -/
theorem hostDivf_apply {s : Shape} (a b : FVec Ideal s .f32) (i : s.Idx) : Host.divf a b i = Ideal.div (a i) (b i) := rfl

/-- The weights: each exponential over its row's sum. -/
theorem wR_apply {e : FVec Ideal S1x256x1024x1024 .f32} {E : Fin 256 → Fin 1024 → Fin 1024 → EReal}
    (he : ∀ h i j, e (ix4 0 h i j) = E h i j) (h : Fin 256) (i j : Fin 1024) :
    wR e (ix4 0 h i j) = Ideal.div (E h i j) (∑ l : Fin 1024, E h i l) := by
  have hR : S1x256x1024x1024.Reduces [3] S1x256x1024 := by decide
  have hs : Host.reduceAdd e (constant S_ .f32 0x00000000#32) reducesTo_S1x256x1024x1024_S1x256x1024_d3 h_S_ (ix3 0 h i)
      = ∑ l : Fin 1024, E h i l := by
    refine (Ideal.hostReduceAdd_single reducesTo_S1x256x1024x1024_S1x256x1024_d3 hR e _ (ix3 0 h i)).trans ?_
    show Ideal.ofBits .f32 0x00000000#32 + _ = _
    rw [Ideal.ofBits_zero_f32, zero_add]
    refine Finset.sum_congr rfl fun l _ => Eq.trans ?_ (he h i l)
    show e _ = e _
    congr 1
    funext a; match a with
      | ⟨0, _⟩ => rfl
      | ⟨1, _⟩ => rfl
      | ⟨2, _⟩ => rfl
      | ⟨3, _⟩ => rfl
  unfold wR
  rw [select_apply, keepAll_apply, select_one, hostDivf_apply, he, spread_apply, select_apply, keepCol_apply, select_one,
    column_apply, hs]

/-- The context. -/
theorem cR_apply {p : FVec Ideal S1x256x1024x1024 .f32} (hp : ∀ h i j, p (ix4 0 h i j) = wSpec x w k h i j)
    (i : Fin 1024) (n : Fin 32768) : cR v p (ix3 0 i n) = cSpec x w k v i (headOf n) (placeOf n) := by
  refine (shapeCast_apply _ shapeCasts_S1x1024x256x128_S1x1024x32768 (ix3 0 i n) (ix4 0 i (headOf n) (placeOf n)) ?_).trans ?_
  · rw [Shape.rowMajor_val_three, Shape.rowMajor_val_four]
    show ((0 * 1024 + i.val) * 256 + n.val / 128) * 128 + n.val % 128 = (0 * 1024 + i.val) * 32768 + n.val
    omega
  refine (transpose_apply _ _ transposes_S1x256x128x1024_S1x1024x256x128_0_3_1_2 (ix4 0 i (headOf n) (placeOf n))
    (ix4 0 (headOf n) (placeOf n) i) ?_).trans ?_
  · intro b; match b with
      | ⟨0, _⟩ => rfl
      | ⟨1, _⟩ => rfl
      | ⟨2, _⟩ => rfl
      | ⟨3, _⟩ => rfl
  refine (Ideal.dotGeneral_apply _ _ _ _ _ _).trans ?_
  refine (sum_contr dot_S1x1024x256x128_S1x256x1024x1024_S1x256x128x1024_1_3_3_2_02_01 1024 rfl rfl v p
    (ix4 0 (headOf n) (placeOf n) i) (fun j => ix4 0 j (headOf n) (placeOf n)) (fun j => ix4 0 (headOf n) i j) ?_ ?_).trans
    (Finset.sum_congr rfl fun j _ => by rw [hp, mul_comm])
  · intro q; funext a; match a with
      | ⟨0, _⟩ => rfl
      | ⟨1, _⟩ => rfl
      | ⟨2, _⟩ => rfl
      | ⟨3, _⟩ => rfl
  · intro q; funext a; match a with
      | ⟨0, _⟩ => rfl
      | ⟨1, _⟩ => rfl
      | ⟨2, _⟩ => rfl
      | ⟨3, _⟩ => rfl

/-- The result. -/
theorem oR_apply {c : FVec Ideal S1x1024x32768 .f32} (hc : ∀ i n, c (ix3 0 i n) = cSpec x w k v i (headOf n) (placeOf n))
    (i j : Fin 1024) : oR o c (ix2 i j) = oSpec x w k v o i j := by
  refine (shapeCast_apply _ shapeCasts_S1x1024x1024_S1024x1024 (ix2 i j) (ix3 0 i j) ?_).trans ?_
  · rw [Shape.rowMajor_val_three, Shape.rowMajor_val_two]
    show (0 * 1024 + i.val) * 1024 + j.val = i.val * 1024 + j.val
    omega
  refine (Ideal.dotGeneral_apply _ _ _ _ _ _).trans ?_
  refine (sum_contr dot_S1x1024x32768_S32768x1024_S1x1024x1024_2_0_01_1_n_n 32768 rfl rfl c o (ix3 0 i j)
    (fun n => ix3 0 i n) (fun n => ix2 n j) ?_ ?_).trans (Finset.sum_congr rfl fun n _ => by rw [hc])
  · intro q; funext a; match a with
      | ⟨0, _⟩ => rfl
      | ⟨1, _⟩ => rfl
      | ⟨2, _⟩ => rfl
  · intro q; funext a; match a with
      | ⟨0, _⟩ => rfl
      | ⟨1, _⟩ => rfl

/-- **The reference's result is the attention layer**, for finite `x`, `Wq` and keys. -/
theorem res_apply (m : (ℓ : Loc nD τ sig) → Buf (Elt Ideal) ℓ) (c : Dev nD)
    (hx : ∀ i, Fine (m ((c.tc : Thread nD τ).loc main_arg0) i)) (hw : ∀ i, Fine (m ((c.tc : Thread nD τ).loc main_arg1) i))
    (hk : ∀ i, Fine (m ((c.tc : Thread nD τ).loc main_arg2) i)) (i j : Fin 1024) :
    Value.res_out0 m c (ix2 i j) = oSpec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) i j := by
  rw [res_eq]
  refine oR_apply (cR_apply fun h i j => ?_) i j
  exact (wR_apply (eR_apply (tR_apply (qR_apply _ _))) h i j).trans (wSpec_max hx hw hk h i j)

end Cert.AttnProof.Ref

end
-- ==== Proof.KerValue.lean ====
/-
# The kernel's result, entry by entry

Where each device's operands are its parts of the whole arrays, every buffer of the kernel holds its part of the
attention layer of `Spec`, and the result's rows add up to the layer's.
-/
module

public import proofs.«01_k».proof.Proof.Spec
public import proofs.«01_k».proof.Proof.Values
public import proofs.«01_k».proof.Proof.RefValue
public import Idealize.ShloMosaic.Lib.Pipeline.Value

@[expose] public section

noncomputable section

namespace Cert.AttnProof

open Cert.KernelIdeal Cert.KernelIdeal.Gen
open Idealize.ShloMosaic
open Idealize.ShloMosaic.TcCoe
open Idealize.ShloMosaic.ValueIdx

variable (m : (ℓ : Loc nD τ sig) → Buf (Elt Ideal) ℓ)

/-- Row `r` of block `b`. -/
def rowOf (b : Fin 4) (r : Fin 256) : Fin 1024 := ⟨256 * b.val + r.val, by have := b.isLt; have := r.isLt; omega⟩
/-- Head `h` of device `c`. -/
def headAt (c : Dev nD) (h : Fin 8) : Fin 256 := ⟨8 * c.val + h.val, by have := c.isLt; have := h.isLt; simp only [nD] at *; omega⟩
/-- Column `d` of head `h` of a device. -/
def colAt (h : Fin 8) (d : Fin 128) : Fin 1024 := ⟨128 * h.val + d.val, by have := h.isLt; have := d.isLt; omega⟩
/-- Column `n` of device `c` among all columns. -/
def wide (c : Dev nD) (n : Fin 1024) : Fin 32768 := ⟨1024 * c.val + n.val, by have := c.isLt; have := n.isLt; simp only [nD] at *; omega⟩

/-! ## The loads -/

theorem xblk_apply (c : Dev nD) (b : Fin 4) (r : Fin 256) (k : Fin 1024) :
    xblk m c b (ix3 0 r k) = m ((c : Thread nD τ).loc main_arg0) (ix3 0 (rowOf b r) k) := by
  refine congrArg (m ((c : Thread nD τ).loc main_arg0)) (funext fun a => Fin.ext ?_)
  match a with
  | ⟨0, _⟩ => rfl
  | ⟨1, _⟩ => show 0 * 1024 + 1 * (256 * b.val + 1 * r.val) = 256 * b.val + r.val; omega
  | ⟨2, _⟩ => show 0 * 1024 + 1 * (0 + 1 * k.val) = k.val; omega

theorem wqL_apply (c : Dev nD) (k n : Fin 1024) : wqL m c (ix2 k n) = m ((c : Thread nD τ).loc main_arg1) (ix2 k n) := by
  refine congrArg (m ((c : Thread nD τ).loc main_arg1)) (funext fun a => Fin.ext ?_)
  match a with
  | ⟨0, _⟩ => show 0 * 1024 + 1 * (0 + 1 * k.val) = k.val; omega
  | ⟨1, _⟩ => show 0 * 1024 + 1 * (0 + 1 * n.val) = n.val; omega

theorem woL_apply (c : Dev nD) (k n : Fin 1024) : woL m c (ix2 k n) = m ((c : Thread nD τ).loc main_arg4) (ix2 k n) := by
  refine congrArg (m ((c : Thread nD τ).loc main_arg4)) (funext fun a => Fin.ext ?_)
  match a with
  | ⟨0, _⟩ => show 0 * 1024 + 1 * (0 + 1 * k.val) = k.val; omega
  | ⟨1, _⟩ => show 0 * 1024 + 1 * (0 + 1 * n.val) = n.val; omega

/-- The keys of head `h` of device `c`, in main memory. -/
theorem ext_emb (c : Dev nD) (h : Fin 8) (x : S1024x128.Idx) :
    (kExtM c h).view.emb x = (ix4 0 (x 0) (headAt c h) (x 1) : S1x1024x256x128.Idx) := by
  show (Rect.unit (s := S1x1024x256x128) ![0, 0, 8 * c.val + h.val, 0] S1x1024x1x128.size (ext_inb c h)).emb (Shape.reshapeEquiv _ x) = _
  rw [Shape.reshapeEquiv_eq_of_rowMajor (y := (ix4 0 (x 0) 0 (x 1) : S1x1024x1x128.Idx)) _ (by
    rw [Shape.rowMajor_val_two, Shape.rowMajor_val_four]
    show ((0 * 1024 + (x 0).val) * 1 + 0) * 128 + (x 1).val = (x 0).val * 128 + (x 1).val
    omega)]
  funext a; apply Fin.ext
  match a with
  | ⟨0, _⟩ => rfl
  | ⟨1, _⟩ => show 0 + 1 * (x 0).val = (x 0).val; omega
  | ⟨2, _⟩ => show 8 * c.val + h.val + 1 * 0 = 8 * c.val + h.val; omega
  | ⟨3, _⟩ => show 0 + 1 * (x 1).val = (x 1).val; omega

theorem head_emb (h : Fin 8) (j : Fin 1024) (d : Fin 128) :
    (Rect.unit (s := S8x1024x128) ![h.val, 0, 0] S1x1024x128.size (head_inb h)).toLoadRect.idx (ix3 0 j d) = ix3 h j d := by
  funext a; apply Fin.ext
  match a with
  | ⟨0, _⟩ => show h.val + 1 * 0 = h.val; omega
  | ⟨1, _⟩ => show 0 + 1 * j.val = j.val; omega
  | ⟨2, _⟩ => show 0 + 1 * d.val = d.val; omega

theorem kL_apply (c : Dev nD) (h : Fin 8) (j : Fin 1024) (d : Fin 128) :
    kL m c h (ix3 0 j d) = m ((c : Thread nD τ).loc main_arg2) (ix4 0 j (headAt c h) d) :=
  (congrArg (KB m c) (head_emb h j d)).trans (congrArg (m ((c : Thread nD τ).loc main_arg2)) (ext_emb c h (ix2 j d)))

theorem vL_apply (c : Dev nD) (h : Fin 8) (j : Fin 1024) (d : Fin 128) :
    vL m c h (ix3 0 j d) = m ((c : Thread nD τ).loc main_arg3) (ix4 0 j (headAt c h) d) :=
  (congrArg (VB m c) (head_emb h j d)).trans (congrArg (m ((c : Thread nD τ).loc main_arg3)) (ext_emb c h (ix2 j d)))

/-- The mask's bias: zero where the query sees the key, `-∞` elsewhere. -/
theorem bias_apply (i j : Fin 1024) :
    k0_pay1 (F := Ideal) (ix2 i j) = Scalar.select (keepBit i j) (0 : EReal) ⊥ := by
  unfold k0_pay1
  refine (shapeCast_apply _ _ (ix2 i j) (ix2 i j) rfl).trans ?_
  have hb : IntOp.ori (IntOp.ori (IntOp.cmpi .sle (IntOp.absi (IntOp.subi (BitVec.ofNat 32 i.val) (BitVec.ofNat 32 j.val))) 128#32)
      (IntOp.cmpi .slt (BitVec.ofNat 32 j.val) 32#32)) (IntOp.cmpi .slt (BitVec.ofNat 32 i.val) 32#32) = keepBit i j :=
    BitVec.or_assoc _ _ _
  have hm : Named.named (F := Ideal) (φ := .f32) κ "mask" 0xCE6E6B28#32 = (⊥ : EReal) := by
    show (κ "mask").getD (Ideal.ofBits .f32 0xCE6E6B28#32) = ⊥
    simp [κ]
  have h0 : iota .tc S1024x1024 32 [0] iota_S1024x1024_d0_w32 = fun i => BitVec.ofNat 32 (i 0).val :=
    funext fun i => iota_single_apply _ _ _ _ _ i
  have h1 : iota .tc S1024x1024 32 [1] iota_S1024x1024_d1_w32 = fun i => BitVec.ofNat 32 (i 1).val :=
    funext fun i => iota_single_apply _ _ _ _ _ i
  rw [← hb, ← Ideal.ofBits_zero_f32, ← hm, h0, h1]
  rfl

theorem biasL_apply (b : Fin 4) (r : Fin 256) (j : Fin 1024) :
    biasL (F := Ideal) b (ix2 r j) = Scalar.select (keepBit (rowOf b r) j) (0 : EReal) ⊥ := by
  refine Eq.trans (congrArg (k0_pay1 (F := Ideal)) (funext fun a => Fin.ext ?_)) (bias_apply (rowOf b r) j)
  match a with
  | ⟨0, _⟩ => show 256 * b.val + 1 * r.val = 256 * b.val + r.val; omega
  | ⟨1, _⟩ => show 0 + 1 * j.val = j.val; omega

/-! ## The payloads -/

/-- The queries of a block: rows of `x` times the columns of `Wq`. -/
theorem pay18_apply (x : Vec Ideal S1x256x1024 .f32) (w : Vec Ideal S1024x1024 .f32) (r : Fin 256) (n : Fin 1024) :
    k0_pay18 x w (ix2 r n) = ∑ k : Fin 1024, (x (ix3 0 r k) : EReal) * w (ix2 k n) := by
  unfold k0_pay18
  refine (Ideal.matmul_constant_zero_apply _ _ _ _ _).trans ?_
  refine (sum_contr dot_S256x1024_S1024x1024_S256x1024_1_0_0_1_n_n 1024 rfl rfl _ _ (ix2 r n) (fun k => ix2 r k) (fun k => ix2 k n)
    ?_ ?_).trans ?_
  · intro q; funext a; match a with | ⟨0, _⟩ => rfl | ⟨1, _⟩ => rfl
  · intro q; funext a; match a with | ⟨0, _⟩ => rfl | ⟨1, _⟩ => rfl
  refine Finset.sum_congr rfl fun k _ => congrArg₂ (· * ·) ?_ ?_
  · refine shapeCast_apply _ _ (ix2 r k) (ix3 0 r k) ?_
    rw [Shape.rowMajor_val_two, Shape.rowMajor_val_three]
    show (0 * 256 + r.val) * 1024 + k.val = r.val * 1024 + k.val
    omega
  · exact shapeCast_apply _ _ (ix2 k n) (ix2 k n) rfl

/-- The partial sums of a block: rows of the context times the columns of `Wo`. -/
theorem pay17_apply (x : Vec Ideal S256x1024 .f32) (w : Vec Ideal S1024x1024 .f32) (r : Fin 256) (o : Fin 1024) :
    k0_pay17 x w (ix2 r o) = ∑ k : Fin 1024, (x (ix2 r k) : EReal) * w (ix2 k o) := by
  unfold k0_pay17
  refine (shapeCast_apply _ _ (ix2 r o) (ix2 r o) rfl).trans ?_
  refine (Ideal.matmul_constant_zero_apply _ _ _ _ _).trans ?_
  refine (sum_contr dot_S256x1024_S1024x1024_S256x1024_1_0_0_1_n_n 1024 rfl rfl _ _ (ix2 r o) (fun k => ix2 r k) (fun k => ix2 k o)
    ?_ ?_).trans ?_
  · intro q; funext a; match a with | ⟨0, _⟩ => rfl | ⟨1, _⟩ => rfl
  · intro q; funext a; match a with | ⟨0, _⟩ => rfl | ⟨1, _⟩ => rfl
  exact Finset.sum_congr rfl fun k _ => congrArg (x (ix2 r k) * ·) (shapeCast_apply _ _ (ix2 k o) (ix2 k o) rfl)

/-- The kernel's named scale is one over the root of a head's length. -/
theorem scale_named : Named.named (F := Ideal) (φ := .f32) κ "scale" 0x3DB504F3#32 = scaleNum := by
  show (κ "scale").getD (Ideal.ofBits .f32 0x3DB504F3#32) = scaleNum
  simp [κ, scaleNum]

/-- The scores of a head plus the bias. -/
theorem score_apply (q : FVec Ideal S256x128 .f32) (k : Vec Ideal S1x1024x128 .f32) (b : Vec Ideal S256x1024 .f32)
    (r : Fin 256) (j : Fin 1024) :
    addf (mulf (matmul (F := Ideal) dot_S256x128_S1024x128_S256x1024_1_1_0_0_n_n none q
        (shapeCast S1024x128 k shapeCasts_S1x1024x128_S1024x128 : FVec Ideal S1024x128 .f32) (constant S256x1024 .f32 0x00000000#32))
        (broadcast S256x1024 (Named.named (F := Ideal) (φ := .f32) κ "scale" 0x3DB504F3#32))) b (ix2 r j)
      = (∑ d : Fin 128, (q (ix2 r d) : EReal) * k (ix3 0 j d)) * scaleNum + b (ix2 r j) := by
  rw [scale_named]
  refine congrArg (fun s : EReal => s * scaleNum + b (ix2 r j)) ?_
  refine (Ideal.matmul_constant_zero_apply _ _ _ _ _).trans ?_
  refine (sum_contr dot_S256x128_S1024x128_S256x1024_1_1_0_0_n_n 128 rfl rfl _ _ (ix2 r j) (fun d => ix2 r d) (fun d => ix2 j d)
    ?_ ?_).trans ?_
  · intro q; funext a; match a with | ⟨0, _⟩ => rfl | ⟨1, _⟩ => rfl
  · intro q; funext a; match a with | ⟨0, _⟩ => rfl | ⟨1, _⟩ => rfl
  refine Finset.sum_congr rfl fun d _ => congrArg (q (ix2 r d) * ·) ?_
  refine shapeCast_apply _ _ (ix2 j d) (ix3 0 j d) ?_
  rw [Shape.rowMajor_val_two, Shape.rowMajor_val_three]
  show (0 * 1024 + j.val) * 128 + d.val = j.val * 128 + d.val
  omega

/-- The sum of each row, spread over the row. -/
theorem rowSum_apply (e : FVec Ideal S256x1024 .f32) (r : Fin 256) (j : Fin 1024) :
    broadcastTo S256x1024 (shapeCast S256x1 (multiReduction (F := Ideal) .add [1] S256 e 0x00000000#32 reduces_S256x1024_S256 (.inl rfl) rfl)
      shapeCasts_S256_S256x1) broadcasts_S256x1_S256x1024 (ix2 r j) = ∑ k : Fin 1024, (e (ix2 r k) : EReal) := by
  refine (broadcastTo_apply _ _ (ix2 r j) (ix2 r 0) ?_).trans ?_
  · intro a
    match a with
    | ⟨0, _⟩ => rfl
    | ⟨1, _⟩ => rfl
  refine (shapeCast_apply _ _ (ix2 r 0) (ix1 r) ?_).trans ?_
  · rw [Shape.rowMajor_val_two, Shape.rowMajor_val_one]
    show r.val = r.val * 1 + 0
    omega
  refine (Ideal.multiReduction_add_single _ _ _ _ _ _).trans ?_
  refine Finset.sum_congr rfl fun k _ => congrArg e ?_
  funext a
  match a with
  | ⟨0, _⟩ => rfl
  | ⟨1, _⟩ => rfl

/-- One head of a block: the softmax of its scores, times the values. -/
theorem pay16_apply (q : FVec Ideal S256x128 .f32) (k : Vec Ideal S1x1024x128 .f32) (b : Vec Ideal S256x1024 .f32)
    (v : Vec Ideal S1x1024x128 .f32) (t : Fin 256 → Fin 1024 → EReal)
    (ht : ∀ r j, (∑ d : Fin 128, (q (ix2 r d) : EReal) * k (ix3 0 j d)) * scaleNum + b (ix2 r j) = t r j)
    (r : Fin 256) (d : Fin 128) :
    k0_pay16 q k b v (ix2 r d)
      = ∑ j : Fin 1024, Ideal.div (Ideal.exp (t r j)) (∑ l : Fin 1024, Ideal.exp (t r l)) * (v (ix3 0 j d) : EReal) := by
  unfold k0_pay16
  refine (shapeCast_apply _ _ (ix2 r d) (ix2 r d) rfl).trans ?_
  refine (Ideal.matmul_constant_zero_apply _ _ _ _ _).trans ?_
  refine (sum_contr dot_S256x1024_S1024x128_S256x128_1_0_0_1_n_n 1024 rfl rfl _ _ (ix2 r d) (fun j => ix2 r j) (fun j => ix2 j d)
    ?_ ?_).trans ?_
  · intro q; funext a; match a with | ⟨0, _⟩ => rfl | ⟨1, _⟩ => rfl
  · intro q; funext a; match a with | ⟨0, _⟩ => rfl | ⟨1, _⟩ => rfl
  refine Finset.sum_congr rfl fun j _ => congrArg₂ (· * ·) ?_ ?_
  · refine congrArg₂ Ideal.div (congrArg Ideal.exp ((score_apply q k b r j).trans (ht r j))) ?_
    refine (rowSum_apply _ r j).trans ?_
    exact Finset.sum_congr rfl fun l _ => congrArg Ideal.exp ((score_apply q k b r l).trans (ht r l))
  · refine shapeCast_apply _ _ (ix2 j d) (ix3 0 j d) ?_
    rw [Shape.rowMajor_val_two, Shape.rowMajor_val_three]
    show (0 * 1024 + j.val) * 128 + d.val = j.val * 128 + d.val
    omega

/-! ## One device's part -/

/-- Every device's operands are its parts of the whole arrays: `x` and the keys and values whole, the device's columns of
    `Wq`, its rows of `Wo`. -/
structure Parts (X : ShX.Idx → EReal) (W : ShW.Idx → EReal) (K V : ShK.Idx → EReal) (O : ShO.Idx → EReal) : Prop where
  x : ∀ (c : Dev nD) i k, m ((c : Thread nD τ).loc main_arg0) (ix3 0 i k) = X (ix3 0 i k)
  wq : ∀ (c : Dev nD) k n, m ((c : Thread nD τ).loc main_arg1) (ix2 k n) = W (ix2 k (wide c n))
  k : ∀ (c : Dev nD) j h d, m ((c : Thread nD τ).loc main_arg2) (ix4 0 j h d) = K (ix4 0 j h d)
  v : ∀ (c : Dev nD) j h d, m ((c : Thread nD τ).loc main_arg3) (ix4 0 j h d) = V (ix4 0 j h d)
  wo : ∀ (c : Dev nD) k o, m ((c : Thread nD τ).loc main_arg4) (ix2 k o) = O (ix2 (wide c k) o)

theorem wide_colAt (c : Dev nD) (h : Fin 8) (d : Fin 128) : wide c (colAt h d) = colOf (headAt c h) d :=
  Fin.ext (show 1024 * c.val + (128 * h.val + d.val) = 128 * (8 * c.val + h.val) + d.val by omega)

variable {m} {X : ShX.Idx → EReal} {W : ShW.Idx → EReal} {K V : ShK.Idx → EReal} {O : ShO.Idx → EReal}

theorem qV_apply (H : Parts m X W K V O) (c : Dev nD) (b : Fin 4) (r : Fin 256) (n : Fin 1024) :
    qV m c b (ix2 r n) = qSpec X W (rowOf b r) (wide c n) := by
  refine (pay18_apply _ _ r n).trans (Finset.sum_congr rfl fun k _ => congrArg₂ (· * ·) ?_ ?_)
  · exact (xblk_apply m c b r k).trans (H.x c _ k)
  · exact (wqL_apply m c k n).trans (H.wq c k n)

theorem headOut_apply (H : Parts m X W K V O) (c : Dev nD) (b : Fin 4) (h : Fin 8) (r : Fin 256) (d : Fin 128) :
    headOut m c b h (ix2 r d) = cSpec X W K V (rowOf b r) (headAt c h) d := by
  unfold headOut
  refine (pay16_apply _ _ _ _ (fun r j => tSpec X W K (headAt c h) (rowOf b r) j) ?_ r d).trans ?_
  · intro r j
    refine Eq.trans (congrArg₂ (· + ·) (congrArg (· * scaleNum) (Finset.sum_congr rfl fun d _ =>
      congrArg₂ (· * ·) ?_ ?_)) (biasL_apply b r j)) (tSpec_bias (headAt c h) (rowOf b r) j)
    · refine (extractStridedSlice_apply _ _ _ (ix2 r d) (ix2 r (colAt h d)) ?_).trans ?_
      · intro a
        match a with
        | ⟨0, _⟩ => show r.val = 0 + r.val; omega
        | ⟨1, _⟩ => rfl
      · rw [qV_apply H, wide_colAt]
    · exact (kL_apply m c h j d).trans (H.k c _ _ _)
  · exact Finset.sum_congr rfl fun j _ => congrArg (wSpec X W K (headAt c h) (rowOf b r) j * ·)
      ((vL_apply m c h j d).trans (H.v c _ _ _))

theorem ctxAt_apply (H : Parts m X W K V O) (c : Dev nD) (b : Fin 4) (r : Fin 256) (k : Fin 1024) :
    ctxAt m c b (ix2 r k) = cSpec X W K V (rowOf b r) (headOf (wide c k)) (placeOf (wide c k)) := by
  have h1 : k.val / 128 < 8 := by have := k.isLt; omega
  have e1 : headAt c ⟨k.val / 128, h1⟩ = headOf (wide c k) :=
    Fin.ext (show 8 * c.val + k.val / 128 = (1024 * c.val + k.val) / 128 by omega)
  have e2 : (⟨k.val % 128, Nat.mod_lt _ (by decide)⟩ : Fin 128) = placeOf (wide c k) :=
    Fin.ext (show k.val % 128 = (1024 * c.val + k.val) % 128 by omega)
  rw [← e1, ← e2]
  exact headOut_apply H c b ⟨k.val / 128, h1⟩ r ⟨k.val % 128, Nat.mod_lt _ (by decide)⟩

/-- What device `c` adds to entry `(i, o)` of the result. -/
def share (X : ShX.Idx → EReal) (W : ShW.Idx → EReal) (K V : ShK.Idx → EReal) (O : ShO.Idx → EReal)
    (c : Dev nD) (i o : Fin 1024) : EReal :=
  ∑ k : Fin 1024, cSpec X W K V i (headOf (wide c k)) (placeOf (wide c k)) * O (ix2 (wide c k) o)

theorem PART_apply (H : Parts m X W K V O) (c : Dev nD) (i o : Fin 1024) : PART m c (ix2 i o) = share X W K V O c i o := by
  have h1 : i.val / 256 < 4 := by have := i.isLt; omega
  have h2 : i.val % 256 < 256 := Nat.mod_lt _ (by decide)
  have e : rowOf ⟨i.val / 256, h1⟩ ⟨i.val % 256, h2⟩ = i := Fin.ext (Nat.div_add_mod i.val 256)
  show blockOut m c ⟨i.val / 256, h1⟩ (ix2 ⟨i.val % 256, h2⟩ o) = _
  refine (pay17_apply _ _ _ o).trans (Finset.sum_congr rfl fun k _ => congrArg₂ (· * ·) ?_ ?_)
  · exact (ctxAt_apply H c _ _ k).trans (congrArg (fun i => cSpec X W K V i (headOf (wide c k)) (placeOf (wide c k))) e)
  · exact (woL_apply m c k o).trans (H.wo c k o)

/-! ## The sum over the devices -/

/-- Row `r` of device `t`'s rows. -/
def rowIn (t : Dev nD) (r : Fin 32) : Fin 1024 := ⟨32 * t.val + r.val, by have := t.isLt; have := r.isLt; simp only [nD] at *; omega⟩

theorem ownL_apply (H : Parts m X W K V O) (t : Dev nD) (r : Fin 32) (o : Fin 1024) :
    ownL m t (ix2 r o) = share X W K V O t (rowIn t r) o := by
  refine Eq.trans (congrArg (PART m t) (funext fun a => Fin.ext ?_)) (PART_apply H t (rowIn t r) o)
  match a with
  | ⟨0, _⟩ => show 32 * t.val + 1 * r.val = 32 * t.val + r.val; omega
  | ⟨1, _⟩ => show 0 + 1 * o.val = o.val; omega

theorem slotL_apply (H : Parts m X W K V O) (t s : Dev nD) (r : Fin 32) (o : Fin 1024) :
    slotL m t s (ix3 0 r o) = share X W K V O s (rowIn t r) o := by
  have e : (Rect.unit (s := S32x32x1024) ![s.val, 0, 0] S1x32x1024.size (rs_inb s)).toLoadRect.idx (ix3 0 r o) = ix3 s r o := by
    funext a; apply Fin.ext
    match a with
    | ⟨0, _⟩ => show s.val + 1 * 0 = s.val; omega
    | ⟨1, _⟩ => show 0 + 1 * r.val = r.val; omega
    | ⟨2, _⟩ => show 0 + 1 * o.val = o.val; omega
  have e' : (partM t).view.emb (ix2 r o) = (ix2 (rowIn t r) o : S1024x1024.Idx) := by
    funext a; apply Fin.ext
    match a with
    | ⟨0, _⟩ => show 32 * t.val + 1 * r.val = 32 * t.val + r.val; omega
    | ⟨1, _⟩ => show 0 + 1 * o.val = o.val; omega
  exact (congrArg (RSALL m t) e).trans ((congrArg (PART m s) e').trans (PART_apply H s (rowIn t r) o))

/-- A received chunk with its leading unit axis dropped. -/
theorem drop_apply (v : Vec Ideal S1x32x1024 .f32) (r : Fin 32) (o : Fin 1024) :
    shapeCast S32x1024 v shapeCasts_S1x32x1024_S32x1024 (ix2 r o) = v (ix3 0 r o) := by
  refine shapeCast_apply _ _ (ix2 r o) (ix3 0 r o) ?_
  rw [Shape.rowMajor_val_two, Shape.rowMajor_val_three]
  show (0 * 32 + r.val) * 1024 + o.val = r.val * 1024 + o.val
  omega

theorem slotV_apply (H : Parts m X W K V O) (t : Dev nD) (j : ℕ) (r : Fin 32) (o : Fin 1024) :
    slotV m t j (ix2 r o) = share X W K V O (nx t j) (rowIn t r) o :=
  (drop_apply _ r o).trans (slotL_apply H t (nx t j) r o)

/-- Thirty-two numbers added in a tree are their sum. -/
theorem tree (f : ℕ → EReal) :
    ((((f 0 + f 1) + (f 2 + f 3)) + ((f 4 + f 5) + (f 6 + f 7))) + (((f 8 + f 9) + (f 10 + f 11)) + ((f 12 + f 13) + (f 14 + f 15))))
      + ((((f 16 + f 17) + (f 18 + f 19)) + ((f 20 + f 21) + (f 22 + f 23))) + (((f 24 + f 25) + (f 26 + f 27)) + ((f 28 + f 29) + (f 30 + f 31))))
      = ∑ j : Fin 32, f j.val := by
  rw [Fin.sum_univ_eq_sum_range f 32]
  simp only [Finset.sum_range_succ, Finset.sum_range_zero, zero_add, add_assoc]

theorem nx_zero (t : Dev nD) : nx t 0 = t := Fin.ext (Nat.mod_eq_of_lt t.isLt)

theorem OUTCH_apply (H : Parts m X W K V O) (t : Dev nD) (r : Fin 32) (o : Fin 1024) :
    OUTCH m t (ix2 r o) = ∑ s : Dev nD, share X W K V O s (rowIn t r) o := by
  have h0 : ownL m t (ix2 r o) = share X W K V O (nx t 0) (rowIn t r) o := by rw [nx_zero]; exact ownL_apply H t r o
  have h1 := fun j => slotV_apply H t j r o
  have h2 := (drop_apply _ r o).trans (slotL_apply H t (nx t 31) r o)
  have hs : ∑ j : Fin 32, share X W K V O (nx t j.val) (rowIn t r) o = ∑ s : Dev nD, share X W K V O s (rowIn t r) o :=
    Equiv.sum_comp (around t).symm fun s => share X W K V O s (rowIn t r) o
  rw [← hs, ← tree fun j => share X W K V O (nx t j) (rowIn t r) o]
  unfold OUTCH k0_pay96
  simp only [addf_apply, h0, h1, h2]

/-- The devices' shares add up to the layer. -/
theorem share_sum (i o : Fin 1024) : ∑ s : Dev nD, share X W K V O s i o = oSpec X W K V O i o := by
  unfold share oSpec
  rw [← Fintype.sum_prod_type' (fun (s : Fin 32) (k : Fin 1024) =>
      cSpec X W K V i (headOf (wide s k)) (placeOf (wide s k)) * O (ix2 (wide s k) o)),
    ← Equiv.sum_comp (finProdFinEquiv (m := 32) (n := 1024))]
  refine Finset.sum_congr rfl fun p _ => ?_
  have e : wide p.1 p.2 = finProdFinEquiv p := Fin.ext (Nat.add_comm _ _)
  rw [e]

/-- The kernel's result is the layer. -/
theorem OUTALL_apply (H : Parts m X W K V O) (i o : Fin 1024) : OUTALL m (ix2 i o) = oSpec X W K V O i o := by
  have h1 : i.val / 32 < 32 := by have := i.isLt; omega
  have h2 : i.val % 32 < 32 := Nat.mod_lt _ (by decide)
  have e : rowIn ⟨i.val / 32, h1⟩ ⟨i.val % 32, h2⟩ = i := Fin.ext (Nat.div_add_mod i.val 32)
  exact (OUTCH_apply H ⟨i.val / 32, h1⟩ ⟨i.val % 32, h2⟩ o).trans (by rw [e]; exact share_sum i o)

end Cert.AttnProof

end
-- ==== Proof.Equal.lean ====
/-
# The two results are one

Where the devices' operands are the parts of the reference's arrays and `x`, `Wq` and the keys are finite, every device
of the idealized kernel ends with the reference's result.
-/
module

public import proofs.«01_k».proof.Defs
public import proofs.«01_k».proof.Proof.Frames
public import proofs.«01_k».proof.Proof.KerValue
public import Idealize.ShloMosaic.Lib.Layout

@[expose] public section

noncomputable section

namespace Cert.AttnProof

open Idealize.ShloMosaic Idealize.ShloMosaic.TcCoe Idealize.ShloMosaic.ValueIdx Idealize.SL.Sem

/-- The shape facts of the precondition read at one device's blocks, -/
theorem preKernelFacts : Cert.Pre_finite_scores_KernelIdeal.Facts := ⟨by decide, by decide, by decide⟩
/-- and at the whole arrays. -/
theorem preReferenceFacts : Cert.Pre_finite_scores_ReferenceIdeal.Facts := ⟨by decide, by decide, by decide⟩

/-- A comparison `|x| < ∞` that holds says that `x` is finite. -/
theorem fine_of_bit {x : EReal} (h : Ideal.cmp .olt (max x (-x)) (Ideal.ofBits .f32 0x7F800000#32) = 1#1) : Fine x := by
  have htop : Ideal.ofBits .f32 0x7F800000#32 = ⊤ := by simp [Ideal.ofBits, Ideal.ieee]
  rw [htop] at h
  refine fine_of_abs ?_
  by_contra hn
  unfold Ideal.cmp at h
  simp [hn] at h

section

variable [hPre : Cert.Pre_finite_scores_KernelIdeal.Facts]
variable {m : (ℓ : Loc Cert.KernelIdeal.nD Cert.KernelIdeal.τ Cert.KernelIdeal.sig) → Buf (Elt Ideal) ℓ}

open Cert.KernelIdeal

/-- Under the precondition every entry of `x`, of each device's `Wq` and of the keys is finite. -/
theorem fine_x (h : Cert.Pre_KernelIdeal_finite_scores_KernelIdeal m) (c : Dev nD) (i : S1x1024x1024.Idx) :
    Fine (m ((c.tc : Thread nD τ).loc main_arg0) i) := fine_of_bit (congrFun (h c).1 i)
theorem fine_wq (h : Cert.Pre_KernelIdeal_finite_scores_KernelIdeal m) (c : Dev nD) (i : S1024x1024.Idx) :
    Fine (m ((c.tc : Thread nD τ).loc main_arg1) i) := fine_of_bit (congrFun (h c).2.1 i)
theorem fine_k (h : Cert.Pre_KernelIdeal_finite_scores_KernelIdeal m) (c : Dev nD) (i : S1x1024x256x128.Idx) :
    Fine (m ((c.tc : Thread nD τ).loc main_arg2) i) := fine_of_bit (congrFun (h c).2.2 i)

end

/-- The device's columns of an array of 32768 columns. -/
theorem cols_apply (W : ShW.Idx → EReal) (c : Fin 32) (k n : Fin 1024) :
    Layout.block ⟨2, ![1024, 1024]⟩ ⟨2, ![1024, 32768]⟩ 1 32 c W (by decide) (ix2 k n) = W (ix2 k (wide c n)) := by
  refine congrArg W (funext fun a => Fin.ext ?_)
  match a with
  | ⟨0, _⟩ => rfl
  | ⟨1, _⟩ => show c.val * 1024 + n.val = 1024 * c.val + n.val; omega

/-- The device's rows of an array of 32768 rows. -/
theorem rows_apply (O : ShO.Idx → EReal) (c : Fin 32) (k o : Fin 1024) :
    Layout.block ⟨2, ![1024, 1024]⟩ ⟨2, ![32768, 1024]⟩ 0 32 c O (by decide) (ix2 k o) = O (ix2 (wide c k) o) := by
  refine congrArg O (funext fun a => Fin.ext ?_)
  match a with
  | ⟨0, _⟩ => show c.val * 1024 + k.val = 1024 * c.val + k.val; omega
  | ⟨1, _⟩ => rfl

/-- An array of 32768 columns is finite where every device's columns are. -/
theorem fine_cols (W : ShW.Idx → EReal)
    (h : ∀ (c : Fin 32) i, Fine (Layout.block ⟨2, ![1024, 1024]⟩ ⟨2, ![1024, 32768]⟩ 1 32 c W (by decide) i)) (i : ShW.Idx) : Fine (W i) := by
  have h1 : (i 1).val < 32768 := (i 1).isLt
  have e : i = ix2 (i 0) (wide ⟨(i 1).val / 1024, by simp only [Cert.KernelIdeal.nD]; omega⟩ ⟨(i 1).val % 1024, Nat.mod_lt _ (by decide)⟩) := by
    funext a
    match a with
    | ⟨0, _⟩ => rfl
    | ⟨1, _⟩ => exact Fin.ext (Nat.div_add_mod (i 1).val 1024).symm
  obtain ⟨r, hr⟩ := h ⟨(i 1).val / 1024, by omega⟩ (ix2 (i 0 : Fin 1024) ⟨(i 1).val % 1024, Nat.mod_lt _ (by decide)⟩)
  rw [e]
  exact ⟨r, (cols_apply W _ _ _).symm.trans hr⟩

/-- Every device ends with the reference's result, and both leave their arguments unchanged. -/
theorem equal [hi : Cert.KernelIdeal.Facts] [hr : Cert.ReferenceIdeal.Facts] [hPre : Cert.Pre_finite_scores_KernelIdeal.Facts] :
    Cert.algebraic_KernelIdeal_ReferenceIdeal_pre_finite_scores_KernelIdeal := by
  intro m g m' g' hp hm
  refine ⟨Cert.ReferenceIdeal.Value.res_out0 m' 0, ?_, ?_⟩
  · have H : Parts m (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)) :=
      { x := fun c i k => congrFun (hm c).1 _
        wq := fun c k n => (congrFun (hm c).2.1 _).trans (cols_apply _ c k n)
        k := fun c j h d => congrFun (hm c).2.2.1 _
        v := fun c j h d => congrFun (hm c).2.2.2.1 _
        wo := fun c k o => (congrFun (hm c).2.2.2.2 _).trans (rows_apply _ c k o) }
    have he : OUTALL m = Cert.ReferenceIdeal.Value.res_out0 m' 0 := by
      refine funext fun i : Cert.KernelIdeal.S1024x1024.Idx => ?_
      have e : i = ix2 (i 0) (i 1) := by
        funext a
        match a with
        | ⟨0, _⟩ => rfl
        | ⟨1, _⟩ => rfl
      rw [e]
      refine (OUTALL_apply H (i 0) (i 1)).trans (Ref.res_apply m' 0 ?_ ?_ ?_ (i 0) (i 1)).symm
      · intro j
        have := fine_x hp 0 j
        rw [(hm 0).1] at this
        exact this
      · refine fine_cols _ fun c j => ?_
        have := fine_wq hp c j
        rw [(hm c).2.1] at this
        exact this
      · intro j
        have := fine_k hp 0 j
        rw [(hm 0).2.2.1] at this
        exact this
    exact (θ_run Cert.KernelIdeal.defs _ _).mono (fun r h c => ⟨(h.1 c).1.trans he, (h.1 c).2⟩) (run_read (F := Ideal) m g)
  · exact (θ_run Cert.ReferenceIdeal.defs _ _).mono (fun r h => h 0) (Cert.ReferenceIdeal.Value.run (F := Ideal) m' g')

/-- The frames under the precondition are the frames. -/
theorem frame_ideal_pre [hi : Cert.KernelIdeal.Facts] [hPre : Cert.Pre_finite_scores_KernelIdeal.Facts] :
    Cert.quiescent_KernelIdeal_pre_finite_scores_KernelIdeal := fun m g _ => frame_ideal m g trivial
theorem frame_reference_pre [hr : Cert.ReferenceIdeal.Facts] [hPre : Cert.Pre_finite_scores_ReferenceIdeal.Facts] :
    Cert.quiescent_ReferenceIdeal_pre_finite_scores_ReferenceIdeal := fun m g _ => frame_reference m g trivial

end Cert.AttnProof

end
-- ==== Proof.lean ====
/-
# The claim

Every part of the claim from the modules that prove it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The claim of the certificate. -/
theorem claim : Cert.Claim := ⟨Cert.Kernel.Gen.facts, Cert.KernelIdeal.Gen.facts, Cert.ReferenceIdeal.Gen.facts,
  Cert.AttnProof.preKernelFacts, Cert.AttnProof.preReferenceFacts,
  Cert.AttnProof.frame_kernel,
  Cert.AttnProof.frame_ideal,
  Cert.AttnProof.frame_ideal_pre (hPre := Cert.AttnProof.preKernelFacts),
  Cert.AttnProof.frame_reference,
  Cert.AttnProof.frame_reference_pre (hPre := Cert.AttnProof.preReferenceFacts),
  Cert.AttnProof.preserves,
  Cert.AttnProof.equal (hPre := Cert.AttnProof.preKernelFacts)⟩

end Cert.Proof

end
